-- ==== Defs.lean ====
def Pre_FoxLayer (m : (ℓ : Loc Cert.FoxLayer.nD Cert.FoxLayer.τ Cert.FoxLayer.sig) → Buf (Elt Bits) ℓ) : Prop :=
  True

def Pre_FoxLayerIdeal (m : (ℓ : Loc Cert.FoxLayerIdeal.nD Cert.FoxLayerIdeal.τ Cert.FoxLayerIdeal.sig) → Buf (Elt Ideal) ℓ) : Prop :=
  True

def Pre_FoxLayerIdeal_fox_finite [hPre_fox_finite : Cert.Pre_fox_finite.Facts] (m : (ℓ : Loc Cert.FoxLayerIdeal.nD Cert.FoxLayerIdeal.τ Cert.FoxLayerIdeal.sig) → Buf (Elt Ideal) ℓ) : Prop :=
  ∀ c : Dev Cert.FoxLayerIdeal.nD,
    (Cert.Pre_fox_finite.fn (F := Ideal) (m ((c.tc : Thread Cert.FoxLayerIdeal.nD Cert.FoxLayerIdeal.τ).loc Cert.FoxLayerIdeal.main_arg0)) (m ((c.tc : Thread Cert.FoxLayerIdeal.nD Cert.FoxLayerIdeal.τ).loc Cert.FoxLayerIdeal.main_arg1)) (m ((c.tc : Thread Cert.FoxLayerIdeal.nD Cert.FoxLayerIdeal.τ).loc Cert.FoxLayerIdeal.main_arg2)) (m ((c.tc : Thread Cert.FoxLayerIdeal.nD Cert.FoxLayerIdeal.τ).loc Cert.FoxLayerIdeal.main_arg3)) (m ((c.tc : Thread Cert.FoxLayerIdeal.nD Cert.FoxLayerIdeal.τ).loc Cert.FoxLayerIdeal.main_arg4))).1 = (fun _ => 1#1)
    ∧ (Cert.Pre_fox_finite.fn (F := Ideal) (m ((c.tc : Thread Cert.FoxLayerIdeal.nD Cert.FoxLayerIdeal.τ).loc Cert.FoxLayerIdeal.main_arg0)) (m ((c.tc : Thread Cert.FoxLayerIdeal.nD Cert.FoxLayerIdeal.τ).loc Cert.FoxLayerIdeal.main_arg1)) (m ((c.tc : Thread Cert.FoxLayerIdeal.nD Cert.FoxLayerIdeal.τ).loc Cert.FoxLayerIdeal.main_arg2)) (m ((c.tc : Thread Cert.FoxLayerIdeal.nD Cert.FoxLayerIdeal.τ).loc Cert.FoxLayerIdeal.main_arg3)) (m ((c.tc : Thread Cert.FoxLayerIdeal.nD Cert.FoxLayerIdeal.τ).loc Cert.FoxLayerIdeal.main_arg4))).2.1 = (fun _ => 1#1)
    ∧ (Cert.Pre_fox_finite.fn (F := Ideal) (m ((c.tc : Thread Cert.FoxLayerIdeal.nD Cert.FoxLayerIdeal.τ).loc Cert.FoxLayerIdeal.main_arg0)) (m ((c.tc : Thread Cert.FoxLayerIdeal.nD Cert.FoxLayerIdeal.τ).loc Cert.FoxLayerIdeal.main_arg1)) (m ((c.tc : Thread Cert.FoxLayerIdeal.nD Cert.FoxLayerIdeal.τ).loc Cert.FoxLayerIdeal.main_arg2)) (m ((c.tc : Thread Cert.FoxLayerIdeal.nD Cert.FoxLayerIdeal.τ).loc Cert.FoxLayerIdeal.main_arg3)) (m ((c.tc : Thread Cert.FoxLayerIdeal.nD Cert.FoxLayerIdeal.τ).loc Cert.FoxLayerIdeal.main_arg4))).2.2.1 = (fun _ => 1#1)
    ∧ (Cert.Pre_fox_finite.fn (F := Ideal) (m ((c.tc : Thread Cert.FoxLayerIdeal.nD Cert.FoxLayerIdeal.τ).loc Cert.FoxLayerIdeal.main_arg0)) (m ((c.tc : Thread Cert.FoxLayerIdeal.nD Cert.FoxLayerIdeal.τ).loc Cert.FoxLayerIdeal.main_arg1)) (m ((c.tc : Thread Cert.FoxLayerIdeal.nD Cert.FoxLayerIdeal.τ).loc Cert.FoxLayerIdeal.main_arg2)) (m ((c.tc : Thread Cert.FoxLayerIdeal.nD Cert.FoxLayerIdeal.τ).loc Cert.FoxLayerIdeal.main_arg3)) (m ((c.tc : Thread Cert.FoxLayerIdeal.nD Cert.FoxLayerIdeal.τ).loc Cert.FoxLayerIdeal.main_arg4))).2.2.2 = (fun _ => 1#1)

def Pre_FoxReferenceIdeal (m : (ℓ : Loc Cert.FoxReferenceIdeal.nD Cert.FoxReferenceIdeal.τ Cert.FoxReferenceIdeal.sig) → Buf (Elt Ideal) ℓ) : Prop :=
  True

def Pre_FoxReferenceIdeal_fox_finite [hPre_fox_finite : Cert.Pre_fox_finite.Facts] (m : (ℓ : Loc Cert.FoxReferenceIdeal.nD Cert.FoxReferenceIdeal.τ Cert.FoxReferenceIdeal.sig) → Buf (Elt Ideal) ℓ) : Prop :=
  ∀ c : Dev Cert.FoxReferenceIdeal.nD,
    (Cert.Pre_fox_finite.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3)) (m ((c.tc : Thread Cert.FoxReferenceIdeal.nD Cert.FoxReferenceIdeal.τ).loc Cert.FoxReferenceIdeal.main_arg4))).1 = (fun _ => 1#1)
    ∧ (Cert.Pre_fox_finite.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3)) (m ((c.tc : Thread Cert.FoxReferenceIdeal.nD Cert.FoxReferenceIdeal.τ).loc Cert.FoxReferenceIdeal.main_arg4))).2.1 = (fun _ => 1#1)
    ∧ (Cert.Pre_fox_finite.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3)) (m ((c.tc : Thread Cert.FoxReferenceIdeal.nD Cert.FoxReferenceIdeal.τ).loc Cert.FoxReferenceIdeal.main_arg4))).2.2.1 = (fun _ => 1#1)
    ∧ (Cert.Pre_fox_finite.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3)) (m ((c.tc : Thread Cert.FoxReferenceIdeal.nD Cert.FoxReferenceIdeal.τ).loc Cert.FoxReferenceIdeal.main_arg4))).2.2.2 = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def Pre_Sparse (m : (ℓ : Loc Cert.Sparse.nD Cert.Sparse.τ Cert.Sparse.sig) → Buf (Elt Bits) ℓ) : Prop :=
  True

def Pre_SparseIdeal (m : (ℓ : Loc Cert.SparseIdeal.nD Cert.SparseIdeal.τ Cert.SparseIdeal.sig) → Buf (Elt Ideal) ℓ) : Prop :=
  True

def Pre_SparseReferenceIdeal (m : (ℓ : Loc Cert.SparseReferenceIdeal.nD Cert.SparseReferenceIdeal.τ Cert.SparseReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_FoxLayer [hFoxLayer : Cert.FoxLayer.Facts] : Prop :=
  ∀ (m : (ℓ : Loc Cert.FoxLayer.nD Cert.FoxLayer.τ Cert.FoxLayer.sig) → Buf (Elt Bits) ℓ) (g : Dev Cert.FoxLayer.nD → PrngReg), Pre_FoxLayer m →
    θ_run (Cert.FoxLayer.defs (F := Bits)) (onTc (τ := Cert.FoxLayer.τ) (Cert.FoxLayer.main (F := Bits))) ⟨m, fun _ => 0, g⟩ (fun r => (∀ c : Dev Cert.FoxLayer.nD,
      r.2.mem ((c.tc : Thread Cert.FoxLayer.nD Cert.FoxLayer.τ).loc Cert.FoxLayer.main_arg0) = m ((c.tc : Thread Cert.FoxLayer.nD Cert.FoxLayer.τ).loc Cert.FoxLayer.main_arg0)
      ∧ r.2.mem ((c.tc : Thread Cert.FoxLayer.nD Cert.FoxLayer.τ).loc Cert.FoxLayer.main_arg1) = m ((c.tc : Thread Cert.FoxLayer.nD Cert.FoxLayer.τ).loc Cert.FoxLayer.main_arg1)
      ∧ r.2.mem ((c.tc : Thread Cert.FoxLayer.nD Cert.FoxLayer.τ).loc Cert.FoxLayer.main_arg2) = m ((c.tc : Thread Cert.FoxLayer.nD Cert.FoxLayer.τ).loc Cert.FoxLayer.main_arg2)
      ∧ r.2.mem ((c.tc : Thread Cert.FoxLayer.nD Cert.FoxLayer.τ).loc Cert.FoxLayer.main_arg3) = m ((c.tc : Thread Cert.FoxLayer.nD Cert.FoxLayer.τ).loc Cert.FoxLayer.main_arg3)
      ∧ r.2.mem ((c.tc : Thread Cert.FoxLayer.nD Cert.FoxLayer.τ).loc Cert.FoxLayer.main_arg4) = m ((c.tc : Thread Cert.FoxLayer.nD Cert.FoxLayer.τ).loc Cert.FoxLayer.main_arg4))
      ∧ r.2.sem = fun _ => 0)

def quiescent_FoxLayerIdeal [hFoxLayerIdeal : Cert.FoxLayerIdeal.Facts] : Prop :=
  ∀ (m : (ℓ : Loc Cert.FoxLayerIdeal.nD Cert.FoxLayerIdeal.τ Cert.FoxLayerIdeal.sig) → Buf (Elt Ideal) ℓ) (g : Dev Cert.FoxLayerIdeal.nD → PrngReg), Pre_FoxLayerIdeal m →
    θ_run (Cert.FoxLayerIdeal.defs (F := Ideal)) (onTc (τ := Cert.FoxLayerIdeal.τ) (Cert.FoxLayerIdeal.main (F := Ideal))) ⟨m, fun _ => 0, g⟩ (fun r => (∀ c : Dev Cert.FoxLayerIdeal.nD,
      r.2.mem ((c.tc : Thread Cert.FoxLayerIdeal.nD Cert.FoxLayerIdeal.τ).loc Cert.FoxLayerIdeal.main_arg0) = m ((c.tc : Thread Cert.FoxLayerIdeal.nD Cert.FoxLayerIdeal.τ).loc Cert.FoxLayerIdeal.main_arg0)
      ∧ r.2.mem ((c.tc : Thread Cert.FoxLayerIdeal.nD Cert.FoxLayerIdeal.τ).loc Cert.FoxLayerIdeal.main_arg1) = m ((c.tc : Thread Cert.FoxLayerIdeal.nD Cert.FoxLayerIdeal.τ).loc Cert.FoxLayerIdeal.main_arg1)
      ∧ r.2.mem ((c.tc : Thread Cert.FoxLayerIdeal.nD Cert.FoxLayerIdeal.τ).loc Cert.FoxLayerIdeal.main_arg2) = m ((c.tc : Thread Cert.FoxLayerIdeal.nD Cert.FoxLayerIdeal.τ).loc Cert.FoxLayerIdeal.main_arg2)
      ∧ r.2.mem ((c.tc : Thread Cert.FoxLayerIdeal.nD Cert.FoxLayerIdeal.τ).loc Cert.FoxLayerIdeal.main_arg3) = m ((c.tc : Thread Cert.FoxLayerIdeal.nD Cert.FoxLayerIdeal.τ).loc Cert.FoxLayerIdeal.main_arg3)
      ∧ r.2.mem ((c.tc : Thread Cert.FoxLayerIdeal.nD Cert.FoxLayerIdeal.τ).loc Cert.FoxLayerIdeal.main_arg4) = m ((c.tc : Thread Cert.FoxLayerIdeal.nD Cert.FoxLayerIdeal.τ).loc Cert.FoxLayerIdeal.main_arg4))
      ∧ r.2.sem = fun _ => 0)

def quiescent_FoxLayerIdeal_pre_fox_finite [hFoxLayerIdeal : Cert.FoxLayerIdeal.Facts] [hPre_fox_finite : Cert.Pre_fox_finite.Facts] : Prop :=
  ∀ (m : (ℓ : Loc Cert.FoxLayerIdeal.nD Cert.FoxLayerIdeal.τ Cert.FoxLayerIdeal.sig) → Buf (Elt Ideal) ℓ) (g : Dev Cert.FoxLayerIdeal.nD → PrngReg), Pre_FoxLayerIdeal_fox_finite m →
    θ_run (Cert.FoxLayerIdeal.defs (F := Ideal)) (onTc (τ := Cert.FoxLayerIdeal.τ) (Cert.FoxLayerIdeal.main (F := Ideal))) ⟨m, fun _ => 0, g⟩ (fun r => (∀ c : Dev Cert.FoxLayerIdeal.nD,
      r.2.mem ((c.tc : Thread Cert.FoxLayerIdeal.nD Cert.FoxLayerIdeal.τ).loc Cert.FoxLayerIdeal.main_arg0) = m ((c.tc : Thread Cert.FoxLayerIdeal.nD Cert.FoxLayerIdeal.τ).loc Cert.FoxLayerIdeal.main_arg0)
      ∧ r.2.mem ((c.tc : Thread Cert.FoxLayerIdeal.nD Cert.FoxLayerIdeal.τ).loc Cert.FoxLayerIdeal.main_arg1) = m ((c.tc : Thread Cert.FoxLayerIdeal.nD Cert.FoxLayerIdeal.τ).loc Cert.FoxLayerIdeal.main_arg1)
      ∧ r.2.mem ((c.tc : Thread Cert.FoxLayerIdeal.nD Cert.FoxLayerIdeal.τ).loc Cert.FoxLayerIdeal.main_arg2) = m ((c.tc : Thread Cert.FoxLayerIdeal.nD Cert.FoxLayerIdeal.τ).loc Cert.FoxLayerIdeal.main_arg2)
      ∧ r.2.mem ((c.tc : Thread Cert.FoxLayerIdeal.nD Cert.FoxLayerIdeal.τ).loc Cert.FoxLayerIdeal.main_arg3) = m ((c.tc : Thread Cert.FoxLayerIdeal.nD Cert.FoxLayerIdeal.τ).loc Cert.FoxLayerIdeal.main_arg3)
      ∧ r.2.mem ((c.tc : Thread Cert.FoxLayerIdeal.nD Cert.FoxLayerIdeal.τ).loc Cert.FoxLayerIdeal.main_arg4) = m ((c.tc : Thread Cert.FoxLayerIdeal.nD Cert.FoxLayerIdeal.τ).loc Cert.FoxLayerIdeal.main_arg4))
      ∧ r.2.sem = fun _ => 0)

def quiescent_FoxReferenceIdeal [hFoxReferenceIdeal : Cert.FoxReferenceIdeal.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3)
      ∧ r.2.mem ((c.tc : Thread Cert.FoxReferenceIdeal.nD Cert.FoxReferenceIdeal.τ).loc Cert.FoxReferenceIdeal.main_arg4) = m ((c.tc : Thread Cert.FoxReferenceIdeal.nD Cert.FoxReferenceIdeal.τ).loc Cert.FoxReferenceIdeal.main_arg4))
      ∧ r.2.sem = fun _ => 0)

def quiescent_FoxReferenceIdeal_pre_fox_finite [hFoxReferenceIdeal : Cert.FoxReferenceIdeal.Facts] [hPre_fox_finite : Cert.Pre_fox_finite.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal_fox_finite m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3)
      ∧ r.2.mem ((c.tc : Thread Cert.FoxReferenceIdeal.nD Cert.FoxReferenceIdeal.τ).loc Cert.FoxReferenceIdeal.main_arg4) = m ((c.tc : Thread Cert.FoxReferenceIdeal.nD Cert.FoxReferenceIdeal.τ).loc Cert.FoxReferenceIdeal.main_arg4))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5))
      ∧ r.2.sem = fun _ => 0)

def quiescent_Sparse [hSparse : Cert.Sparse.Facts] : Prop :=
  ∀ (m : (ℓ : Loc Cert.Sparse.nD Cert.Sparse.τ Cert.Sparse.sig) → Buf (Elt Bits) ℓ) (g : Dev Cert.Sparse.nD → PrngReg), Pre_Sparse m →
    θ_run (Cert.Sparse.defs (F := Bits)) (onTc (τ := Cert.Sparse.τ) (Cert.Sparse.main (F := Bits))) ⟨m, fun _ => 0, g⟩ (fun r => (∀ c : Dev Cert.Sparse.nD,
      r.2.mem ((c.tc : Thread Cert.Sparse.nD Cert.Sparse.τ).loc Cert.Sparse.main_arg0) = m ((c.tc : Thread Cert.Sparse.nD Cert.Sparse.τ).loc Cert.Sparse.main_arg0)
      ∧ r.2.mem ((c.tc : Thread Cert.Sparse.nD Cert.Sparse.τ).loc Cert.Sparse.main_arg1) = m ((c.tc : Thread Cert.Sparse.nD Cert.Sparse.τ).loc Cert.Sparse.main_arg1)
      ∧ r.2.mem ((c.tc : Thread Cert.Sparse.nD Cert.Sparse.τ).loc Cert.Sparse.main_arg2) = m ((c.tc : Thread Cert.Sparse.nD Cert.Sparse.τ).loc Cert.Sparse.main_arg2))
      ∧ r.2.sem = fun _ => 0)

def quiescent_SparseIdeal [hSparseIdeal : Cert.SparseIdeal.Facts] : Prop :=
  ∀ (m : (ℓ : Loc Cert.SparseIdeal.nD Cert.SparseIdeal.τ Cert.SparseIdeal.sig) → Buf (Elt Ideal) ℓ) (g : Dev Cert.SparseIdeal.nD → PrngReg), Pre_SparseIdeal m →
    θ_run (Cert.SparseIdeal.defs (F := Ideal)) (onTc (τ := Cert.SparseIdeal.τ) (Cert.SparseIdeal.main (F := Ideal))) ⟨m, fun _ => 0, g⟩ (fun r => (∀ c : Dev Cert.SparseIdeal.nD,
      r.2.mem ((c.tc : Thread Cert.SparseIdeal.nD Cert.SparseIdeal.τ).loc Cert.SparseIdeal.main_arg0) = m ((c.tc : Thread Cert.SparseIdeal.nD Cert.SparseIdeal.τ).loc Cert.SparseIdeal.main_arg0)
      ∧ r.2.mem ((c.tc : Thread Cert.SparseIdeal.nD Cert.SparseIdeal.τ).loc Cert.SparseIdeal.main_arg1) = m ((c.tc : Thread Cert.SparseIdeal.nD Cert.SparseIdeal.τ).loc Cert.SparseIdeal.main_arg1)
      ∧ r.2.mem ((c.tc : Thread Cert.SparseIdeal.nD Cert.SparseIdeal.τ).loc Cert.SparseIdeal.main_arg2) = m ((c.tc : Thread Cert.SparseIdeal.nD Cert.SparseIdeal.τ).loc Cert.SparseIdeal.main_arg2))
      ∧ r.2.sem = fun _ => 0)

def quiescent_SparseReferenceIdeal [hSparseReferenceIdeal : Cert.SparseReferenceIdeal.Facts] : Prop :=
  ∀ (m : (ℓ : Loc Cert.SparseReferenceIdeal.nD Cert.SparseReferenceIdeal.τ Cert.SparseReferenceIdeal.sig) → Buf (Elt Ideal) ℓ) (g : Dev Cert.SparseReferenceIdeal.nD → PrngReg), Pre_SparseReferenceIdeal m →
    θ_run (Cert.SparseReferenceIdeal.defs (F := Ideal)) (onTc (τ := Cert.SparseReferenceIdeal.τ) (Cert.SparseReferenceIdeal.main (F := Ideal))) ⟨m, fun _ => 0, g⟩ (fun r => (∀ c : Dev Cert.SparseReferenceIdeal.nD,
      r.2.mem ((c.tc : Thread Cert.SparseReferenceIdeal.nD Cert.SparseReferenceIdeal.τ).loc Cert.SparseReferenceIdeal.main_arg0) = m ((c.tc : Thread Cert.SparseReferenceIdeal.nD Cert.SparseReferenceIdeal.τ).loc Cert.SparseReferenceIdeal.main_arg0)
      ∧ r.2.mem ((c.tc : Thread Cert.SparseReferenceIdeal.nD Cert.SparseReferenceIdeal.τ).loc Cert.SparseReferenceIdeal.main_arg1) = m ((c.tc : Thread Cert.SparseReferenceIdeal.nD Cert.SparseReferenceIdeal.τ).loc Cert.SparseReferenceIdeal.main_arg1)
      ∧ r.2.mem ((c.tc : Thread Cert.SparseReferenceIdeal.nD Cert.SparseReferenceIdeal.τ).loc Cert.SparseReferenceIdeal.main_arg2) = m ((c.tc : Thread Cert.SparseReferenceIdeal.nD Cert.SparseReferenceIdeal.τ).loc Cert.SparseReferenceIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10)
      ∧ r.2.mem ((c.tc : Thread Cert.Proj.nD Cert.Proj.τ).loc Cert.Proj.main_arg11) = m ((c.tc : Thread Cert.Proj.nD Cert.Proj.τ).loc Cert.Proj.main_arg11)
      ∧ r.2.mem ((c.tc : Thread Cert.Proj.nD Cert.Proj.τ).loc Cert.Proj.main_arg12) = m ((c.tc : Thread Cert.Proj.nD Cert.Proj.τ).loc Cert.Proj.main_arg12))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
      ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9)
      ∧ r.2.mem ((c.tc : Thread Cert.ProjReferenceIdeal.nD Cert.ProjReferenceIdeal.τ).loc Cert.ProjReferenceIdeal.main_arg10) = m ((c.tc : Thread Cert.ProjReferenceIdeal.nD Cert.ProjReferenceIdeal.τ).loc Cert.ProjReferenceIdeal.main_arg10)
      ∧ r.2.mem ((c.tc : Thread Cert.ProjReferenceIdeal.nD Cert.ProjReferenceIdeal.τ).loc Cert.ProjReferenceIdeal.main_arg11) = m ((c.tc : Thread Cert.ProjReferenceIdeal.nD Cert.ProjReferenceIdeal.τ).loc Cert.ProjReferenceIdeal.main_arg11)
      ∧ r.2.mem ((c.tc : Thread Cert.ProjReferenceIdeal.nD Cert.ProjReferenceIdeal.τ).loc Cert.ProjReferenceIdeal.main_arg12) = m ((c.tc : Thread Cert.ProjReferenceIdeal.nD Cert.ProjReferenceIdeal.τ).loc Cert.ProjReferenceIdeal.main_arg12))
      ∧ r.2.sem = fun _ => 0)

def preserves_FoxLayer_FoxLayerIdeal : Prop :=
  IdealRules.named_const.Statement Cert.FoxLayerIdeal.κ "mask" .f32 0xF149F2CA#32 ⊥

def algebraic_FoxLayerIdeal_FoxReferenceIdeal_pre_fox_finite [hFoxLayerIdeal : Cert.FoxLayerIdeal.Facts] [hFoxReferenceIdeal : Cert.FoxReferenceIdeal.Facts] [hPre_fox_finite : Cert.Pre_fox_finite.Facts] : Prop :=
  ∀ (m : (ℓ : Loc Cert.FoxLayerIdeal.nD Cert.FoxLayerIdeal.τ Cert.FoxLayerIdeal.sig) → Buf (Elt Ideal) ℓ) (g : Dev Cert.FoxLayerIdeal.nD → PrngReg)
    (m' : (ℓ : Loc Cert.FoxReferenceIdeal.nD Cert.FoxReferenceIdeal.τ Cert.FoxReferenceIdeal.sig) → Buf (Elt Ideal) ℓ) (g' : Dev Cert.FoxReferenceIdeal.nD → PrngReg), Pre_FoxLayerIdeal_fox_finite m →
    (∀ c : Dev Cert.FoxLayerIdeal.nD,
      m' ((c.tc : Thread Cert.FoxReferenceIdeal.nD Cert.FoxReferenceIdeal.τ).loc Cert.FoxReferenceIdeal.main_arg0) = m ((c.tc : Thread Cert.FoxLayerIdeal.nD Cert.FoxLayerIdeal.τ).loc Cert.FoxLayerIdeal.main_arg0)
      ∧ m' ((c.tc : Thread Cert.FoxReferenceIdeal.nD Cert.FoxReferenceIdeal.τ).loc Cert.FoxReferenceIdeal.main_arg1) = m ((c.tc : Thread Cert.FoxLayerIdeal.nD Cert.FoxLayerIdeal.τ).loc Cert.FoxLayerIdeal.main_arg1)
      ∧ m' ((c.tc : Thread Cert.FoxReferenceIdeal.nD Cert.FoxReferenceIdeal.τ).loc Cert.FoxReferenceIdeal.main_arg2) = m ((c.tc : Thread Cert.FoxLayerIdeal.nD Cert.FoxLayerIdeal.τ).loc Cert.FoxLayerIdeal.main_arg2)
      ∧ m' ((c.tc : Thread Cert.FoxReferenceIdeal.nD Cert.FoxReferenceIdeal.τ).loc Cert.FoxReferenceIdeal.main_arg3) = m ((c.tc : Thread Cert.FoxLayerIdeal.nD Cert.FoxLayerIdeal.τ).loc Cert.FoxLayerIdeal.main_arg3)
      ∧ m' ((c.tc : Thread Cert.FoxReferenceIdeal.nD Cert.FoxReferenceIdeal.τ).loc Cert.FoxReferenceIdeal.main_arg4) = m ((c.tc : Thread Cert.FoxLayerIdeal.nD Cert.FoxLayerIdeal.τ).loc Cert.FoxLayerIdeal.main_arg4)) →
    ∃ (v0 : (c : Dev Cert.FoxLayerIdeal.nD) → Buf (Elt Ideal) ((c.tc : Thread Cert.FoxLayerIdeal.nD Cert.FoxLayerIdeal.τ).loc Cert.FoxLayerIdeal.main_v16)),
      θ_run (Cert.FoxLayerIdeal.defs (F := Ideal)) (onTc (τ := Cert.FoxLayerIdeal.τ) (Cert.FoxLayerIdeal.main (F := Ideal))) ⟨m, fun _ => 0, g⟩ (fun r => ∀ c : Dev Cert.FoxLayerIdeal.nD,
          r.2.mem ((c.tc : Thread Cert.FoxLayerIdeal.nD Cert.FoxLayerIdeal.τ).loc Cert.FoxLayerIdeal.main_v16) = v0 c
          ∧ r.2.mem ((c.tc : Thread Cert.FoxLayerIdeal.nD Cert.FoxLayerIdeal.τ).loc Cert.FoxLayerIdeal.main_arg0) = m ((c.tc : Thread Cert.FoxLayerIdeal.nD Cert.FoxLayerIdeal.τ).loc Cert.FoxLayerIdeal.main_arg0)
          ∧ r.2.mem ((c.tc : Thread Cert.FoxLayerIdeal.nD Cert.FoxLayerIdeal.τ).loc Cert.FoxLayerIdeal.main_arg1) = m ((c.tc : Thread Cert.FoxLayerIdeal.nD Cert.FoxLayerIdeal.τ).loc Cert.FoxLayerIdeal.main_arg1)
          ∧ r.2.mem ((c.tc : Thread Cert.FoxLayerIdeal.nD Cert.FoxLayerIdeal.τ).loc Cert.FoxLayerIdeal.main_arg2) = m ((c.tc : Thread Cert.FoxLayerIdeal.nD Cert.FoxLayerIdeal.τ).loc Cert.FoxLayerIdeal.main_arg2)
          ∧ r.2.mem ((c.tc : Thread Cert.FoxLayerIdeal.nD Cert.FoxLayerIdeal.τ).loc Cert.FoxLayerIdeal.main_arg3) = m ((c.tc : Thread Cert.FoxLayerIdeal.nD Cert.FoxLayerIdeal.τ).loc Cert.FoxLayerIdeal.main_arg3)
          ∧ r.2.mem ((c.tc : Thread Cert.FoxLayerIdeal.nD Cert.FoxLayerIdeal.τ).loc Cert.FoxLayerIdeal.main_arg4) = m ((c.tc : Thread Cert.FoxLayerIdeal.nD Cert.FoxLayerIdeal.τ).loc Cert.FoxLayerIdeal.main_arg4))
      ∧ θ_run (Cert.FoxReferenceIdeal.defs (F := Ideal)) (onTc (τ := Cert.FoxReferenceIdeal.τ) (Cert.FoxReferenceIdeal.main (F := Ideal))) ⟨m', fun _ => 0, g'⟩ (fun r => ∀ c : Dev Cert.FoxReferenceIdeal.nD,
          r.2.mem ((c.tc : Thread Cert.FoxReferenceIdeal.nD Cert.FoxReferenceIdeal.τ).loc Cert.FoxReferenceIdeal.main_v60) = v0 c
          ∧ r.2.mem ((c.tc : Thread Cert.FoxReferenceIdeal.nD Cert.FoxReferenceIdeal.τ).loc Cert.FoxReferenceIdeal.main_arg0) = m' ((c.tc : Thread Cert.FoxReferenceIdeal.nD Cert.FoxReferenceIdeal.τ).loc Cert.FoxReferenceIdeal.main_arg0)
          ∧ r.2.mem ((c.tc : Thread Cert.FoxReferenceIdeal.nD Cert.FoxReferenceIdeal.τ).loc Cert.FoxReferenceIdeal.main_arg1) = m' ((c.tc : Thread Cert.FoxReferenceIdeal.nD Cert.FoxReferenceIdeal.τ).loc Cert.FoxReferenceIdeal.main_arg1)
          ∧ r.2.mem ((c.tc : Thread Cert.FoxReferenceIdeal.nD Cert.FoxReferenceIdeal.τ).loc Cert.FoxReferenceIdeal.main_arg2) = m' ((c.tc : Thread Cert.FoxReferenceIdeal.nD Cert.FoxReferenceIdeal.τ).loc Cert.FoxReferenceIdeal.main_arg2)
          ∧ r.2.mem ((c.tc : Thread Cert.FoxReferenceIdeal.nD Cert.FoxReferenceIdeal.τ).loc Cert.FoxReferenceIdeal.main_arg3) = m' ((c.tc : Thread Cert.FoxReferenceIdeal.nD Cert.FoxReferenceIdeal.τ).loc Cert.FoxReferenceIdeal.main_arg3)
          ∧ r.2.mem ((c.tc : Thread Cert.FoxReferenceIdeal.nD Cert.FoxReferenceIdeal.τ).loc Cert.FoxReferenceIdeal.main_arg4) = m' ((c.tc : Thread Cert.FoxReferenceIdeal.nD Cert.FoxReferenceIdeal.τ).loc Cert.FoxReferenceIdeal.main_arg4))

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)) →
    ∃ (v0 : (c : Dev Cert.TailIdeal.nD) → Buf (Elt Ideal) ((c.tc : Thread Cert.TailIdeal.nD Cert.TailIdeal.τ).loc Cert.TailIdeal.main_v6)) (v1 : (c : Dev Cert.TailIdeal.nD) → Buf (Elt Ideal) ((c.tc : Thread Cert.TailIdeal.nD Cert.TailIdeal.τ).loc Cert.TailIdeal.main_v8)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v6) = v0 c
          ∧ r.2.mem ((c.tc : Thread Cert.TailIdeal.nD Cert.TailIdeal.τ).loc Cert.TailIdeal.main_v8) = v1 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v18) = v0 c
          ∧ r.2.mem ((c.tc : Thread Cert.TailReferenceIdeal.nD Cert.TailReferenceIdeal.τ).loc Cert.TailReferenceIdeal.main_v31) = v1 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5))

def preserves_Sparse_SparseIdeal : Prop :=
  True

def algebraic_SparseIdeal_SparseReferenceIdeal [hSparseIdeal : Cert.SparseIdeal.Facts] [hSparseReferenceIdeal : Cert.SparseReferenceIdeal.Facts] : Prop :=
  ∀ (m : (ℓ : Loc Cert.SparseIdeal.nD Cert.SparseIdeal.τ Cert.SparseIdeal.sig) → Buf (Elt Ideal) ℓ) (g : Dev Cert.SparseIdeal.nD → PrngReg)
    (m' : (ℓ : Loc Cert.SparseReferenceIdeal.nD Cert.SparseReferenceIdeal.τ Cert.SparseReferenceIdeal.sig) → Buf (Elt Ideal) ℓ) (g' : Dev Cert.SparseReferenceIdeal.nD → PrngReg), Pre_SparseIdeal m →
    (∀ c : Dev Cert.SparseIdeal.nD,
      m' ((c.tc : Thread Cert.SparseReferenceIdeal.nD Cert.SparseReferenceIdeal.τ).loc Cert.SparseReferenceIdeal.main_arg0) = m ((c.tc : Thread Cert.SparseIdeal.nD Cert.SparseIdeal.τ).loc Cert.SparseIdeal.main_arg0)
      ∧ m' ((c.tc : Thread Cert.SparseReferenceIdeal.nD Cert.SparseReferenceIdeal.τ).loc Cert.SparseReferenceIdeal.main_arg1) = m ((c.tc : Thread Cert.SparseIdeal.nD Cert.SparseIdeal.τ).loc Cert.SparseIdeal.main_arg1)
      ∧ m' ((c.tc : Thread Cert.SparseReferenceIdeal.nD Cert.SparseReferenceIdeal.τ).loc Cert.SparseReferenceIdeal.main_arg2) = m ((c.tc : Thread Cert.SparseIdeal.nD Cert.SparseIdeal.τ).loc Cert.SparseIdeal.main_arg2)) →
    ∃ (v0 : (c : Dev Cert.SparseIdeal.nD) → Buf (Elt Ideal) ((c.tc : Thread Cert.SparseIdeal.nD Cert.SparseIdeal.τ).loc Cert.SparseIdeal.main_v57)) (v1 : (c : Dev Cert.SparseIdeal.nD) → Buf (Elt Ideal) ((c.tc : Thread Cert.SparseIdeal.nD Cert.SparseIdeal.τ).loc Cert.SparseIdeal.main_v59)) (v2 : (c : Dev Cert.SparseIdeal.nD) → Buf (Elt Ideal) ((c.tc : Thread Cert.SparseIdeal.nD Cert.SparseIdeal.τ).loc Cert.SparseIdeal.main_v61)) (v3 : (c : Dev Cert.SparseIdeal.nD) → Buf (Elt Ideal) ((c.tc : Thread Cert.SparseIdeal.nD Cert.SparseIdeal.τ).loc Cert.SparseIdeal.main_v69)) (v4 : (c : Dev Cert.SparseIdeal.nD) → Buf (Elt Ideal) ((c.tc : Thread Cert.SparseIdeal.nD Cert.SparseIdeal.τ).loc Cert.SparseIdeal.main_v72)) (v5 : (c : Dev Cert.SparseIdeal.nD) → Buf (Elt Ideal) ((c.tc : Thread Cert.SparseIdeal.nD Cert.SparseIdeal.τ).loc Cert.SparseIdeal.main_v74)),
      θ_run (Cert.SparseIdeal.defs (F := Ideal)) (onTc (τ := Cert.SparseIdeal.τ) (Cert.SparseIdeal.main (F := Ideal))) ⟨m, fun _ => 0, g⟩ (fun r => ∀ c : Dev Cert.SparseIdeal.nD,
          r.2.mem ((c.tc : Thread Cert.SparseIdeal.nD Cert.SparseIdeal.τ).loc Cert.SparseIdeal.main_v57) = v0 c
          ∧ r.2.mem ((c.tc : Thread Cert.SparseIdeal.nD Cert.SparseIdeal.τ).loc Cert.SparseIdeal.main_v59) = v1 c
          ∧ r.2.mem ((c.tc : Thread Cert.SparseIdeal.nD Cert.SparseIdeal.τ).loc Cert.SparseIdeal.main_v61) = v2 c
          ∧ r.2.mem ((c.tc : Thread Cert.SparseIdeal.nD Cert.SparseIdeal.τ).loc Cert.SparseIdeal.main_v69) = v3 c
          ∧ r.2.mem ((c.tc : Thread Cert.SparseIdeal.nD Cert.SparseIdeal.τ).loc Cert.SparseIdeal.main_v72) = v4 c
          ∧ r.2.mem ((c.tc : Thread Cert.SparseIdeal.nD Cert.SparseIdeal.τ).loc Cert.SparseIdeal.main_v74) = v5 c
          ∧ r.2.mem ((c.tc : Thread Cert.SparseIdeal.nD Cert.SparseIdeal.τ).loc Cert.SparseIdeal.main_arg0) = m ((c.tc : Thread Cert.SparseIdeal.nD Cert.SparseIdeal.τ).loc Cert.SparseIdeal.main_arg0)
          ∧ r.2.mem ((c.tc : Thread Cert.SparseIdeal.nD Cert.SparseIdeal.τ).loc Cert.SparseIdeal.main_arg1) = m ((c.tc : Thread Cert.SparseIdeal.nD Cert.SparseIdeal.τ).loc Cert.SparseIdeal.main_arg1)
          ∧ r.2.mem ((c.tc : Thread Cert.SparseIdeal.nD Cert.SparseIdeal.τ).loc Cert.SparseIdeal.main_arg2) = m ((c.tc : Thread Cert.SparseIdeal.nD Cert.SparseIdeal.τ).loc Cert.SparseIdeal.main_arg2))
      ∧ θ_run (Cert.SparseReferenceIdeal.defs (F := Ideal)) (onTc (τ := Cert.SparseReferenceIdeal.τ) (Cert.SparseReferenceIdeal.main (F := Ideal))) ⟨m', fun _ => 0, g'⟩ (fun r => ∀ c : Dev Cert.SparseReferenceIdeal.nD,
          r.2.mem ((c.tc : Thread Cert.SparseReferenceIdeal.nD Cert.SparseReferenceIdeal.τ).loc Cert.SparseReferenceIdeal.main_v49) = v0 c
          ∧ r.2.mem ((c.tc : Thread Cert.SparseReferenceIdeal.nD Cert.SparseReferenceIdeal.τ).loc Cert.SparseReferenceIdeal.main_v83) = v1 c
          ∧ r.2.mem ((c.tc : Thread Cert.SparseReferenceIdeal.nD Cert.SparseReferenceIdeal.τ).loc Cert.SparseReferenceIdeal.main_v85) = v2 c
          ∧ r.2.mem ((c.tc : Thread Cert.SparseReferenceIdeal.nD Cert.SparseReferenceIdeal.τ).loc Cert.SparseReferenceIdeal.main_v119) = v3 c
          ∧ r.2.mem ((c.tc : Thread Cert.SparseReferenceIdeal.nD Cert.SparseReferenceIdeal.τ).loc Cert.SparseReferenceIdeal.main_v154) = v4 c
          ∧ r.2.mem ((c.tc : Thread Cert.SparseReferenceIdeal.nD Cert.SparseReferenceIdeal.τ).loc Cert.SparseReferenceIdeal.main_v157) = v5 c
          ∧ r.2.mem ((c.tc : Thread Cert.SparseReferenceIdeal.nD Cert.SparseReferenceIdeal.τ).loc Cert.SparseReferenceIdeal.main_arg0) = m' ((c.tc : Thread Cert.SparseReferenceIdeal.nD Cert.SparseReferenceIdeal.τ).loc Cert.SparseReferenceIdeal.main_arg0)
          ∧ r.2.mem ((c.tc : Thread Cert.SparseReferenceIdeal.nD Cert.SparseReferenceIdeal.τ).loc Cert.SparseReferenceIdeal.main_arg1) = m' ((c.tc : Thread Cert.SparseReferenceIdeal.nD Cert.SparseReferenceIdeal.τ).loc Cert.SparseReferenceIdeal.main_arg1)
          ∧ r.2.mem ((c.tc : Thread Cert.SparseReferenceIdeal.nD Cert.SparseReferenceIdeal.τ).loc Cert.SparseReferenceIdeal.main_arg2) = m' ((c.tc : Thread Cert.SparseReferenceIdeal.nD Cert.SparseReferenceIdeal.τ).loc Cert.SparseReferenceIdeal.main_arg2))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v2) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)) →
    ∃ (v0 : (c : Dev Cert.MixIdeal.nD) → Buf (Elt Ideal) ((c.tc : Thread Cert.MixIdeal.nD Cert.MixIdeal.τ).loc Cert.MixIdeal.main_v3)) (v1 : (c : Dev Cert.MixIdeal.nD) → Buf (Elt Ideal) ((c.tc : Thread Cert.MixIdeal.nD Cert.MixIdeal.τ).loc Cert.MixIdeal.main_v4)) (v2 : (c : Dev Cert.MixIdeal.nD) → Buf (Elt Ideal) ((c.tc : Thread Cert.MixIdeal.nD Cert.MixIdeal.τ).loc Cert.MixIdeal.main_v5)) (v3 : (c : Dev Cert.MixIdeal.nD) → Buf (Elt Ideal) ((c.tc : Thread Cert.MixIdeal.nD Cert.MixIdeal.τ).loc Cert.MixIdeal.main_v6)) (v4 : (c : Dev Cert.MixIdeal.nD) → Buf (Elt Ideal) ((c.tc : Thread Cert.MixIdeal.nD Cert.MixIdeal.τ).loc Cert.MixIdeal.main_v7)) (v5 : (c : Dev Cert.MixIdeal.nD) → Buf (Elt Ideal) ((c.tc : Thread Cert.MixIdeal.nD Cert.MixIdeal.τ).loc Cert.MixIdeal.main_v8)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v3) = v0 c
          ∧ r.2.mem ((c.tc : Thread Cert.MixIdeal.nD Cert.MixIdeal.τ).loc Cert.MixIdeal.main_v4) = v1 c
          ∧ r.2.mem ((c.tc : Thread Cert.MixIdeal.nD Cert.MixIdeal.τ).loc Cert.MixIdeal.main_v5) = v2 c
          ∧ r.2.mem ((c.tc : Thread Cert.MixIdeal.nD Cert.MixIdeal.τ).loc Cert.MixIdeal.main_v6) = v3 c
          ∧ r.2.mem ((c.tc : Thread Cert.MixIdeal.nD Cert.MixIdeal.τ).loc Cert.MixIdeal.main_v7) = v4 c
          ∧ r.2.mem ((c.tc : Thread Cert.MixIdeal.nD Cert.MixIdeal.τ).loc Cert.MixIdeal.main_v8) = v5 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v23) = v0 c
          ∧ r.2.mem ((c.tc : Thread Cert.MixReferenceIdeal.nD Cert.MixReferenceIdeal.τ).loc Cert.MixReferenceIdeal.main_v30) = v1 c
          ∧ r.2.mem ((c.tc : Thread Cert.MixReferenceIdeal.nD Cert.MixReferenceIdeal.τ).loc Cert.MixReferenceIdeal.main_v37) = v2 c
          ∧ r.2.mem ((c.tc : Thread Cert.MixReferenceIdeal.nD Cert.MixReferenceIdeal.τ).loc Cert.MixReferenceIdeal.main_v44) = v3 c
          ∧ r.2.mem ((c.tc : Thread Cert.MixReferenceIdeal.nD Cert.MixReferenceIdeal.τ).loc Cert.MixReferenceIdeal.main_v51) = v4 c
          ∧ r.2.mem ((c.tc : Thread Cert.MixReferenceIdeal.nD Cert.MixReferenceIdeal.τ).loc Cert.MixReferenceIdeal.main_v58) = v5 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)
      ∧ m' ((c.tc : Thread Cert.ProjReferenceIdeal.nD Cert.ProjReferenceIdeal.τ).loc Cert.ProjReferenceIdeal.main_arg8) = m ((c.tc : Thread Cert.ProjIdeal.nD Cert.ProjIdeal.τ).loc Cert.ProjIdeal.main_arg8)
      ∧ m' ((c.tc : Thread Cert.ProjReferenceIdeal.nD Cert.ProjReferenceIdeal.τ).loc Cert.ProjReferenceIdeal.main_arg9) = m ((c.tc : Thread Cert.ProjIdeal.nD Cert.ProjIdeal.τ).loc Cert.ProjIdeal.main_arg9)
      ∧ m' ((c.tc : Thread Cert.ProjReferenceIdeal.nD Cert.ProjReferenceIdeal.τ).loc Cert.ProjReferenceIdeal.main_arg10) = m ((c.tc : Thread Cert.ProjIdeal.nD Cert.ProjIdeal.τ).loc Cert.ProjIdeal.main_arg10)
      ∧ m' ((c.tc : Thread Cert.ProjReferenceIdeal.nD Cert.ProjReferenceIdeal.τ).loc Cert.ProjReferenceIdeal.main_arg11) = m ((c.tc : Thread Cert.ProjIdeal.nD Cert.ProjIdeal.τ).loc Cert.ProjIdeal.main_arg11)
      ∧ m' ((c.tc : Thread Cert.ProjReferenceIdeal.nD Cert.ProjReferenceIdeal.τ).loc Cert.ProjReferenceIdeal.main_arg12) = m ((c.tc : Thread Cert.ProjIdeal.nD Cert.ProjIdeal.τ).loc Cert.ProjIdeal.main_arg12)) →
    ∃ (v0 : (c : Dev Cert.ProjIdeal.nD) → Buf (Elt Ideal) ((c.tc : Thread Cert.ProjIdeal.nD Cert.ProjIdeal.τ).loc Cert.ProjIdeal.main_v3)) (v1 : (c : Dev Cert.ProjIdeal.nD) → Buf (Elt Ideal) ((c.tc : Thread Cert.ProjIdeal.nD Cert.ProjIdeal.τ).loc Cert.ProjIdeal.main_v7)) (v2 : (c : Dev Cert.ProjIdeal.nD) → Buf (Elt Ideal) ((c.tc : Thread Cert.ProjIdeal.nD Cert.ProjIdeal.τ).loc Cert.ProjIdeal.main_v11)) (v3 : (c : Dev Cert.ProjIdeal.nD) → Buf (Elt Ideal) ((c.tc : Thread Cert.ProjIdeal.nD Cert.ProjIdeal.τ).loc Cert.ProjIdeal.main_v16)) (v4 : (c : Dev Cert.ProjIdeal.nD) → Buf (Elt Ideal) ((c.tc : Thread Cert.ProjIdeal.nD Cert.ProjIdeal.τ).loc Cert.ProjIdeal.main_v21)) (v5 : (c : Dev Cert.ProjIdeal.nD) → Buf (Elt Ideal) ((c.tc : Thread Cert.ProjIdeal.nD Cert.ProjIdeal.τ).loc Cert.ProjIdeal.main_v26)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3) = v0 c
          ∧ r.2.mem ((c.tc : Thread Cert.ProjIdeal.nD Cert.ProjIdeal.τ).loc Cert.ProjIdeal.main_v7) = v1 c
          ∧ r.2.mem ((c.tc : Thread Cert.ProjIdeal.nD Cert.ProjIdeal.τ).loc Cert.ProjIdeal.main_v11) = v2 c
          ∧ r.2.mem ((c.tc : Thread Cert.ProjIdeal.nD Cert.ProjIdeal.τ).loc Cert.ProjIdeal.main_v16) = v3 c
          ∧ r.2.mem ((c.tc : Thread Cert.ProjIdeal.nD Cert.ProjIdeal.τ).loc Cert.ProjIdeal.main_v21) = v4 c
          ∧ r.2.mem ((c.tc : Thread Cert.ProjIdeal.nD Cert.ProjIdeal.τ).loc Cert.ProjIdeal.main_v26) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
          ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
          ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
          ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v8) = v0 c
          ∧ r.2.mem ((c.tc : Thread Cert.ProjReferenceIdeal.nD Cert.ProjReferenceIdeal.τ).loc Cert.ProjReferenceIdeal.main_v11) = v1 c
          ∧ r.2.mem ((c.tc : Thread Cert.ProjReferenceIdeal.nD Cert.ProjReferenceIdeal.τ).loc Cert.ProjReferenceIdeal.main_v14) = v2 c
          ∧ r.2.mem ((c.tc : Thread Cert.ProjReferenceIdeal.nD Cert.ProjReferenceIdeal.τ).loc Cert.ProjReferenceIdeal.main_v17) = v3 c
          ∧ r.2.mem ((c.tc : Thread Cert.ProjReferenceIdeal.nD Cert.ProjReferenceIdeal.τ).loc Cert.ProjReferenceIdeal.main_v19) = v4 c
          ∧ r.2.mem ((c.tc : Thread Cert.ProjReferenceIdeal.nD Cert.ProjReferenceIdeal.τ).loc Cert.ProjReferenceIdeal.main_v27) = v5 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8)
          ∧ r.2.mem ((c.tc : Thread Cert.ProjReferenceIdeal.nD Cert.ProjReferenceIdeal.τ).loc Cert.ProjReferenceIdeal.main_arg9) = m' ((c.tc : Thread Cert.ProjReferenceIdeal.nD Cert.ProjReferenceIdeal.τ).loc Cert.ProjReferenceIdeal.main_arg9)
          ∧ r.2.mem ((c.tc : Thread Cert.ProjReferenceIdeal.nD Cert.ProjReferenceIdeal.τ).loc Cert.ProjReferenceIdeal.main_arg10) = m' ((c.tc : Thread Cert.ProjReferenceIdeal.nD Cert.ProjReferenceIdeal.τ).loc Cert.ProjReferenceIdeal.main_arg10)
          ∧ r.2.mem ((c.tc : Thread Cert.ProjReferenceIdeal.nD Cert.ProjReferenceIdeal.τ).loc Cert.ProjReferenceIdeal.main_arg11) = m' ((c.tc : Thread Cert.ProjReferenceIdeal.nD Cert.ProjReferenceIdeal.τ).loc Cert.ProjReferenceIdeal.main_arg11)
          ∧ r.2.mem ((c.tc : Thread Cert.ProjReferenceIdeal.nD Cert.ProjReferenceIdeal.τ).loc Cert.ProjReferenceIdeal.main_arg12) = m' ((c.tc : Thread Cert.ProjReferenceIdeal.nD Cert.ProjReferenceIdeal.τ).loc Cert.ProjReferenceIdeal.main_arg12))

def Claim : Prop :=
  ∃ (hFoxLayer : Cert.FoxLayer.Facts) (hFoxLayerIdeal : Cert.FoxLayerIdeal.Facts) (hFoxReferenceIdeal : Cert.FoxReferenceIdeal.Facts) (hTail : Cert.Tail.Facts) (hTailIdeal : Cert.TailIdeal.Facts) (hTailReferenceIdeal : Cert.TailReferenceIdeal.Facts) (hSparse : Cert.Sparse.Facts) (hSparseIdeal : Cert.SparseIdeal.Facts) (hSparseReferenceIdeal : Cert.SparseReferenceIdeal.Facts) (hOut : Cert.Out.Facts) (hOutIdeal : Cert.OutIdeal.Facts) (hOutReferenceIdeal : Cert.OutReferenceIdeal.Facts) (hMix : Cert.Mix.Facts) (hMixIdeal : Cert.MixIdeal.Facts) (hMixReferenceIdeal : Cert.MixReferenceIdeal.Facts) (hProj : Cert.Proj.Facts) (hProjIdeal : Cert.ProjIdeal.Facts) (hProjReferenceIdeal : Cert.ProjReferenceIdeal.Facts) (hPre_fox_finite : Cert.Pre_fox_finite.Facts),
    quiescent_FoxLayer (hFoxLayer := hFoxLayer)
    ∧ quiescent_FoxLayerIdeal (hFoxLayerIdeal := hFoxLayerIdeal)
    ∧ quiescent_FoxLayerIdeal_pre_fox_finite (hFoxLayerIdeal := hFoxLayerIdeal) (hPre_fox_finite := hPre_fox_finite)
    ∧ quiescent_FoxReferenceIdeal (hFoxReferenceIdeal := hFoxReferenceIdeal)
    ∧ quiescent_FoxReferenceIdeal_pre_fox_finite (hFoxReferenceIdeal := hFoxReferenceIdeal) (hPre_fox_finite := hPre_fox_finite)
    ∧ quiescent_Tail (hTail := hTail)
    ∧ quiescent_TailIdeal (hTailIdeal := hTailIdeal)
    ∧ quiescent_TailReferenceIdeal (hTailReferenceIdeal := hTailReferenceIdeal)
    ∧ quiescent_Sparse (hSparse := hSparse)
    ∧ quiescent_SparseIdeal (hSparseIdeal := hSparseIdeal)
    ∧ quiescent_SparseReferenceIdeal (hSparseReferenceIdeal := hSparseReferenceIdeal)
    ∧ quiescent_Out (hOut := hOut)
    ∧ quiescent_OutIdeal (hOutIdeal := hOutIdeal)
    ∧ quiescent_OutReferenceIdeal (hOutReferenceIdeal := hOutReferenceIdeal)
    ∧ quiescent_Mix (hMix := hMix)
    ∧ quiescent_MixIdeal (hMixIdeal := hMixIdeal)
    ∧ quiescent_MixReferenceIdeal (hMixReferenceIdeal := hMixReferenceIdeal)
    ∧ quiescent_Proj (hProj := hProj)
    ∧ quiescent_ProjIdeal (hProjIdeal := hProjIdeal)
    ∧ quiescent_ProjReferenceIdeal (hProjReferenceIdeal := hProjReferenceIdeal)
    ∧ preserves_FoxLayer_FoxLayerIdeal
    ∧ algebraic_FoxLayerIdeal_FoxReferenceIdeal_pre_fox_finite (hFoxLayerIdeal := hFoxLayerIdeal) (hFoxReferenceIdeal := hFoxReferenceIdeal) (hPre_fox_finite := hPre_fox_finite)
    ∧ preserves_Tail_TailIdeal
    ∧ algebraic_TailIdeal_TailReferenceIdeal (hTailIdeal := hTailIdeal) (hTailReferenceIdeal := hTailReferenceIdeal)
    ∧ preserves_Sparse_SparseIdeal
    ∧ algebraic_SparseIdeal_SparseReferenceIdeal (hSparseIdeal := hSparseIdeal) (hSparseReferenceIdeal := hSparseReferenceIdeal)
    ∧ preserves_Out_OutIdeal
    ∧ algebraic_OutIdeal_OutReferenceIdeal (hOutIdeal := hOutIdeal) (hOutReferenceIdeal := hOutReferenceIdeal)
    ∧ preserves_Mix_MixIdeal
    ∧ algebraic_MixIdeal_MixReferenceIdeal (hMixIdeal := hMixIdeal) (hMixReferenceIdeal := hMixReferenceIdeal)
    ∧ preserves_Proj_ProjIdeal
    ∧ algebraic_ProjIdeal_ProjReferenceIdeal (hProjIdeal := hProjIdeal) (hProjReferenceIdeal := hProjReferenceIdeal)
-- ==== Pre_fox_finite.lean ====
abbrev S16384x2048 : Shape := ⟨2, ![16384, 2048]⟩
abbrev S2048 : Shape := ⟨1, ![2048]⟩
abbrev S2048x6160 : Shape := ⟨2, ![2048, 6160]⟩
abbrev S16 : Shape := ⟨1, ![16]⟩
abbrev S2048x2048 : Shape := ⟨2, ![2048, 2048]⟩
abbrev S_ : Shape := ⟨0, ![]⟩
abbrev S2048x4096 : Shape := ⟨2, ![2048, 4096]⟩
abbrev S2048x16 : Shape := ⟨2, ![2048, 16]⟩

class Facts : Prop where
  bcast_S_S2048 : S_.BroadcastsInDim S2048 (![] : Fin 0 → Fin S2048.rank)
  slices_S2048x6160_S2048x4096_0_0 : S2048x6160.Slices ![0, 0] S2048x4096
  bcast_S_S2048x4096 : S_.BroadcastsInDim S2048x4096 (![] : Fin 0 → Fin S2048x4096.rank)
  slices_S2048x6160_S2048x16_0_6144 : S2048x6160.Slices ![0, 6144] S2048x16
  bcast_S_S2048x16 : S_.BroadcastsInDim S2048x16 (![] : Fin 0 → Fin S2048x16.rank)
  bcast_S_S16 : S_.BroadcastsInDim S16 (![] : Fin 0 → Fin S16.rank)

variable [Facts]

def fn {F : FTy → Type} [FloatOps F] (main_arg0 : FVec F S16384x2048 .f32) (main_arg1 : FVec F S2048 .f32) (main_arg2 : FVec F S2048x6160 .f32) (main_arg3 : FVec F S16 .f32) (main_arg4 : FVec F S2048x2048 .f32) : IVec S2048 1 × IVec S2048x4096 1 × IVec S2048x16 1 × IVec S16 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_v3 : FVec F S2048x4096 .f32 := (extractStridedSlice S2048x4096 ![0, 0] · slices_S2048x6160_S2048x4096_0_0) main_arg2
  let main_v4 : FVec F S2048x4096 .f32 := Host.absf main_v3
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_v7 : FVec F S2048x16 .f32 := (extractStridedSlice S2048x16 ![0, 6144] · slices_S2048x6160_S2048x16_0_6144) main_arg2
  let main_v8 : FVec F S2048x16 .f32 := Host.absf main_v7
  let main_cst_1 : FVec F S_ .f32 := constant S_ .f32 0x7F800000#32
  let main_v9 : FVec F S2048x16 .f32 := broadcastInDim S2048x16 ![] bcast_S_S2048x16 main_cst_1
  let main_v10 : IVec S2048x16 1 := cmpf .olt main_v8 main_v9
  let main_cst_2 : FVec F S_ .f32 := constant S_ .f32 0xFF800000#32
  let main_v11 : FVec F S16 .f32 := broadcastInDim S16 ![] bcast_S_S16 main_cst_2
  let main_v12 : IVec S16 1 := cmpf .ogt main_arg3 main_v11
  (main_v2, main_v6, main_v10, main_v12)
-- ==== FoxLayer.lean ====
abbrev S16384x2048 : Shape := ⟨2, ![16384, 2048]⟩
abbrev S2048 : Shape := ⟨1, ![2048]⟩
abbrev S2048x6160 : Shape := ⟨2, ![2048, 6160]⟩
abbrev S16 : Shape := ⟨1, ![16]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048x6144 : Shape := ⟨2, ![2048, 6144]⟩
abbrev S16384x6144 : Shape := ⟨2, ![16384, 6144]⟩
abbrev S1024x2048 : Shape := ⟨2, ![1024, 2048]⟩
abbrev S2048x1024 : Shape := ⟨2, ![2048, 1024]⟩
abbrev S1024x1024 : Shape := ⟨2, ![1024, 1024]⟩
abbrev S2048x16 : Shape := ⟨2, ![2048, 16]⟩
abbrev S_ : Shape := ⟨0, ![]⟩
abbrev S2048x128 : Shape := ⟨2, ![2048, 128]⟩
abbrev S16384x128 : Shape := ⟨2, ![16384, 128]⟩
abbrev S1024x128 : Shape := ⟨2, ![1024, 128]⟩
abbrev S128 : Shape := ⟨1, ![128]⟩
abbrev S1x128 : Shape := ⟨2, ![1, 128]⟩
abbrev S4x128x4096 : Shape := ⟨3, ![4, 128, 4096]⟩
abbrev S4096x128 : Shape := ⟨2, ![4096, 128]⟩
abbrev S1x128x4096 : Shape := ⟨3, ![1, 128, 4096]⟩
abbrev S256x256 : Shape := ⟨2, ![256, 256]⟩
abbrev S256x128 : Shape := ⟨2, ![256, 128]⟩
abbrev S128x256 : Shape := ⟨2, ![128, 256]⟩
abbrev S1x128x256 : Shape := ⟨3, ![1, 128, 256]⟩
abbrev S4x16x4096 : Shape := ⟨3, ![4, 16, 4096]⟩
abbrev S4x16x1x4096 : Shape := ⟨4, ![4, 16, 1, 4096]⟩
abbrev S512x128 : Shape := ⟨2, ![512, 128]⟩
abbrev S1x1x1x4096 : Shape := ⟨4, ![1, 1, 1, 4096]⟩
abbrev S512x512 : Shape := ⟨2, ![512, 512]⟩
abbrev S1x1x1x512 : Shape := ⟨4, ![1, 1, 1, 512]⟩
abbrev S1x512 : Shape := ⟨2, ![1, 512]⟩

abbrev nBuf : Space → Nat
  | .hbm => 27
  | .vmem => 43
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6160, .f32⟩
  | .hbm, ⟨3, _⟩ => ⟨S16, .f32⟩
  | .hbm, ⟨4, _⟩ => ⟨S2048x2048, .f32⟩
  | .hbm, ⟨5, _⟩ => ⟨S1x2048, .f32⟩
  | .hbm, ⟨6, _⟩ => ⟨S16384x2048, .bf16⟩
  | .hbm, ⟨7, _⟩ => ⟨S2048x6144, .f32⟩
  | .hbm, ⟨8, _⟩ => ⟨S2048x6144, .bf16⟩
  | .hbm, ⟨9, _⟩ => ⟨S16384x6144, .bf16⟩
  | .hbm, ⟨10, _⟩ => ⟨S2048x16, .f32⟩
  | .hbm, ⟨11, _⟩ => ⟨S_, .i32⟩
  | .hbm, ⟨12, _⟩ => ⟨S_, .f32⟩
  | .hbm, ⟨13, _⟩ => ⟨S2048x128, .f32⟩
  | .hbm, ⟨14, _⟩ => ⟨S2048x128, .bf16⟩
  | .hbm, ⟨15, _⟩ => ⟨S16384x128, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S16384x128, .f32⟩
  | .hbm, ⟨21, _⟩ => ⟨S4x128x4096, .f32⟩
  | .hbm, ⟨22, _⟩ => ⟨S4x16x4096, .f32⟩
  | .hbm, ⟨23, _⟩ => ⟨S4x16x1x4096, .f32⟩
  | .hbm, ⟨24, _⟩ => ⟨S16384x2048, .bf16⟩
  | .hbm, ⟨25, _⟩ => ⟨S2048x2048, .bf16⟩
  | .hbm, ⟨26, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S1024x2048, .bf16⟩
  | .local _ .vmem, ⟨6, _⟩ => ⟨S1024x2048, .bf16⟩
  | .local _ .vmem, ⟨7, _⟩ => ⟨S2048x1024, .bf16⟩
  | .local _ .vmem, ⟨8, _⟩ => ⟨S2048x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x2048, .bf16⟩
  | .local _ .vmem, ⟨12, _⟩ => ⟨S1024x2048, .bf16⟩
  | .local _ .vmem, ⟨13, _⟩ => ⟨S2048x128, .bf16⟩
  | .local _ .vmem, ⟨14, _⟩ => ⟨S1024x128, .f32⟩
  | .local _ .vmem, ⟨15, _⟩ => ⟨S1024x128, .f32⟩
  | .local _ .vmem, ⟨16, _⟩ => ⟨S4096x128, .f32⟩
  | .local _ .vmem, ⟨17, _⟩ => ⟨S4096x128, .f32⟩
  | .local _ .vmem, ⟨18, _⟩ => ⟨S1x128, .f32⟩
  | .local _ .vmem, ⟨19, _⟩ => ⟨S4096x128, .f32⟩
  | .local _ .vmem, ⟨20, _⟩ => ⟨S4096x128, .f32⟩
  | .local _ .vmem, ⟨21, _⟩ => ⟨S1x128x4096, .f32⟩
  | .local _ .vmem, ⟨22, _⟩ => ⟨S1x128x4096, .f32⟩
  | .local _ .vmem, ⟨23, _⟩ => ⟨S512x128, .bf16⟩
  | .local _ .vmem, ⟨24, _⟩ => ⟨S512x128, .bf16⟩
  | .local _ .vmem, ⟨25, _⟩ => ⟨S4096x128, .bf16⟩
  | .local _ .vmem, ⟨26, _⟩ => ⟨S4096x128, .bf16⟩
  | .local _ .vmem, ⟨27, _⟩ => ⟨S4096x128, .bf16⟩
  | .local _ .vmem, ⟨28, _⟩ => ⟨S4096x128, .bf16⟩
  | .local _ .vmem, ⟨29, _⟩ => ⟨S512x128, .f32⟩
  | .local _ .vmem, ⟨30, _⟩ => ⟨S512x128, .f32⟩
  | .local _ .vmem, ⟨31, _⟩ => ⟨S1x1x1x4096, .f32⟩
  | .local _ .vmem, ⟨32, _⟩ => ⟨S1x1x1x4096, .f32⟩
  | .local _ .vmem, ⟨33, _⟩ => ⟨S512x128, .bf16⟩
  | .local _ .vmem, ⟨34, _⟩ => ⟨S512x128, .bf16⟩
  | .local _ .vmem, ⟨35, _⟩ => ⟨S1024x2048, .bf16⟩
  | .local _ .vmem, ⟨36, _⟩ => ⟨S1024x2048, .bf16⟩
  | .local _ .vmem, ⟨37, _⟩ => ⟨S2048x1024, .bf16⟩
  | .local _ .vmem, ⟨38, _⟩ => ⟨S2048x1024, .bf16⟩
  | .local _ .vmem, ⟨39, _⟩ => ⟨S1024x1024, .f32⟩
  | .local _ .vmem, ⟨40, _⟩ => ⟨S1024x1024, .f32⟩
  | .local _ .vmem, ⟨41, _⟩ => ⟨S1024x1024, .f32⟩
  | .local _ .vmem, ⟨42, _⟩ => ⟨S1024x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc4_stg3_0 : Ref sig .tc := ⟨.vmem, 29, rfl⟩
abbrev cc4_stg3_1 : Ref sig .tc := ⟨.vmem, 30, rfl⟩
abbrev cc4_stg4_0 : Ref sig .tc := ⟨.vmem, 31, rfl⟩
abbrev cc4_stg4_1 : Ref sig .tc := ⟨.vmem, 32, rfl⟩
abbrev cc4_stg5_0 : Ref sig .tc := ⟨.vmem, 33, rfl⟩
abbrev cc4_stg5_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg2_1 : Ref sig .tc := ⟨.vmem, 40, rfl⟩
abbrev cc5_stg3_0 : Ref sig .tc := ⟨.vmem, 41, rfl⟩
abbrev cc5_stg3_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28
abbrev cc4_sem3_0 : DmaSem sig := 29
abbrev cc4_sem3_1 : DmaSem sig := 30
abbrev cc4_sem4_0 : DmaSem sig := 31
abbrev cc4_sem4_1 : DmaSem sig := 32
abbrev cc4_sem5_0 : DmaSem sig := 33
abbrev cc4_sem5_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem2_1 : DmaSem sig := 40
abbrev cc5_sem3_0 : DmaSem sig := 41
abbrev cc5_sem3_1 : DmaSem sig := 42

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 6], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![16, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S2048x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4096x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x128x4096 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨3, ![4, 16, 8], ![false, false, false]⟩

@[reducible] def k4_t1_loop (i : grid4.Coords) : Scf.Loop 32 :=
  let c0_i32_16 : BitVec 32 := 0#32
  let arg2 : BitVec 32 := BitVec.ofNat 32 (i 2).val
  let c512_i32_4 : BitVec 32 := 512#32
  let v16 : BitVec 32 := Scalar.muli arg2 c512_i32_4
  let c512_i32_5 : BitVec 32 := 512#32
  let v17 : BitVec 32 := Scalar.addi v16 c512_i32_5
  let c512_i32_6 : BitVec 32 := 512#32
  let v18 : BitVec 32 := Scalar.addi v17 c512_i32_6
  let c1_i32 : BitVec 32 := 1#32
  let v19 : BitVec 32 := Scalar.subi v18 c1_i32
  let c0_i32 : BitVec 32 := 0#32
  let v21 : BitVec 1 := Scalar.cmpi .sgt v19 c0_i32
  let v22 : BitVec 32 := Scalar.extui v21
  let c0_i32_8 : BitVec 32 := 0#32
  let v23 : BitVec 1 := Scalar.cmpi .slt v19 c0_i32_8
  let v24 : BitVec 32 := Scalar.extui v23
  let v25 : BitVec 32 := Scalar.subi v22 v24
  let c512_i32_7 : BitVec 32 := 512#32
  let c0_i32_9 : BitVec 32 := 0#32
  let v26 : BitVec 1 := Scalar.cmpi .sgt c512_i32_7 c0_i32_9
  let v27 : BitVec 32 := Scalar.extui v26
  let c0_i32_10 : BitVec 32 := 0#32
  let v28 : BitVec 1 := Scalar.cmpi .slt c512_i32_7 c0_i32_10
  let v29 : BitVec 32 := Scalar.extui v28
  let v30 : BitVec 32 := Scalar.subi v27 v29
  let v31 : BitVec 1 := Scalar.cmpi .ne v25 v30
  let v32 : BitVec 32 := Scalar.remsi v19 c512_i32_7
  let c0_i32_11 : BitVec 32 := 0#32
  let v33 : BitVec 1 := Scalar.cmpi .ne v32 c0_i32_11
  let v34 : BitVec 1 := Scalar.andi v31 v33
  let v20 : BitVec 32 := Scalar.divsi v19 c512_i32_7
  let c1_i32_12 : BitVec 32 := 1#32
  let v35 : BitVec 32 := Scalar.subi v20 c1_i32_12
  let v36 : BitVec 32 := Scalar.select v34 v35 v20
  let v40 : BitVec 32 := Scalar.subi v36 c0_i32_16
  let c1_i32_17 : BitVec 32 := 1#32
  let v42 : BitVec 32 := Scalar.divsi v40 c1_i32_17
  let v43 : BitVec 32 := Scalar.muli v42 c1_i32_17
  let v44 : BitVec 32 := Scalar.addi c0_i32_16 v43
  let c1_i32_18 : BitVec 32 := 1#32
  ⟨c0_i32_16, v44, c1_i32_18⟩
def k4_mult1 (i : grid4.Coords) (k4_t1 : Fin (k4_t1_loop i).trips) : BitVec 32 :=
  let c0_i32_16 : BitVec 32 := 0#32
  let c1_i32_18 : BitVec 32 := 1#32
  let arg9 : BitVec 32 := Scf.iv c0_i32_16 c1_i32_18 k4_t1
  let c512_i32_22 : BitVec 32 := 512#32
  let v51 : BitVec 32 := Scalar.muli arg9 c512_i32_22
  v51
def k4_off1 (i : grid4.Coords) (k4_t1 : Fin (k4_t1_loop i).trips) : Fin 2 → Nat :=
  let c0_i32_16 : BitVec 32 := 0#32
  let c1_i32_18 : BitVec 32 := 1#32
  let arg9 : BitVec 32 := Scf.iv c0_i32_16 c1_i32_18 k4_t1
  let c512_i32_22 : BitVec 32 := 512#32
  let v51 : BitVec 32 := Scalar.muli arg9 c512_i32_22
  let v52 : BitVec 32 := v51
  let v53 : Index := Scalar.indexCast v52
  let c0_23 : Index := 0#32
  ![v53.toNat, 0]
def k4_off2 (i : grid4.Coords) (k4_t1 : Fin (k4_t1_loop i).trips) : Fin 4 → Nat :=
  let c0_27 : Index := 0#32
  let c0_28 : Index := 0#32
  let c0_29 : Index := 0#32
  let c0_i32_16 : BitVec 32 := 0#32
  let c1_i32_18 : BitVec 32 := 1#32
  let arg9 : BitVec 32 := Scf.iv c0_i32_16 c1_i32_18 k4_t1
  let c512_i32_22 : BitVec 32 := 512#32
  let v51 : BitVec 32 := Scalar.muli arg9 c512_i32_22
  let v52 : BitVec 32 := v51
  let v62 : Index := Scalar.indexCast v52
  ![0, 0, 0, v62.toNat]
@[reducible] def k4_t2_loop (i : grid4.Coords) : Scf.Loop 32 :=
  let c0_i32_16 : BitVec 32 := 0#32
  let arg2 : BitVec 32 := BitVec.ofNat 32 (i 2).val
  let c512_i32_4 : BitVec 32 := 512#32
  let v16 : BitVec 32 := Scalar.muli arg2 c512_i32_4
  let c512_i32_5 : BitVec 32 := 512#32
  let v17 : BitVec 32 := Scalar.addi v16 c512_i32_5
  let c512_i32_6 : BitVec 32 := 512#32
  let v18 : BitVec 32 := Scalar.addi v17 c512_i32_6
  let c1_i32 : BitVec 32 := 1#32
  let v19 : BitVec 32 := Scalar.subi v18 c1_i32
  let c0_i32 : BitVec 32 := 0#32
  let v21 : BitVec 1 := Scalar.cmpi .sgt v19 c0_i32
  let v22 : BitVec 32 := Scalar.extui v21
  let c0_i32_8 : BitVec 32 := 0#32
  let v23 : BitVec 1 := Scalar.cmpi .slt v19 c0_i32_8
  let v24 : BitVec 32 := Scalar.extui v23
  let v25 : BitVec 32 := Scalar.subi v22 v24
  let c512_i32_7 : BitVec 32 := 512#32
  let c0_i32_9 : BitVec 32 := 0#32
  let v26 : BitVec 1 := Scalar.cmpi .sgt c512_i32_7 c0_i32_9
  let v27 : BitVec 32 := Scalar.extui v26
  let c0_i32_10 : BitVec 32 := 0#32
  let v28 : BitVec 1 := Scalar.cmpi .slt c512_i32_7 c0_i32_10
  let v29 : BitVec 32 := Scalar.extui v28
  let v30 : BitVec 32 := Scalar.subi v27 v29
  let v31 : BitVec 1 := Scalar.cmpi .ne v25 v30
  let v32 : BitVec 32 := Scalar.remsi v19 c512_i32_7
  let c0_i32_11 : BitVec 32 := 0#32
  let v33 : BitVec 1 := Scalar.cmpi .ne v32 c0_i32_11
  let v34 : BitVec 1 := Scalar.andi v31 v33
  let v20 : BitVec 32 := Scalar.divsi v19 c512_i32_7
  let c1_i32_12 : BitVec 32 := 1#32
  let v35 : BitVec 32 := Scalar.subi v20 c1_i32_12
  let v36 : BitVec 32 := Scalar.select v34 v35 v20
  let v40 : BitVec 32 := Scalar.subi v36 c0_i32_16
  let c1_i32_17 : BitVec 32 := 1#32
  let v42 : BitVec 32 := Scalar.divsi v40 c1_i32_17
  let v43 : BitVec 32 := Scalar.muli v42 c1_i32_17
  let v44 : BitVec 32 := Scalar.addi c0_i32_16 v43
  let v41 : BitVec 32 := Scalar.addi c0_i32_16 v40
  let c1_i32_19 : BitVec 32 := 1#32
  ⟨v44, v41, c1_i32_19⟩
def k4_mult2 (i : grid4.Coords) (k4_t2 : Fin (k4_t2_loop i).trips) : BitVec 32 :=
  let c0_i32_16 : BitVec 32 := 0#32
  let arg2 : BitVec 32 := BitVec.ofNat 32 (i 2).val
  let c512_i32_4 : BitVec 32 := 512#32
  let v16 : BitVec 32 := Scalar.muli arg2 c512_i32_4
  let c512_i32_5 : BitVec 32 := 512#32
  let v17 : BitVec 32 := Scalar.addi v16 c512_i32_5
  let c512_i32_6 : BitVec 32 := 512#32
  let v18 : BitVec 32 := Scalar.addi v17 c512_i32_6
  let c1_i32 : BitVec 32 := 1#32
  let v19 : BitVec 32 := Scalar.subi v18 c1_i32
  let c0_i32 : BitVec 32 := 0#32
  let v21 : BitVec 1 := Scalar.cmpi .sgt v19 c0_i32
  let v22 : BitVec 32 := Scalar.extui v21
  let c0_i32_8 : BitVec 32 := 0#32
  let v23 : BitVec 1 := Scalar.cmpi .slt v19 c0_i32_8
  let v24 : BitVec 32 := Scalar.extui v23
  let v25 : BitVec 32 := Scalar.subi v22 v24
  let c512_i32_7 : BitVec 32 := 512#32
  let c0_i32_9 : BitVec 32 := 0#32
  let v26 : BitVec 1 := Scalar.cmpi .sgt c512_i32_7 c0_i32_9
  let v27 : BitVec 32 := Scalar.extui v26
  let c0_i32_10 : BitVec 32 := 0#32
  let v28 : BitVec 1 := Scalar.cmpi .slt c512_i32_7 c0_i32_10
  let v29 : BitVec 32 := Scalar.extui v28
  let v30 : BitVec 32 := Scalar.subi v27 v29
  let v31 : BitVec 1 := Scalar.cmpi .ne v25 v30
  let v32 : BitVec 32 := Scalar.remsi v19 c512_i32_7
  let c0_i32_11 : BitVec 32 := 0#32
  let v33 : BitVec 1 := Scalar.cmpi .ne v32 c0_i32_11
  let v34 : BitVec 1 := Scalar.andi v31 v33
  let v20 : BitVec 32 := Scalar.divsi v19 c512_i32_7
  let c1_i32_12 : BitVec 32 := 1#32
  let v35 : BitVec 32 := Scalar.subi v20 c1_i32_12
  let v36 : BitVec 32 := Scalar.select v34 v35 v20
  let v40 : BitVec 32 := Scalar.subi v36 c0_i32_16
  let c1_i32_17 : BitVec 32 := 1#32
  let v42 : BitVec 32 := Scalar.divsi v40 c1_i32_17
  let v43 : BitVec 32 := Scalar.muli v42 c1_i32_17
  let v44 : BitVec 32 := Scalar.addi c0_i32_16 v43
  let c1_i32_19 : BitVec 32 := 1#32
  let arg9 : BitVec 32 := Scf.iv v44 c1_i32_19 k4_t2
  let c512_i32_22 : BitVec 32 := 512#32
  let v51 : BitVec 32 := Scalar.muli arg9 c512_i32_22
  v51
def k4_off3 (i : grid4.Coords) (k4_t2 : Fin (k4_t2_loop i).trips) : Fin 2 → Nat :=
  let c0_i32_16 : BitVec 32 := 0#32
  let arg2 : BitVec 32 := BitVec.ofNat 32 (i 2).val
  let c512_i32_4 : BitVec 32 := 512#32
  let v16 : BitVec 32 := Scalar.muli arg2 c512_i32_4
  let c512_i32_5 : BitVec 32 := 512#32
  let v17 : BitVec 32 := Scalar.addi v16 c512_i32_5
  let c512_i32_6 : BitVec 32 := 512#32
  let v18 : BitVec 32 := Scalar.addi v17 c512_i32_6
  let c1_i32 : BitVec 32 := 1#32
  let v19 : BitVec 32 := Scalar.subi v18 c1_i32
  let c0_i32 : BitVec 32 := 0#32
  let v21 : BitVec 1 := Scalar.cmpi .sgt v19 c0_i32
  let v22 : BitVec 32 := Scalar.extui v21
  let c0_i32_8 : BitVec 32 := 0#32
  let v23 : BitVec 1 := Scalar.cmpi .slt v19 c0_i32_8
  let v24 : BitVec 32 := Scalar.extui v23
  let v25 : BitVec 32 := Scalar.subi v22 v24
  let c512_i32_7 : BitVec 32 := 512#32
  let c0_i32_9 : BitVec 32 := 0#32
  let v26 : BitVec 1 := Scalar.cmpi .sgt c512_i32_7 c0_i32_9
  let v27 : BitVec 32 := Scalar.extui v26
  let c0_i32_10 : BitVec 32 := 0#32
  let v28 : BitVec 1 := Scalar.cmpi .slt c512_i32_7 c0_i32_10
  let v29 : BitVec 32 := Scalar.extui v28
  let v30 : BitVec 32 := Scalar.subi v27 v29
  let v31 : BitVec 1 := Scalar.cmpi .ne v25 v30
  let v32 : BitVec 32 := Scalar.remsi v19 c512_i32_7
  let c0_i32_11 : BitVec 32 := 0#32
  let v33 : BitVec 1 := Scalar.cmpi .ne v32 c0_i32_11
  let v34 : BitVec 1 := Scalar.andi v31 v33
  let v20 : BitVec 32 := Scalar.divsi v19 c512_i32_7
  let c1_i32_12 : BitVec 32 := 1#32
  let v35 : BitVec 32 := Scalar.subi v20 c1_i32_12
  let v36 : BitVec 32 := Scalar.select v34 v35 v20
  let v40 : BitVec 32 := Scalar.subi v36 c0_i32_16
  let c1_i32_17 : BitVec 32 := 1#32
  let v42 : BitVec 32 := Scalar.divsi v40 c1_i32_17
  let v43 : BitVec 32 := Scalar.muli v42 c1_i32_17
  let v44 : BitVec 32 := Scalar.addi c0_i32_16 v43
  let c1_i32_19 : BitVec 32 := 1#32
  let arg9 : BitVec 32 := Scf.iv v44 c1_i32_19 k4_t2
  let c512_i32_22 : BitVec 32 := 512#32
  let v51 : BitVec 32 := Scalar.muli arg9 c512_i32_22
  let v52 : BitVec 32 := v51
  let v53 : Index := Scalar.indexCast v52
  let c0_23 : Index := 0#32
  ![v53.toNat, 0]
def k4_off4 (i : grid4.Coords) (k4_t2 : Fin (k4_t2_loop i).trips) : Fin 4 → Nat :=
  let c0_27 : Index := 0#32
  let c0_28 : Index := 0#32
  let c0_29 : Index := 0#32
  let c0_i32_16 : BitVec 32 := 0#32
  let arg2 : BitVec 32 := BitVec.ofNat 32 (i 2).val
  let c512_i32_4 : BitVec 32 := 512#32
  let v16 : BitVec 32 := Scalar.muli arg2 c512_i32_4
  let c512_i32_5 : BitVec 32 := 512#32
  let v17 : BitVec 32 := Scalar.addi v16 c512_i32_5
  let c512_i32_6 : BitVec 32 := 512#32
  let v18 : BitVec 32 := Scalar.addi v17 c512_i32_6
  let c1_i32 : BitVec 32 := 1#32
  let v19 : BitVec 32 := Scalar.subi v18 c1_i32
  let c0_i32 : BitVec 32 := 0#32
  let v21 : BitVec 1 := Scalar.cmpi .sgt v19 c0_i32
  let v22 : BitVec 32 := Scalar.extui v21
  let c0_i32_8 : BitVec 32 := 0#32
  let v23 : BitVec 1 := Scalar.cmpi .slt v19 c0_i32_8
  let v24 : BitVec 32 := Scalar.extui v23
  let v25 : BitVec 32 := Scalar.subi v22 v24
  let c512_i32_7 : BitVec 32 := 512#32
  let c0_i32_9 : BitVec 32 := 0#32
  let v26 : BitVec 1 := Scalar.cmpi .sgt c512_i32_7 c0_i32_9
  let v27 : BitVec 32 := Scalar.extui v26
  let c0_i32_10 : BitVec 32 := 0#32
  let v28 : BitVec 1 := Scalar.cmpi .slt c512_i32_7 c0_i32_10
  let v29 : BitVec 32 := Scalar.extui v28
  let v30 : BitVec 32 := Scalar.subi v27 v29
  let v31 : BitVec 1 := Scalar.cmpi .ne v25 v30
  let v32 : BitVec 32 := Scalar.remsi v19 c512_i32_7
  let c0_i32_11 : BitVec 32 := 0#32
  let v33 : BitVec 1 := Scalar.cmpi .ne v32 c0_i32_11
  let v34 : BitVec 1 := Scalar.andi v31 v33
  let v20 : BitVec 32 := Scalar.divsi v19 c512_i32_7
  let c1_i32_12 : BitVec 32 := 1#32
  let v35 : BitVec 32 := Scalar.subi v20 c1_i32_12
  let v36 : BitVec 32 := Scalar.select v34 v35 v20
  let v40 : BitVec 32 := Scalar.subi v36 c0_i32_16
  let c1_i32_17 : BitVec 32 := 1#32
  let v42 : BitVec 32 := Scalar.divsi v40 c1_i32_17
  let v43 : BitVec 32 := Scalar.muli v42 c1_i32_17
  let v44 : BitVec 32 := Scalar.addi c0_i32_16 v43
  let c1_i32_19 : BitVec 32 := 1#32
  let arg9 : BitVec 32 := Scf.iv v44 c1_i32_19 k4_t2
  let c512_i32_22 : BitVec 32 := 512#32
  let v51 : BitVec 32 := Scalar.muli arg9 c512_i32_22
  let v52 : BitVec 32 := v51
  let v62 : Index := Scalar.indexCast v52
  ![0, 0, 0, v62.toNat]
def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, c0_i32.toNat]

def cc4_transform_4 (i : grid4.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage4_0 : Fin 2 → Memref sig .tc .vmem S512x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true, true]

abbrev stage4_1 : Fin 2 → Memref sig .tc .vmem S4096x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true, false]

abbrev stage4_2 : Fin 2 → Memref sig .tc .vmem S4096x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 2 → Memref sig .tc .vmem S512x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false, true]

abbrev stage4_4 : Fin 2 → Memref sig .tc .vmem S1x1x1x4096 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true, false]

abbrev stage4_5 : Fin 2 → Memref sig .tc .vmem S512x128 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true, true]

abbrev grid5 : Pipeline.Grid := ⟨2, ![16, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S1024x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]
-- ==== FoxLayerIdeal.lean ====
variable {F : FTy → Type} [FloatOps F] [Named F]
def κ : String → Option EReal := fun
  | "mask" => some ⊥
  | _ => none
-- ==== FoxReferenceIdeal.lean ====
abbrev S16384x2048 : Shape := ⟨2, ![16384, 2048]⟩
abbrev S2048 : Shape := ⟨1, ![2048]⟩
abbrev S2048x6160 : Shape := ⟨2, ![2048, 6160]⟩
abbrev S16 : Shape := ⟨1, ![16]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x6160 : Shape := ⟨2, ![16384, 6160]⟩
abbrev S4x4096x6160 : Shape := ⟨3, ![4, 4096, 6160]⟩
abbrev S4x4096x2048 : Shape := ⟨3, ![4, 4096, 2048]⟩
abbrev S4x4096x16x128 : Shape := ⟨4, ![4, 4096, 16, 128]⟩
abbrev S4x4096x16 : Shape := ⟨3, ![4, 4096, 16]⟩
abbrev S1x1x16 : Shape := ⟨3, ![1, 1, 16]⟩
abbrev S4x16x4096 : Shape := ⟨3, ![4, 16, 4096]⟩
abbrev S4x16x4096x4096 : Shape := ⟨4, ![4, 16, 4096, 4096]⟩
abbrev S4x16x4096x1 : Shape := ⟨4, ![4, 16, 4096, 1]⟩
abbrev S4x16x1x4096 : Shape := ⟨4, ![4, 16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S4x16x128x4096 : Shape := ⟨4, ![4, 16, 128, 4096]⟩

abbrev nBuf : Space → Nat
  | .hbm => 94
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6160, .f32⟩
  | .hbm, ⟨3, _⟩ => ⟨S16, .f32⟩
  | .hbm, ⟨4, _⟩ => ⟨S2048x2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x6160, .f32⟩
  | .hbm, ⟨22, _⟩ => ⟨S4x4096x6160, .f32⟩
  | .hbm, ⟨23, _⟩ => ⟨S4x4096x2048, .f32⟩
  | .hbm, ⟨24, _⟩ => ⟨S4x4096x16x128, .f32⟩
  | .hbm, ⟨25, _⟩ => ⟨S4x4096x2048, .f32⟩
  | .hbm, ⟨26, _⟩ => ⟨S4x4096x16x128, .f32⟩
  | .hbm, ⟨27, _⟩ => ⟨S4x4096x2048, .f32⟩
  | .hbm, ⟨28, _⟩ => ⟨S4x4096x16x128, .f32⟩
  | .hbm, ⟨29, _⟩ => ⟨S4x4096x16, .f32⟩
  | .hbm, ⟨30, _⟩ => ⟨S1x1x16, .f32⟩
  | .hbm, ⟨31, _⟩ => ⟨S4x4096x16, .f32⟩
  | .hbm, ⟨32, _⟩ => ⟨S4x4096x16, .f32⟩
  | .hbm, ⟨33, _⟩ => ⟨S4x4096x16, .f32⟩
  | .hbm, ⟨34, _⟩ => ⟨S_, .f32⟩
  | .hbm, ⟨35, _⟩ => ⟨S4x4096x16, .f32⟩
  | .hbm, ⟨36, _⟩ => ⟨S4x4096x16, .f32⟩
  | .hbm, ⟨37, _⟩ => ⟨S4x4096x16, .f32⟩
  | .hbm, ⟨38, _⟩ => ⟨S4x4096x16, .f32⟩
  | .hbm, ⟨39, _⟩ => ⟨S4x4096x16, .i1⟩
  | .hbm, ⟨40, _⟩ => ⟨S4x4096x16, .f32⟩
  | .hbm, ⟨41, _⟩ => ⟨S4x4096x16, .f32⟩
  | .hbm, ⟨42, _⟩ => ⟨S4x4096x16, .f32⟩
  | .hbm, ⟨43, _⟩ => ⟨S4x4096x16, .f32⟩
  | .hbm, ⟨44, _⟩ => ⟨S4x4096x16, .f32⟩
  | .hbm, ⟨45, _⟩ => ⟨S4x4096x16, .f32⟩
  | .hbm, ⟨46, _⟩ => ⟨S4x4096x16, .f32⟩
  | .hbm, ⟨47, _⟩ => ⟨S4x4096x16, .f32⟩
  | .hbm, ⟨48, _⟩ => ⟨S4x4096x16, .f32⟩
  | .hbm, ⟨49, _⟩ => ⟨S_, .f32⟩
  | .hbm, ⟨50, _⟩ => ⟨S_, .f32⟩
  | .hbm, ⟨51, _⟩ => ⟨S4x4096x16, .f32⟩
  | .hbm, ⟨52, _⟩ => ⟨S4x16x4096, .f32⟩
  | .hbm, ⟨53, _⟩ => ⟨S4x16x4096x4096, .f32⟩
  | .hbm, ⟨54, _⟩ => ⟨S_, .f32⟩
  | .hbm, ⟨55, _⟩ => ⟨S4x16x4096x4096, .f32⟩
  | .hbm, ⟨56, _⟩ => ⟨S4x16x4096x4096, .f32⟩
  | .hbm, ⟨57, _⟩ => ⟨S4x16x4096x1, .f32⟩
  | .hbm, ⟨58, _⟩ => ⟨S4x16x4096x4096, .f32⟩
  | .hbm, ⟨59, _⟩ => ⟨S4x16x4096x4096, .f32⟩
  | .hbm, ⟨60, _⟩ => ⟨S4x16x1x4096, .f32⟩
  | .hbm, ⟨61, _⟩ => ⟨S4x16x4096x4096, .f32⟩
  | .hbm, ⟨62, _⟩ => ⟨S4x16x4096x4096, .f32⟩
  | .hbm, ⟨63, _⟩ => ⟨S4096, .i32⟩
  | .hbm, ⟨64, _⟩ => ⟨S1x4096, .i32⟩
  | .hbm, ⟨65, _⟩ => ⟨S4096x1, .i32⟩
  | .hbm, ⟨66, _⟩ => ⟨S4096x4096, .i32⟩
  | .hbm, ⟨67, _⟩ => ⟨S4096x4096, .i32⟩
  | .hbm, ⟨68, _⟩ => ⟨S4096x4096, .i1⟩
  | .hbm, ⟨69, _⟩ => ⟨S1x1x4096x4096, .i1⟩
  | .hbm, ⟨70, _⟩ => ⟨S_, .f32⟩
  | .hbm, ⟨71, _⟩ => ⟨S_, .f32⟩
  | .hbm, ⟨72, _⟩ => ⟨S4x16x4096x4096, .i1⟩
  | .hbm, ⟨73, _⟩ => ⟨S4x16x4096x4096, .f32⟩
  | .hbm, ⟨74, _⟩ => ⟨S4x16x4096x4096, .f32⟩
  | .hbm, ⟨75, _⟩ => ⟨S_, .f32⟩
  | .hbm, ⟨76, _⟩ => ⟨S4x16x4096, .f32⟩
  | .hbm, ⟨77, _⟩ => ⟨S_, .f32⟩
  | .hbm, ⟨78, _⟩ => ⟨S4x16x4096, .f32⟩
  | .hbm, ⟨79, _⟩ => ⟨S4x16x4096, .f32⟩
  | .hbm, ⟨80, _⟩ => ⟨S4x16x4096x1, .f32⟩
  | .hbm, ⟨81, _⟩ => ⟨S4x16x4096x4096, .f32⟩
  | .hbm, ⟨82, _⟩ => ⟨S4x16x4096x4096, .f32⟩
  | .hbm, ⟨83, _⟩ => ⟨S4x16x4096x4096, .f32⟩
  | .hbm, ⟨84, _⟩ => ⟨S_, .f32⟩
  | .hbm, ⟨85, _⟩ => ⟨S4x16x4096, .f32⟩
  | .hbm, ⟨86, _⟩ => ⟨S4x16x4096x1, .f32⟩
  | .hbm, ⟨87, _⟩ => ⟨S4x16x4096x4096, .f32⟩
  | .hbm, ⟨88, _⟩ => ⟨S4x16x4096x4096, .f32⟩
  | .hbm, ⟨89, _⟩ => ⟨S4x16x128x4096, .f32⟩
  | .hbm, ⟨90, _⟩ => ⟨S4x4096x16x128, .f32⟩
  | .hbm, ⟨91, _⟩ => ⟨S16384x2048, .f32⟩
  | .hbm, ⟨92, _⟩ => ⟨S16384x2048, .f32⟩
  | .hbm, ⟨93, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_v0 : Ref sig .tc := ⟨.hbm, 33, rfl⟩
abbrev main_call0_call0_cst : Ref sig .tc := ⟨.hbm, 34, rfl⟩
abbrev main_call0_call0_v0 : Ref sig .tc := ⟨.hbm, 35, rfl⟩
abbrev main_call0_call0_v1 : Ref sig .tc := ⟨.hbm, 36, rfl⟩
abbrev main_call0_call0_v2 : Ref sig .tc := ⟨.hbm, 37, rfl⟩
abbrev main_call0_call0_v3 : Ref sig .tc := ⟨.hbm, 38, rfl⟩
abbrev main_call0_call0_v4 : Ref sig .tc := ⟨.hbm, 39, rfl⟩
abbrev main_call0_call0_v5 : Ref sig .tc := ⟨.hbm, 40, rfl⟩
abbrev main_call0_call0_v6 : Ref sig .tc := ⟨.hbm, 41, rfl⟩
abbrev main_call0_call0_v7 : Ref sig .tc := ⟨.hbm, 42, rfl⟩
abbrev main_call0_call0_v8 : Ref sig .tc := ⟨.hbm, 43, rfl⟩
abbrev main_call0_call0_v9 : Ref sig .tc := ⟨.hbm, 44, rfl⟩
abbrev main_call0_call0_v10 : Ref sig .tc := ⟨.hbm, 45, rfl⟩
abbrev main_call0_call0_v11 : Ref sig .tc := ⟨.hbm, 46, rfl⟩
abbrev main_call0_v1 : Ref sig .tc := ⟨.hbm, 47, rfl⟩
abbrev main_v25 : Ref sig .tc := ⟨.hbm, 48, rfl⟩
abbrev main_call1_call0_cst : Ref sig .tc := ⟨.hbm, 49, rfl⟩
abbrev main_call1_call0_v0 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_2 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_3 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v44 : Ref sig .tc := ⟨.hbm, 74, rfl⟩
abbrev main_cst_4 : Ref sig .tc := ⟨.hbm, 75, rfl⟩
abbrev main_v45 : Ref sig .tc := ⟨.hbm, 76, rfl⟩
abbrev main_cst_5 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_6 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩

abbrev nD : Nat := 1
abbrev τ : Topo := Topo.v7x

variable {F : FTy → Type} [FloatOps F]
-- ==== Tail.lean ====
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S16384x5632 : Shape := ⟨2, ![16384, 5632]⟩
abbrev S1024x2048 : Shape := ⟨2, ![1024, 2048]⟩
abbrev S2048x512 : Shape := ⟨2, ![2048, 512]⟩
abbrev S1024x512 : Shape := ⟨2, ![1024, 512]⟩
abbrev S512x5632 : Shape := ⟨2, ![512, 5632]⟩
abbrev S5632x512 : Shape := ⟨2, ![5632, 512]⟩
abbrev S512x512 : Shape := ⟨2, ![512, 512]⟩

abbrev nBuf : Space → Nat
  | .hbm => 15
  | .vmem => 26
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S1x2048, .f32⟩
  | .hbm, ⟨7, _⟩ => ⟨S16384x2048, .bf16⟩
  | .hbm, ⟨8, _⟩ => ⟨S2048x5632, .bf16⟩
  | .hbm, ⟨9, _⟩ => ⟨S2048x5632, .bf16⟩
  | .hbm, ⟨10, _⟩ => ⟨S16384x5632, .bf16⟩
  | .hbm, ⟨11, _⟩ => ⟨S5632x2048, .bf16⟩
  | .hbm, ⟨12, _⟩ => ⟨S16384x2048, .f32⟩
  | .hbm, ⟨13, _⟩ => ⟨S1x2048, .f32⟩
  | .hbm, ⟨14, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S1024x2048, .bf16⟩
  | .local _ .vmem, ⟨6, _⟩ => ⟨S1024x2048, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S1024x512, .bf16⟩
  | .local _ .vmem, ⟨12, _⟩ => ⟨S1024x512, .bf16⟩
  | .local _ .vmem, ⟨13, _⟩ => ⟨S512x5632, .bf16⟩
  | .local _ .vmem, ⟨14, _⟩ => ⟨S512x5632, .bf16⟩
  | .local _ .vmem, ⟨15, _⟩ => ⟨S5632x512, .bf16⟩
  | .local _ .vmem, ⟨16, _⟩ => ⟨S5632x512, .bf16⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x2048, .f32⟩
  | .local _ .vmem, ⟨22, _⟩ => ⟨S512x2048, .f32⟩
  | .local _ .vmem, ⟨23, _⟩ => ⟨S1x2048, .f32⟩
  | .local _ .vmem, ⟨24, _⟩ => ⟨S512x2048, .f32⟩
  | .local _ .vmem, ⟨25, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![32, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x5632 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S5632x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]
-- ==== TailReferenceIdeal.lean ====
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5632 : Shape := ⟨2, ![16384, 5632]⟩

abbrev nBuf : Space → Nat
  | .hbm => 52
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x5632, .f32⟩
  | .hbm, ⟨23, _⟩ => ⟨S16384x5632, .f32⟩
  | .hbm, ⟨24, _⟩ => ⟨S16384x5632, .f32⟩
  | .hbm, ⟨25, _⟩ => ⟨S_, .f32⟩
  | .hbm, ⟨26, _⟩ => ⟨S16384x5632, .f32⟩
  | .hbm, ⟨27, _⟩ => ⟨S16384x5632, .f32⟩
  | .hbm, ⟨28, _⟩ => ⟨S_, .f32⟩
  | .hbm, ⟨29, _⟩ => ⟨S16384x5632, .f32⟩
  | .hbm, ⟨30, _⟩ => ⟨S16384x5632, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x2048, .f32⟩
  | .hbm, ⟨48, _⟩ => ⟨S16384x2048, .f32⟩
  | .hbm, ⟨49, _⟩ => ⟨S1x2048, .f32⟩
  | .hbm, ⟨50, _⟩ => ⟨S16384x2048, .f32⟩
  | .hbm, ⟨51, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Sparse.lean ====
abbrev S16384x2048 : Shape := ⟨2, ![16384, 2048]⟩
abbrev S2048 : Shape := ⟨1, ![2048]⟩
abbrev S2048x4176 : Shape := ⟨2, ![2048, 4176]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048x4096 : Shape := ⟨2, ![2048, 4096]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩
abbrev S2048x80 : Shape := ⟨2, ![2048, 80]⟩
abbrev S_ : Shape := ⟨0, ![]⟩
abbrev S2048x128 : Shape := ⟨2, ![2048, 128]⟩
abbrev S16384x128 : Shape := ⟨2, ![16384, 128]⟩
abbrev S1024x128 : Shape := ⟨2, ![1024, 128]⟩
abbrev S64 : Shape := ⟨1, ![64]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S1x4096x1x128 : Shape := ⟨4, ![1, 4096, 1, 128]⟩
abbrev S32 : Shape := ⟨1, ![32]⟩
abbrev S1x32 : Shape := ⟨2, ![1, 32]⟩
abbrev S4096x32 : Shape := ⟨2, ![4096, 32]⟩
abbrev S1x4096x1x64 : Shape := ⟨4, ![1, 4096, 1, 64]⟩
abbrev S1x4096x2x64 : Shape := ⟨4, ![1, 4096, 2, 64]⟩
abbrev S16384x512 : Shape := ⟨2, ![16384, 512]⟩
abbrev S256x4096 : Shape := ⟨2, ![256, 4096]⟩
abbrev S256x128 : Shape := ⟨2, ![256, 128]⟩
abbrev S256x2048 : Shape := ⟨2, ![256, 2048]⟩
abbrev S256x512 : Shape := ⟨2, ![256, 512]⟩
abbrev S4x4096x16x128 : Shape := ⟨4, ![4, 4096, 16, 128]⟩
abbrev S4x4096x4x128 : Shape := ⟨4, ![4, 4096, 4, 128]⟩
abbrev S16384x8x2x2x64 : Shape := ⟨5, ![16384, 8, 2, 2, 64]⟩
abbrev S16384x8x1x1x64 : Shape := ⟨5, ![16384, 8, 1, 1, 64]⟩
abbrev S16384x8x1x64 : Shape := ⟨4, ![16384, 8, 1, 64]⟩
abbrev S16384x8x2x64 : Shape := ⟨4, ![16384, 8, 2, 64]⟩
abbrev S4x4096x16x64 : Shape := ⟨4, ![4, 4096, 16, 64]⟩
abbrev S16384x64 : Shape := ⟨2, ![16384, 64]⟩
abbrev S4x4096x64 : Shape := ⟨3, ![4, 4096, 64]⟩
abbrev S16384x16 : Shape := ⟨2, ![16384, 16]⟩
abbrev S4x4096x16 : Shape := ⟨3, ![4, 4096, 16]⟩

abbrev nBuf : Space → Nat
  | .hbm => 89
  | .vmem => 40
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x4176, .f32⟩
  | .hbm, ⟨3, _⟩ => ⟨S1x2048, .f32⟩
  | .hbm, ⟨4, _⟩ => ⟨S16384x2048, .bf16⟩
  | .hbm, ⟨5, _⟩ => ⟨S2048x4096, .f32⟩
  | .hbm, ⟨6, _⟩ => ⟨S2048x4096, .bf16⟩
  | .hbm, ⟨7, _⟩ => ⟨S16384x4096, .f32⟩
  | .hbm, ⟨8, _⟩ => ⟨S2048x80, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S2048x128, .bf16⟩
  | .hbm, ⟨13, _⟩ => ⟨S16384x128, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S4096, .f32⟩
  | .hbm, ⟨23, _⟩ => ⟨S4096x1, .f32⟩
  | .hbm, ⟨24, _⟩ => ⟨S1x64, .f32⟩
  | .hbm, ⟨25, _⟩ => ⟨S4096x64, .f32⟩
  | .hbm, ⟨26, _⟩ => ⟨S4096x64, .f32⟩
  | .hbm, ⟨27, _⟩ => ⟨S4096x64, .f32⟩
  | .hbm, ⟨28, _⟩ => ⟨S4096x64, .f32⟩
  | .hbm, ⟨29, _⟩ => ⟨S4096x64, .f32⟩
  | .hbm, ⟨30, _⟩ => ⟨S4096x128, .f32⟩
  | .hbm, ⟨31, _⟩ => ⟨S1x4096x1x128, .f32⟩
  | .hbm, ⟨32, _⟩ => ⟨S1x4096x1x128, .f32⟩
  | .hbm, ⟨33, _⟩ => ⟨S4096x128, .f32⟩
  | .hbm, ⟨34, _⟩ => ⟨S4096x64, .f32⟩
  | .hbm, ⟨35, _⟩ => ⟨S4096x128, .f32⟩
  | .hbm, ⟨36, _⟩ => ⟨S1x4096x1x128, .f32⟩
  | .hbm, ⟨37, _⟩ => ⟨S1x4096x1x128, .f32⟩
  | .hbm, ⟨38, _⟩ => ⟨S4096x128, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S4096, .f32⟩
  | .hbm, ⟨48, _⟩ => ⟨S4096x1, .f32⟩
  | .hbm, ⟨49, _⟩ => ⟨S1x32, .f32⟩
  | .hbm, ⟨50, _⟩ => ⟨S4096x32, .f32⟩
  | .hbm, ⟨51, _⟩ => ⟨S4096x32, .f32⟩
  | .hbm, ⟨52, _⟩ => ⟨S4096x32, .f32⟩
  | .hbm, ⟨53, _⟩ => ⟨S4096x32, .f32⟩
  | .hbm, ⟨54, _⟩ => ⟨S4096x32, .f32⟩
  | .hbm, ⟨55, _⟩ => ⟨S4096x64, .f32⟩
  | .hbm, ⟨56, _⟩ => ⟨S1x4096x1x64, .f32⟩
  | .hbm, ⟨57, _⟩ => ⟨S1x4096x2x64, .f32⟩
  | .hbm, ⟨58, _⟩ => ⟨S4096x128, .f32⟩
  | .hbm, ⟨59, _⟩ => ⟨S4096x32, .f32⟩
  | .hbm, ⟨60, _⟩ => ⟨S4096x64, .f32⟩
  | .hbm, ⟨61, _⟩ => ⟨S1x4096x1x64, .f32⟩
  | .hbm, ⟨62, _⟩ => ⟨S1x4096x2x64, .f32⟩
  | .hbm, ⟨63, _⟩ => ⟨S4096x128, .f32⟩
  | .hbm, ⟨64, _⟩ => ⟨S16384x2048, .bf16⟩
  | .hbm, ⟨65, _⟩ => ⟨S16384x512, .bf16⟩
  | .hbm, ⟨66, _⟩ => ⟨S16384x512, .bf16⟩
  | .hbm, ⟨67, _⟩ => ⟨S16384x2048, .bf16⟩
  | .hbm, ⟨68, _⟩ => ⟨S16384x128, .bf16⟩
  | .hbm, ⟨69, _⟩ => ⟨S16384x128, .f32⟩
  | .hbm, ⟨70, _⟩ => ⟨S16384x2048, .f32⟩
  | .hbm, ⟨71, _⟩ => ⟨S4x4096x16x128, .f32⟩
  | .hbm, ⟨72, _⟩ => ⟨S16384x512, .f32⟩
  | .hbm, ⟨73, _⟩ => ⟨S4x4096x4x128, .f32⟩
  | .hbm, ⟨74, _⟩ => ⟨S16384x512, .f32⟩
  | .hbm, ⟨75, _⟩ => ⟨S4x4096x4x128, .f32⟩
  | .hbm, ⟨76, _⟩ => ⟨S16384x2048, .f32⟩
  | .hbm, ⟨77, _⟩ => ⟨S16384x8x2x2x64, .f32⟩
  | .hbm, ⟨78, _⟩ => ⟨S16384x8x1x1x64, .f32⟩
  | .hbm, ⟨79, _⟩ => ⟨S16384x8x1x64, .f32⟩
  | .hbm, ⟨80, _⟩ => ⟨S16384x8x1x1x64, .f32⟩
  | .hbm, ⟨81, _⟩ => ⟨S16384x8x1x64, .f32⟩
  | .hbm, ⟨82, _⟩ => ⟨S16384x8x2x64, .f32⟩
  | .hbm, ⟨83, _⟩ => ⟨S4x4096x16x64, .f32⟩
  | .hbm, ⟨84, _⟩ => ⟨S16384x64, .bf16⟩
  | .hbm, ⟨85, _⟩ => ⟨S16384x64, .f32⟩
  | .hbm, ⟨86, _⟩ => ⟨S4x4096x64, .f32⟩
  | .hbm, ⟨87, _⟩ => ⟨S16384x16, .f32⟩
  | .hbm, ⟨88, _⟩ => ⟨S4x4096x16, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S1024x2048, .bf16⟩
  | .local _ .vmem, ⟨6, _⟩ => ⟨S1024x2048, .bf16⟩
  | .local _ .vmem, ⟨7, _⟩ => ⟨S2048x1024, .bf16⟩
  | .local _ .vmem, ⟨8, _⟩ => ⟨S2048x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x2048, .bf16⟩
  | .local _ .vmem, ⟨12, _⟩ => ⟨S1024x2048, .bf16⟩
  | .local _ .vmem, ⟨13, _⟩ => ⟨S2048x128, .bf16⟩
  | .local _ .vmem, ⟨14, _⟩ => ⟨S1024x128, .f32⟩
  | .local _ .vmem, ⟨15, _⟩ => ⟨S1024x128, .f32⟩
  | .local _ .vmem, ⟨16, _⟩ => ⟨S256x4096, .f32⟩
  | .local _ .vmem, ⟨17, _⟩ => ⟨S256x4096, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S256x128, .f32⟩
  | .local _ .vmem, ⟨28, _⟩ => ⟨S256x2048, .bf16⟩
  | .local _ .vmem, ⟨29, _⟩ => ⟨S256x2048, .bf16⟩
  | .local _ .vmem, ⟨30, _⟩ => ⟨S256x512, .bf16⟩
  | .local _ .vmem, ⟨31, _⟩ => ⟨S256x512, .bf16⟩
  | .local _ .vmem, ⟨32, _⟩ => ⟨S256x512, .bf16⟩
  | .local _ .vmem, ⟨33, _⟩ => ⟨S256x512, .bf16⟩
  | .local _ .vmem, ⟨34, _⟩ => ⟨S256x2048, .bf16⟩
  | .local _ .vmem, ⟨35, _⟩ => ⟨S256x2048, .bf16⟩
  | .local _ .vmem, ⟨36, _⟩ => ⟨S256x128, .bf16⟩
  | .local _ .vmem, ⟨37, _⟩ => ⟨S256x128, .bf16⟩
  | .local _ .vmem, ⟨38, _⟩ => ⟨S256x128, .f32⟩
  | .local _ .vmem, ⟨39, _⟩ => ⟨S256x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_1 : Ref sig .tc := ⟨.hbm, 41, rfl⟩
abbrev main_v34 : Ref sig .tc := ⟨.hbm, 42, rfl⟩
abbrev main_v35 : Ref sig .tc := ⟨.hbm, 43, rfl⟩
abbrev main_cst_2 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55_0 : Ref sig .tc := ⟨.hbm, 64, rfl⟩
abbrev main_v55_1 : Ref sig .tc := ⟨.hbm, 65, rfl⟩
abbrev main_v55_2 : Ref sig .tc := ⟨.hbm, 66, rfl⟩
abbrev main_v55_3 : Ref sig .tc := ⟨.hbm, 67, rfl⟩
abbrev main_v55_4 : Ref sig .tc := ⟨.hbm, 68, rfl⟩
abbrev main_v55_5 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc3_stg4_0 : Ref sig .tc := ⟨.vmem, 24, rfl⟩
abbrev cc3_stg4_1 : Ref sig .tc := ⟨.vmem, 25, rfl⟩
abbrev cc3_stg5_0 : Ref sig .tc := ⟨.vmem, 26, rfl⟩
abbrev cc3_stg5_1 : Ref sig .tc := ⟨.vmem, 27, rfl⟩
abbrev cc3_stg6_0 : Ref sig .tc := ⟨.vmem, 28, rfl⟩
abbrev cc3_stg6_1 : Ref sig .tc := ⟨.vmem, 29, rfl⟩
abbrev cc3_stg7_0 : Ref sig .tc := ⟨.vmem, 30, rfl⟩
abbrev cc3_stg7_1 : Ref sig .tc := ⟨.vmem, 31, rfl⟩
abbrev cc3_stg8_0 : Ref sig .tc := ⟨.vmem, 32, rfl⟩
abbrev cc3_stg8_1 : Ref sig .tc := ⟨.vmem, 33, rfl⟩
abbrev cc3_stg9_0 : Ref sig .tc := ⟨.vmem, 34, rfl⟩
abbrev cc3_stg9_1 : Ref sig .tc := ⟨.vmem, 35, rfl⟩
abbrev cc3_stg10_0 : Ref sig .tc := ⟨.vmem, 36, rfl⟩
abbrev cc3_stg10_1 : Ref sig .tc := ⟨.vmem, 37, rfl⟩
abbrev cc3_stg11_0 : Ref sig .tc := ⟨.vmem, 38, rfl⟩
abbrev cc3_stg11_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc3_sem3_0 : DmaSem sig := 22
abbrev cc3_sem3_1 : DmaSem sig := 23
abbrev cc3_sem4_0 : DmaSem sig := 24
abbrev cc3_sem4_1 : DmaSem sig := 25
abbrev cc3_sem5_0 : DmaSem sig := 26
abbrev cc3_sem5_1 : DmaSem sig := 27
abbrev cc3_sem6_0 : DmaSem sig := 28
abbrev cc3_sem6_1 : DmaSem sig := 29
abbrev cc3_sem7_0 : DmaSem sig := 30
abbrev cc3_sem7_1 : DmaSem sig := 31
abbrev cc3_sem8_0 : DmaSem sig := 32
abbrev cc3_sem8_1 : DmaSem sig := 33
abbrev cc3_sem9_0 : DmaSem sig := 34
abbrev cc3_sem9_1 : DmaSem sig := 35
abbrev cc3_sem10_0 : DmaSem sig := 36
abbrev cc3_sem10_1 : DmaSem sig := 37
abbrev cc3_sem11_0 : DmaSem sig := 38
abbrev cc3_sem11_1 : DmaSem sig := 39

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![16, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S2048x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc3_transform_3 (i : grid3.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc3_transform_4 (i : grid3.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc3_transform_5 (i : grid3.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S256x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x2048 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S256x512 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S256x512 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S256x2048 .bf16 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S256x128 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S256x128 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]
-- ==== SparseReferenceIdeal.lean ====
abbrev S16384x2048 : Shape := ⟨2, ![16384, 2048]⟩
abbrev S2048 : Shape := ⟨1, ![2048]⟩
abbrev S2048x4176 : Shape := ⟨2, ![2048, 4176]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x4176 : Shape := ⟨2, ![16384, 4176]⟩
abbrev S4x4096x4176 : Shape := ⟨3, ![4, 4096, 4176]⟩
abbrev S4096 : Shape := ⟨1, ![4096]⟩
abbrev S4x4096x2048 : Shape := ⟨3, ![4, 4096, 2048]⟩
abbrev S4x4096x16x128 : Shape := ⟨4, ![4, 4096, 16, 128]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S4096x1x64 : Shape := ⟨3, ![4096, 1, 64]⟩
abbrev S4x4096x16x64 : Shape := ⟨4, ![4, 4096, 16, 64]⟩
abbrev S1x4096x1x64 : Shape := ⟨4, ![1, 4096, 1, 64]⟩
abbrev S4x4096x512 : Shape := ⟨3, ![4, 4096, 512]⟩
abbrev S4x4096x4x128 : Shape := ⟨4, ![4, 4096, 4, 128]⟩
abbrev S4x4096x4x64 : Shape := ⟨4, ![4, 4096, 4, 64]⟩
abbrev S4x4096x1024 : Shape := ⟨3, ![4, 4096, 1024]⟩
abbrev S32 : Shape := ⟨1, ![32]⟩
abbrev S1x32 : Shape := ⟨2, ![1, 32]⟩
abbrev S4096x32 : Shape := ⟨2, ![4096, 32]⟩
abbrev S4096x1x32 : Shape := ⟨3, ![4096, 1, 32]⟩
abbrev S4x4096x16x32 : Shape := ⟨4, ![4, 4096, 16, 32]⟩
abbrev S1x4096x1x32 : Shape := ⟨4, ![1, 4096, 1, 32]⟩
abbrev S4x4096x64 : Shape := ⟨3, ![4, 4096, 64]⟩
abbrev S4x4096x1x64 : Shape := ⟨4, ![4, 4096, 1, 64]⟩
abbrev S4x4096x1x32 : Shape := ⟨4, ![4, 4096, 1, 32]⟩
abbrev S4x4096x16 : Shape := ⟨3, ![4, 4096, 16]⟩

abbrev nBuf : Space → Nat
  | .hbm => 173
  | .vmem => 0
  | .smem => 0
  | _ => 0

abbrev hbmTy0_0 (i : Nat) : BufTy := match i % 128 with
  | 0 => ⟨S16384x2048, .f32⟩
  | 1 => ⟨S2048, .f32⟩
  | 2 => ⟨S2048x4176, .f32⟩
  | 3 => ⟨S16384x2048, .f32⟩
  | 4 => ⟨S_, .f32⟩
  | 5 => ⟨S16384, .f32⟩
  | 6 => ⟨S16384x1, .f32⟩
  | 7 => ⟨S_, .f32⟩
  | 8 => ⟨S16384x1, .f32⟩
  | 9 => ⟨S16384x1, .f32⟩
  | 10 => ⟨S_, .f32⟩
  | 11 => ⟨S16384x1, .f32⟩
  | 12 => ⟨S16384x1, .f32⟩
  | 13 => ⟨S16384x1, .f32⟩
  | 14 => ⟨S16384x2048, .f32⟩
  | 15 => ⟨S16384x2048, .f32⟩
  | 16 => ⟨S1x2048, .f32⟩
  | 17 => ⟨S16384x2048, .f32⟩
  | 18 => ⟨S16384x2048, .f32⟩
  | 19 => ⟨S16384x4176, .f32⟩
  | 20 => ⟨S4x4096x4176, .f32⟩
  | 21 => ⟨S4096, .f32⟩
  | 22 => ⟨S4x4096x2048, .f32⟩
  | 23 => ⟨S4x4096x16x128, .f32⟩
  | 24 => ⟨S64, .f32⟩
  | 25 => ⟨S64, .f32⟩
  | 26 => ⟨S_, .f32⟩
  | 27 => ⟨S64, .f32⟩
  | 28 => ⟨S64, .f32⟩
  | 29 => ⟨S_, .f32⟩
  | 30 => ⟨S64, .f32⟩
  | 31 => ⟨S64, .f32⟩
  | 32 => ⟨S4096x1, .f32⟩
  | 33 => ⟨S1x64, .f32⟩
  | 34 => ⟨S4096x64, .f32⟩
  | 35 => ⟨S4096x64, .f32⟩
  | 36 => ⟨S4096x64, .f32⟩
  | 37 => ⟨S4096x64, .f32⟩
  | 38 => ⟨S4096x1x64, .f32⟩
  | 39 => ⟨S4096x64, .f32⟩
  | 40 => ⟨S4096x1x64, .f32⟩
  | 41 => ⟨S4x4096x16x64, .f32⟩
  | 42 => ⟨S4x4096x16x64, .f32⟩
  | 43 => ⟨S1x4096x1x64, .f32⟩
  | 44 => ⟨S4x4096x16x64, .f32⟩
  | 45 => ⟨S4x4096x16x64, .f32⟩
  | 46 => ⟨S1x4096x1x64, .f32⟩
  | 47 => ⟨S4x4096x16x64, .f32⟩
  | 48 => ⟨S4x4096x16x64, .f32⟩
  | 49 => ⟨S4x4096x16x64, .f32⟩
  | 50 => ⟨S1x4096x1x64, .f32⟩
  | 51 => ⟨S4x4096x16x64, .f32⟩
  | 52 => ⟨S4x4096x16x64, .f32⟩
  | 53 => ⟨S1x4096x1x64, .f32⟩
  | 54 => ⟨S4x4096x16x64, .f32⟩
  | 55 => ⟨S4x4096x16x64, .f32⟩
  | 56 => ⟨S4x4096x16x64, .f32⟩
  | 57 => ⟨S4x4096x16x128, .f32⟩
  | 58 => ⟨S4x4096x512, .f32⟩
  | 59 => ⟨S4x4096x4x128, .f32⟩
  | 60 => ⟨S64, .f32⟩
  | 61 => ⟨S64, .f32⟩
  | 62 => ⟨S_, .f32⟩
  | 63 => ⟨S64, .f32⟩
  | 64 => ⟨S64, .f32⟩
  | 65 => ⟨S_, .f32⟩
  | 66 => ⟨S64, .f32⟩
  | 67 => ⟨S64, .f32⟩
  | 68 => ⟨S4096x1, .f32⟩
  | 69 => ⟨S1x64, .f32⟩
  | 70 => ⟨S4096x64, .f32⟩
  | 71 => ⟨S4096x64, .f32⟩
  | 72 => ⟨S4096x64, .f32⟩
  | 73 => ⟨S4096x64, .f32⟩
  | 74 => ⟨S4096x1x64, .f32⟩
  | 75 => ⟨S4096x64, .f32⟩
  | 76 => ⟨S4096x1x64, .f32⟩
  | 77 => ⟨S4x4096x4x64, .f32⟩
  | 78 => ⟨S4x4096x4x64, .f32⟩
  | 79 => ⟨S1x4096x1x64, .f32⟩
  | 80 => ⟨S4x4096x4x64, .f32⟩
  | 81 => ⟨S4x4096x4x64, .f32⟩
  | 82 => ⟨S1x4096x1x64, .f32⟩
  | 83 => ⟨S4x4096x4x64, .f32⟩
  | 84 => ⟨S4x4096x4x64, .f32⟩
  | 85 => ⟨S4x4096x4x64, .f32⟩
  | 86 => ⟨S1x4096x1x64, .f32⟩
  | 87 => ⟨S4x4096x4x64, .f32⟩
  | 88 => ⟨S4x4096x4x64, .f32⟩
  | 89 => ⟨S1x4096x1x64, .f32⟩
  | 90 => ⟨S4x4096x4x64, .f32⟩
  | 91 => ⟨S4x4096x4x64, .f32⟩
  | 92 => ⟨S4x4096x4x64, .f32⟩
  | 93 => ⟨S4x4096x4x128, .f32⟩
  | 94 => ⟨S4x4096x512, .f32⟩
  | 95 => ⟨S4x4096x4x128, .f32⟩
  | 96 => ⟨S4x4096x1024, .f32⟩
  | 97 => ⟨S4x4096x16x64, .f32⟩
  | 98 => ⟨S32, .f32⟩
  | 99 => ⟨S32, .f32⟩
  | 100 => ⟨S_, .f32⟩
  | 101 => ⟨S32, .f32⟩
  | 102 => ⟨S32, .f32⟩
  | 103 => ⟨S_, .f32⟩
  | 104 => ⟨S32, .f32⟩
  | 105 => ⟨S32, .f32⟩
  | 106 => ⟨S4096x1, .f32⟩
  | 107 => ⟨S1x32, .f32⟩
  | 108 => ⟨S4096x32, .f32⟩
  | 109 => ⟨S4096x32, .f32⟩
  | 110 => ⟨S4096x32, .f32⟩
  | 111 => ⟨S4096x32, .f32⟩
  | 112 => ⟨S4096x1x32, .f32⟩
  | 113 => ⟨S4096x32, .f32⟩
  | 114 => ⟨S4096x1x32, .f32⟩
  | 115 => ⟨S4x4096x16x32, .f32⟩
  | 116 => ⟨S4x4096x16x32, .f32⟩
  | 117 => ⟨S1x4096x1x32, .f32⟩
  | 118 => ⟨S4x4096x16x32, .f32⟩
  | 119 => ⟨S4x4096x16x32, .f32⟩
  | 120 => ⟨S1x4096x1x32, .f32⟩
  | 121 => ⟨S4x4096x16x32, .f32⟩
  | 122 => ⟨S4x4096x16x32, .f32⟩
  | 123 => ⟨S4x4096x16x32, .f32⟩
  | 124 => ⟨S1x4096x1x32, .f32⟩
  | 125 => ⟨S4x4096x16x32, .f32⟩
  | 126 => ⟨S4x4096x16x32, .f32⟩
  | 127 => ⟨S1x4096x1x32, .f32⟩
  | _ => ⟨S16384x2048, .f32⟩

abbrev hbmTy0_1 (i : Nat) : BufTy := match i % 128 with
  | 0 => ⟨S4x4096x16x32, .f32⟩
  | 1 => ⟨S4x4096x16x32, .f32⟩
  | 2 => ⟨S4x4096x16x32, .f32⟩
  | 3 => ⟨S4x4096x16x64, .f32⟩
  | 4 => ⟨S4x4096x64, .f32⟩
  | 5 => ⟨S4x4096x1x64, .f32⟩
  | 6 => ⟨S32, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S4096x1, .f32⟩
  | 15 => ⟨S1x32, .f32⟩
  | 16 => ⟨S4096x32, .f32⟩
  | 17 => ⟨S4096x32, .f32⟩
  | 18 => ⟨S4096x32, .f32⟩
  | 19 => ⟨S4096x32, .f32⟩
  | 20 => ⟨S4096x1x32, .f32⟩
  | 21 => ⟨S4096x32, .f32⟩
  | 22 => ⟨S4096x1x32, .f32⟩
  | 23 => ⟨S4x4096x1x32, .f32⟩
  | 24 => ⟨S4x4096x1x32, .f32⟩
  | 25 => ⟨S1x4096x1x32, .f32⟩
  | 26 => ⟨S4x4096x1x32, .f32⟩
  | 27 => ⟨S4x4096x1x32, .f32⟩
  | 28 => ⟨S1x4096x1x32, .f32⟩
  | 29 => ⟨S4x4096x1x32, .f32⟩
  | 30 => ⟨S4x4096x1x32, .f32⟩
  | 31 => ⟨S4x4096x1x32, .f32⟩
  | 32 => ⟨S1x4096x1x32, .f32⟩
  | 33 => ⟨S4x4096x1x32, .f32⟩
  | 34 => ⟨S4x4096x1x32, .f32⟩
  | 35 => ⟨S1x4096x1x32, .f32⟩
  | 36 => ⟨S4x4096x1x32, .f32⟩
  | 37 => ⟨S4x4096x1x32, .f32⟩
  | 38 => ⟨S4x4096x1x32, .f32⟩
  | 39 => ⟨S4x4096x1x64, .f32⟩
  | 40 => ⟨S4x4096x64, .f32⟩
  | 41 => ⟨S4x4096x16, .f32⟩
  | 42 => ⟨S_, .f32⟩
  | 43 => ⟨S4x4096x16, .f32⟩
  | 44 => ⟨S4x4096x16, .f32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_cst_4 : Ref sig .tc := ⟨.hbm, 62, rfl⟩
abbrev main_v54 : Ref sig .tc := ⟨.hbm, 63, rfl⟩
abbrev main_v55 : Ref sig .tc := ⟨.hbm, 64, rfl⟩
abbrev main_cst_5 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_cst_6 : Ref sig .tc := ⟨.hbm, 100, rfl⟩
abbrev main_v90 : Ref sig .tc := ⟨.hbm, 101, rfl⟩
abbrev main_v91 : Ref sig .tc := ⟨.hbm, 102, rfl⟩
abbrev main_cst_7 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_cst_8 : Ref sig .tc := ⟨.hbm, 136, rfl⟩
abbrev main_v124 : Ref sig .tc := ⟨.hbm, 137, rfl⟩
abbrev main_v125 : Ref sig .tc := ⟨.hbm, 138, rfl⟩
abbrev main_cst_9 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_cst_10 : Ref sig .tc := ⟨.hbm, 170, rfl⟩
abbrev main_v156 : Ref sig .tc := ⟨.hbm, 171, rfl⟩
abbrev main_v157 : Ref sig .tc := ⟨.hbm, 172, rfl⟩

abbrev nD : Nat := 1
abbrev τ : Topo := Topo.v7x

variable {F : FTy → Type} [FloatOps F]
-- ==== Out.lean ====
abbrev S16384x2048 : Shape := ⟨2, ![16384, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x2048, .f32⟩
  | .hbm, ⟨3, _⟩ => ⟨S2048x2048, .bf16⟩
  | .hbm, ⟨4, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutReferenceIdeal.lean ====
abbrev S16384x2048 : Shape := ⟨2, ![16384, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x2048, .f32⟩
  | .hbm, ⟨3, _⟩ => ⟨S16384x2048, .f32⟩
  | .hbm, ⟨4, _⟩ => ⟨S16384x2048, .f32⟩
  | .hbm, ⟨5, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Mix.lean ====
abbrev S16384x2048 : Shape := ⟨2, ![16384, 2048]⟩
abbrev S2048 : Shape := ⟨1, ![2048]⟩
abbrev S6x2048 : Shape := ⟨2, ![6, 2048]⟩
abbrev S_ : Shape := ⟨0, ![]⟩
abbrev S8x2048 : Shape := ⟨2, ![8, 2048]⟩
abbrev S1x2048 : Shape := ⟨2, ![1, 2048]⟩
abbrev S256x2048 : Shape := ⟨2, ![256, 2048]⟩
abbrev S264x2048 : Shape := ⟨2, ![264, 2048]⟩
abbrev S256 : Shape := ⟨1, ![256]⟩
abbrev S256x1 : Shape := ⟨2, ![256, 1]⟩

abbrev nBuf : Space → Nat
  | .hbm => 19
  | .vmem => 17
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S6x2048, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S1x2048, .f32⟩
  | .hbm, ⟨7, _⟩ => ⟨S16384x2048, .bf16⟩
  | .hbm, ⟨8, _⟩ => ⟨S16384x2048, .bf16⟩
  | .hbm, ⟨9, _⟩ => ⟨S16384x2048, .bf16⟩
  | .hbm, ⟨10, _⟩ => ⟨S16384x2048, .bf16⟩
  | .hbm, ⟨11, _⟩ => ⟨S16384x2048, .bf16⟩
  | .hbm, ⟨12, _⟩ => ⟨S16384x2048, .bf16⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S8x2048, .f32⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S264x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_v2_5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MixReferenceIdeal.lean ====
abbrev S16384x2048 : Shape := ⟨2, ![16384, 2048]⟩
abbrev S2048 : Shape := ⟨1, ![2048]⟩
abbrev S6x2048 : Shape := ⟨2, ![6, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S4x4096x2048 : Shape := ⟨3, ![4, 4096, 2048]⟩
abbrev S4x4097x2048 : Shape := ⟨3, ![4, 4097, 2048]⟩
abbrev S1x1x2048 : Shape := ⟨3, ![1, 1, 2048]⟩

abbrev nBuf : Space → Nat
  | .hbm => 67
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S6x2048, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S4x4096x2048, .f32⟩
  | .hbm, ⟨20, _⟩ => ⟨S_, .i32⟩
  | .hbm, ⟨21, _⟩ => ⟨S_, .f32⟩
  | .hbm, ⟨22, _⟩ => ⟨S4x4097x2048, .f32⟩
  | .hbm, ⟨23, _⟩ => ⟨S4x4096x2048, .f32⟩
  | .hbm, ⟨24, _⟩ => ⟨S4x4096x2048, .f32⟩
  | .hbm, ⟨25, _⟩ => ⟨S1x2048, .f32⟩
  | .hbm, ⟨26, _⟩ => ⟨S2048, .f32⟩
  | .hbm, ⟨27, _⟩ => ⟨S1x1x2048, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S16384x2048, .f32⟩
  | .hbm, ⟨32, _⟩ => ⟨S1x2048, .f32⟩
  | .hbm, ⟨33, _⟩ => ⟨S2048, .f32⟩
  | .hbm, ⟨34, _⟩ => ⟨S1x1x2048, .f32⟩
  | .hbm, ⟨35, _⟩ => ⟨S4x4096x2048, .f32⟩
  | .hbm, ⟨36, _⟩ => ⟨S4x4096x2048, .f32⟩
  | .hbm, ⟨37, _⟩ => ⟨S4x4096x2048, .f32⟩
  | .hbm, ⟨38, _⟩ => ⟨S16384x2048, .f32⟩
  | .hbm, ⟨39, _⟩ => ⟨S1x2048, .f32⟩
  | .hbm, ⟨40, _⟩ => ⟨S2048, .f32⟩
  | .hbm, ⟨41, _⟩ => ⟨S1x1x2048, .f32⟩
  | .hbm, ⟨42, _⟩ => ⟨S4x4096x2048, .f32⟩
  | .hbm, ⟨43, _⟩ => ⟨S4x4096x2048, .f32⟩
  | .hbm, ⟨44, _⟩ => ⟨S4x4096x2048, .f32⟩
  | .hbm, ⟨45, _⟩ => ⟨S16384x2048, .f32⟩
  | .hbm, ⟨46, _⟩ => ⟨S1x2048, .f32⟩
  | .hbm, ⟨47, _⟩ => ⟨S2048, .f32⟩
  | .hbm, ⟨48, _⟩ => ⟨S1x1x2048, .f32⟩
  | .hbm, ⟨49, _⟩ => ⟨S4x4096x2048, .f32⟩
  | .hbm, ⟨50, _⟩ => ⟨S4x4096x2048, .f32⟩
  | .hbm, ⟨51, _⟩ => ⟨S4x4096x2048, .f32⟩
  | .hbm, ⟨52, _⟩ => ⟨S16384x2048, .f32⟩
  | .hbm, ⟨53, _⟩ => ⟨S1x2048, .f32⟩
  | .hbm, ⟨54, _⟩ => ⟨S2048, .f32⟩
  | .hbm, ⟨55, _⟩ => ⟨S1x1x2048, .f32⟩
  | .hbm, ⟨56, _⟩ => ⟨S4x4096x2048, .f32⟩
  | .hbm, ⟨57, _⟩ => ⟨S4x4096x2048, .f32⟩
  | .hbm, ⟨58, _⟩ => ⟨S4x4096x2048, .f32⟩
  | .hbm, ⟨59, _⟩ => ⟨S16384x2048, .f32⟩
  | .hbm, ⟨60, _⟩ => ⟨S1x2048, .f32⟩
  | .hbm, ⟨61, _⟩ => ⟨S2048, .f32⟩
  | .hbm, ⟨62, _⟩ => ⟨S1x1x2048, .f32⟩
  | .hbm, ⟨63, _⟩ => ⟨S4x4096x2048, .f32⟩
  | .hbm, ⟨64, _⟩ => ⟨S4x4096x2048, .f32⟩
  | .hbm, ⟨65, _⟩ => ⟨S4x4096x2048, .f32⟩
  | .hbm, ⟨66, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩

abbrev nD : Nat := 1
abbrev τ : Topo := Topo.v7x

variable {F : FTy → Type} [FloatOps F]
-- ==== Proj.lean ====
abbrev S16384x2048 : Shape := ⟨2, ![16384, 2048]⟩
abbrev S2048x96 : Shape := ⟨2, ![2048, 96]⟩
abbrev S96x2048 : Shape := ⟨2, ![96, 2048]⟩
abbrev S2048x256 : Shape := ⟨2, ![2048, 256]⟩
abbrev S256x2048 : Shape := ⟨2, ![256, 2048]⟩
abbrev S3x2048x2048 : Shape := ⟨3, ![3, 2048, 2048]⟩
abbrev S1x2048x2048 : Shape := ⟨3, ![1, 2048, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S_ : Shape := ⟨0, ![]⟩
abbrev S2048x128 : Shape := ⟨2, ![2048, 128]⟩
abbrev S128x2048 : Shape := ⟨2, ![128, 2048]⟩
abbrev S1024x128 : Shape := ⟨2, ![1024, 128]⟩
abbrev S1024x256 : Shape := ⟨2, ![1024, 256]⟩

abbrev nBuf : Space → Nat
  | .hbm => 52
  | .vmem => 36
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S16384x2048, .bf16⟩
  | .hbm, ⟨4, _⟩ => ⟨S16384x2048, .bf16⟩
  | .hbm, ⟨5, _⟩ => ⟨S16384x2048, .bf16⟩
  | .hbm, ⟨6, _⟩ => ⟨S2048x96, .f32⟩
  | .hbm, ⟨7, _⟩ => ⟨S96x2048, .f32⟩
  | .hbm, ⟨8, _⟩ => ⟨S2048x96, .f32⟩
  | .hbm, ⟨9, _⟩ => ⟨S96x2048, .f32⟩
  | .hbm, ⟨10, _⟩ => ⟨S2048x256, .f32⟩
  | .hbm, ⟨11, _⟩ => ⟨S256x2048, .f32⟩
  | .hbm, ⟨12, _⟩ => ⟨S3x2048x2048, .f32⟩
  | .hbm, ⟨13, _⟩ => ⟨S1x2048x2048, .f32⟩
  | .hbm, ⟨14, _⟩ => ⟨S2048x2048, .f32⟩
  | .hbm, ⟨15, _⟩ => ⟨S2048x2048, .bf16⟩
  | .hbm, ⟨16, _⟩ => ⟨S16384x2048, .f32⟩
  | .hbm, ⟨17, _⟩ => ⟨S1x2048x2048, .f32⟩
  | .hbm, ⟨18, _⟩ => ⟨S2048x2048, .f32⟩
  | .hbm, ⟨19, _⟩ => ⟨S2048x2048, .bf16⟩
  | .hbm, ⟨20, _⟩ => ⟨S16384x2048, .f32⟩
  | .hbm, ⟨21, _⟩ => ⟨S1x2048x2048, .f32⟩
  | .hbm, ⟨22, _⟩ => ⟨S2048x2048, .f32⟩
  | .hbm, ⟨23, _⟩ => ⟨S2048x2048, .bf16⟩
  | .hbm, ⟨24, _⟩ => ⟨S16384x2048, .f32⟩
  | .hbm, ⟨25, _⟩ => ⟨S2048x96, .bf16⟩
  | .hbm, ⟨26, _⟩ => ⟨S96x2048, .bf16⟩
  | .hbm, ⟨27, _⟩ => ⟨S_, .i32⟩
  | .hbm, ⟨28, _⟩ => ⟨S_, .bf16⟩
  | .hbm, ⟨29, _⟩ => ⟨S2048x128, .bf16⟩
  | .hbm, ⟨30, _⟩ => ⟨S_, .i32⟩
  | .hbm, ⟨31, _⟩ => ⟨S_, .bf16⟩
  | .hbm, ⟨32, _⟩ => ⟨S128x2048, .bf16⟩
  | .hbm, ⟨33, _⟩ => ⟨S16384x2048, .f32⟩
  | .hbm, ⟨34, _⟩ => ⟨S2048x96, .bf16⟩
  | .hbm, ⟨35, _⟩ => ⟨S96x2048, .bf16⟩
  | .hbm, ⟨36, _⟩ => ⟨S_, .i32⟩
  | .hbm, ⟨37, _⟩ => ⟨S_, .bf16⟩
  | .hbm, ⟨38, _⟩ => ⟨S2048x128, .bf16⟩
  | .hbm, ⟨39, _⟩ => ⟨S_, .i32⟩
  | .hbm, ⟨40, _⟩ => ⟨S_, .bf16⟩
  | .hbm, ⟨41, _⟩ => ⟨S128x2048, .bf16⟩
  | .hbm, ⟨42, _⟩ => ⟨S16384x2048, .f32⟩
  | .hbm, ⟨43, _⟩ => ⟨S2048x256, .bf16⟩
  | .hbm, ⟨44, _⟩ => ⟨S256x2048, .bf16⟩
  | .hbm, ⟨45, _⟩ => ⟨S_, .i32⟩
  | .hbm, ⟨46, _⟩ => ⟨S_, .bf16⟩
  | .hbm, ⟨47, _⟩ => ⟨S2048x256, .bf16⟩
  | .hbm, ⟨48, _⟩ => ⟨S_, .i32⟩
  | .hbm, ⟨49, _⟩ => ⟨S_, .bf16⟩
  | .hbm, ⟨50, _⟩ => ⟨S256x2048, .bf16⟩
  | .hbm, ⟨51, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | .local _ .vmem, ⟨7, _⟩ => ⟨S1024x2048, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x2048, .bf16⟩
  | .local _ .vmem, ⟨13, _⟩ => ⟨S1024x2048, .bf16⟩
  | .local _ .vmem, ⟨14, _⟩ => ⟨S2048x1024, .bf16⟩
  | .local _ .vmem, ⟨15, _⟩ => ⟨S2048x1024, .bf16⟩
  | .local _ .vmem, ⟨16, _⟩ => ⟨S1024x1024, .f32⟩
  | .local _ .vmem, ⟨17, _⟩ => ⟨S1024x1024, .f32⟩
  | .local _ .vmem, ⟨18, _⟩ => ⟨S1024x2048, .bf16⟩
  | .local _ .vmem, ⟨19, _⟩ => ⟨S1024x2048, .bf16⟩
  | .local _ .vmem, ⟨20, _⟩ => ⟨S2048x128, .bf16⟩
  | .local _ .vmem, ⟨21, _⟩ => ⟨S128x2048, .bf16⟩
  | .local _ .vmem, ⟨22, _⟩ => ⟨S1024x2048, .f32⟩
  | .local _ .vmem, ⟨23, _⟩ => ⟨S1024x2048, .f32⟩
  | .local _ .vmem, ⟨24, _⟩ => ⟨S1024x2048, .bf16⟩
  | .local _ .vmem, ⟨25, _⟩ => ⟨S1024x2048, .bf16⟩
  | .local _ .vmem, ⟨26, _⟩ => ⟨S2048x128, .bf16⟩
  | .local _ .vmem, ⟨27, _⟩ => ⟨S128x2048, .bf16⟩
  | .local _ .vmem, ⟨28, _⟩ => ⟨S1024x2048, .f32⟩
  | .local _ .vmem, ⟨29, _⟩ => ⟨S1024x2048, .f32⟩
  | .local _ .vmem, ⟨30, _⟩ => ⟨S1024x2048, .bf16⟩
  | .local _ .vmem, ⟨31, _⟩ => ⟨S1024x2048, .bf16⟩
  | .local _ .vmem, ⟨32, _⟩ => ⟨S2048x256, .bf16⟩
  | .local _ .vmem, ⟨33, _⟩ => ⟨S256x2048, .bf16⟩
  | .local _ .vmem, ⟨34, _⟩ => ⟨S1024x2048, .f32⟩
  | .local _ .vmem, ⟨35, _⟩ => ⟨S1024x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_call0_v0 : Ref sig .tc := ⟨.hbm, 28, rfl⟩
abbrev main_v14 : Ref sig .tc := ⟨.hbm, 29, rfl⟩
abbrev main_c_0 : Ref sig .tc := ⟨.hbm, 30, rfl⟩
abbrev main_call1_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_1 : Ref sig .tc := ⟨.hbm, 36, rfl⟩
abbrev main_call2_v0 : Ref sig .tc := ⟨.hbm, 37, rfl⟩
abbrev main_v19 : Ref sig .tc := ⟨.hbm, 38, rfl⟩
abbrev main_c_2 : Ref sig .tc := ⟨.hbm, 39, rfl⟩
abbrev main_call3_v0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_3 : Ref sig .tc := ⟨.hbm, 45, rfl⟩
abbrev main_call4_v0 : Ref sig .tc := ⟨.hbm, 46, rfl⟩
abbrev main_v24 : Ref sig .tc := ⟨.hbm, 47, rfl⟩
abbrev main_c_4 : Ref sig .tc := ⟨.hbm, 48, rfl⟩
abbrev main_call5_v0 : Ref sig .tc := ⟨.hbm, 49, rfl⟩
abbrev main_v25 : Ref sig .tc := ⟨.hbm, 50, rfl⟩
abbrev main_v26 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![16, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![16, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x2048 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1024x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2048x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x2048 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x2048 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2048x256 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S256x2048 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1024x2048 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]
-- ==== ProjReferenceIdeal.lean ====
abbrev S16384x2048 : Shape := ⟨2, ![16384, 2048]⟩
abbrev S2048x96 : Shape := ⟨2, ![2048, 96]⟩
abbrev S96x2048 : Shape := ⟨2, ![96, 2048]⟩
abbrev S2048x256 : Shape := ⟨2, ![2048, 256]⟩
abbrev S256x2048 : Shape := ⟨2, ![256, 2048]⟩
abbrev S3x2048x2048 : Shape := ⟨3, ![3, 2048, 2048]⟩
abbrev S1x2048x2048 : Shape := ⟨3, ![1, 2048, 2048]⟩
abbrev S2048x2048 : Shape := ⟨2, ![2048, 2048]⟩
abbrev S16384x96 : Shape := ⟨2, ![16384, 96]⟩
abbrev S16384x256 : Shape := ⟨2, ![16384, 256]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S16384x2048, .bf16⟩
  | .hbm, ⟨4, _⟩ => ⟨S16384x2048, .bf16⟩
  | .hbm, ⟨5, _⟩ => ⟨S16384x2048, .bf16⟩
  | .hbm, ⟨6, _⟩ => ⟨S2048x96, .f32⟩
  | .hbm, ⟨7, _⟩ => ⟨S96x2048, .f32⟩
  | .hbm, ⟨8, _⟩ => ⟨S2048x96, .f32⟩
  | .hbm, ⟨9, _⟩ => ⟨S96x2048, .f32⟩
  | .hbm, ⟨10, _⟩ => ⟨S2048x256, .f32⟩
  | .hbm, ⟨11, _⟩ => ⟨S256x2048, .f32⟩
  | .hbm, ⟨12, _⟩ => ⟨S3x2048x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S1x2048x2048, .f32⟩
  | .hbm, ⟨20, _⟩ => ⟨S2048x2048, .f32⟩
  | .hbm, ⟨21, _⟩ => ⟨S16384x2048, .f32⟩
  | .hbm, ⟨22, _⟩ => ⟨S1x2048x2048, .f32⟩
  | .hbm, ⟨23, _⟩ => ⟨S2048x2048, .f32⟩
  | .hbm, ⟨24, _⟩ => ⟨S16384x2048, .f32⟩
  | .hbm, ⟨25, _⟩ => ⟨S1x2048x2048, .f32⟩
  | .hbm, ⟨26, _⟩ => ⟨S2048x2048, .f32⟩
  | .hbm, ⟨27, _⟩ => ⟨S16384x2048, .f32⟩
  | .hbm, ⟨28, _⟩ => ⟨S16384x96, .f32⟩
  | .hbm, ⟨29, _⟩ => ⟨S16384x96, .f32⟩
  | .hbm, ⟨30, _⟩ => ⟨S16384x2048, .f32⟩
  | .hbm, ⟨31, _⟩ => ⟨S16384x96, .f32⟩
  | .hbm, ⟨32, _⟩ => ⟨S16384x2048, .f32⟩
  | .hbm, ⟨33, _⟩ => ⟨S16384x256, .f32⟩
  | .hbm, ⟨34, _⟩ => ⟨S16384x256, .f32⟩
  | .hbm, ⟨35, _⟩ => ⟨S16384x256, .f32⟩
  | .hbm, ⟨36, _⟩ => ⟨S_, .f32⟩
  | .hbm, ⟨37, _⟩ => ⟨S16384x256, .f32⟩
  | .hbm, ⟨38, _⟩ => ⟨S16384x256, .f32⟩
  | .hbm, ⟨39, _⟩ => ⟨S_, .f32⟩
  | .hbm, ⟨40, _⟩ => ⟨S16384x256, .f32⟩
  | .hbm, ⟨41, _⟩ => ⟨S16384x256, .f32⟩
  | .hbm, ⟨42, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_v24 : Ref sig .tc := ⟨.hbm, 38, rfl⟩
abbrev main_cst_0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Proof.Ffn.Spec.lean ====
module

public import Idealize.ShloMosaic.Lib.Pointwise

/-!
# The channel mixer, entry by entry

What one entry of the normalised rows, of the gated product and of the mixer's output is, over the
extended reals.  The two programs are read against these.
-/

@[expose] public section

noncomputable section

namespace Cert.Ffn

open Idealize.ShloMosaic

/-- Entry `d` of a row `x` divided by the root of its mean square (plus a small constant) and
    scaled by `g`. -/
def norm (x : Fin 2048 → EReal) (g : EReal) (d : Fin 2048) : EReal :=
  x d * Ideal.rsqrt (Ideal.div (∑ k, x k * x k) (Ideal.ofBits FTy.f32 1157627904#32)
    + Ideal.ofBits FTy.f32 897988541#32) * g

/-- One entry of the gated product: a row `h` against a column `a` of the gate's weights and a
    column `b` of the other factor's. -/
def gated (h a b : Fin 2048 → EReal) : EReal :=
  (∑ k, h k * a k) * Ideal.logistic (∑ k, h k * a k) * ∑ k, h k * b k

/-- One entry of a residual stream plus a row of the gated product against a column of weights. -/
def mixed (x : EReal) (h w : Fin 5632 → EReal) : EReal :=
  x + ∑ k, h k * w k

end Cert.Ffn
-- ==== Proof.Fox.Region0.lean ====
module

public import proofs.«01_k».proof.Proof.Gen.FoxLayerIdeal.Frame
public import proofs.«01_k».proof.Proof.Ffn.Spec
public import Idealize.ShloMosaic.Lib.Pipeline.ValueKit
public import Idealize.ShloMosaic.Lib.Pipeline.Covers
public import Idealize.ShloMosaic.Lib.Pointwise

/-!
# The norm in front of the attention

The array its launch leaves, from the buffers it finds.
-/

@[expose] public section

set_option maxRecDepth 16384

noncomputable section

namespace Cert.Fox

open Cert.FoxLayerIdeal Cert.FoxLayerIdeal.Gen Idealize.ShloMosaic Idealize.ShloMosaic.TcCoe
open Idealize.SL.Sem
open Cert.Ffn (norm)

variable (V : (c : Dev nD) → (b : Ref sig .tc) → Buf (Elt Ideal) ((c : Thread nD τ).loc b))

theorem index0_0 : ∀ t : Fin cfg0.N, win0_0.index t = ![(grid0.coords t 0).val, 0] := by
  decide +kernel

theorem index0_1 : ∀ t : Fin cfg0.N, win0_1.index t = ![0, 0] := by decide +kernel

theorem index0_2 : ∀ t : Fin cfg0.N, win0_2.index t = ![(grid0.coords t 0).val, 0] := by
  decide +kernel

theorem coord0 (t : Fin cfg0.N) : (grid0.coords t 0).val < 32 := (grid0.coords t 0).isLt

/-- The rows a grid point is given. -/
theorem rows0 (c : Dev nD) (t : Fin cfg0.N) (r : Fin 512) (d : Fin 2048) :
    iblk0 V c 0 t (ix2 r d)
      = V c main_arg0 (ix2 ⟨(grid0.coords t 0).val * 512 + r.val, by
          have := coord0 t; omega⟩ d) := by
  blk_ext! [iblk0, index0_0 t]

/-- The scale a grid point is given. -/
theorem scale0 (c : Dev nD) (t : Fin cfg0.N) (d : Fin 2048) :
    iblk0 V c 1 t (ix2 0 d) = V c main_v0 (ix2 0 d) := by
  blk_ext! [iblk0, index0_1 t]

/-- What the body computes of its blocks. -/
theorem out0 (a : Vec Ideal S512x2048 .f32) (b : Vec Ideal S1x2048 .f32) (r : Fin 512)
    (d : Fin 2048) : out0_2 a b (ix2 r d) = norm (fun k => a (ix2 r k)) (b (ix2 0 d)) d := by
  unfold out0_2
  frame_out
  pointwise [k0_pay1]
  rfl

/-- The grid point that writes a block of the result. -/
def place0 (x : Fin 32) : grid0.Coords := Fin.cons x fun a => a.elim0

theorem place0_eq : ∀ (x : Fin 32) (y : Fin 1) (a : Fin 2),
    cc0_transform_2 (place0 x) a = (![x.val, y.val] : Fin 2 → ℕ) a := by
  decide +kernel

/-- The normalised rows, as an array. -/
def normArr (x : S16384x2048.Idx → EReal) (g : S1x2048.Idx → EReal) : S16384x2048.Idx → EReal :=
  fun i => norm (fun k => x (ix2 (i 0) k)) (g (ix2 0 (i 1))) (i 1)

/-- The array the launch leaves. -/
theorem arr0 (c : Dev nD) :
    (dat0 V c).arrAt 2 cfg0.N = normArr (V c main_arg0) (V c main_v0) := by
  refine (dat0 V c).arrAt_eq_of_covers 2 _ ?_ fun t hf y => ?_
  · exact (cfg0.win 2).covers_of_indexMap_surj rfl (by decide) fun β =>
      ⟨place0 (β 0), fun a => (place0_eq (β 0) (β 1) a).trans
        (match a with | ⟨0, _⟩ => rfl | ⟨1, _⟩ => rfl)⟩
  · blk_simp
    rw [after0_2]
    obtain ⟨r, d, rfl⟩ : ∃ (r : Fin 512) (d : Fin 2048), y = ix2 r d := ⟨y 0, y 1, eq_ix2 y⟩
    rw [out0, scale0]
    have e : (win0_2.blk t).view.emb (ix2 r d : S512x2048.Idx)
        = (ix2 ⟨(grid0.coords t 0).val * 512 + r.val, by
            have := coord0 t; omega⟩ d : S16384x2048.Idx) := by
      blk_ext [index0_2 t]
    rw [e]
    exact congrArg (fun x => norm x _ d) (funext fun k => rows0 V c t r k)

end Cert.Fox
-- ==== Proof.Fox.Region1.lean ====
module

public import proofs.«01_k».proof.Proof.Gen.FoxLayerIdeal.Frame
public import Idealize.ShloMosaic.Lib.Pipeline.ValueKit
public import Idealize.ShloMosaic.Lib.Pipeline.Covers
public import Idealize.ShloMosaic.Lib.Pointwise

/-!
# The product for queries, keys and values

The array its launch leaves, from the buffers it finds.
-/

@[expose] public section

set_option maxRecDepth 16384

noncomputable section

namespace Cert.Fox

open Cert.FoxLayerIdeal Cert.FoxLayerIdeal.Gen Idealize.ShloMosaic Idealize.ShloMosaic.TcCoe
open Idealize.SL.Sem

variable (V : (c : Dev nD) → (b : Ref sig .tc) → Buf (Elt Ideal) ((c : Thread nD τ).loc b))

theorem index1_0 : ∀ t : Fin cfg1.N, win1_0.index t
    = ![(grid1.coords t 0).val, 0] := by
  decide +kernel

theorem index1_1 : ∀ t : Fin cfg1.N, win1_1.index t
    = ![0, (grid1.coords t 1).val] := by
  decide +kernel

theorem index1_2 : ∀ t : Fin cfg1.N, win1_2.index t
    = ![(grid1.coords t 0).val, (grid1.coords t 1).val] := by
  decide +kernel

theorem coord1_0 (t : Fin cfg1.N) : (grid1.coords t 0).val < 16 := (grid1.coords t 0).isLt

theorem coord1_1 (t : Fin cfg1.N) : (grid1.coords t 1).val < 6 := (grid1.coords t 1).isLt

/-- The rows a grid point is given. -/
theorem rows1 (c : Dev nD) (t : Fin cfg1.N) (r : Fin 1024) (k : Fin 2048) :
    iblk1 V c 0 t (ix2 r k)
      = V c main_v1 (ix2 ⟨(grid1.coords t 0).val * 1024 + r.val, by have := coord1_0 t; omega⟩ k) := by
  blk_ext! [iblk1, index1_0 t]

/-- The columns of weights a grid point is given. -/
theorem cols1 (c : Dev nD) (t : Fin cfg1.N) (k : Fin 2048) (d : Fin 1024) :
    iblk1 V c 1 t (ix2 k d)
      = V c main_v3 (ix2 k ⟨(grid1.coords t 1).val * 1024 + d.val, by have := coord1_1 t; omega⟩) := by
  blk_ext! [iblk1, index1_1 t]

/-- What the body computes of its blocks. -/
theorem out1 (h : Vec Ideal S1024x2048 .bf16) (w : Vec Ideal S2048x1024 .bf16)
    (r : Fin 1024) (d : Fin 1024) : out1_2 h w (ix2 r d)
      = ∑ k : Fin 2048, h (ix2 r k) * w (ix2 k d) := by
  unfold out1_2
  frame_out
  pointwise [k1_pay1]

/-- The grid point that writes a block of the result. -/
def place1 (x : Fin 16) (y : Fin 6) : grid1.Coords := Fin.cons x (Fin.cons y fun a => a.elim0)

theorem place1_eq : ∀ (x : Fin 16) (y : Fin 6) (a : Fin 2),
    cc1_transform_2 (place1 x y) a = (![x.val, y.val] : Fin 2 → ℕ) a := by
  decide +kernel

/-- The product, as an array. -/
def prodArr1 (h : S16384x2048.Idx → EReal)
    (w : S2048x6144.Idx → EReal) : S16384x6144.Idx → EReal :=
  fun i => ∑ k : Fin 2048, h (ix2 (i 0) k) * w (ix2 k (i 1))

/-- The array the launch leaves. -/
theorem arr1 (c : Dev nD) :
    (dat1 V c).arrAt 2 cfg1.N = prodArr1 (V c main_v1) (V c main_v3) := by
  refine (dat1 V c).arrAt_eq_of_covers 2 _ ?_ fun t hf y => ?_
  · exact (cfg1.win 2).covers_of_indexMap_surj rfl (by decide) fun β =>
      ⟨place1 (β 0) (β 1), fun a => (place1_eq (β 0) (β 1) a).trans
        (match a with | ⟨0, _⟩ => rfl | ⟨1, _⟩ => rfl)⟩
  · blk_simp
    rw [after1_2]
    obtain ⟨r, d, rfl⟩ : ∃ (r : Fin 1024) (d : Fin 1024), y = ix2 r d := ⟨y 0, y 1, eq_ix2 y⟩
    rw [out1]
    have e : (win1_2.blk t).view.emb (ix2 r d : S1024x1024.Idx)
        = (ix2 ⟨(grid1.coords t 0).val * 1024 + r.val, by have := coord1_0 t; omega⟩
            ⟨(grid1.coords t 1).val * 1024 + d.val, by have := coord1_1 t; omega⟩
            : S16384x6144.Idx) := by
      blk_ext [index1_2 t]
    rw [e]
    unfold prodArr1
    exact Finset.sum_congr (M := EReal) rfl fun k _ => congrArg₂ (· * ·) (rows1 V c t r k) (cols1 V c t k d)

end Cert.Fox
-- ==== Proof.Fox.Region2.lean ====
module

public import proofs.«01_k».proof.Proof.Gen.FoxLayerIdeal.Frame
public import Idealize.ShloMosaic.Lib.Pipeline.ValueKit
public import Idealize.ShloMosaic.Lib.Pipeline.Covers
public import Idealize.ShloMosaic.Lib.Pointwise

/-!
# The product for the forget gates

The array its launch leaves, from the buffers it finds.
-/

@[expose] public section

set_option maxRecDepth 16384

noncomputable section

namespace Cert.Fox

open Cert.FoxLayerIdeal Cert.FoxLayerIdeal.Gen Idealize.ShloMosaic Idealize.ShloMosaic.TcCoe
open Idealize.SL.Sem

variable (V : (c : Dev nD) → (b : Ref sig .tc) → Buf (Elt Ideal) ((c : Thread nD τ).loc b))

theorem index2_0 : ∀ t : Fin cfg2.N, win2_0.index t
    = ![(grid2.coords t 0).val, 0] := by
  decide +kernel

theorem index2_1 : ∀ t : Fin cfg2.N, win2_1.index t
    = ![0, (grid2.coords t 1).val] := by
  decide +kernel

theorem index2_2 : ∀ t : Fin cfg2.N, win2_2.index t
    = ![(grid2.coords t 0).val, (grid2.coords t 1).val] := by
  decide +kernel

theorem coord2_0 (t : Fin cfg2.N) : (grid2.coords t 0).val < 16 := (grid2.coords t 0).isLt

theorem coord2_1 (t : Fin cfg2.N) : (grid2.coords t 1).val < 1 := (grid2.coords t 1).isLt

/-- The rows a grid point is given. -/
theorem rows2 (c : Dev nD) (t : Fin cfg2.N) (r : Fin 1024) (k : Fin 2048) :
    iblk2 V c 0 t (ix2 r k)
      = V c main_v1 (ix2 ⟨(grid2.coords t 0).val * 1024 + r.val, by have := coord2_0 t; omega⟩ k) := by
  blk_ext! [iblk2, index2_0 t]

/-- The columns of weights a grid point is given. -/
theorem cols2 (c : Dev nD) (t : Fin cfg2.N) (k : Fin 2048) (d : Fin 128) :
    iblk2 V c 1 t (ix2 k d)
      = V c main_v7 (ix2 k ⟨(grid2.coords t 1).val * 128 + d.val, by have := coord2_1 t; omega⟩) := by
  blk_ext! [iblk2, index2_1 t]

/-- What the body computes of its blocks. -/
theorem out2 (h : Vec Ideal S1024x2048 .bf16) (w : Vec Ideal S2048x128 .bf16)
    (r : Fin 1024) (d : Fin 128) : out2_2 h w (ix2 r d)
      = ∑ k : Fin 2048, h (ix2 r k) * w (ix2 k d) := by
  unfold out2_2
  frame_out
  pointwise [k2_pay1]

/-- The grid point that writes a block of the result. -/
def place2 (x : Fin 16) (y : Fin 1) : grid2.Coords := Fin.cons x (Fin.cons y fun a => a.elim0)

theorem place2_eq : ∀ (x : Fin 16) (y : Fin 1) (a : Fin 2),
    cc2_transform_2 (place2 x y) a = (![x.val, y.val] : Fin 2 → ℕ) a := by
  decide +kernel

/-- The product, as an array. -/
def prodArr2 (h : S16384x2048.Idx → EReal)
    (w : S2048x128.Idx → EReal) : S16384x128.Idx → EReal :=
  fun i => ∑ k : Fin 2048, h (ix2 (i 0) k) * w (ix2 k (i 1))

/-- The array the launch leaves. -/
theorem arr2 (c : Dev nD) :
    (dat2 V c).arrAt 2 cfg2.N = prodArr2 (V c main_v1) (V c main_v7) := by
  refine (dat2 V c).arrAt_eq_of_covers 2 _ ?_ fun t hf y => ?_
  · exact (cfg2.win 2).covers_of_indexMap_surj rfl (by decide) fun β =>
      ⟨place2 (β 0) (β 1), fun a => (place2_eq (β 0) (β 1) a).trans
        (match a with | ⟨0, _⟩ => rfl | ⟨1, _⟩ => rfl)⟩
  · blk_simp
    rw [after2_2]
    obtain ⟨r, d, rfl⟩ : ∃ (r : Fin 1024) (d : Fin 128), y = ix2 r d := ⟨y 0, y 1, eq_ix2 y⟩
    rw [out2]
    have e : (win2_2.blk t).view.emb (ix2 r d : S1024x128.Idx)
        = (ix2 ⟨(grid2.coords t 0).val * 1024 + r.val, by have := coord2_0 t; omega⟩
            ⟨(grid2.coords t 1).val * 128 + d.val, by have := coord2_1 t; omega⟩
            : S16384x128.Idx) := by
      blk_ext [index2_2 t]
    rw [e]
    unfold prodArr2
    exact Finset.sum_congr (M := EReal) rfl fun k _ => congrArg₂ (· * ·) (rows2 V c t r k) (cols2 V c t k d)

end Cert.Fox
-- ==== Proof.Fox.OnlineSoftmax.lean ====
module

public import Idealize.ShloMosaic.Lib.Pointwise
public import Mathlib.Data.EReal.Operations
public import Mathlib.Data.EReal.Inv
public import Mathlib.Algebra.BigOperators.Fin

/-!
# The softmax taken block by block

Scores `S j` and values `V j` are extended reals, one for each key `j`. A running maximum, a running
sum of exponentials and a running weighted sum are rescaled as each block of keys arrives; these
lemmas say that nothing is lost on the way, for scores of any kind, infinite ones included.
-/

@[expose] public section

noncomputable section

namespace Cert.Fox

open Idealize.ShloMosaic Finset

/-- The largest of the first `n` scores (`-∞` when there is none). -/
def top (S : ℕ → EReal) (n : ℕ) : EReal := (range n).sup S

/-- The sum of the exponentials of the first `n` scores, each less `M`. -/
def mass (S : ℕ → EReal) (M : EReal) (n : ℕ) : EReal := ∑ j ∈ range n, Ideal.exp (S j - M)

/-- The values of the first `n` keys, weighted by the exponentials of their scores less `M`. -/
def wsum (S V : ℕ → EReal) (M : EReal) (n : ℕ) : EReal :=
  ∑ j ∈ range n, Ideal.exp (S j - M) * V j

/-- An exponential is never negative. -/
theorem exp_nonneg (x : EReal) : 0 ≤ Ideal.exp x := by
  induction x with
  | bot => simp
  | top => simp
  | coe r => rw [Ideal.exp_coe]; exact_mod_cast (Real.exp_pos r).le

/-- Below `+∞` an exponential is finite. -/
theorem exp_ne_top {x : EReal} (h : x ≠ ⊤) : Ideal.exp x ≠ ⊤ := by
  induction x with
  | bot => simp
  | top => exact absurd rfl h
  | coe r => rw [Ideal.exp_coe]; exact EReal.coe_ne_top _

/-- A number less one that is at least as large is not `+∞`. -/
theorem sub_ne_top {s m : EReal} (h : s ≤ m) : s - m ≠ ⊤ := by
  induction s with
  | bot => simp [sub_eq_add_neg]
  | top => rw [top_le_iff.1 h]; simp [sub_eq_add_neg]
  | coe s =>
    induction m with
    | bot => simp at h
    | top => simp [sub_eq_add_neg]
    | coe m => rw [← EReal.coe_sub]; exact EReal.coe_ne_top _

/-- Nothing less anything is nothing: a masked key weighs zero. -/
theorem exp_bot_sub (m : EReal) : Ideal.exp (⊥ - m) = 0 := by
  rw [sub_eq_add_neg, EReal.bot_add, Ideal.exp_bot]

/-- Rescaling from the maximum `m` to a larger `m'`: the two exponentials multiply to the one taken
against `m'` outright. -/
theorem exp_rescale {s m m' : EReal} (h : s ≤ m) (h' : m ≤ m') :
    Ideal.exp (m - m') * Ideal.exp (s - m) = Ideal.exp (s - m') := by
  induction m with
  | bot => rw [le_bot_iff.1 h, exp_bot_sub, exp_bot_sub, zero_mul]
  | top =>
    rw [top_le_iff.1 h']
    have e : ∀ x : EReal, x - ⊤ = ⊥ := fun x => by rw [sub_eq_add_neg, EReal.neg_top, EReal.add_bot]
    rw [e, e, Ideal.exp_bot, zero_mul]
  | coe m =>
    induction s with
    | bot => rw [exp_bot_sub, exp_bot_sub, mul_zero]
    | top => simp at h
    | coe s =>
      induction m' with
      | bot => simp at h'
      | top =>
        have e : ∀ x : EReal, x - ⊤ = ⊥ := fun x => by
          rw [sub_eq_add_neg, EReal.neg_top, EReal.add_bot]
        rw [e, e, Ideal.exp_bot, zero_mul]
      | coe m' =>
        rw [← EReal.coe_sub, ← EReal.coe_sub, ← EReal.coe_sub, Ideal.exp_coe, Ideal.exp_coe,
          Ideal.exp_coe, ← EReal.coe_mul, ← Real.exp_add]
        congr 2; ring

/-- A finite factor that is not negative goes into a sum. -/
theorem mul_sum_of_nonneg {ι : Type*} (s : Finset ι) (f : ι → EReal) {a : EReal} (h0 : 0 ≤ a)
    (h1 : a ≠ ⊤) : a * ∑ j ∈ s, f j = ∑ j ∈ s, a * f j := by
  classical
  induction s using Finset.induction_on with
  | empty => simp
  | insert j s hj ih =>
    rw [sum_insert hj, sum_insert hj, EReal.left_distrib_of_nonneg_of_ne_top h0 h1, ih]

theorem le_top_of_lt (S : ℕ → EReal) {j n : ℕ} (h : j < n) : S j ≤ top S n :=
  le_sup (f := S) (mem_range.2 h)

theorem top_mono (S : ℕ → EReal) {a b : ℕ} (h : a ≤ b) : top S a ≤ top S b :=
  sup_mono (range_mono h)

/-- The sum of exponentials against a larger maximum is the rescaled one. -/
theorem mass_rescale (S : ℕ → EReal) {M' : EReal} (n : ℕ) (h : top S n ≤ M') :
    Ideal.exp (top S n - M') * mass S (top S n) n = mass S M' n := by
  unfold mass
  rw [mul_sum_of_nonneg _ _ (exp_nonneg _) (exp_ne_top (sub_ne_top h))]
  exact sum_congr rfl fun j hj => exp_rescale (le_top_of_lt S (mem_range.1 hj)) h

/-- The weighted sum against a larger maximum is the rescaled one. -/
theorem wsum_rescale (S V : ℕ → EReal) {M' : EReal} (n : ℕ) (h : top S n ≤ M') :
    Ideal.exp (top S n - M') * wsum S V (top S n) n = wsum S V M' n := by
  unfold wsum
  rw [mul_sum_of_nonneg _ _ (exp_nonneg _) (exp_ne_top (sub_ne_top h))]
  refine sum_congr rfl fun j hj => ?_
  rw [← mul_assoc, exp_rescale (le_top_of_lt S (mem_range.1 hj)) h]

/-- A fold of the maximum from `-∞` is the supremum. -/
theorem fold_max_eq_sup {ι : Type*} (s : Finset ι) (f : ι → EReal) : s.fold max ⊥ f = s.sup f := rfl

/-- One more block of `B` scores: the maximum. -/
theorem top_block (S : ℕ → EReal) (n B : ℕ) :
    top S (n + B) = max (top S n) (Finset.univ.fold max ⊥ fun x : Fin B => S (n + x.val)) := by
  rw [fold_max_eq_sup]
  apply le_antisymm
  · refine Finset.sup_le fun j hj => ?_
    rcases Nat.lt_or_ge j n with h | h
    · exact le_max_of_le_left (le_top_of_lt S h)
    · have hj' := mem_range.1 hj
      refine le_max_of_le_right ?_
      have := le_sup (f := fun x : Fin B => S (n + x.val)) (mem_univ ⟨j - n, by omega⟩)
      have e : n + (j - n) = j := by omega
      simpa only [e] using this
  · refine max_le (top_mono S (Nat.le_add_right n B)) (Finset.sup_le fun x _ => ?_)
    exact le_top_of_lt S (by have := x.isLt; omega)

/-- The largest of `N` scores, as a fold over `Fin N`. -/
theorem fold_eq_top (S : ℕ → EReal) (N : ℕ) :
    Finset.univ.fold max ⊥ (fun x : Fin N => S x.val) = top S N := by
  have h := top_block S 0 N
  simp only [Nat.zero_add] at h
  rw [h]
  exact (max_eq_right (by simp [top])).symm

/-- One more block of `B` scores: the sum of exponentials. -/
theorem mass_block (S : ℕ → EReal) (M : EReal) (n B : ℕ) :
    mass S M (n + B) = mass S M n + ∑ x : Fin B, Ideal.exp (S (n + x.val) - M) := by
  unfold mass
  rw [sum_range_add, sum_range (fun x => Ideal.exp (S (n + x) - M))]

/-- One more block of `B` scores: the weighted sum. -/
theorem wsum_block (S V : ℕ → EReal) (M : EReal) (n B : ℕ) :
    wsum S V M (n + B)
      = wsum S V M n + ∑ x : Fin B, Ideal.exp (S (n + x.val) - M) * V (n + x.val) := by
  unfold wsum
  rw [sum_range_add, sum_range (fun x => Ideal.exp (S (n + x) - M) * V (n + x))]

/-- Masked keys past `n` change no maximum. -/
theorem top_masked (S : ℕ → EReal) {n N : ℕ} (h : n ≤ N) (hm : ∀ j, n ≤ j → j < N → S j = ⊥) :
    top S N = top S n := by
  refine le_antisymm (Finset.sup_le fun j hj => ?_) (top_mono S h)
  rcases Nat.lt_or_ge j n with h' | h'
  · exact le_top_of_lt S h'
  · rw [hm j h' (mem_range.1 hj)]; exact bot_le

/-- The softmax of `N` scores, applied to the values: masked keys past `n` weigh nothing, and the
division by the sum of exponentials may be left to the end. Some key below `n` must have a score
that is a real number and none may have `+∞`. -/
theorem softmax_eq (S V : ℕ → EReal) {n N : ℕ} (h : n ≤ N)
    (hm : ∀ j, n ≤ j → j < N → S j = ⊥) (ht : ∀ j, j < n → S j ≠ ⊤)
    {j0 : ℕ} (hj0 : j0 < n) (hb : S j0 ≠ ⊥) :
    Ideal.div (wsum S V (top S n) n) (mass S (top S n) n)
      = ∑ j ∈ range N, Ideal.div (Ideal.exp (S j - top S N)) (mass S (top S N) N) * V j := by
  have hmass : mass S (top S n) N = mass S (top S n) n := by
    unfold mass
    refine (sum_subset (range_mono h) fun j hj hj' => ?_).symm
    rw [hm j (by simpa using hj') (mem_range.1 hj), exp_bot_sub]
  rw [top_masked S h hm, hmass]
  set M := top S n with hM
  set L := mass S M n with hL
  have hMt : M ≠ ⊤ := by
    have : M < ⊤ := (Finset.sup_lt_iff (bot_lt_top)).2 fun j hj => lt_top_iff_ne_top.2 (ht j (mem_range.1 hj))
    exact this.ne
  have hMb : M ≠ ⊥ := fun e => hb (le_bot_iff.1 (e ▸ le_top_of_lt S hj0))
  have hpos : 0 < L := by
    have h1 : Ideal.exp (S j0 - M) ≤ L :=
      single_le_sum (f := fun j => Ideal.exp (S j - M)) (fun j _ => exp_nonneg _) (mem_range.2 hj0)
    refine lt_of_lt_of_le ?_ h1
    have hs := ht j0 hj0
    generalize S j0 = s at hs hb
    generalize M = M' at hMt hMb
    induction s with
    | bot => exact absurd rfl hb
    | top => exact absurd rfl hs
    | coe s =>
      induction M' with
      | bot => exact absurd rfl hMb
      | top => exact absurd rfl hMt
      | coe M' =>
        rw [← EReal.coe_sub, Ideal.exp_coe]
        exact_mod_cast Real.exp_pos _
  have hL0 : L ≠ 0 := hpos.ne'
  have hi0 : 0 ≤ L⁻¹ := EReal.inv_nonneg_of_nonneg hpos.le
  have hit : L⁻¹ ≠ ⊤ := by
    generalize L = L' at hpos
    induction L' with
    | bot => simp at hpos
    | top => simp
    | coe l => rw [← EReal.coe_inv]; exact EReal.coe_ne_top _
  have hd : ∀ x, Ideal.div x L = x * L⁻¹ := fun x => by unfold Ideal.div; rw [if_neg hL0]
  simp only [hd]
  have hw : wsum S V M N = wsum S V M n := by
    unfold wsum
    refine (sum_subset (range_mono h) fun j hj hj' => ?_).symm
    rw [hm j (by simpa using hj') (mem_range.1 hj), exp_bot_sub, zero_mul]
  rw [← hw, mul_comm]
  unfold wsum
  rw [mul_sum_of_nonneg _ _ hi0 hit]
  exact sum_congr rfl fun j _ => by rw [← mul_assoc, mul_comm L⁻¹]

end Cert.Fox
-- ==== Proof.Fox.Spec.lean ====
module

public import proofs.«01_k».proof.Proof.Fox.OnlineSoftmax

/-!
# The forgetting attention, entry by entry

The scores, the values and the result of the attention as functions of the three argument arrays:
the projections `X0` (one row per token; queries, keys and values side by side, 16 heads of 128),
the running log decays by token `X1` and the same by head `X2`.
-/

@[expose] public section

noncomputable section

namespace Cert.Fox

open Idealize.ShloMosaic

/-- The row of token `s` of sequence `b`. -/
def row (b : Fin 4) (s : Fin 4096) : Fin 16384 := ⟨b.val * 4096 + s.val, by omega⟩

/-- Lane `x` of head `h` among the queries (`o = 0`), the keys (`1`) or the values (`2`). -/
def lane (o : Fin 3) (h : Fin 16) (x : Fin 128) : Fin 6144 :=
  ⟨o.val * 2048 + h.val * 128 + x.val, by omega⟩

/-- Lane `h` of the 128 lanes the log decays are stored in. -/
def head (h : Fin 16) : Fin 128 := ⟨h.val, by omega⟩

variable (X0 : (⟨2, ![16384, 6144]⟩ : Shape).Idx → EReal)
  (X1 : (⟨2, ![16384, 128]⟩ : Shape).Idx → EReal)
  (X2 : (⟨4, ![4, 16, 1, 4096]⟩ : Shape).Idx → EReal)

/-- The score of key `j` for the query of token `s`: `-∞` for a key later than the query. -/
def gScore (b : Fin 4) (h : Fin 16) (s : Fin 4096) (j : ℕ) : EReal :=
  if j ≤ s.val then
    (∑ x : Fin 128, X0 (ix2 (row b s) (lane 0 h x)) * X0 (ix2 (row b (Fin.ofNat 4096 j)) (lane 1 h x)))
        * Ideal.ofBits .f32 1035273459#32
      + (X1 (ix2 (row b s) (head h)) - X2 (ix4 b h 0 (Fin.ofNat 4096 j)))
  else ⊥

/-- Column `d` of the value of key `j`. -/
def gVal (b : Fin 4) (h : Fin 16) (d : Fin 128) (j : ℕ) : EReal :=
  X0 (ix2 (row b (Fin.ofNat 4096 j)) (lane 2 h d))

/-- The number of keys the blocks up to the query's own hold. -/
def seen (s : Fin 4096) : ℕ := 512 * (s.val / 512 + 1)

/-- An entry of the result: the weighted values over the sum of weights, over the keys seen. -/
def attn (b : Fin 4) (h : Fin 16) (s : Fin 4096) (d : Fin 128) : EReal :=
  let S := gScore X0 X1 X2 b h s
  Ideal.div (wsum S (gVal X0 b h d) (top S (seen s)) (seen s)) (mass S (top S (seen s)) (seen s))

/-- The result array: row `4096 b + s`, column `128 h + d`. -/
def attnArr (y : (⟨2, ![16384, 2048]⟩ : Shape).Idx) : EReal :=
  attn X0 X1 X2 (Fin.ofNat 4 ((y 0).val / 4096)) (Fin.ofNat 16 ((y 1).val / 128))
    (Fin.ofNat 4096 ((y 0).val % 4096)) (Fin.ofNat 128 ((y 1).val % 128))

end Cert.Fox
-- ==== Proof.Fox.Layer.lean ====
module

public import proofs.«01_k».proof.Proof.Fox.Spec
public import proofs.«01_k».proof.Proof.Ffn.Spec

/-!
# The forgetting-attention layer, as a formula in its arguments

The layer's result entry by entry: root-mean-square norm, projections, running sums of the log decays,
attention, output projection, residual.
-/

@[expose] public section

noncomputable section

namespace Cert.Fox

open Idealize.ShloMosaic
open Cert.Ffn (norm)

/-- The logarithm of the logistic function, by the formula that never overflows. -/
def logsig (z : EReal) : EReal := min z 0 - Ideal.log1p (Ideal.exp (0 - max z (-z)))

/-- The sequence of a row. -/
def seqOf (x : Fin 16384) : Fin 4 := ⟨x.val / 4096, by omega⟩

/-- The place of a row in its sequence. -/
def posOf (x : Fin 16384) : ℕ := x.val % 4096

theorem seqOf_row (b : Fin 4) (j : Fin 4096) : seqOf (row b j) = b :=
  Fin.ext (show (b.val * 4096 + j.val) / 4096 = b.val by omega)

theorem posOf_row (b : Fin 4) (j : Fin 4096) : posOf (row b j) = j.val :=
  show (b.val * 4096 + j.val) % 4096 = j.val by omega

variable (x : (⟨2, ![16384, 2048]⟩ : Shape).Idx → EReal) (g : (⟨1, ![2048]⟩ : Shape).Idx → EReal)
  (w : (⟨2, ![2048, 6160]⟩ : Shape).Idx → EReal) (f : (⟨1, ![16]⟩ : Shape).Idx → EReal)
  (wo : (⟨2, ![2048, 2048]⟩ : Shape).Idx → EReal)

/-- Lane `k` of the normalised row `a`. -/
def hid (a : Fin 16384) (k : Fin 2048) : EReal := norm (fun j => x (ix2 a j)) (g (ix1 k)) k

/-- Lane `n` of the input projection of row `a`. -/
def proj (a : Fin 16384) (n : Fin 6160) : EReal := ∑ k : Fin 2048, hid x g a k * w (ix2 k n)

/-- A lane of the queries, keys and values among the lanes of the projection. -/
def wide (n : Fin 6144) : Fin 6160 := ⟨n.val, by omega⟩

/-- The lane of head `h`'s forget gate. -/
def gateLane (h : Fin 16) : Fin 6160 := ⟨6144 + h.val, by omega⟩

/-- Queries, keys and values, as an array. -/
def qkvArr (i : (⟨2, ![16384, 6144]⟩ : Shape).Idx) : EReal := proj x g w (i 0) (wide (i 1))

/-- The sum of the log decays of the first `n` tokens of sequence `b`, for head `h`. -/
def decay (b : Fin 4) (n : ℕ) (h : Fin 16) : EReal :=
  ∑ j ∈ Finset.range n, logsig (proj x g w (row b (Fin.ofNat 4096 j)) (gateLane h) + f (ix1 h))

/-- The running log decays by token (the lane's head), as an array. -/
def decayRows (i : (⟨2, ![16384, 128]⟩ : Shape).Idx) : EReal :=
  decay x g w f (seqOf (i 0)) (posOf (i 0) + 1) (Fin.ofNat 16 (i 1).val)

/-- The running log decays by head, as an array. -/
def decayCols (i : (⟨4, ![4, 16, 1, 4096]⟩ : Shape).Idx) : EReal :=
  decay x g w f (i 0) ((i 3).val + 1) (i 1)

/-- The attention's result, as an array. -/
def headArr : (⟨2, ![16384, 2048]⟩ : Shape).Idx → EReal :=
  attnArr (qkvArr x g w) (decayRows x g w f) (decayCols x g w f)

/-- The layer's result, as an array. -/
def layerArr (i : (⟨2, ![16384, 2048]⟩ : Shape).Idx) : EReal :=
  x (ix2 (i 0) (i 1)) + ∑ k : Fin 2048, headArr x g w f (ix2 (i 0) k) * wo (ix2 k (i 1))

section
variable {X0 : (⟨2, ![16384, 6144]⟩ : Shape).Idx → EReal}
  {X1 X1' : (⟨2, ![16384, 128]⟩ : Shape).Idx → EReal}
  {X2 : (⟨4, ![4, 16, 1, 4096]⟩ : Shape).Idx → EReal}

/-- The attention reads only the first sixteen lanes of the log decays. -/
theorem attnArr_congr (h : ∀ a (k : Fin 16), X1 (ix2 a (head k)) = X1' (ix2 a (head k))) :
    attnArr X0 X1 X2 = attnArr X0 X1' X2 := by
  funext y
  have e : ∀ b k s, gScore X0 X1 X2 b k s = gScore X0 X1' X2 b k s := fun b k s => by
    funext j
    unfold gScore
    rw [h]
  unfold attnArr attn
  rw [e]

end

end Cert.Fox
-- ==== Proof.Fox.Prep.lean ====
module

public import proofs.«01_k».proof.Proof.Gen.FoxLayerIdeal.Frame
public import proofs.«01_k».proof.Proof.Fox.Layer
public import Idealize.ShloMosaic.Lib.Pipeline.ValueKit
public import Idealize.ShloMosaic.Lib.Pointwise

/-!
# The running log decays of one sequence

The body that sums the log decays goes over a sequence in sixteen blocks of 256 tokens: each block's
sums come from a product with a triangle of ones, plus the last row of the block before.  Each row is
the sum of all log decays up to it.
-/

@[expose] public section

set_option maxRecDepth 16384

noncomputable section

namespace Cert.Fox

open Cert.FoxLayerIdeal Cert.FoxLayerIdeal.Gen Idealize.ShloMosaic Idealize.ShloMosaic.TcCoe
open Idealize.SL.Sem

/-- The triangle of ones. -/
theorem tri_at (r k : Fin 256) :
    k3_pay2 (F := Ideal) (ix2 r k) = if k.val ≤ r.val then 1 else 0 := by
  pointwise [k3_pay2]
  have hr := r.isLt
  have hk := k.isLt
  have er : (BitVec.ofNat 32 r.val).toInt = r.val := by
    rw [BitVec.toInt_eq_toNat_of_lt] <;> simp <;> omega
  have ek : (BitVec.ofNat 32 k.val).toInt = k.val := by
    rw [BitVec.toInt_eq_toNat_of_lt] <;> simp <;> omega
  simp only [IntOp.cmpi, BitVec.sle, er, ek]
  have e1 : FloatOps.sitofp (F := Ideal) FTy.f32 1#32 = (((1#32 : BitVec 32).toInt : ℝ) : EReal) := rfl
  have e0 : FloatOps.sitofp (F := Ideal) FTy.f32 0#32 = (((0#32 : BitVec 32).toInt : ℝ) : EReal) := rfl
  by_cases h : k.val ≤ r.val <;> simp [h, e1, e0]

variable (x0 : Vec Ideal S4096x128 .f32) (x1 : Vec Ideal S1x128 .f32)

/-- The sum of the log decays of the first `n` tokens, in lane `d`. -/
def upTo (n : ℕ) (d : Fin 128) : EReal :=
  ∑ j ∈ Finset.range n, logsig (x0 (ix2 (Fin.ofNat 4096 j) d) + x1 (ix2 0 d))

/-- The product with the triangle sums the first rows of a block. -/
theorem tri_sum (f : Fin 256 → EReal) (g : ℕ → EReal) (h : ∀ k : Fin 256, f k = g k.val) (r : Fin 256) :
    ∑ k : Fin 256, (if k.val ≤ r.val then 1 else 0) * f k = ∑ j ∈ Finset.range (r.val + 1), g j := by
  have e : ∀ k : Fin 256, (if k.val ≤ r.val then (1 : EReal) else 0) * f k
      = (fun j : ℕ => if j ≤ r.val then g j else 0) k.val := fun k => by
    rw [h k]
    by_cases hk : k.val ≤ r.val <;> simp [hk]
  rw [Finset.sum_congr rfl fun k _ => e k,
    Fin.sum_univ_eq_sum_range (fun j : ℕ => if j ≤ r.val then g j else 0) 256, ← Finset.sum_filter]
  refine Finset.sum_congr (Finset.ext fun j => ?_) fun _ _ => rfl
  have := r.isLt
  simp only [Finset.mem_filter, Finset.mem_range]
  omega

/-- One block, from the last row of the block before. -/
def blockStep (carry : FVec Ideal S1x128 .f32) (X : Vec Ideal S256x128 .f32) (B : Vec Ideal S1x128 .f32) :
    FVec Ideal S256x128 .f32 := k3_pay14 (k3_pay2 (F := Ideal)) carry X B

/-- The last row of a block. -/
def lastRow (T : FVec Ideal S256x128 .f32) : FVec Ideal S1x128 .f32 :=
  extractStridedSlice S1x128 ![255, 0] T slices_S256x128_o255_0_S1x128

theorem lastRow_at (T : FVec Ideal S256x128 .f32) (d : Fin 128) :
    lastRow T (ix2 0 d) = T (ix2 255 d) := by
  unfold lastRow
  pointwise []

/-- A block that starts at token `o` continues the sums up to `o`. -/
theorem blockStep_at (o : ℕ) (carry : FVec Ideal S1x128 .f32) (X : Vec Ideal S256x128 .f32)
    (B : Vec Ideal S1x128 .f32)
    (hc : ∀ d, carry (ix2 0 d) = upTo x0 x1 o d)
    (hX : ∀ (k : Fin 256) d, X (ix2 k d) = x0 (ix2 (Fin.ofNat 4096 (o + k.val)) d))
    (hB : ∀ d, B (ix2 0 d) = x1 (ix2 0 d)) (r : Fin 256) (d : Fin 128) :
    blockStep carry X B (ix2 r d) = upTo x0 x1 (o + r.val + 1) d := by
  unfold blockStep
  pointwise [k3_pay14]
  simp only [tri_at]
  rw [hc]
  unfold upTo
  rw [add_assoc, Finset.sum_range_add, add_comm]
  refine congrArg _ ?_
  refine tri_sum _ (fun j => logsig (x0 (ix2 (Fin.ofNat 4096 (o + j)) d) + x1 (ix2 0 d))) (fun k => ?_) r
  rw [hX, hB]
  unfold logsig
  rfl

/-- The rows a block reads. -/
theorem rows_ld (o : ℕ) (ho : o + 256 ≤ 4096) (h) (k : Fin 256) (d : Fin 128) :
    View.ld x0 (Rect.unit (s := S4096x128) ![o, 0] S256x128.size h) (ix2 k d)
      = x0 (ix2 (Fin.ofNat 4096 (o + k.val)) d) := by
  pointwise []
  refine congrArg x0 (congrArg₂ ix2 (Fin.ext ?_) (Fin.ext ?_))
  · show o + k.val = (o + k.val) % 4096
    omega
  · show d.val = d.val
    rfl

/-- The bias a block reads. -/
theorem bias_ld (d : Fin 128) : View.ld x1 r3_1 (ix2 0 d) = x1 (ix2 0 d) := by
  pointwise [r3_1]

/-- The blocks, one after another. -/
def block0 : FVec Ideal S256x128 .f32 := k3_pay3 (View.ld x0 r3_0) (View.ld x1 r3_1)

def block1 : FVec Ideal S256x128 .f32 :=
  blockStep (lastRow (block0 x0 x1)) (View.ld x0 r3_3) (View.ld x1 r3_1)

def block2 : FVec Ideal S256x128 .f32 :=
  blockStep (lastRow (block1 x0 x1)) (View.ld x0 r3_5) (View.ld x1 r3_1)

def block3 : FVec Ideal S256x128 .f32 :=
  blockStep (lastRow (block2 x0 x1)) (View.ld x0 r3_7) (View.ld x1 r3_1)

def block4 : FVec Ideal S256x128 .f32 :=
  blockStep (lastRow (block3 x0 x1)) (View.ld x0 r3_9) (View.ld x1 r3_1)

def block5 : FVec Ideal S256x128 .f32 :=
  blockStep (lastRow (block4 x0 x1)) (View.ld x0 r3_11) (View.ld x1 r3_1)

def block6 : FVec Ideal S256x128 .f32 :=
  blockStep (lastRow (block5 x0 x1)) (View.ld x0 r3_13) (View.ld x1 r3_1)

def block7 : FVec Ideal S256x128 .f32 :=
  blockStep (lastRow (block6 x0 x1)) (View.ld x0 r3_15) (View.ld x1 r3_1)

def block8 : FVec Ideal S256x128 .f32 :=
  blockStep (lastRow (block7 x0 x1)) (View.ld x0 r3_17) (View.ld x1 r3_1)

def block9 : FVec Ideal S256x128 .f32 :=
  blockStep (lastRow (block8 x0 x1)) (View.ld x0 r3_19) (View.ld x1 r3_1)

def block10 : FVec Ideal S256x128 .f32 :=
  blockStep (lastRow (block9 x0 x1)) (View.ld x0 r3_21) (View.ld x1 r3_1)

def block11 : FVec Ideal S256x128 .f32 :=
  blockStep (lastRow (block10 x0 x1)) (View.ld x0 r3_23) (View.ld x1 r3_1)

def block12 : FVec Ideal S256x128 .f32 :=
  blockStep (lastRow (block11 x0 x1)) (View.ld x0 r3_25) (View.ld x1 r3_1)

def block13 : FVec Ideal S256x128 .f32 :=
  blockStep (lastRow (block12 x0 x1)) (View.ld x0 r3_27) (View.ld x1 r3_1)

def block14 : FVec Ideal S256x128 .f32 :=
  blockStep (lastRow (block13 x0 x1)) (View.ld x0 r3_29) (View.ld x1 r3_1)

def block15 : FVec Ideal S256x128 .f32 :=
  blockStep (lastRow (block14 x0 x1)) (View.ld x0 r3_31) (View.ld x1 r3_1)

theorem block0_at (r : Fin 256) (d : Fin 128) : block0 x0 x1 (ix2 r d) = upTo x0 x1 (0 + r.val + 1) d := by
  have e : block0 x0 x1 = blockStep (fun _ => Ideal.ofBits .f32 0x00000000#32) (View.ld x0 r3_0) (View.ld x1 r3_1) := by
    unfold block0 blockStep
    rfl
  rw [e]
  refine blockStep_at x0 x1 0 _ _ _ (fun d => ?_) (fun k d => rows_ld x0 0 (by omega) _ k d) (bias_ld x1) r d
  simp [upTo]

theorem block1_at (r : Fin 256) (d : Fin 128) : block1 x0 x1 (ix2 r d) = upTo x0 x1 (256 + r.val + 1) d :=
  blockStep_at x0 x1 256 _ _ _ (fun d => (lastRow_at _ d).trans (block0_at x0 x1 255 d))
    (fun k d => rows_ld x0 256 (by omega) _ k d) (bias_ld x1) r d

theorem block2_at (r : Fin 256) (d : Fin 128) : block2 x0 x1 (ix2 r d) = upTo x0 x1 (512 + r.val + 1) d :=
  blockStep_at x0 x1 512 _ _ _ (fun d => (lastRow_at _ d).trans (block1_at x0 x1 255 d))
    (fun k d => rows_ld x0 512 (by omega) _ k d) (bias_ld x1) r d

theorem block3_at (r : Fin 256) (d : Fin 128) : block3 x0 x1 (ix2 r d) = upTo x0 x1 (768 + r.val + 1) d :=
  blockStep_at x0 x1 768 _ _ _ (fun d => (lastRow_at _ d).trans (block2_at x0 x1 255 d))
    (fun k d => rows_ld x0 768 (by omega) _ k d) (bias_ld x1) r d

theorem block4_at (r : Fin 256) (d : Fin 128) : block4 x0 x1 (ix2 r d) = upTo x0 x1 (1024 + r.val + 1) d :=
  blockStep_at x0 x1 1024 _ _ _ (fun d => (lastRow_at _ d).trans (block3_at x0 x1 255 d))
    (fun k d => rows_ld x0 1024 (by omega) _ k d) (bias_ld x1) r d

theorem block5_at (r : Fin 256) (d : Fin 128) : block5 x0 x1 (ix2 r d) = upTo x0 x1 (1280 + r.val + 1) d :=
  blockStep_at x0 x1 1280 _ _ _ (fun d => (lastRow_at _ d).trans (block4_at x0 x1 255 d))
    (fun k d => rows_ld x0 1280 (by omega) _ k d) (bias_ld x1) r d

theorem block6_at (r : Fin 256) (d : Fin 128) : block6 x0 x1 (ix2 r d) = upTo x0 x1 (1536 + r.val + 1) d :=
  blockStep_at x0 x1 1536 _ _ _ (fun d => (lastRow_at _ d).trans (block5_at x0 x1 255 d))
    (fun k d => rows_ld x0 1536 (by omega) _ k d) (bias_ld x1) r d

theorem block7_at (r : Fin 256) (d : Fin 128) : block7 x0 x1 (ix2 r d) = upTo x0 x1 (1792 + r.val + 1) d :=
  blockStep_at x0 x1 1792 _ _ _ (fun d => (lastRow_at _ d).trans (block6_at x0 x1 255 d))
    (fun k d => rows_ld x0 1792 (by omega) _ k d) (bias_ld x1) r d

theorem block8_at (r : Fin 256) (d : Fin 128) : block8 x0 x1 (ix2 r d) = upTo x0 x1 (2048 + r.val + 1) d :=
  blockStep_at x0 x1 2048 _ _ _ (fun d => (lastRow_at _ d).trans (block7_at x0 x1 255 d))
    (fun k d => rows_ld x0 2048 (by omega) _ k d) (bias_ld x1) r d

theorem block9_at (r : Fin 256) (d : Fin 128) : block9 x0 x1 (ix2 r d) = upTo x0 x1 (2304 + r.val + 1) d :=
  blockStep_at x0 x1 2304 _ _ _ (fun d => (lastRow_at _ d).trans (block8_at x0 x1 255 d))
    (fun k d => rows_ld x0 2304 (by omega) _ k d) (bias_ld x1) r d

theorem block10_at (r : Fin 256) (d : Fin 128) : block10 x0 x1 (ix2 r d) = upTo x0 x1 (2560 + r.val + 1) d :=
  blockStep_at x0 x1 2560 _ _ _ (fun d => (lastRow_at _ d).trans (block9_at x0 x1 255 d))
    (fun k d => rows_ld x0 2560 (by omega) _ k d) (bias_ld x1) r d

theorem block11_at (r : Fin 256) (d : Fin 128) : block11 x0 x1 (ix2 r d) = upTo x0 x1 (2816 + r.val + 1) d :=
  blockStep_at x0 x1 2816 _ _ _ (fun d => (lastRow_at _ d).trans (block10_at x0 x1 255 d))
    (fun k d => rows_ld x0 2816 (by omega) _ k d) (bias_ld x1) r d

theorem block12_at (r : Fin 256) (d : Fin 128) : block12 x0 x1 (ix2 r d) = upTo x0 x1 (3072 + r.val + 1) d :=
  blockStep_at x0 x1 3072 _ _ _ (fun d => (lastRow_at _ d).trans (block11_at x0 x1 255 d))
    (fun k d => rows_ld x0 3072 (by omega) _ k d) (bias_ld x1) r d

theorem block13_at (r : Fin 256) (d : Fin 128) : block13 x0 x1 (ix2 r d) = upTo x0 x1 (3328 + r.val + 1) d :=
  blockStep_at x0 x1 3328 _ _ _ (fun d => (lastRow_at _ d).trans (block12_at x0 x1 255 d))
    (fun k d => rows_ld x0 3328 (by omega) _ k d) (bias_ld x1) r d

theorem block14_at (r : Fin 256) (d : Fin 128) : block14 x0 x1 (ix2 r d) = upTo x0 x1 (3584 + r.val + 1) d :=
  blockStep_at x0 x1 3584 _ _ _ (fun d => (lastRow_at _ d).trans (block13_at x0 x1 255 d))
    (fun k d => rows_ld x0 3584 (by omega) _ k d) (bias_ld x1) r d

theorem block15_at (r : Fin 256) (d : Fin 128) : block15 x0 x1 (ix2 r d) = upTo x0 x1 (3840 + r.val + 1) d :=
  blockStep_at x0 x1 3840 _ _ _ (fun d => (lastRow_at _ d).trans (block14_at x0 x1 255 d))
    (fun k d => rows_ld x0 3840 (by omega) _ k d) (bias_ld x1) r d

/-- A block of the first output, at the index the whole output is read at. -/
theorem block_rows (o : ℕ) (T : FVec Ideal S256x128 .f32)
    (hT : ∀ r d, T (ix2 r d) = upTo x0 x1 (o + r.val + 1) d) (n : Fin 4096) (d : Fin 128) :
    View.TileAt (Val := Elt Ideal) (e := .f32) (ix2 n d : S4096x128.Idx) ![o, 0] S256x128.size T (upTo x0 x1 (n.val + 1) d) := by
  intro x hx
  obtain ⟨r, d', rfl⟩ : ∃ (r : Fin 256) (d' : Fin 128), x = ix2 r d' := ⟨x 0, x 1, eq_ix2 x⟩
  have h0 : n.val = o + r.val := hx 0
  have h1 : d.val = 0 + d'.val := hx 1
  have e : d' = d := Fin.ext (by omega)
  rw [hT, h0, e]

/-- A block of the transposed output, at the index the whole output is read at. -/
theorem block_cols (o : ℕ) (T : FVec Ideal S256x128 .f32)
    (hT : ∀ r d, T (ix2 r d) = upTo x0 x1 (o + r.val + 1) d) (n : Fin 4096) (d : Fin 128) :
    View.TileAt (Val := Elt Ideal) (e := .f32) (ix3 0 d n : S1x128x4096.Idx) ![0, 0, o] S1x128x256.size (k3_pay1 T)
      (upTo x0 x1 (n.val + 1) d) := by
  intro x hx
  obtain ⟨z, d', r, rfl⟩ : ∃ (z : Fin 1) (d' : Fin 128) (r : Fin 256), x = ix3 z d' r :=
    ⟨x 0, x 1, x 2, eq_ix3 x⟩
  have h0 : n.val = o + r.val := hx 2
  have h1 : d.val = 0 + d'.val := hx 1
  have e : d' = d := Fin.ext (by omega)
  have ez : z = 0 := Subsingleton.elim _ _
  subst ez
  pointwise [k3_pay1]
  rw [hT, h0, e]

/-- The first output of the body: the running sums by token. -/
theorem out3_rows (n : Fin 4096) (d : Fin 128) :
    out3_2 x0 x1 (ix2 n d) = upTo x0 x1 (n.val + 1) d := by
  unfold out3_2
  refine View.canon_eq_of_allAt _ _ _ (cover3_2 _ _ _ _ _ _ _ _ _ _ _ _ _ _ _ _ _) ?_
  refine View.allAt_cons_unit _ _ _ _ _ (block_rows x0 x1 3840 (block15 x0 x1) (block15_at x0 x1) n d) ?_
  refine View.allAt_cons_unit _ _ _ _ _ (block_rows x0 x1 3584 (block14 x0 x1) (block14_at x0 x1) n d) ?_
  refine View.allAt_cons_unit _ _ _ _ _ (block_rows x0 x1 3328 (block13 x0 x1) (block13_at x0 x1) n d) ?_
  refine View.allAt_cons_unit _ _ _ _ _ (block_rows x0 x1 3072 (block12 x0 x1) (block12_at x0 x1) n d) ?_
  refine View.allAt_cons_unit _ _ _ _ _ (block_rows x0 x1 2816 (block11 x0 x1) (block11_at x0 x1) n d) ?_
  refine View.allAt_cons_unit _ _ _ _ _ (block_rows x0 x1 2560 (block10 x0 x1) (block10_at x0 x1) n d) ?_
  refine View.allAt_cons_unit _ _ _ _ _ (block_rows x0 x1 2304 (block9 x0 x1) (block9_at x0 x1) n d) ?_
  refine View.allAt_cons_unit _ _ _ _ _ (block_rows x0 x1 2048 (block8 x0 x1) (block8_at x0 x1) n d) ?_
  refine View.allAt_cons_unit _ _ _ _ _ (block_rows x0 x1 1792 (block7 x0 x1) (block7_at x0 x1) n d) ?_
  refine View.allAt_cons_unit _ _ _ _ _ (block_rows x0 x1 1536 (block6 x0 x1) (block6_at x0 x1) n d) ?_
  refine View.allAt_cons_unit _ _ _ _ _ (block_rows x0 x1 1280 (block5 x0 x1) (block5_at x0 x1) n d) ?_
  refine View.allAt_cons_unit _ _ _ _ _ (block_rows x0 x1 1024 (block4 x0 x1) (block4_at x0 x1) n d) ?_
  refine View.allAt_cons_unit _ _ _ _ _ (block_rows x0 x1 768 (block3 x0 x1) (block3_at x0 x1) n d) ?_
  refine View.allAt_cons_unit _ _ _ _ _ (block_rows x0 x1 512 (block2 x0 x1) (block2_at x0 x1) n d) ?_
  refine View.allAt_cons_unit _ _ _ _ _ (block_rows x0 x1 256 (block1 x0 x1) (block1_at x0 x1) n d) ?_
  refine View.allAt_cons_unit _ _ _ _ _ (block_rows x0 x1 0 (block0 x0 x1) (block0_at x0 x1) n d) ?_
  exact View.allAt_nil _ _

/-- The second output of the body: the running sums by lane. -/
theorem out3_cols (n : Fin 4096) (d : Fin 128) :
    out3_3 x0 x1 (ix3 0 d n) = upTo x0 x1 (n.val + 1) d := by
  unfold out3_3
  refine View.canon_eq_of_allAt _ _ _ (cover3_3 _ _ _ _ _ _ _ _ _ _ _ _ _ _ _ _ _) ?_
  refine View.allAt_cons_unit _ _ _ _ _ (block_cols x0 x1 3840 (block15 x0 x1) (block15_at x0 x1) n d) ?_
  refine View.allAt_cons_unit _ _ _ _ _ (block_cols x0 x1 3584 (block14 x0 x1) (block14_at x0 x1) n d) ?_
  refine View.allAt_cons_unit _ _ _ _ _ (block_cols x0 x1 3328 (block13 x0 x1) (block13_at x0 x1) n d) ?_
  refine View.allAt_cons_unit _ _ _ _ _ (block_cols x0 x1 3072 (block12 x0 x1) (block12_at x0 x1) n d) ?_
  refine View.allAt_cons_unit _ _ _ _ _ (block_cols x0 x1 2816 (block11 x0 x1) (block11_at x0 x1) n d) ?_
  refine View.allAt_cons_unit _ _ _ _ _ (block_cols x0 x1 2560 (block10 x0 x1) (block10_at x0 x1) n d) ?_
  refine View.allAt_cons_unit _ _ _ _ _ (block_cols x0 x1 2304 (block9 x0 x1) (block9_at x0 x1) n d) ?_
  refine View.allAt_cons_unit _ _ _ _ _ (block_cols x0 x1 2048 (block8 x0 x1) (block8_at x0 x1) n d) ?_
  refine View.allAt_cons_unit _ _ _ _ _ (block_cols x0 x1 1792 (block7 x0 x1) (block7_at x0 x1) n d) ?_
  refine View.allAt_cons_unit _ _ _ _ _ (block_cols x0 x1 1536 (block6 x0 x1) (block6_at x0 x1) n d) ?_
  refine View.allAt_cons_unit _ _ _ _ _ (block_cols x0 x1 1280 (block5 x0 x1) (block5_at x0 x1) n d) ?_
  refine View.allAt_cons_unit _ _ _ _ _ (block_cols x0 x1 1024 (block4 x0 x1) (block4_at x0 x1) n d) ?_
  refine View.allAt_cons_unit _ _ _ _ _ (block_cols x0 x1 768 (block3 x0 x1) (block3_at x0 x1) n d) ?_
  refine View.allAt_cons_unit _ _ _ _ _ (block_cols x0 x1 512 (block2 x0 x1) (block2_at x0 x1) n d) ?_
  refine View.allAt_cons_unit _ _ _ _ _ (block_cols x0 x1 256 (block1 x0 x1) (block1_at x0 x1) n d) ?_
  refine View.allAt_cons_unit _ _ _ _ _ (block_cols x0 x1 0 (block0 x0 x1) (block0_at x0 x1) n d) ?_
  exact View.allAt_nil _ _

end Cert.Fox
-- ==== Proof.Fox.Region3.lean ====
module

public import proofs.«01_k».proof.Proof.Fox.Prep
public import Idealize.ShloMosaic.Lib.Pipeline.Covers

/-!
# The running log decays, as arrays

What the third launch leaves: for every token of every sequence, and lane, the sum of the log decays of
the sequence up to the token; the second array holds the same transposed.
-/

@[expose] public section

set_option maxRecDepth 16384

noncomputable section

namespace Cert.Fox

open Cert.FoxLayerIdeal Cert.FoxLayerIdeal.Gen Idealize.ShloMosaic Idealize.ShloMosaic.TcCoe
open Idealize.SL.Sem

variable (V : (c : Dev nD) → (b : Ref sig .tc) → Buf (Elt Ideal) ((c : Thread nD τ).loc b))

theorem index3_0 : ∀ t : Fin cfg3.N, win3_0.index t = ![(grid3.coords t 0).val, 0] := by
  decide +kernel

theorem index3_1 : ∀ t : Fin cfg3.N, win3_1.index t = ![0, 0] := by decide +kernel

theorem index3_2 : ∀ t : Fin cfg3.N, win3_2.index t = ![(grid3.coords t 0).val, 0] := by
  decide +kernel

theorem index3_3 : ∀ t : Fin cfg3.N, win3_3.index t = ![(grid3.coords t 0).val, 0, 0] := by
  decide +kernel

theorem coord3 (t : Fin cfg3.N) : (grid3.coords t 0).val < 4 := (grid3.coords t 0).isLt

/-- The sequence of a grid point. -/
def seq (t : Fin cfg3.N) : Fin 4 := ⟨(grid3.coords t 0).val, coord3 t⟩

/-- The rows a grid point is given. -/
theorem rows3 (c : Dev nD) (t : Fin cfg3.N) (r : Fin 4096) (d : Fin 128) :
    iblk3 V c 0 t (ix2 r d) = V c main_v8 (ix2 (row (seq t) r) d) := by
  unfold row seq
  blk_ext! [iblk3, index3_0 t]

/-- The bias a grid point is given. -/
theorem bias3 (c : Dev nD) (t : Fin cfg3.N) (d : Fin 128) :
    iblk3 V c 1 t (ix2 0 d) = V c main_v10 (ix2 0 d) := by
  blk_ext! [iblk3, index3_1 t]

/-- The sum of the log decays of the first `n` tokens of a sequence. -/
def decaySum (f : S16384x128.Idx → EReal) (g : S1x128.Idx → EReal) (b : Fin 4) (n : ℕ) (d : Fin 128) :
    EReal := ∑ j ∈ Finset.range n, logsig (f (ix2 (row b (Fin.ofNat 4096 j)) d) + g (ix2 0 d))

theorem upTo_blocks (c : Dev nD) (t : Fin cfg3.N) (n : ℕ) (d : Fin 128) :
    upTo (iblk3 V c 0 t) (iblk3 V c 1 t) n d = decaySum (V c main_v8) (V c main_v10) (seq t) n d := by
  unfold upTo decaySum
  exact Finset.sum_congr rfl fun j _ => by rw [rows3, bias3]

/-- The grid point that writes a block of a result. -/
def place3 (x : Fin 4) : grid3.Coords := Fin.cons x fun a => a.elim0

theorem place3_2 : ∀ (x : Fin 4) (y : Fin 1) (a : Fin 2),
    cc3_transform_2 (place3 x) a = (![x.val, y.val] : Fin 2 → ℕ) a := by
  decide +kernel

theorem place3_3 : ∀ (x : Fin 4) (y z : Fin 1) (a : Fin 3),
    cc3_transform_3 (place3 x) a = (![x.val, y.val, z.val] : Fin 3 → ℕ) a := by
  decide +kernel

/-- The running log decays by token, as an array. -/
def decayArr (f : S16384x128.Idx → EReal) (g : S1x128.Idx → EReal) : S16384x128.Idx → EReal :=
  fun i => decaySum f g (seqOf (i 0)) (posOf (i 0) + 1) (i 1)

/-- The running log decays by lane, as an array. -/
def decayArrT (f : S16384x128.Idx → EReal) (g : S1x128.Idx → EReal) : S4x128x4096.Idx → EReal :=
  fun i => decaySum f g (i 0) ((i 2).val + 1) (i 1)

/-- The first array the launch leaves. -/
theorem arr3 (c : Dev nD) :
    (dat3 V c).arrAt 2 cfg3.N = decayArr (V c main_v8) (V c main_v10) := by
  refine (dat3 V c).arrAt_eq_of_covers 2 _ ?_ fun t hf y => ?_
  · exact (cfg3.win 2).covers_of_indexMap_surj rfl (by decide) fun β =>
      ⟨place3 (β 0), fun a => (place3_2 (β 0) (β 1) a).trans
        (match a with | ⟨0, _⟩ => rfl | ⟨1, _⟩ => rfl)⟩
  · blk_simp
    rw [after3_2]
    obtain ⟨r, d, rfl⟩ : ∃ (r : Fin 4096) (d : Fin 128), y = ix2 r d := ⟨y 0, y 1, eq_ix2 y⟩
    rw [out3_rows, upTo_blocks]
    have e : (win3_2.blk t).view.emb (ix2 r d : S4096x128.Idx)
        = (ix2 (row (seq t) r) d : S16384x128.Idx) := by
      unfold row seq
      blk_ext [index3_2 t]
    rw [e]
    show _ = decaySum _ _ (seqOf (row (seq t) r)) (posOf (row (seq t) r) + 1) d
    rw [seqOf_row, posOf_row]

/-- The second array the launch leaves. -/
theorem arr3T (c : Dev nD) :
    (dat3 V c).arrAt 3 cfg3.N = decayArrT (V c main_v8) (V c main_v10) := by
  refine (dat3 V c).arrAt_eq_of_covers 3 _ ?_ fun t hf y => ?_
  · exact (cfg3.win 3).covers_of_indexMap_surj rfl (by decide) fun β =>
      ⟨place3 (β 0), fun a => (place3_3 (β 0) (β 1) (β 2) a).trans
        (match a with | ⟨0, _⟩ => rfl | ⟨1, _⟩ => rfl | ⟨2, _⟩ => rfl)⟩
  · blk_simp
    rw [after3_3]
    obtain ⟨z, d, r, rfl⟩ : ∃ (z : Fin 1) (d : Fin 128) (r : Fin 4096), y = ix3 z d r :=
      ⟨y 0, y 1, y 2, eq_ix3 y⟩
    have ez : z = 0 := Subsingleton.elim _ _
    subst ez
    rw [out3_cols, upTo_blocks]
    have e : (win3_3.blk t).view.emb (ix3 0 d r : S1x128x4096.Idx)
        = (ix3 (seq t) d r : S4x128x4096.Idx) := by
      unfold seq
      blk_ext [index3_3 t]
    rw [e]
    rfl

end Cert.Fox
-- ==== Proof.Fox.Trip.lean ====
module

public import proofs.«01_k».proof.Proof.Gen.FoxLayerIdeal.Frame
public import proofs.«01_k».proof.Proof.Fox.OnlineSoftmax
public import Idealize.ShloMosaic.Lib.Pipeline.ValueKit
public import Idealize.ShloMosaic.Lib.Pointwise
public import Idealize.ShloMosaic.Lib.LoopRemainder

/-!
# One grid point of the forgetting attention

What one trip of the loop over key blocks carries on, and what the loop has carried when it ends:
for each query row the largest score so far, the sum of exponentials and the weighted sum of values.
-/

@[expose] public section

set_option maxRecDepth 16384

noncomputable section

namespace Cert.Fox

open Cert.FoxLayerIdeal Cert.FoxLayerIdeal.Gen Idealize.ShloMosaic Idealize.ShloMosaic.TcCoe Idealize.SL.Sem

/-- The loop over key blocks of the `q`-th query block takes `q + 1` trips. -/
theorem trips_t1 (i : grid4.Coords) : (k4_t1_loop i).trips = (i 2).val + 1 := by
  unfold k4_t1_loop
  generalize i 2 = q
  revert q
  decide +kernel

/-- The remainder loop takes no trip. -/
theorem trips_t2 (i : grid4.Coords) : (k4_t2_loop i).trips = 0 :=
  Nat.le_zero.1 (k4_t2_abs i).2.1

/-- The score of key `j` for row `r` of a query block: the scaled product of query and key plus the
difference of the two running log decays; `-∞` for a key later than the query. -/
def score (i : grid4.Coords) (q : S512x128.Idx → EReal) (cq : Fin 512 → EReal)
    (kk : S4096x128.Idx → EReal) (ck : S1x1x1x4096.Idx → EReal) (r : Fin 512) (j : ℕ) : EReal :=
  if j ≤ 512 * (i 2).val + r.val then
    (∑ x : Fin 128, q (ix2 r x) * kk (ix2 (Fin.ofNat 4096 j) x)) * Ideal.ofBits .f32 1035273459#32
      + (cq r - ck (ix4 0 0 0 (Fin.ofNat 4096 j)))
  else ⊥

/-- Column `d` of the value of key `j`. -/
def val (v : S4096x128.Idx → EReal) (d : Fin 128) (j : ℕ) : EReal := v (ix2 (Fin.ofNat 4096 j) d)

variable (i : grid4.Coords) (q : Vec Ideal S512x128 .bf16) (v8 : FVec Ideal S512x1 .f32)
  (x1 x2 : Vec Ideal S4096x128 .bf16) (x4 : Vec Ideal S1x1x1x4096 .f32)
  (k : Fin (k4_t1_loop i).trips) (a10 a11 : FVec Ideal S512x1 .f32) (a12 : FVec Ideal S512x128 .f32)

/-- The row numbers of a score block, the column numbers. -/
abbrev cols : IVec S512x512 32 := iota Kind.tc S512x512 32 [1] iota_S512x512_d1_w32

theorem key_lt (s : Fin 512) : 512 * k.val + s.val < 4096 := by
  have h1 := lt_of_lt_of_eq k.isLt (trips_t1 i)
  have h2 : (i 2).val < 8 := (i 2).isLt
  have h3 := s.isLt
  omega

/-- Row `s` of the block of keys (or values) trip `k` loads. -/
theorem ld_rows (h) (s : Fin 512) (x : Fin 128) :
    View.ld x1 (Rect.unit (k4_off1 i k) ![512, 128] h) (ix2 s x)
      = x1 (ix2 (Fin.ofNat 4096 (512 * k.val + s.val)) x) := by
  have hk := key_lt i k s
  pointwise []
  refine congrArg x1 (congrArg₂ ix2 (Fin.ext ?_) (Fin.ext ?_))
  · show k4_off1 i k 0 + s.val = (512 * k.val + s.val) % 4096
    rw [k4_off1_eq, Nat.mod_eq_of_lt hk]
    simp
  · show k4_off1 i k 1 + x.val = x.val
    rw [k4_off1_eq]
    simp

/-- Entry `s` of the block of key decays trip `k` loads. -/
theorem ld_decay (h) (s : Fin 512) :
    View.ld x4 (Rect.unit (k4_off2 i k) ![1, 1, 1, 512] h) (ix4 0 0 0 s)
      = x4 (ix4 0 0 0 (Fin.ofNat 4096 (512 * k.val + s.val))) := by
  have hk := key_lt i k s
  pointwise []
  refine congrArg x4 (congrArg (ix4 0 0 0) (Fin.ext ?_))
  · show k4_off2 i k 3 + s.val = (512 * k.val + s.val) % 4096
    rw [k4_off2_eq, Nat.mod_eq_of_lt hk]
    simp

/-- The causal comparison of the kernel, as numbers. -/
theorem causal_bit (r s : Fin 512) :
    IntOp.cmpi CmpIPredicate.sle
        (IntOp.addi (Scalar.muli (Scf.iv 0#32 1#32 k.val) 512#32) (BitVec.ofNat 32 s.val))
        (IntOp.addi (Scalar.muli (BitVec.ofNat 32 (i 2).val) 512#32) (BitVec.ofNat 32 r.val))
      = if 512 * k.val + s.val ≤ 512 * (i 2).val + r.val then 1#1 else 0#1 := by
  have h1 := key_lt i k s
  have h2 : (i 2).val < 8 := (i 2).isLt
  have h3 := r.isLt
  have e1 : IntOp.addi (Scalar.muli (Scf.iv 0#32 1#32 k.val) 512#32) (BitVec.ofNat 32 s.val)
      = BitVec.ofNat 32 (512 * k.val + s.val) := by
    apply BitVec.eq_of_toNat_eq
    simp [IntOp.addi, Scalar.muli, IntOp.muli, Scf.iv]
    omega
  have e2 : IntOp.addi (Scalar.muli (BitVec.ofNat 32 (i 2).val) 512#32) (BitVec.ofNat 32 r.val)
      = BitVec.ofNat 32 (512 * (i 2).val + r.val) := by
    apply BitVec.eq_of_toNat_eq
    simp [IntOp.addi, Scalar.muli, IntOp.muli]
    omega
  rw [e1, e2]
  generalize 512 * k.val + s.val = a at *
  have hb : 512 * (i 2).val + r.val < 4096 := by omega
  generalize 512 * (i 2).val + r.val = b at *
  have ha' : (BitVec.ofNat 32 a).toInt = a := by
    rw [BitVec.toInt_eq_toNat_of_lt] <;> simp <;> omega
  have hb' : (BitVec.ofNat 32 b).toInt = b := by
    rw [BitVec.toInt_eq_toNat_of_lt] <;> simp <;> omega
  simp only [IntOp.cmpi, BitVec.sle, ha', hb']
  by_cases h : a ≤ b <;> simp [h]

/-- The masked scores trip `k` computes are the scores of keys `512 k + s`. -/
theorem pay3_eq (h1 h4) (r s : Fin 512) :
    k4_pay3 i q v8 (k4_pay18 i) cols k (View.ld x1 (Rect.unit (k4_off1 i k) ![512, 128] h1))
        (View.ld x4 (Rect.unit (k4_off2 i k) ![1, 1, 1, 512] h4)) (ix2 r s)
      = score i q (fun r => v8 (ix2 r 0)) x1 x4 r (512 * k.val + s.val) := by
  have hn : Named.named (F := Ideal) (φ := .f32) κ "mask" 4048155338#32 = (⊥ : EReal) :=
    IdealRules.named_const.ideal_named_scalar _ _ _ _ rfl
  generalize hX1 : View.ld x1 (Rect.unit (k4_off1 i k) ![512, 128] h1) = X1
  generalize hX4 : View.ld x4 (Rect.unit (k4_off2 i k) ![1, 1, 1, 512] h4) = X4
  pointwise [k4_pay3, k4_pay18]
  subst hX1 hX4
  rw [causal_bit, hn, ld_decay]
  unfold score Scalar.select
  by_cases h : 512 * k.val + s.val ≤ 512 * (i 2).val + r.val
  · rw [if_pos h, if_pos h, if_pos (by decide)]
    refine congrArg (fun z => z * _ + _) (Finset.sum_congr rfl fun x _ => ?_)
    exact congrArg _ (ld_rows i x1 k h1 s x)
  · rw [if_neg h, if_neg h, if_neg (by decide)]

/-- What the loop carries after `n` blocks, for scores `S` and values `V` of each row. -/
def Carried (S : Fin 512 → ℕ → EReal) (V : Fin 128 → ℕ → EReal) (n : ℕ)
    (acc : FVec Ideal S512x1 .f32 × FVec Ideal S512x1 .f32 × FVec Ideal S512x128 .f32) : Prop :=
  ∀ r : Fin 512, acc.1 (ix2 r 0) = top (S r) (512 * n)
    ∧ acc.2.1 (ix2 r 0) = mass (S r) (top (S r) (512 * n)) (512 * n)
    ∧ ∀ d : Fin 128, acc.2.2 (ix2 r d) = wsum (S r) (V d) (top (S r) (512 * n)) (512 * n)

/-- A trip takes the carried triple of `k` blocks to that of `k + 1`. -/
theorem trip_carries (𝒱) (c : Dev nD) (bd)
    (arg3 : Memref sig .tc .vmem S512x128 .bf16) (harg3 : arg3.IsWhole)
    (arg4 : Memref sig .tc .vmem S4096x128 .bf16) (harg4 : arg4.IsWhole)
    (arg5 : Memref sig .tc .vmem S4096x128 .bf16) (harg5 : arg5.IsWhole)
    (arg6 : Memref sig .tc .vmem S512x128 .f32) (harg6 : arg6.IsWhole)
    (arg7 : Memref sig .tc .vmem S1x1x1x4096 .f32) (harg7 : arg7.IsWhole)
    (arg8 : Memref sig .tc .vmem S512x128 .bf16) (harg8 : arg8.IsWhole) (acc)
    (h : Carried (score i q (fun r => v8 (ix2 r 0)) x1 x4) (val x2) k.val acc) :
    Carried (score i q (fun r => v8 (ix2 r 0)) x1 x4) (val x2) (k.val + 1)
      (tripR_k4_t1 (F := Ideal) 𝒱 c bd i arg3 harg3 arg4 harg4 arg5 harg5 arg6 harg6 arg7 harg7
        arg8 harg8 q v8 (k4_pay18 i) cols (harg4.unread x1) (harg5.unread x2) (harg7.unread x4)
        k acc) := by
  unfold tripR_k4_t1 trip_k4_t1
  frame_out
  obtain ⟨a10, a11, a12⟩ := acc
  intro r
  obtain ⟨hm, hl, ha⟩ := h r
  have hb : Ideal.ofBits FTy.f32 4286578688#32 = ⊥ := by
    simp [Ideal.ofBits, Ideal.ieee]
  have e512 : 512 * (k.val + 1) = 512 * k.val + 512 := by omega
  have hM : ∀ h1 h4, k4_pay4 i q v8 (k4_pay18 i) cols k a10
      (View.ld x1 (Rect.unit (k4_off1 i k) ![512, 128] h1))
      (View.ld x4 (Rect.unit (k4_off2 i k) ![1, 1, 1, 512] h4)) (ix2 r 0)
      = top (score i q (fun r => v8 (ix2 r 0)) x1 x4 r) (512 * (k.val + 1)) := by
    intro h1 h4
    pointwise [k4_pay4]
    simp only [pay3_eq]
    rw [hb, e512, top_block, ← hm]
  have hle := top_mono (score i q (fun r => v8 (ix2 r 0)) x1 x4 r)
    (show 512 * k.val ≤ 512 * (k.val + 1) by omega)
  refine ⟨hM _ _, ?_, fun d => ?_⟩
  · pointwise [k4_pay7, k4_pay5, k4_pay6]
    simp only [pay3_eq, hM]
    dsimp only at hm hl
    rw [hm, hl, mass_rescale _ _ hle, e512, mass_block]
  · generalize hX2 : View.ld x2 (Rect.unit (k4_off1 i k) ![512, 128] _) = X2
    pointwise [k4_pay8, k4_pay5, k4_pay6]
    subst hX2
    simp only [pay3_eq, hM, ld_rows]
    dsimp only at hm ha
    rw [hm, ha, wsum_rescale _ _ _ hle, e512, wsum_block]
    exact congrArg _ (Finset.sum_congr rfl fun x _ => congrArg _ (ld_rows i x2 k _ x d))

/-- Before the first block: no maximum, no sum. -/
theorem start_carries (S : Fin 512 → ℕ → EReal) (V : Fin 128 → ℕ → EReal) :
    Carried S V 0 (k4_pay19 (F := Ideal), k4_pay1 (F := Ideal), k4_pay2 (F := Ideal)) := by
  have hn : Named.named (F := Ideal) (φ := .f32) κ "mask" 4048155338#32 = (⊥ : EReal) :=
    IdealRules.named_const.ideal_named_scalar _ _ _ _ rfl
  intro r
  refine ⟨?_, ?_, fun d => ?_⟩
  · pointwise [k4_pay19]
    rw [hn]; simp [top]
  · pointwise [k4_pay1]
    simp [mass]
  · pointwise [k4_pay2]
    simp [wsum]

end Cert.Fox
-- ==== Proof.Fox.Point.lean ====
module

public import proofs.«01_k».proof.Proof.Fox.Trip
public import proofs.«01_k».proof.Proof.Fox.Spec
public import Idealize.ShloMosaic.Lib.Pipeline.Covers

/-!
# The attention kernel's result array

What each grid point stores, read at an entry, in terms of the buffers the launch finds; and the array it
leaves.
-/

@[expose] public section

set_option maxRecDepth 16384

noncomputable section

namespace Cert.Fox

open Cert.FoxLayerIdeal Cert.FoxLayerIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The grid point of a step: sequence, head, query block. -/
def pb (t : Fin cfg4.N) : Fin 4 := grid4.coords t 0
def ph (t : Fin cfg4.N) : Fin 16 := grid4.coords t 1
def pq (t : Fin cfg4.N) : Fin 8 := grid4.coords t 2

theorem idx0 : ∀ t : Fin cfg4.N, win4_0.index t
    = ![(grid4.coords t 0).val * 8 + (grid4.coords t 2).val, (grid4.coords t 1).val] := by
  decide +kernel
theorem idx1 : ∀ t : Fin cfg4.N, win4_1.index t
    = ![(grid4.coords t 0).val, (grid4.coords t 1).val + 16] := by
  decide +kernel
theorem idx2 : ∀ t : Fin cfg4.N, win4_2.index t
    = ![(grid4.coords t 0).val, (grid4.coords t 1).val + 32] := by
  decide +kernel
theorem idx3 : ∀ t : Fin cfg4.N, win4_3.index t
    = ![(grid4.coords t 0).val * 8 + (grid4.coords t 2).val, 0] := by
  decide +kernel
theorem idx4 : ∀ t : Fin cfg4.N, win4_4.index t
    = ![(grid4.coords t 0).val, (grid4.coords t 1).val, 0, 0] := by
  decide +kernel
theorem idx5 : ∀ t : Fin cfg4.N, win4_5.index t
    = ![(grid4.coords t 0).val * 8 + (grid4.coords t 2).val, (grid4.coords t 1).val] := by
  decide +kernel

/-- The query decays of a block: the column of the head, taken out by a masked sum over lanes. -/
theorem pay15_eq (i : grid4.Coords) (a12 : FVec Ideal S512x128 .f32) (r : Fin 512) (hh : Fin 128)
    (e : hh.val = (i 1).val) : k4_pay17 (F := Ideal) i a12 (ix2 r 0) = a12 (ix2 r hh) := by
  pointwise [k4_pay17]
  have h1 : (i 1).val < 16 := (i 1).isLt
  rw [Finset.sum_eq_single hh]
  · rw [e]; simp [Scalar.select, IntOp.cmpi]
  · intro x _ hx
    have hne : x.val ≠ hh.val := fun e => hx (Fin.ext e)
    have : (BitVec.ofNat 32 x.val == BitVec.ofNat 32 (i 1).val) = false := by
      rw [beq_eq_false_iff_ne]
      intro h
      have h := congrArg BitVec.toNat h
      have := x.isLt
      rw [BitVec.toNat_ofNat, BitVec.toNat_ofNat, Nat.mod_eq_of_lt (by omega),
        Nat.mod_eq_of_lt (by omega)] at h
      omega
    simp [Scalar.select, IntOp.cmpi, this]
  · simp

/-- The token of row `r` of the query block of a step. -/
def tok (t : Fin cfg4.N) (r : Fin 512) : Fin 4096 := ⟨(pq t).val * 512 + r.val, by omega⟩

theorem blk0 (c : Dev nD) (t : Fin cfg4.N) (r : Fin 512) (d : Fin 128) :
    iblk4 V c 0 t (ix2 r d)
      = V c main_v4 (ix2 (row (pb t) (tok t r)) (lane 0 (ph t) d)) := by
  have e : (ix2 (row (pb t) (tok t r)) (lane 0 (ph t) d) : S16384x6144.Idx)
      = ix2 ⟨(pb t).val * 4096 + ((pq t).val * 512 + r.val), by omega⟩
        ⟨0 * 2048 + (ph t).val * 128 + d.val, by omega⟩ := rfl
  rw [e]
  simp only [pb, pq, ph]
  blk_ext! [iblk4, idx0 t]

theorem blk1 (c : Dev nD) (t : Fin cfg4.N) (r : Fin 4096) (d : Fin 128) :
    iblk4 V c 1 t (ix2 r d)
      = V c main_v4 (ix2 (row (pb t) r) (lane 1 (ph t) d)) := by
  have e : (ix2 (row (pb t) r) (lane 1 (ph t) d) : S16384x6144.Idx)
      = ix2 ⟨(pb t).val * 4096 + r.val, by omega⟩
        ⟨1 * 2048 + (ph t).val * 128 + d.val, by omega⟩ := rfl
  rw [e]
  simp only [pb, pq, ph]
  blk_ext! [iblk4, idx1 t]

theorem blk2 (c : Dev nD) (t : Fin cfg4.N) (r : Fin 4096) (d : Fin 128) :
    iblk4 V c 2 t (ix2 r d)
      = V c main_v4 (ix2 (row (pb t) r) (lane 2 (ph t) d)) := by
  have e : (ix2 (row (pb t) r) (lane 2 (ph t) d) : S16384x6144.Idx)
      = ix2 ⟨(pb t).val * 4096 + r.val, by omega⟩
        ⟨2 * 2048 + (ph t).val * 128 + d.val, by omega⟩ := rfl
  rw [e]
  simp only [pb, pq, ph]
  blk_ext! [iblk4, idx2 t]

theorem blk3 (c : Dev nD) (t : Fin cfg4.N) (r : Fin 512) (d : Fin 128) :
    iblk4 V c 3 t (ix2 r d)
      = V c main_v11_0 (ix2 (row (pb t) (tok t r)) d) := by
  have e : (ix2 (row (pb t) (tok t r)) d : S16384x128.Idx)
      = ix2 ⟨(pb t).val * 4096 + ((pq t).val * 512 + r.val), by omega⟩ d := rfl
  rw [e]
  simp only [pb, pq, ph]
  blk_ext! [iblk4, idx3 t]

theorem blk4 (c : Dev nD) (t : Fin cfg4.N) (j : Fin 4096) :
    iblk4 V c 4 t (ix4 0 0 0 j)
      = V c main_v13 (ix4 (pb t) (ph t) 0 j) := by
  simp only [pb, pq, ph]
  blk_ext! [iblk4, idx4 t]

/-- The scores of a step's blocks are the scores of the arrays. -/
theorem score_eq (c : Dev nD) (t : Fin cfg4.N) (r : Fin 512) :
    score (grid4.coords t) (iblk4 V c 0 t)
        (fun r => k4_pay17 (F := Ideal) (grid4.coords t) (iblk4 V c 3 t) (ix2 r 0))
        (iblk4 V c 1 t) (iblk4 V c 4 t) r
      = gScore (V c main_v4) (V c main_v11_0) (V c main_v13)
          (pb t) (ph t) (tok t r) := by
  funext j
  have e : (tok t r).val = 512 * (grid4.coords t 2).val + r.val := by
    show (grid4.coords t 2).val * 512 + r.val = _
    omega
  unfold score gScore
  rw [e]
  simp only [pay15_eq _ _ _ (head (ph t)) rfl, blk0, blk1, blk3, blk4]

/-- The values of a step's block are those of the array. -/
theorem val_eq (c : Dev nD) (t : Fin cfg4.N) (d : Fin 128) :
    val (iblk4 V c 2 t) d = gVal (V c main_v4) (pb t) (ph t) d := by
  funext j
  exact blk2 V c t _ d

/-- The queries are taken as they are. -/
theorem queries_eq (x : Vec Ideal S512x128 .bf16) : k4_pay16 (F := Ideal) x = x := by
  funext i
  obtain ⟨r, d, rfl⟩ : ∃ (r : Fin 512) (d : Fin 128), i = ix2 r d := ⟨i 0, i 1, eq_ix2 i⟩
  pointwise [k4_pay16]

/-- What a step stores, at an entry. -/
theorem out_at (c : Dev nD) (t : Fin cfg4.N) (r : Fin 512) (d : Fin 128) :
    outsAt4 V c t (ix2 r d)
      = attn (V c main_v4) (V c main_v11_0) (V c main_v13)
          (pb t) (ph t) (tok t r) d := by
  unfold outsAt4
  frame_out
  have h := trips_t1 (grid4.coords t)
  have h2 := trips_t2 (grid4.coords t)
  dsimp only [k4_t1_loop, k4_t2_loop, Scf.Loop.trips] at h h2
  rw [h2, h]
  clear h h2
  simp only [st_k4_t2_zero, queries_eq]
  generalize hst : st_k4_t1 (F := Ideal) Variants.none c none (grid4.coords t) (ms4_0 t) _ (ms4_1 t) _ (ms4_2 t) _
    (ms4_3 t) _ (ms4_4 t) _ (ms4_5 t) _ (iblk4 V c 0 t)
    (k4_pay17 (grid4.coords t) (iblk4 V c 3 t)) (k4_pay18 (grid4.coords t))
    (iota Kind.tc S512x512 32 [1] iota_S512x512_d1_w32) _ _ _ (k4_pay19, k4_pay1, k4_pay2) = st
  have inv : ∀ n, n ≤ (grid4.coords t 2).val + 1 →
      Carried (score (grid4.coords t) (iblk4 V c 0 t)
        (fun r => k4_pay17 (F := Ideal) (grid4.coords t) (iblk4 V c 3 t) (ix2 r 0))
        (iblk4 V c 1 t) (iblk4 V c 4 t)) (val (iblk4 V c 2 t)) n (st n) := by
    intro n
    induction n with
    | zero =>
      intro _
      rw [← hst, st_k4_t1_zero]
      exact start_carries _ _
    | succ n ih =>
      intro hn
      have hk : n < (k4_t1_loop (grid4.coords t)).trips := by rw [trips_t1]; omega
      have ih := ih (by omega)
      rw [← hst] at ih ⊢
      have e := st_k4_t1_succ (F := Ideal) Variants.none c none (grid4.coords t) (ms4_0 t) (hs4_0 t) (ms4_1 t) (hs4_1 t)
        (ms4_2 t) (hs4_2 t) (ms4_3 t) (hs4_3 t) (ms4_4 t) (hs4_4 t) (ms4_5 t) (hs4_5 t) (iblk4 V c 0 t)
        (k4_pay17 (grid4.coords t) (iblk4 V c 3 t)) (k4_pay18 (grid4.coords t))
        (iota Kind.tc S512x512 32 [1] iota_S512x512_d1_w32) ((hs4_1 t).unread (iblk4 V c 1 t)) ((hs4_2 t).unread (iblk4 V c 2 t))
        ((hs4_4 t).unread (iblk4 V c 4 t)) (k4_pay19, k4_pay1, k4_pay2) ⟨n, hk⟩
      rw [e]
      exact trip_carries (grid4.coords t) (iblk4 V c 0 t) _ (iblk4 V c 1 t) (iblk4 V c 2 t) (iblk4 V c 4 t)
        ⟨n, hk⟩ _ c _ _ _ _ _ _ _ _ _ _ _ _ _ _ ih
  obtain ⟨_, hl, ha⟩ := inv _ le_rfl r
  have ha := ha d
  pointwise [k4_pay15]
  rw [hl, ha, score_eq, val_eq]
  unfold attn seen
  have e : (tok t r).val / 512 = (grid4.coords t 2).val := by
    show ((grid4.coords t 2).val * 512 + r.val) / 512 = _
    omega
  rw [e]

/-- The grid point that writes block `(x, y)` of the result. -/
def place (x : Fin 32) (y : Fin 16) : grid4.Coords :=
  Fin.cons (⟨x.val / 8, by omega⟩ : Fin 4) (Fin.cons (y : Fin 16)
    (Fin.cons (⟨x.val % 8, by omega⟩ : Fin 8) fun a => a.elim0))

theorem place_eq : ∀ (x : Fin 32) (y : Fin 16) (a : Fin 2),
    cc4_transform_5 (place x y) a = (![x.val, y.val] : Fin 2 → ℕ) a := by
  decide +kernel

/-- The array the launch leaves. -/
theorem arr4 (c : Dev nD) : (dat4 V c).arrAt 5 cfg4.N
    = attnArr (V c main_v4) (V c main_v11_0) (V c main_v13) := by
  refine (dat4 V c).arrAt_eq_of_covers 5 _ ?_ fun t hf y => ?_
  · exact (cfg4.win 5).covers_of_indexMap_surj rfl (by decide) fun β =>
      ⟨place (β 0) (β 1), fun a => (place_eq (β 0) (β 1) a).trans
        (match a with | ⟨0, _⟩ => rfl | ⟨1, _⟩ => rfl)⟩
  · blk_simp
    rw [after4_5]
    obtain ⟨r, d, rfl⟩ : ∃ (r : Fin 512) (d : Fin 128), y = ix2 r d := ⟨y 0, y 1, eq_ix2 y⟩
    rw [out_at]
    have e : (win4_5.blk t).view.emb (ix2 r d : S512x128.Idx)
      = (ix2 ⟨(grid4.coords t 0).val * 4096 + ((grid4.coords t 2).val * 512 + r.val), by
            have := (pb t).isLt; have := (pq t).isLt; unfold pb pq at *; omega⟩
          ⟨(grid4.coords t 1).val * 128 + d.val, by
            have := (ph t).isLt; unfold ph at *; omega⟩ : S16384x2048.Idx) := by
      blk_ext [idx5 t]
    rw [e]
    have hb := (pb t).isLt
    have hq := (pq t).isLt
    have hh := (ph t).isLt
    unfold attnArr
    congr 1 <;> apply Fin.ext
    · show (pb t).val = ((pb t).val * 4096 + ((pq t).val * 512 + r.val)) / 4096 % 4
      omega
    · show (ph t).val = ((ph t).val * 128 + d.val) / 128 % 16
      omega
    · show (pq t).val * 512 + r.val
        = ((pb t).val * 4096 + ((pq t).val * 512 + r.val)) % 4096 % 4096
      omega
    · show d.val = ((ph t).val * 128 + d.val) % 128 % 128
      omega

end Cert.Fox
-- ==== Proof.Fox.Region5.lean ====
module

public import proofs.«01_k».proof.Proof.Gen.FoxLayerIdeal.Frame
public import Idealize.ShloMosaic.Lib.Pipeline.ValueKit
public import Idealize.ShloMosaic.Lib.Pipeline.Covers
public import Idealize.ShloMosaic.Lib.Pointwise

/-!
# The product that closes the layer

The array its launch leaves, from the buffers it finds.
-/

@[expose] public section

set_option maxRecDepth 16384

noncomputable section

namespace Cert.Fox

open Cert.FoxLayerIdeal Cert.FoxLayerIdeal.Gen Idealize.ShloMosaic Idealize.ShloMosaic.TcCoe
open Idealize.SL.Sem

variable (V : (c : Dev nD) → (b : Ref sig .tc) → Buf (Elt Ideal) ((c : Thread nD τ).loc b))

theorem index5_0 : ∀ t : Fin cfg5.N, win5_0.index t
    = ![(grid5.coords t 0).val, 0] := by
  decide +kernel

theorem index5_1 : ∀ t : Fin cfg5.N, win5_1.index t
    = ![0, (grid5.coords t 1).val] := by
  decide +kernel

theorem index5_2 : ∀ t : Fin cfg5.N, win5_2.index t
    = ![(grid5.coords t 0).val, (grid5.coords t 1).val] := by
  decide +kernel

theorem index5_3 : ∀ t : Fin cfg5.N, win5_3.index t
    = ![(grid5.coords t 0).val, (grid5.coords t 1).val] := by
  decide +kernel

theorem coord5_0 (t : Fin cfg5.N) : (grid5.coords t 0).val < 16 := (grid5.coords t 0).isLt

theorem coord5_1 (t : Fin cfg5.N) : (grid5.coords t 1).val < 2 := (grid5.coords t 1).isLt

/-- The rows a grid point is given. -/
theorem rows5 (c : Dev nD) (t : Fin cfg5.N) (r : Fin 1024) (k : Fin 2048) :
    iblk5 V c 0 t (ix2 r k)
      = V c main_v14 (ix2 ⟨(grid5.coords t 0).val * 1024 + r.val, by have := coord5_0 t; omega⟩ k) := by
  blk_ext! [iblk5, index5_0 t]

/-- The columns of weights a grid point is given. -/
theorem cols5 (c : Dev nD) (t : Fin cfg5.N) (k : Fin 2048) (d : Fin 1024) :
    iblk5 V c 1 t (ix2 k d)
      = V c main_v15 (ix2 k ⟨(grid5.coords t 1).val * 1024 + d.val, by have := coord5_1 t; omega⟩) := by
  blk_ext! [iblk5, index5_1 t]

/-- The block of the residual stream a grid point is given. -/
theorem stream5 (c : Dev nD) (t : Fin cfg5.N) (r : Fin 1024) (d : Fin 1024) :
    iblk5 V c 2 t (ix2 r d)
      = V c main_arg0 (ix2 ⟨(grid5.coords t 0).val * 1024 + r.val, by have := coord5_0 t; omega⟩
          ⟨(grid5.coords t 1).val * 1024 + d.val, by have := coord5_1 t; omega⟩) := by
  blk_ext! [iblk5, index5_2 t]

/-- What the body computes of its blocks. -/
theorem out5 (h : Vec Ideal S1024x2048 .bf16) (w : Vec Ideal S2048x1024 .bf16) (x : Vec Ideal S1024x1024 .f32)
    (r : Fin 1024) (d : Fin 1024) : out5_3 h w x (ix2 r d)
      = x (ix2 r d) + ∑ k : Fin 2048, h (ix2 r k) * w (ix2 k d) := by
  unfold out5_3
  frame_out
  pointwise [k5_pay1]

/-- The grid point that writes a block of the result. -/
def place5 (x : Fin 16) (y : Fin 2) : grid5.Coords := Fin.cons x (Fin.cons y fun a => a.elim0)

theorem place5_eq : ∀ (x : Fin 16) (y : Fin 2) (a : Fin 2),
    cc5_transform_3 (place5 x y) a = (![x.val, y.val] : Fin 2 → ℕ) a := by
  decide +kernel

/-- The residual stream plus the product, as an array. -/
def prodArr5 (x : S16384x2048.Idx → EReal) (h : S16384x2048.Idx → EReal)
    (w : S2048x2048.Idx → EReal) : S16384x2048.Idx → EReal :=
  fun i => x (ix2 (i 0) (i 1)) + ∑ k : Fin 2048, h (ix2 (i 0) k) * w (ix2 k (i 1))

/-- The array the launch leaves. -/
theorem arr5 (c : Dev nD) :
    (dat5 V c).arrAt 3 cfg5.N = prodArr5 (V c main_arg0) (V c main_v14) (V c main_v15) := by
  refine (dat5 V c).arrAt_eq_of_covers 3 _ ?_ fun t hf y => ?_
  · exact (cfg5.win 3).covers_of_indexMap_surj rfl (by decide) fun β =>
      ⟨place5 (β 0) (β 1), fun a => (place5_eq (β 0) (β 1) a).trans
        (match a with | ⟨0, _⟩ => rfl | ⟨1, _⟩ => rfl)⟩
  · blk_simp
    rw [after5_3]
    obtain ⟨r, d, rfl⟩ : ∃ (r : Fin 1024) (d : Fin 1024), y = ix2 r d := ⟨y 0, y 1, eq_ix2 y⟩
    rw [out5]
    have e : (win5_3.blk t).view.emb (ix2 r d : S1024x1024.Idx)
        = (ix2 ⟨(grid5.coords t 0).val * 1024 + r.val, by have := coord5_0 t; omega⟩
            ⟨(grid5.coords t 1).val * 1024 + d.val, by have := coord5_1 t; omega⟩
            : S16384x2048.Idx) := by
      blk_ext [index5_3 t]
    rw [e]
    unfold prodArr5
    exact congrArg₂ (· + ·) (stream5 V c t r d) (Finset.sum_congr (M := EReal) rfl fun k _ => congrArg₂ (· * ·) (rows5 V c t r k) (cols5 V c t k d))

end Cert.Fox
-- ==== Proof.Fox.Run.lean ====
module

public import proofs.«01_k».proof.Proof.Fox.Region0
public import proofs.«01_k».proof.Proof.Fox.Region1
public import proofs.«01_k».proof.Proof.Fox.Region2
public import proofs.«01_k».proof.Proof.Fox.Region3
public import proofs.«01_k».proof.Proof.Fox.Point
public import proofs.«01_k».proof.Proof.Fox.Region5
public import Idealize.ShloMosaic.Lib.StableHlo.Run
public import Idealize.ShloMosaic.Lib.KernelVsHost

/-!
# The run of the forgetting-attention layer

What the run leaves in every buffer, and in the result.
-/

@[expose] public section

set_option maxRecDepth 16384

noncomputable section

namespace Cert.Fox

open Cert.FoxLayerIdeal Cert.FoxLayerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every buffer the program names ends at the contents the last segment leaves. -/
theorem run_all : θ_run (Val := Elt Ideal) defs (onTc (τ := τ) (main (F := Ideal))) ⟨m, fun _ => 0, ρ⟩
    (fun r => ∀ c : Dev nD, ∀ b ∈ Pipeline.ucRefs τ sig,
      r.2.mem (((c : Thread nD τ)).1, b) = W16 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h hz => h)

/-- The norm's scale as a row. -/
theorem scale_first (c : Dev nD) (d : Fin 2048) :
    V1 m ρ c main_v0 (ix2 0 d) = m (c.tc.loc main_arg1) (ix1 d) := by
  show StableHlo.after hostOps0 (W0 m ρ c) (Proc.devRef .tc main_v0) (ix2 0 d) = _
  unfold hostOps0
  after_results
  pointwise []

/-- The weights for queries, keys and values. -/
theorem qkv_cast (c : Dev nD) (k : Fin 2048) (n : Fin 6144) :
    V3 m ρ c main_v3 (ix2 k n) = m (c.tc.loc main_arg2) (ix2 k (wide n)) := by
  rw [← W2_args m ρ c main_arg2 (by decide)]
  show StableHlo.after hostOps1 (W2 m ρ c) (Proc.devRef .tc main_v3) (ix2 k n) = _
  unfold hostOps1
  after_results
  pointwise []
  rfl

/-- The weights for the forget gates, before they are padded. -/
theorem gate_slice (c : Dev nD) (k : Fin 2048) (h : Fin 16) :
    W5 m ρ c (Proc.devRef .tc main_v5) (ix2 k h) = m (c.tc.loc main_arg2) (ix2 k (gateLane h)) := by
  rw [← W4_args m ρ c main_arg2 (by decide)]
  show StableHlo.after hostOps2 (W4 m ρ c) (Proc.devRef .tc main_v5) (ix2 k h) = _
  unfold hostOps2
  after_results
  pointwise []
  rfl

/-- The padded weights for the forget gates, in the first sixteen lanes. -/
theorem gate_pad (c : Dev nD) (k : Fin 2048) (h : Fin 16) :
    W6 m ρ c (Proc.devRef .tc main_v6) (ix2 k (head h)) = m (c.tc.loc main_arg2) (ix2 k (gateLane h)) := by
  rw [← gate_slice m ρ c k h]
  show StableHlo.after hostOps2_1 (W5 m ρ c) (Proc.devRef .tc main_v6) (ix2 k (head h)) = _
  generalize W5 m ρ c = W
  unfold hostOps2_1
  after_results
  exact pad_apply_of_inside (s := S2048x16) (t := S2048x128) ![0, 0] ![0, 112] ![0, 0] _ _
    pads_S2048x16_S2048x128_000_01120 h_S_ (ix2 k (head h)) (ix2 k h) fun a => match a with
    | ⟨0, _⟩ => by show k.val = 0 + k.val * 1; omega
    | ⟨1, _⟩ => by show h.val = 0 + h.val * 1; omega

theorem gate_cast (c : Dev nD) (k : Fin 2048) (h : Fin 16) :
    V7 m ρ c main_v7 (ix2 k (head h)) = m (c.tc.loc main_arg2) (ix2 k (gateLane h)) := by
  rw [← gate_pad m ρ c k h]
  show StableHlo.after hostOps2_2 (W6 m ρ c) (Proc.devRef .tc main_v7) (ix2 k (head h)) = _
  unfold hostOps2_2
  after_results
  pointwise []

/-- The padded bias of the forget gates, in the first sixteen lanes. -/
theorem bias_pad (c : Dev nD) (h : Fin 16) :
    W10 m ρ c (Proc.devRef .tc main_v9) (ix1 (head h)) = m (c.tc.loc main_arg3) (ix1 h) := by
  rw [← W9_args m ρ c main_arg3 (by decide)]
  show StableHlo.after hostOps3_1 (W9 m ρ c) (Proc.devRef .tc main_v9) (ix1 (head h)) = _
  generalize W9 m ρ c = W
  unfold hostOps3_1
  after_results
  exact pad_apply_of_inside (s := S16) (t := S128) ![0] ![112] ![0] _ _ pads_S16_S128_01120 h_S_ (ix1 (head h)) (ix1 h) fun a => match a with
    | ⟨0, _⟩ => by show h.val = 0 + h.val * 1; omega

theorem bias_row (c : Dev nD) (h : Fin 16) :
    V11 m ρ c main_v10 (ix2 0 (head h)) = m (c.tc.loc main_arg3) (ix1 h) := by
  rw [← bias_pad m ρ c h]
  show StableHlo.after hostOps3_2 (W10 m ρ c) (Proc.devRef .tc main_v10) (ix2 0 (head h)) = _
  unfold hostOps3_2
  after_results
  pointwise []

/-- The output weights after their change of format. -/
theorem out_cast (c : Dev nD) (i : S2048x2048.Idx) :
    V15 m ρ c main_v15 i = m (c.tc.loc main_arg4) i := by
  rw [← W14_args m ρ c main_arg4 (by decide)]
  show StableHlo.after hostOps5 (W14 m ρ c) (Proc.devRef .tc main_v15) i = _
  unfold hostOps5
  after_results
  pointwise []

/-- The normalised rows as the products find them. -/
theorem rows_at (c : Dev nD) (a : Fin 16384) (k : Fin 2048) :
    V3 m ρ c main_v1 (ix2 a k) = hid (m (c.tc.loc main_arg0)) (m (c.tc.loc main_arg1)) a k := by
  have e : V3 m ρ c main_v1 = (dat0 (V1 m ρ) c).arrAt 2 cfg0.N :=
    (W3_of m ρ c main_v1 (by decide)).trans (W2_arr m ρ c 2)
  unfold hid
  rw [e, arr0, show V1 m ρ c main_arg0 = m (c.tc.loc main_arg0) from
    W1_args m ρ c main_arg0 (by decide), ← scale_first m ρ c k]
  rfl

/-- Queries, keys and values. -/
theorem qkv_at (c : Dev nD) :
    W4 m ρ c (Proc.devRef .tc main_v4)
      = qkvArr (m (c.tc.loc main_arg0)) (m (c.tc.loc main_arg1)) (m (c.tc.loc main_arg2)) := by
  rw [show W4 m ρ c (Proc.devRef .tc main_v4) = (dat1 (V3 m ρ) c).arrAt 2 cfg1.N from W4_arr m ρ c 2, arr1]
  funext i
  unfold prodArr1 qkvArr proj
  exact Finset.sum_congr (M := EReal) rfl fun k _ =>
    congrArg₂ (· * ·) (rows_at m ρ c (i 0) k) (qkv_cast m ρ c k (i 1))

/-- The forget gates before their bias. -/
theorem gates_at (c : Dev nD) (a : Fin 16384) (h : Fin 16) :
    V11 m ρ c main_v8 (ix2 a (head h))
      = proj (m (c.tc.loc main_arg0)) (m (c.tc.loc main_arg1)) (m (c.tc.loc main_arg2)) a (gateLane h) := by
  have e : V11 m ρ c main_v8 = (dat2 (V7 m ρ) c).arrAt 2 cfg2.N :=
    (W11_of m ρ c main_v8 (by decide)).trans ((W10_of m ρ c main_v8 (by decide)).trans
      ((W9_of m ρ c main_v8 (by decide)).trans (W8_arr m ρ c 2)))
  have e1 : V7 m ρ c main_v1 = V3 m ρ c main_v1 :=
    (W7_of m ρ c main_v1 (by decide)).trans ((W6_of m ρ c main_v1 (by decide)).trans
      ((W5_of m ρ c main_v1 (by decide)).trans (W4_of m ρ c main_v1 (by decide))))
  rw [e, arr2, e1]
  unfold prodArr2 proj
  exact Finset.sum_congr (M := EReal) rfl fun k _ =>
    congrArg₂ (· * ·) (rows_at m ρ c a k) (gate_cast m ρ c k h)

/-- The running sums of the log decays, in the first sixteen lanes. -/
theorem sums_at (c : Dev nD) (b : Fin 4) (n : ℕ) (h : Fin 16) :
    decaySum (V11 m ρ c main_v8) (V11 m ρ c main_v10) b n (head h)
      = decay (m (c.tc.loc main_arg0)) (m (c.tc.loc main_arg1)) (m (c.tc.loc main_arg2))
          (m (c.tc.loc main_arg3)) b n h := by
  unfold decaySum decay
  exact Finset.sum_congr (M := EReal) rfl fun j _ => congrArg logsig
    (congrArg₂ (· + ·) (gates_at m ρ c _ h) (bias_row m ρ c h))

/-- … by token. -/
theorem decay_rows (c : Dev nD) (a : Fin 16384) (h : Fin 16) :
    V13 m ρ c main_v11_0 (ix2 a (head h))
      = decayRows (m (c.tc.loc main_arg0)) (m (c.tc.loc main_arg1)) (m (c.tc.loc main_arg2))
          (m (c.tc.loc main_arg3)) (ix2 a (head h)) := by
  have e : V13 m ρ c main_v11_0 = (dat3 (V11 m ρ) c).arrAt 2 cfg3.N :=
    (W13_of m ρ c main_v11_0 (by decide)).trans (W12_arr m ρ c 2)
  rw [e, arr3]
  refine (sums_at m ρ c (seqOf a) (posOf a + 1) h).trans ?_
  show _ = decay _ _ _ _ (seqOf a) (posOf a + 1) (Fin.ofNat 16 h.val)
  rw [show Fin.ofNat 16 h.val = h from Fin.ext (Nat.mod_eq_of_lt h.isLt)]

/-- … by head. -/
theorem decay_cols (c : Dev nD) :
    V13 m ρ c main_v13
      = decayCols (m (c.tc.loc main_arg0)) (m (c.tc.loc main_arg1)) (m (c.tc.loc main_arg2))
          (m (c.tc.loc main_arg3)) := by
  have e : W12 m ρ c (Proc.devRef .tc main_v11_1) = (dat3 (V11 m ρ) c).arrAt 3 cfg3.N := W12_arr m ρ c 3
  funext i
  obtain ⟨b, h, z, s, rfl⟩ : ∃ (b : Fin 4) (h : Fin 16) (z : Fin 1) (s : Fin 4096), i = ix4 b h z s :=
    ⟨i 0, i 1, i 2, i 3, eq_ix4 i⟩
  have hz : z = 0 := Subsingleton.elim _ _
  subst hz
  have e2 : V13 m ρ c main_v13 (ix4 b h 0 s) = W12 m ρ c (Proc.devRef .tc main_v11_1) (ix3 b (head h) s) := by
    show StableHlo.after hostOps4 (W12 m ρ c) (Proc.devRef .tc main_v13) (ix4 b h 0 s) = _
    unfold hostOps4
    after_results
    pointwise []
    rfl
  rw [e2, e, arr3T]
  exact sums_at m ρ c b (s.val + 1) h

/-- The attention's result. -/
theorem heads_at (c : Dev nD) :
    W14 m ρ c (Proc.devRef .tc main_v14)
      = headArr (m (c.tc.loc main_arg0)) (m (c.tc.loc main_arg1)) (m (c.tc.loc main_arg2))
          (m (c.tc.loc main_arg3)) := by
  have e : V13 m ρ c main_v4 = W4 m ρ c (Proc.devRef .tc main_v4) :=
    (W13_of m ρ c main_v4 (by decide)).trans ((W12_of m ρ c main_v4 (by decide)).trans
      ((W11_of m ρ c main_v4 (by decide)).trans ((W10_of m ρ c main_v4 (by decide)).trans
        ((W9_of m ρ c main_v4 (by decide)).trans ((W8_of m ρ c main_v4 (by decide)).trans
          ((W7_of m ρ c main_v4 (by decide)).trans ((W6_of m ρ c main_v4 (by decide)).trans
            (W5_of m ρ c main_v4 (by decide)))))))))
  rw [show W14 m ρ c (Proc.devRef .tc main_v14) = (dat4 (V13 m ρ) c).arrAt 5 cfg4.N from W14_arr m ρ c 5, arr4,
    e, qkv_at, decay_cols]
  exact attnArr_congr (decay_rows m ρ c)

/-- The result at the end. -/
theorem layer_end (c : Dev nD) :
    W16 m ρ c (Proc.devRef .tc main_v16)
      = layerArr (m (c.tc.loc main_arg0)) (m (c.tc.loc main_arg1)) (m (c.tc.loc main_arg2))
          (m (c.tc.loc main_arg3)) (m (c.tc.loc main_arg4)) := by
  rw [show W16 m ρ c (Proc.devRef .tc main_v16) = (dat5 (V15 m ρ) c).arrAt 3 cfg5.N from W16_arr m ρ c 3, arr5,
    show V15 m ρ c main_v14 = _ from (W15_of m ρ c main_v14 (by decide)).trans (heads_at m ρ c),
    show V15 m ρ c main_v15 = m (c.tc.loc main_arg4) from funext fun i => out_cast m ρ c i,
    show V15 m ρ c main_arg0 = m (c.tc.loc main_arg0) from W15_args m ρ c main_arg0 (by decide)]
  rfl

end Cert.Fox
-- ==== Proof.Fox.Cumsum.lean ====
module

public import Idealize.ShloMosaic.Lib.Pointwise

/-!
# A running sum along the middle axis

The windowed sum that a running sum is written as, read at an entry: the sum of all entries up to it.
-/

@[expose] public section

noncomputable section

namespace Cert.Fox

open Idealize.ShloMosaic

/-- Adding up a list of terms from nothing. -/
theorem foldl_sum {n : ℕ} (g : Fin n → EReal) :
    (List.finRange n).foldl (fun r k => r + g k) 0 = ∑ k, g k := by
  rw [Fin.sum_univ_def]
  generalize List.finRange n = L
  have e : ∀ (L : List (Fin n)) (a : EReal), L.foldl (fun r k => r + g k) a = a + (L.map g).sum := by
    intro L
    induction L with
    | nil => intro a; simp
    | cons k L ih => intro a; simp [ih, add_assoc]
  rw [e, zero_add]

/-- The places of a window that is `N` long on the middle axis. -/
def places (N : ℕ) : Fin N ≃ (⟨3, ![1, N, 1]⟩ : Shape).Idx where
  toFun k := ix3 0 k 0
  invFun w := w 1
  left_inv _ := rfl
  right_inv w := by
    rw [eq_ix3 w]
    have e0 : (0 : Fin 1) = w 0 := Subsingleton.elim _ _
    have e2 : (0 : Fin 1) = w 2 := Subsingleton.elim _ _
    rw [← e0, ← e2]
    rfl

/-- The terms of a window that starts below the array count for nothing. -/
theorem window_sum (f : ℕ → EReal) (M s : ℕ) (hs : s ≤ M) :
    ∑ k : Fin (M + 1), (if M ≤ s + k.val then f (s + k.val - M) else 0)
      = ∑ j ∈ Finset.range (s + 1), f j := by
  rw [Fin.sum_univ_eq_sum_range (fun k => if M ≤ s + k then f (s + k - M) else 0) (M + 1),
    show M + 1 = (M - s) + (s + 1) by omega, Finset.sum_range_add]
  rw [Finset.sum_eq_zero fun k hk => if_neg (by have := Finset.mem_range.1 hk; omega), zero_add]
  refine Finset.sum_congr rfl fun j _ => ?_
  rw [if_pos (by omega)]
  exact congrArg f (by omega)

/-- A windowed sum over all entries up to its own, along the middle axis. -/
theorem running_sum {A N M C : ℕ} (hN : M + 1 = N) (x : FVec Ideal ⟨3, ![A, N, C]⟩ .f32) {u : Shape}
    (init : u.Idx → Ideal .f32) (f : ℕ → EReal)
    (h : (⟨3, ![A, N, C]⟩ : Shape).ReduceWindows (![1, N, 1] : Fin 3 → ℕ) ![1, 1, 1] ![0, M, 0] ![0, 0, 0]
      ⟨3, ![A, N, C]⟩) (hu : 0 < u.numel) (hi : init (Shape.Idx.first hu) = (0 : EReal))
    (b : Fin A) (s : Fin N) (c : Fin C) (hx : ∀ j : Fin N, x (ix3 b j c) = f j.val) :
    Host.reduceWindowAdd ![1, N, 1] ![1, 1, 1] ![0, M, 0] ![0, 0, 0] x init h hu (ix3 b s c)
      = ∑ j ∈ Finset.range (s.val + 1), f j := by
  subst hN
  have hs := s.isLt
  have hb := b.isLt
  have hc := c.isLt
  show Host.reduceWindow (fun a b : EReal => a + b) ![1, M + 1, 1] ![1, 1, 1] ![0, M, 0] ![0, 0, 0] x init h hu
    (ix3 b s c) = _
  unfold Host.reduceWindow
  dsimp only
  rw [hi]
  refine (foldl_sum _).trans ?_
  rw [← window_sum f M s.val (by omega)]
  refine Eq.trans (Equiv.sum_comp ((places (M + 1)).trans (Shape.rowMajor ⟨3, ![1, M + 1, 1]⟩)) _).symm ?_
  refine Finset.sum_congr rfl fun k _ => ?_
  have ek : (⟨3, ![1, M + 1, 1]⟩ : Shape).rowMajor.symm
      (((places (M + 1)).trans (Shape.rowMajor ⟨3, ![1, M + 1, 1]⟩)) k) = ix3 0 k 0 :=
    Equiv.symm_apply_apply _ _
  simp only [ek]
  have hk := k.isLt
  by_cases hle : M ≤ s.val + k.val
  · rw [if_pos hle, dif_pos fun a => ?_]
    · refine Eq.trans (congrArg x (funext fun a => Fin.ext ?_)) (hx ⟨s.val + k.val - M, by omega⟩)
      match a with
      | ⟨0, _⟩ => show b.val * 1 + 0 - 0 = b.val; omega
      | ⟨1, _⟩ => show s.val * 1 + k.val - M = s.val + k.val - M; omega
      | ⟨2, _⟩ => show c.val * 1 + 0 - 0 = c.val; omega
    · match a with
      | ⟨0, _⟩ => show 0 ≤ b.val * 1 + 0 ∧ b.val * 1 + 0 - 0 < A; omega
      | ⟨1, _⟩ => show M ≤ s.val * 1 + k.val ∧ s.val * 1 + k.val - M < M + 1; omega
      | ⟨2, _⟩ => show 0 ≤ c.val * 1 + 0 ∧ c.val * 1 + 0 - 0 < C; omega
  · rw [if_neg hle, dif_neg fun hin => ?_]
    have h1 : M ≤ s.val * 1 + k.val := (hin 1).1
    omega

end Cert.Fox
-- ==== Proof.Fox.Real.lean ====
module

public import proofs.«01_k».proof.Proof.Fox.Layer

/-!
# Where the layer's values are real numbers

Sums, products, the norm and the log decays of real numbers are real numbers.
-/

@[expose] public section

noncomputable section

namespace Cert.Fox

open Idealize.ShloMosaic

/-- An extended real that is a real number. -/
def IsReal (x : EReal) : Prop := ∃ r : ℝ, x = r

theorem IsReal.of_abs_lt {x : EReal} (h : max x (-x) < ⊤) : IsReal x := by
  induction x with
  | bot => simp at h
  | top => simp at h
  | coe r => exact ⟨r, rfl⟩

theorem IsReal.mul {x y : EReal} : IsReal x → IsReal y → IsReal (x * y) := by
  rintro ⟨a, rfl⟩ ⟨b, rfl⟩; exact ⟨a * b, (EReal.coe_mul a b).symm⟩
theorem IsReal.add {x y : EReal} : IsReal x → IsReal y → IsReal (x + y) := by
  rintro ⟨a, rfl⟩ ⟨b, rfl⟩; exact ⟨a + b, (EReal.coe_add a b).symm⟩
theorem IsReal.sub {x y : EReal} : IsReal x → IsReal y → IsReal (x - y) := by
  rintro ⟨a, rfl⟩ ⟨b, rfl⟩; exact ⟨a - b, (EReal.coe_sub a b).symm⟩
theorem IsReal.sum {ι : Type*} (s : Finset ι) (f : ι → EReal) (h : ∀ i, IsReal (f i)) :
    IsReal (∑ i ∈ s, f i) := by
  classical
  induction s using Finset.induction_on with
  | empty => exact ⟨0, by simp⟩
  | insert i s hi ih => rw [Finset.sum_insert hi]; exact (h i).add ih
theorem IsReal.ne_top {x : EReal} : IsReal x → x ≠ ⊤ := by
  rintro ⟨a, rfl⟩; exact EReal.coe_ne_top a
theorem IsReal.ne_bot {x : EReal} : IsReal x → x ≠ ⊥ := by
  rintro ⟨a, rfl⟩; exact EReal.coe_ne_bot a

/-- The scale `128 ^ (-1/2)` is a real number. -/
theorem isReal_scale : IsReal (Ideal.ofBits .f32 1035273459#32) := by
  simp only [Ideal.ofBits, Ideal.ieee]
  rw [if_neg (by decide), if_neg (by decide)]
  exact ⟨_, rfl⟩

/-- The row length is a positive real number. -/
theorem isReal_length : ∃ r : ℝ, 0 < r ∧ Ideal.ofBits FTy.f32 1157627904#32 = r := by
  simp only [Ideal.ofBits, Ideal.ieee]
  rw [if_neg (by decide), if_neg (by decide)]
  refine ⟨_, ?_, rfl⟩
  rw [if_neg (by decide)]
  positivity

/-- The norm's offset is a positive real number. -/
theorem isReal_offset : ∃ r : ℝ, 0 < r ∧ Ideal.ofBits FTy.f32 897988541#32 = r := by
  simp only [Ideal.ofBits, Ideal.ieee]
  rw [if_neg (by decide), if_neg (by decide)]
  refine ⟨_, ?_, rfl⟩
  rw [if_neg (by decide)]
  positivity

/-- A row times the inverse root of its mean square is a row of real numbers; of an infinite mean square the
    inverse root is zero. -/
theorem isReal_unit (x : Fin 2048 → EReal) (d : Fin 2048) :
    IsReal (x d * Ideal.rsqrt (Ideal.div (∑ k, x k * x k) (Ideal.ofBits FTy.f32 1157627904#32)
      + Ideal.ofBits FTy.f32 897988541#32)) := by
  obtain ⟨c, hc, ec⟩ := isReal_length
  obtain ⟨o, ho, eo⟩ := isReal_offset
  have hsq : ∀ k, 0 ≤ x k * x k := fun k => by
    generalize x k = y
    induction y with
    | bot => simp
    | top => simp
    | coe r => rw [← EReal.coe_mul]; exact EReal.coe_nonneg.2 (mul_self_nonneg r)
  have h0 : (0 : EReal) ≤ ∑ k, x k * x k := Finset.sum_nonneg fun k _ => hsq k
  have hd : x d * x d ≤ ∑ k, x k * x k := Finset.single_le_sum (fun k _ => hsq k) (Finset.mem_univ d)
  rw [ec, eo]
  generalize (∑ k, x k * x k) = T at h0 hd
  have e : Ideal.div T c + (o : EReal) = T * ((c⁻¹ : ℝ) : EReal) + o := by
    unfold Ideal.div
    rw [if_neg (by exact_mod_cast hc.ne'), EReal.coe_inv]
  rw [e]
  induction T with
  | bot => simp at h0
  | top =>
    rw [EReal.top_mul_coe_of_pos (inv_pos.2 hc), EReal.top_add_coe]
    show IsReal (x d * 0)
    rw [mul_zero]
    exact ⟨0, rfl⟩
  | coe S =>
    have h0 : 0 ≤ S := EReal.coe_nonneg.1 h0
    have hp : 0 < S * c⁻¹ + o := by positivity
    have hx : IsReal (x d) := by
      generalize x d = y at hd
      induction y with
      | bot => simp at hd
      | top => simp at hd
      | coe r => exact ⟨r, rfl⟩
    rw [← EReal.coe_mul, ← EReal.coe_add]
    refine hx.mul ?_
    show IsReal (if S * c⁻¹ + o < 0 then ⊥ else if S * c⁻¹ + o = 0 then ⊤ else (((Real.sqrt (S * c⁻¹ + o))⁻¹ : ℝ) : EReal))
    rw [if_neg hp.le.not_gt, if_neg hp.ne']
    exact ⟨_, rfl⟩

/-- The norm of a row with a finite gain is a row of real numbers. -/
theorem isReal_norm (x : Fin 2048 → EReal) (g : EReal) (d : Fin 2048) (hg : IsReal g) :
    IsReal (Cert.Ffn.norm x g d) :=
  (isReal_unit x d).mul hg

/-- The logarithm of one plus an exponential is not `-∞`. -/
theorem log1p_exp_ne_bot (y : EReal) : Ideal.log1p (Ideal.exp y) ≠ ⊥ := by
  unfold Ideal.log1p
  have h := exp_nonneg y
  generalize Ideal.exp y = e at h
  induction e with
  | bot => simp at h
  | top =>
    rw [show (1 : EReal) + ⊤ = ⊤ from EReal.coe_add_top 1]
    exact top_ne_bot
  | coe r =>
    have hr : 0 ≤ r := EReal.coe_nonneg.1 h
    rw [← EReal.coe_one, ← EReal.coe_add]
    show (if 1 + r ≤ 0 then ⊥ else (Real.log (1 + r) : EReal)) ≠ ⊥
    rw [if_neg (by linarith)]
    exact EReal.coe_ne_bot _

/-- The log decay of a real number is a real number. -/
theorem isReal_logsig_coe {z : EReal} (hz : IsReal z) : IsReal (logsig z) := by
  obtain ⟨r, rfl⟩ := hz
  unfold logsig Ideal.log1p
  have e1 : min (r : EReal) 0 = ((min r 0 : ℝ) : EReal) := by
    rcases le_total r 0 with h | h
    · rw [min_eq_left h, min_eq_left (by exact_mod_cast h)]
    · rw [min_eq_right h, min_eq_right (by exact_mod_cast h)]; rfl
  obtain ⟨m, hm⟩ : IsReal (0 - max (r : EReal) (-(r : EReal))) := by
    rcases le_total (r : EReal) (-(r : EReal)) with h | h
    · rw [max_eq_right h]; exact ⟨0 - -r, rfl⟩
    · rw [max_eq_left h]; exact ⟨0 - r, rfl⟩
  rw [hm, e1]
  show IsReal (_ - Ideal.log (1 + ((Real.exp m : ℝ) : EReal)))
  have hp : 0 < 1 + Real.exp m := by positivity
  rw [← EReal.coe_one, ← EReal.coe_add]
  show IsReal (((min r 0 : ℝ) : EReal) - if 1 + Real.exp m ≤ 0 then ⊥ else (Real.log (1 + Real.exp m) : EReal))
  rw [if_neg (not_le.2 hp)]
  exact ⟨_, (EReal.coe_sub _ _).symm⟩

/-- The log decay of anything above `-∞` is a real number. -/
theorem isReal_logsig {z : EReal} (hz : ⊥ < z) : IsReal (logsig z) := by
  induction z with
  | bot => exact absurd hz (lt_irrefl _)
  | coe r => exact isReal_logsig_coe ⟨r, rfl⟩
  | top =>
    refine ⟨0, ?_⟩
    have e : (0 : EReal) - max ⊤ (-⊤) = ⊥ := by simp
    unfold logsig Ideal.log1p
    rw [e, show Ideal.exp ⊥ = 0 from rfl, add_zero, min_eq_right le_top]
    show (0 : EReal) - (if (1 : ℝ) ≤ 0 then ⊥ else (Real.log 1 : EReal)) = 0
    rw [if_neg (by norm_num), Real.log_one]
    simp

/-- Minus the softplus of minus a number is its log decay. -/
theorem neg_softplus (z : EReal) :
    -(max (-z) 0 + Ideal.log1p (Ideal.exp (-(max (-z - 0) (-(-z - 0)))))) = logsig z := by
  unfold logsig
  have e : -(max (-z - 0) (-(-z - 0))) = 0 - max z (-z) := by
    simp [max_comm]
  rw [e, EReal.neg_add (Or.inl ?_) (Or.inr (log1p_exp_ne_bot _))]
  · congr 1
    rcases le_total z 0 with h | h
    · rw [min_eq_left h, max_eq_left (EReal.neg_nonneg.2 h), neg_neg]
    · rw [min_eq_right h, max_eq_right (by simpa using h), neg_zero]
  · exact ne_of_gt (lt_of_lt_of_le EReal.bot_lt_zero (le_max_right _ _))

end Cert.Fox
-- ==== Proof.Fox.Ref.lean ====
module

public import proofs.«01_k».proof.Proof.Fox.Cumsum
public import proofs.«01_k».proof.Proof.Fox.Real
public import proofs.«01_k».proof.Proof.Gen.FoxReferenceIdeal.Read
public import Idealize.ShloMosaic.Lib.Pointwise

/-!
# The reference's scores, entry by entry

The reference's stages up to the masked scores read at an index, in the terms of `Spec` and `Layer`.
-/

@[expose] public section

set_option maxRecDepth 16384

noncomputable section

namespace Cert.Fox

open Cert.FoxReferenceIdeal Cert.FoxReferenceIdeal.Gen Cert.FoxReferenceIdeal.Read Idealize.ShloMosaic Idealize.ShloMosaic.TcCoe Idealize.SL.Sem

/-- A maximum over the last axis of an array of four axes, at an index. -/
theorem hostMax_last {a b c n : ℕ} {u : Shape} (x : FVec Ideal ⟨4, ![a, b, c, n]⟩ .f32)
    (init : u.Idx → Ideal .f32) (h' : (⟨4, ![a, b, c, n]⟩ : Shape).ReducesTo [3] ⟨3, ![a, b, c]⟩)
    (hu : 0 < u.numel) (i : Fin a) (j : Fin b) (k : Fin c) :
    Host.reduce FloatOps.maximumf x init h' hu (ix3 i j k)
      = Finset.univ.fold max (init (Shape.Idx.first hu)) fun t => x (ix4 i j k t) := by
  pointwise []

/-- The word of `-∞`. -/
theorem ofBits_neg_inf : Ideal.ofBits FTy.f32 4286578688#32 = ⊥ := by
  simp [Ideal.ofBits, Ideal.ieee]

/-- Two word positions below 4096 compare as numbers. -/
theorem sle_pos (a b : Fin 4096) :
    IntOp.cmpi CmpIPredicate.sle (BitVec.ofNat 32 a.val) (BitVec.ofNat 32 b.val)
      = if a.val ≤ b.val then 1#1 else 0#1 := by
  have h1 := a.isLt
  have h2 := b.isLt
  have ha' : (BitVec.ofNat 32 a.val).toInt = a.val := by
    rw [BitVec.toInt_eq_toNat_of_lt] <;> simp <;> omega
  have hb' : (BitVec.ofNat 32 b.val).toInt = b.val := by
    rw [BitVec.toInt_eq_toNat_of_lt] <;> simp <;> omega
  simp only [IntOp.cmpi, BitVec.sle, ha', hb']
  by_cases h : a.val ≤ b.val <;> simp [h]

variable (x0 : (⟨S16384x2048, .f32⟩ : BufTy).Contents (Elt Ideal))
  (x1 : (⟨S2048, .f32⟩ : BufTy).Contents (Elt Ideal))
  (x2 : (⟨S2048x6160, .f32⟩ : BufTy).Contents (Elt Ideal))
  (x3 : (⟨S16, .f32⟩ : BufTy).Contents (Elt Ideal))

theorem ofNat_val (j : Fin 4096) : Fin.ofNat 4096 j.val = j :=
  Fin.ext (Nat.mod_eq_of_lt j.isLt)

theorem wide_zero (h : Fin 16) (x : Fin 128) (p) :
    (⟨h.val * 128 + x.val, p⟩ : Fin 6160) = wide (lane 0 h x) :=
  Fin.ext (by simp [lane, wide])

theorem wide_one (h : Fin 16) (x : Fin 128) (p) :
    (⟨2048 + (h.val * 128 + x.val), p⟩ : Fin 6160) = wide (lane 1 h x) :=
  Fin.ext (by simp [lane, wide]; omega)

/-- The normalised rows. -/
theorem v12_at (a : Fin 16384) (d : Fin 2048) :
    val_main_v12 (F := Ideal) x0 x1 (ix2 a d) = hid x0 x1 a d := by
  pointwise [val_main_v12, val_main_v11, val_main_v10, val_main_v9, val_main_v8, val_main_v7,
    val_main_v6, val_main_v5, val_main_v4, val_main_v3, val_main_v2, val_main_v1, val_main_v0,
    val_main_cst, val_main_cst_0, val_main_cst_1]
  rfl

/-- The projection's rows. -/
theorem v13_at (a : Fin 16384) (n : Fin 6160) :
    val_main_v13 (F := Ideal) x0 x1 x2 (ix2 a n) = proj x0 x1 x2 a n := by
  pointwise [val_main_v13]
  simp only [v12_at]
  rfl

/-- The projection by sequence and token. -/
theorem v14_at (b : Fin 4) (s : Fin 4096) (n : Fin 6160) :
    val_main_v14 (F := Ideal) x0 x1 x2 (ix3 b s n) = proj x0 x1 x2 (row b s) n := by
  rw [← v13_at]
  pointwise [val_main_v14]
  rfl

/-- The queries. -/
theorem v16_at (b : Fin 4) (s : Fin 4096) (h : Fin 16) (x : Fin 128) :
    val_main_v16 (F := Ideal) x0 x1 x2 (ix4 b s h x) = qkvArr x0 x1 x2 (ix2 (row b s) (lane 0 h x)) := by
  pointwise [val_main_v15, val_main_v16]
  rw [v14_at, wide_zero]
  rfl

/-- The keys. -/
theorem v18_at (b : Fin 4) (s : Fin 4096) (h : Fin 16) (x : Fin 128) :
    val_main_v18 (F := Ideal) x0 x1 x2 (ix4 b s h x) = qkvArr x0 x1 x2 (ix2 (row b s) (lane 1 h x)) := by
  pointwise [val_main_v17, val_main_v18]
  rw [v14_at, wide_one]
  rfl

/-- The log decays. -/
theorem v25_at (b : Fin 4) (s : Fin 4096) (h : Fin 16) :
    val_main_v25 (F := Ideal) x0 x1 x2 x3 (ix3 b s h)
      = logsig (proj x0 x1 x2 (row b s) (gateLane h) + x3 (ix1 h)) := by
  have e24 : val_main_v24 (F := Ideal) x0 x1 x2 x3 (ix3 b s h)
      = proj x0 x1 x2 (row b s) (gateLane h) + x3 (ix1 h) := by
    pointwise [val_main_v24, val_main_v23, val_main_v22, val_main_v21]
    rw [v14_at]
    rfl
  rw [← neg_softplus, ← e24]
  pointwise [val_main_v25, val_main_call0_v1, val_main_call0_v0, val_main_call0_call0_v11, val_main_call0_call0_v10,
    val_main_call0_call0_v9, val_main_call0_call0_v8, val_main_call0_call0_v7, val_main_call0_call0_v6,
    val_main_call0_call0_v5, val_main_call0_call0_v4, val_main_call0_call0_v3, val_main_call0_call0_v2,
    val_main_call0_call0_v1, val_main_call0_call0_v0, val_main_call0_call0_cst]
  rw [if_neg (not_not.2 rfl)]
  rfl

/-- The running log decays. -/
theorem v26_at (b : Fin 4) (s : Fin 4096) (h : Fin 16) :
    val_main_v26 (F := Ideal) x0 x1 x2 x3 (ix3 b s h) = decay x0 x1 x2 x3 b (s.val + 1) h := by
  unfold val_main_v26 decay
  refine running_sum rfl _ _ (fun j => logsig (proj x0 x1 x2 (row b (Fin.ofNat 4096 j)) (gateLane h) + x3 (ix1 h))) _ _ ?_ b s h fun j => ?_
  · show Ideal.ofBits FTy.f32 0#32 = 0
    simp [Ideal.ofBits, Ideal.ieee]
  · rw [v25_at, ofNat_val]

/-- The running log decays, as the attention reads them by token. -/
theorem decayRows_at (b : Fin 4) (s : Fin 4096) (h : Fin 16) :
    decayRows x0 x1 x2 x3 (ix2 (row b s) (head h)) = decay x0 x1 x2 x3 b (s.val + 1) h := by
  show decay x0 x1 x2 x3 (seqOf (row b s)) (posOf (row b s) + 1) (Fin.ofNat 16 (head h).val) = _
  rw [seqOf_row, posOf_row]
  exact congrArg _ (Fin.ext (Nat.mod_eq_of_lt h.isLt))

/-- The masked scores. -/
theorem v44_at (b : Fin 4) (h : Fin 16) (s j : Fin 4096) :
    val_main_v44 (F := Ideal) x0 x1 x2 x3 (ix4 b h s j)
      = gScore (qkvArr x0 x1 x2) (decayRows x0 x1 x2 x3) (decayCols x0 x1 x2 x3) b h s j.val := by
  pointwise [val_main_v27, val_main_v28, val_main_v29, val_main_v30, val_main_v31, val_main_v32, val_main_v33,
    val_main_v34, val_main_v35, val_main_v36, val_main_v37, val_main_v38, val_main_v39, val_main_v40, val_main_v41,
    val_main_v42, val_main_v43, val_main_v44, val_main_cst_2, val_main_cst_3, val_main_call2_v0, val_main_call2_v1,
    val_main_call2_v2]
  simp only [v16_at, v18_at, v26_at]
  rw [sle_pos]
  have hm : (id (constant (F := Ideal) S_ FTy.f32 4286578688#32) ix0 : EReal) = ⊥ := ofBits_neg_inf
  rw [hm]
  unfold gScore Scalar.select
  rw [ofNat_val, decayRows_at]
  by_cases hc : j.val ≤ s.val
  · rw [if_pos hc, if_pos hc, if_pos (by decide)]
    rw [sub_eq_add_neg, add_assoc, ← sub_eq_add_neg]
    rfl
  · rw [if_neg hc, if_neg hc, if_neg (by decide)]

end Cert.Fox
-- ==== Proof.Fox.RefSoftmax.lean ====
module

public import proofs.«01_k».proof.Proof.Fox.Ref
public import proofs.«01_k».proof.Proof.Gen.FoxReferenceIdeal.Read
public import Idealize.ShloMosaic.Lib.Pointwise

/-!
# The reference's softmax, entry by entry

The softmax of the masked scores and the weighted values, read at an index.
-/

@[expose] public section

set_option maxRecDepth 16384

noncomputable section

namespace Cert.Fox

open Cert.FoxReferenceIdeal Cert.FoxReferenceIdeal.Gen Cert.FoxReferenceIdeal.Read Idealize.ShloMosaic Idealize.ShloMosaic.TcCoe Idealize.SL.Sem

variable (x0 : (⟨S16384x2048, .f32⟩ : BufTy).Contents (Elt Ideal))
  (x1 : (⟨S2048, .f32⟩ : BufTy).Contents (Elt Ideal))
  (x2 : (⟨S2048x6160, .f32⟩ : BufTy).Contents (Elt Ideal))
  (x3 : (⟨S16, .f32⟩ : BufTy).Contents (Elt Ideal))

/-- The score of key `j` for the query of token `s`. -/
abbrev refScore (b : Fin 4) (h : Fin 16) (s : Fin 4096) : ℕ → EReal :=
  gScore (qkvArr x0 x1 x2) (decayRows x0 x1 x2 x3) (decayCols x0 x1 x2 x3) b h s

/-- The row maxima. -/
theorem v47_at (b : Fin 4) (h : Fin 16) (s : Fin 4096) :
    val_main_v47 x0 x1 x2 x3 (ix3 b h s) = top (refScore x0 x1 x2 x3 b h s) 4096 := by
  have e45 : val_main_v45 x0 x1 x2 x3 (ix3 b h s) = top (refScore x0 x1 x2 x3 b h s) 4096 := by
    unfold val_main_v45
    rw [hostMax_last]
    have hi : (val_main_cst_4 (F := Ideal) (Shape.Idx.first h_S_) : EReal) = ⊥ := ofBits_neg_inf
    rw [hi]
    simp only [v44_at]
    exact fold_eq_top _ _
  rw [val_main_v47_apply, val_main_v46_apply, val_main_cst_5_apply, e45]
  have e : (FloatOps.ofBits FTy.f32 0xFF800000#32 : Ideal .f32) = (⊥ : EReal) := ofBits_neg_inf
  rw [e]
  exact max_eq_right bot_le

/-- The exponentials. -/
theorem v51_at (b : Fin 4) (h : Fin 16) (s j : Fin 4096) :
    val_main_v51 x0 x1 x2 x3 (ix4 b h s j)
      = Ideal.exp (refScore x0 x1 x2 x3 b h s j.val - top (refScore x0 x1 x2 x3 b h s) 4096) := by
  pointwise [val_main_v48, val_main_v49, val_main_v50, val_main_v51]
  rw [v44_at, v47_at]

/-- The weights. -/
theorem v55_at (b : Fin 4) (h : Fin 16) (s j : Fin 4096) :
    val_main_v55 x0 x1 x2 x3 (ix4 b h s j)
      = Ideal.div (Ideal.exp (refScore x0 x1 x2 x3 b h s j.val - top (refScore x0 x1 x2 x3 b h s) 4096))
          (mass (refScore x0 x1 x2 x3 b h s) (top (refScore x0 x1 x2 x3 b h s) 4096) 4096) := by
  pointwise [val_main_v52, val_main_v53, val_main_v54, val_main_v55, val_main_cst_6]
  simp only [v51_at]
  unfold mass
  rw [Finset.sum_range]

/-- The result, at row `4096 b + s` and column `128 h + d`. -/
theorem v58_at (a : Fin 16384) (e : Fin 2048) :
    val_main_v58 x0 x1 x2 x3 (ix2 a e)
      = ∑ j ∈ Finset.range 4096,
          Ideal.div
            (Ideal.exp (refScore x0 x1 x2 x3 (Fin.ofNat 4 (a.val / 4096)) (Fin.ofNat 16 (e.val / 128))
                (Fin.ofNat 4096 (a.val % 4096)) j
              - top (refScore x0 x1 x2 x3 (Fin.ofNat 4 (a.val / 4096)) (Fin.ofNat 16 (e.val / 128))
                (Fin.ofNat 4096 (a.val % 4096))) 4096))
            (mass (refScore x0 x1 x2 x3 (Fin.ofNat 4 (a.val / 4096)) (Fin.ofNat 16 (e.val / 128))
                (Fin.ofNat 4096 (a.val % 4096)))
              (top (refScore x0 x1 x2 x3 (Fin.ofNat 4 (a.val / 4096)) (Fin.ofNat 16 (e.val / 128))
                (Fin.ofNat 4096 (a.val % 4096))) 4096) 4096)
          * gVal (qkvArr x0 x1 x2) (Fin.ofNat 4 (a.val / 4096)) (Fin.ofNat 16 (e.val / 128))
              (Fin.ofNat 128 (e.val % 128)) j := by
  pointwise [val_main_v56, val_main_v57, val_main_v58, val_main_v19, val_main_v20]
  have ha := a.isLt
  have he := e.isLt
  have eb : ∀ p, (⟨a.val / 4096, p⟩ : Fin 4) = Fin.ofNat 4 (a.val / 4096) := fun p =>
    Fin.ext (Nat.mod_eq_of_lt p).symm
  have eh : ∀ p, (⟨e.val / 128, p⟩ : Fin 16) = Fin.ofNat 16 (e.val / 128) := fun p =>
    Fin.ext (Nat.mod_eq_of_lt p).symm
  have es : ∀ p, (⟨a.val % 4096, p⟩ : Fin 4096) = Fin.ofNat 4096 (a.val % 4096) := fun p =>
    Fin.ext (Nat.mod_eq_of_lt p).symm
  rw [Finset.sum_range]
  refine Finset.sum_congr rfl fun j _ => ?_
  rw [eb, eh, es, v55_at, v14_at, mul_comm]
  congr 1
  unfold gVal
  rw [ofNat_val]
  refine congrArg (proj x0 x1 x2 _) (Fin.ext ?_)
  show 4096 + e.val = 2 * 2048 + e.val / 128 % 16 * 128 + e.val % 128 % 128
  omega

end Cert.Fox
-- ==== Proof.Fox.Equal.lean ====
module

public import proofs.«01_k».proof.Proof.Fox.RefSoftmax

/-!
# Kernel and reference compute the same attention

Where the queries, the keys and the log decays are finite, the score of a query against its own key
is a real number and no score is `+∞`; so the sum of weights is a positive real number and dividing
by it once, at the end, is dividing every weight by it.
-/

@[expose] public section

set_option maxRecDepth 16384

noncomputable section

namespace Cert.Fox

open Cert.FoxReferenceIdeal Cert.FoxReferenceIdeal.Gen Cert.FoxReferenceIdeal.Read Idealize.ShloMosaic Idealize.ShloMosaic.TcCoe Idealize.SL.Sem

variable (X0 : (⟨2, ![16384, 6144]⟩ : Shape).Idx → EReal)
  (X1 : (⟨2, ![16384, 128]⟩ : Shape).Idx → EReal)
  (X2 : (⟨4, ![4, 16, 1, 4096]⟩ : Shape).Idx → EReal)
  (h0 : ∀ a (b : Fin 6144), b.val < 4096 → IsReal (X0 (ix2 a b)))
  (h1 : ∀ a h, IsReal (X1 (ix2 a (head h))))
  (h2 : ∀ b h j, IsReal (X2 (ix4 b h 0 j)))

include h0 h1 h2

/-- The score of a key not later than the query is a real number. -/
theorem gScore_isReal (b : Fin 4) (h : Fin 16) (s : Fin 4096) (j : ℕ) (hj : j ≤ s.val) :
    IsReal (gScore X0 X1 X2 b h s j) := by
  unfold gScore
  rw [if_pos hj]
  refine IsReal.add (IsReal.mul (IsReal.sum _ _ fun x => IsReal.mul (h0 _ _ ?_) (h0 _ _ ?_))
    isReal_scale) (IsReal.sub (h1 _ _) (h2 _ _ _))
  · show (0 : ℕ) * 2048 + h.val * 128 + x.val < 4096
    omega
  · show (1 : ℕ) * 2048 + h.val * 128 + x.val < 4096
    omega

/-- The kernel's entry is the softmax of all 4096 scores applied to the values. -/
theorem attn_eq (b : Fin 4) (h : Fin 16) (s : Fin 4096) (d : Fin 128) :
    attn X0 X1 X2 b h s d
      = ∑ j ∈ Finset.range 4096,
          Ideal.div (Ideal.exp (gScore X0 X1 X2 b h s j - top (gScore X0 X1 X2 b h s) 4096))
            (mass (gScore X0 X1 X2 b h s) (top (gScore X0 X1 X2 b h s) 4096) 4096)
          * gVal X0 b h d j := by
  have hs := s.isLt
  unfold attn
  refine softmax_eq _ _ (by unfold seen; omega) (fun j hj _ => ?_) (fun j _ => ?_) (j0 := s.val)
    (by unfold seen; omega) (gScore_isReal X0 X1 X2 h0 h1 h2 b h s s.val le_rfl).ne_bot
  · unfold seen at hj
    unfold gScore
    rw [if_neg (by omega)]
  · by_cases hj : j ≤ s.val
    · exact (gScore_isReal X0 X1 X2 h0 h1 h2 b h s j hj).ne_top
    · unfold gScore
      rw [if_neg hj]
      exact bot_ne_top

omit h0 h1 h2

variable (x0 : (⟨S16384x2048, .f32⟩ : BufTy).Contents (Elt Ideal))
  (x1 : (⟨S2048, .f32⟩ : BufTy).Contents (Elt Ideal))
  (x2 : (⟨S2048x6160, .f32⟩ : BufTy).Contents (Elt Ideal))
  (x3 : (⟨S16, .f32⟩ : BufTy).Contents (Elt Ideal))
  (x4 : (⟨S2048x2048, .f32⟩ : BufTy).Contents (Elt Ideal))

/-- A lane of the projection of finite rows by finite weights is a real number. -/
theorem isReal_proj (hg : ∀ i, IsReal (x1 i)) (a : Fin 16384) (n : Fin 6160)
    (hw : ∀ k : Fin 2048, IsReal (x2 (ix2 k n))) : IsReal (proj x0 x1 x2 a n) :=
  IsReal.sum _ _ fun k => (isReal_norm _ _ _ (hg _)).mul (hw k)

/-- A finite sum of log decays is a real number. -/
theorem isReal_decay (hg : ∀ i, IsReal (x1 i))
    (hw : ∀ (k : Fin 2048) (n : Fin 6160), 6144 ≤ n.val → IsReal (x2 (ix2 k n))) (hf : ∀ i, ⊥ < x3 i)
    (b : Fin 4) (n : ℕ) (h : Fin 16) : IsReal (decay x0 x1 x2 x3 b n h) :=
  IsReal.sum _ _ fun _ => isReal_logsig (by
    obtain ⟨r, hr⟩ := isReal_proj x0 x1 x2 hg (row b (Fin.ofNat 4096 _)) (gateLane h) fun k =>
      hw k _ (Nat.le_add_right _ _)
    rw [hr]
    exact EReal.bot_lt_add_iff.2 ⟨EReal.bot_lt_coe r, hf _⟩)

/-- The attention's array is the reference's. -/
theorem headArr_eq (hg : ∀ i, IsReal (x1 i))
    (hq : ∀ (k : Fin 2048) (n : Fin 6160), n.val < 4096 → IsReal (x2 (ix2 k n)))
    (hw : ∀ (k : Fin 2048) (n : Fin 6160), 6144 ≤ n.val → IsReal (x2 (ix2 k n))) (hf : ∀ i, ⊥ < x3 i)
    (a : Fin 16384) (e : Fin 2048) :
    headArr x0 x1 x2 x3 (ix2 a e) = val_main_v58 (F := Ideal) x0 x1 x2 x3 (ix2 a e) := by
  rw [v58_at]
  exact attn_eq _ _ _ (fun a n hn => isReal_proj x0 x1 x2 hg _ _ fun k => hq k _ hn)
    (fun a h => isReal_decay x0 x1 x2 x3 hg hw hf _ _ _)
    (fun b h j => isReal_decay x0 x1 x2 x3 hg hw hf _ _ _) _ _ _ _

/-- The layer's array is the reference's result. -/
theorem layerArr_eq (hg : ∀ i, IsReal (x1 i))
    (hq : ∀ (k : Fin 2048) (n : Fin 6160), n.val < 4096 → IsReal (x2 (ix2 k n)))
    (hw : ∀ (k : Fin 2048) (n : Fin 6160), 6144 ≤ n.val → IsReal (x2 (ix2 k n))) (hf : ∀ i, ⊥ < x3 i) :
    layerArr x0 x1 x2 x3 x4 = val_main_v60 (F := Ideal) x0 x1 x2 x3 x4 := by
  funext y
  obtain ⟨a, e, rfl⟩ : ∃ (a : Fin 16384) (e : Fin 2048), y = ix2 a e := ⟨y 0, y 1, eq_ix2 y⟩
  pointwise [val_main_v60, val_main_v59]
  unfold layerArr
  exact congrArg (x0 (ix2 a e) + ·) (Finset.sum_congr (M := EReal) rfl fun k _ =>
    congrArg (· * x4 (ix2 k e)) (headArr_eq x0 x1 x2 x3 hg hq hw hf a k))

end Cert.Fox
-- ==== Proof.Fox.Claims.lean ====
module

public import proofs.«01_k».proof.Defs
public import proofs.«01_k».proof.Proof.Fox.Run
public import proofs.«01_k».proof.Proof.Fox.Equal
public import proofs.«01_k».proof.Proof.Gen.FoxReferenceIdeal.Run
public import Idealize.ShloMosaic.Lib.Quiescent

/-!
# The claims about the forgetting attention layer
-/

@[expose] public section

set_option maxRecDepth 16384

noncomputable section

namespace Cert.Fox

open Idealize.ShloMosaic Idealize.ShloMosaic.TcCoe Idealize.SL.Sem

/-- The shape relations the precondition's operations take. -/
theorem preFacts : Cert.Pre_fox_finite.Facts :=
  ⟨by decide, by decide, by decide, by decide, by decide, by decide, by decide⟩

/-- The word of `+∞`. -/
theorem ofBits_inf : Ideal.ofBits FTy.f32 2139095040#32 = ⊤ := by
  simp [Ideal.ofBits, Ideal.ieee]

/-- What a true comparison with `+∞` says. -/
theorem isReal_of_cmp {x : EReal}
    (h : BitVec.ofBool (decide (max x (-x) < Ideal.ofBits FTy.f32 2139095040#32)) = 1#1) :
    IsReal x := by
  rw [ofBits_inf] at h
  refine IsReal.of_abs_lt ?_
  by_contra hn
  simp [hn] at h

/-- What a true comparison with `-∞` says. -/
theorem bot_lt_of_cmp {x : EReal} (h : BitVec.ofBool (decide (Ideal.ofBits FTy.f32 4286578688#32 < x)) = 1#1) :
    ⊥ < x := by
  rw [ofBits_neg_inf] at h
  by_contra hn
  simp [hn] at h

attribute [local instance] preFacts

variable (m : (ℓ : Loc Cert.FoxLayerIdeal.nD Cert.FoxLayerIdeal.τ Cert.FoxLayerIdeal.sig) → Buf (Elt Ideal) ℓ)

/-- The norm's gain is finite. -/
theorem pre1 (hp : Cert.Pre_FoxLayerIdeal_fox_finite m) (c : Dev Cert.FoxLayerIdeal.nD)
    (i : (⟨1, ![2048]⟩ : Shape).Idx) : IsReal (m (c.tc.loc Cert.FoxLayerIdeal.main_arg1) i) := by
  have h := congrFun (hp c).1 i
  pointwise [Cert.Pre_fox_finite.fn] at h
  exact isReal_of_cmp h

/-- The projections to queries and keys are finite. -/
theorem pre2 (hp : Cert.Pre_FoxLayerIdeal_fox_finite m) (c : Dev Cert.FoxLayerIdeal.nD)
    (k : Fin 2048) (n : Fin 6160) (hn : n.val < 4096) :
    IsReal (m (c.tc.loc Cert.FoxLayerIdeal.main_arg2) (ix2 k n)) := by
  have h := congrFun (hp c).2.1 (ix2 k (⟨n.val, hn⟩ : Fin 4096))
  pointwise [Cert.Pre_fox_finite.fn] at h
  exact isReal_of_cmp h

/-- The projection to the forget gates is finite. -/
theorem pre3 (hp : Cert.Pre_FoxLayerIdeal_fox_finite m) (c : Dev Cert.FoxLayerIdeal.nD)
    (k : Fin 2048) (n : Fin 6160) (hn : 6144 ≤ n.val) :
    IsReal (m (c.tc.loc Cert.FoxLayerIdeal.main_arg2) (ix2 k n)) := by
  have h := congrFun (hp c).2.2.1 (ix2 k (⟨n.val - 6144, by omega⟩ : Fin 16))
  pointwise [Cert.Pre_fox_finite.fn] at h
  have e : ∀ p, (⟨6144 + (n.val - 6144), p⟩ : Fin 6160) = n := fun p =>
    Fin.ext (show 6144 + (n.val - 6144) = n.val by omega)
  rw [e] at h
  exact isReal_of_cmp h

/-- The forget gates' biases are above `-∞`. -/
theorem pre4 (hp : Cert.Pre_FoxLayerIdeal_fox_finite m) (c : Dev Cert.FoxLayerIdeal.nD)
    (i : (⟨1, ![16]⟩ : Shape).Idx) : (⊥ : EReal) < (m (c.tc.loc Cert.FoxLayerIdeal.main_arg3) i : EReal) := by
  have h := congrFun (hp c).2.2.2 i
  pointwise [Cert.Pre_fox_finite.fn] at h
  exact bot_lt_of_cmp h

/-- The reference leaves its arguments and every semaphore as they were. -/
theorem quiescentReference
    (m : (ℓ : Loc Cert.FoxReferenceIdeal.nD Cert.FoxReferenceIdeal.τ Cert.FoxReferenceIdeal.sig) → Buf (Elt Ideal) ℓ)
    (ρ : Dev Cert.FoxReferenceIdeal.nD → PrngReg) :
    θ_run (Val := Elt Ideal) Cert.FoxReferenceIdeal.defs
      (onTc (τ := Cert.FoxReferenceIdeal.τ) (Cert.FoxReferenceIdeal.main (F := Ideal)))
      ⟨m, fun _ => 0, ρ⟩ (fun r => (∀ c : Dev Cert.FoxReferenceIdeal.nD,
        r.2.mem (c.tc.loc Cert.FoxReferenceIdeal.main_arg0) = m (c.tc.loc Cert.FoxReferenceIdeal.main_arg0)
        ∧ r.2.mem (c.tc.loc Cert.FoxReferenceIdeal.main_arg1) = m (c.tc.loc Cert.FoxReferenceIdeal.main_arg1)
        ∧ r.2.mem (c.tc.loc Cert.FoxReferenceIdeal.main_arg2) = m (c.tc.loc Cert.FoxReferenceIdeal.main_arg2)
        ∧ r.2.mem (c.tc.loc Cert.FoxReferenceIdeal.main_arg3) = m (c.tc.loc Cert.FoxReferenceIdeal.main_arg3)
        ∧ r.2.mem (c.tc.loc Cert.FoxReferenceIdeal.main_arg4) = m (c.tc.loc Cert.FoxReferenceIdeal.main_arg4))
        ∧ r.2.sem = fun _ => 0) :=
  (θ_run Cert.FoxReferenceIdeal.defs _ _).mono
    (fun r h => ⟨fun c => (h c).2, Idealize.ShloMosaic.sem_eq_zero_of_no_sems (by decide) r.2⟩)
    (Cert.FoxReferenceIdeal.Value.run (F := Ideal) m ρ)

/-- Kernel and reference end with the same array from the same arguments. -/
theorem algebraic : Cert.algebraic_FoxLayerIdeal_FoxReferenceIdeal_pre_fox_finite := by
  intro m g m' g' hp hag
  refine ⟨fun c => layerArr (m (c.tc.loc Cert.FoxLayerIdeal.main_arg0)) (m (c.tc.loc Cert.FoxLayerIdeal.main_arg1))
      (m (c.tc.loc Cert.FoxLayerIdeal.main_arg2)) (m (c.tc.loc Cert.FoxLayerIdeal.main_arg3))
      (m (c.tc.loc Cert.FoxLayerIdeal.main_arg4)), ?_, ?_⟩
  · exact (θ_run _ _ _).mono (fun _ h c =>
      ⟨(h c _ (Cert.FoxLayerIdeal.Gen.mem_uc Cert.FoxLayerIdeal.main_v16 (by decide))).trans (layer_end m g c),
       (h c _ (Cert.FoxLayerIdeal.Gen.mem_uc Cert.FoxLayerIdeal.main_arg0 (by decide))).trans (Cert.FoxLayerIdeal.Gen.W16_main_arg0 m g c),
       (h c _ (Cert.FoxLayerIdeal.Gen.mem_uc Cert.FoxLayerIdeal.main_arg1 (by decide))).trans (Cert.FoxLayerIdeal.Gen.W16_main_arg1 m g c),
       (h c _ (Cert.FoxLayerIdeal.Gen.mem_uc Cert.FoxLayerIdeal.main_arg2 (by decide))).trans (Cert.FoxLayerIdeal.Gen.W16_main_arg2 m g c),
       (h c _ (Cert.FoxLayerIdeal.Gen.mem_uc Cert.FoxLayerIdeal.main_arg3 (by decide))).trans (Cert.FoxLayerIdeal.Gen.W16_main_arg3 m g c),
       (h c _ (Cert.FoxLayerIdeal.Gen.mem_uc Cert.FoxLayerIdeal.main_arg4 (by decide))).trans (Cert.FoxLayerIdeal.Gen.W16_main_arg4 m g c)⟩)
      (run_all m g)
  · refine (θ_run _ _ _).mono (fun _ h c => ⟨(h c).1.trans ?_, (h c).2⟩)
      (Cert.FoxReferenceIdeal.Value.run (F := Ideal) m' g')
    dsimp only
    rw [Cert.FoxReferenceIdeal.Read.val_main_v60_eq]
    obtain ⟨e0, e1, e2, e3, e4⟩ := hag c
    rw [layerArr_eq _ _ _ _ _ (pre1 m hp c) (pre2 m hp c) (pre3 m hp c) (pre4 m hp c),
      ← e0, ← e1, ← e2, ← e3, ← e4]

end Cert.Fox
-- ==== Proof.Ffn.Region0.lean ====
module

public import proofs.«01_k».proof.Proof.Gen.TailIdeal.Frame
public import proofs.«01_k».proof.Proof.Ffn.Spec
public import Idealize.ShloMosaic.Lib.Pipeline.ValueKit
public import Idealize.ShloMosaic.Lib.Pipeline.Covers
public import Idealize.ShloMosaic.Lib.Pointwise

/-!
# The norm in front of the channel mixer

The array its launch leaves, from the buffers it finds.
-/

@[expose] public section

set_option maxRecDepth 16384

noncomputable section

namespace Cert.Ffn

open Cert.TailIdeal Cert.TailIdeal.Gen Idealize.ShloMosaic Idealize.ShloMosaic.TcCoe
open Idealize.SL.Sem

variable (V : (c : Dev nD) → (b : Ref sig .tc) → Buf (Elt Ideal) ((c : Thread nD τ).loc b))

theorem index0_0 : ∀ t : Fin cfg0.N, win0_0.index t = ![(grid0.coords t 0).val, 0] := by
  decide +kernel

theorem index0_1 : ∀ t : Fin cfg0.N, win0_1.index t = ![0, 0] := by decide +kernel

theorem index0_2 : ∀ t : Fin cfg0.N, win0_2.index t = ![(grid0.coords t 0).val, 0] := by
  decide +kernel

theorem coord0 (t : Fin cfg0.N) : (grid0.coords t 0).val < 32 := (grid0.coords t 0).isLt

/-- The rows a grid point is given. -/
theorem rows0 (c : Dev nD) (t : Fin cfg0.N) (r : Fin 512) (d : Fin 2048) :
    iblk0 V c 0 t (ix2 r d)
      = V c main_arg0 (ix2 ⟨(grid0.coords t 0).val * 512 + r.val, by
          have := coord0 t; omega⟩ d) := by
  blk_ext! [iblk0, index0_0 t]

/-- The scale a grid point is given. -/
theorem scale0 (c : Dev nD) (t : Fin cfg0.N) (d : Fin 2048) :
    iblk0 V c 1 t (ix2 0 d) = V c main_v0 (ix2 0 d) := by
  blk_ext! [iblk0, index0_1 t]

/-- What the body computes of its blocks. -/
theorem out0 (a : Vec Ideal S512x2048 .f32) (b : Vec Ideal S1x2048 .f32) (r : Fin 512)
    (d : Fin 2048) : out0_2 a b (ix2 r d) = norm (fun k => a (ix2 r k)) (b (ix2 0 d)) d := by
  unfold out0_2
  frame_out
  pointwise [k0_pay1]
  rfl

/-- The grid point that writes a block of the result. -/
def place0 (x : Fin 32) : grid0.Coords := Fin.cons x fun a => a.elim0

theorem place0_eq : ∀ (x : Fin 32) (y : Fin 1) (a : Fin 2),
    cc0_transform_2 (place0 x) a = (![x.val, y.val] : Fin 2 → ℕ) a := by
  decide +kernel

/-- The normalised rows, as an array. -/
def normArr (x : S16384x2048.Idx → EReal) (g : S1x2048.Idx → EReal) : S16384x2048.Idx → EReal :=
  fun i => norm (fun k => x (ix2 (i 0) k)) (g (ix2 0 (i 1))) (i 1)

/-- The array the launch leaves. -/
theorem arr0 (c : Dev nD) :
    (dat0 V c).arrAt 2 cfg0.N = normArr (V c main_arg0) (V c main_v0) := by
  refine (dat0 V c).arrAt_eq_of_covers 2 _ ?_ fun t hf y => ?_
  · exact (cfg0.win 2).covers_of_indexMap_surj rfl (by decide) fun β =>
      ⟨place0 (β 0), fun a => (place0_eq (β 0) (β 1) a).trans
        (match a with | ⟨0, _⟩ => rfl | ⟨1, _⟩ => rfl)⟩
  · blk_simp
    rw [after0_2]
    obtain ⟨r, d, rfl⟩ : ∃ (r : Fin 512) (d : Fin 2048), y = ix2 r d := ⟨y 0, y 1, eq_ix2 y⟩
    rw [out0, scale0]
    have e : (win0_2.blk t).view.emb (ix2 r d : S512x2048.Idx)
        = (ix2 ⟨(grid0.coords t 0).val * 512 + r.val, by
            have := coord0 t; omega⟩ d : S16384x2048.Idx) := by
      blk_ext [index0_2 t]
    rw [e]
    exact congrArg (fun x => norm x _ d) (funext fun k => rows0 V c t r k)

end Cert.Ffn
-- ==== Proof.Ffn.Region1.lean ====
module

public import proofs.«01_k».proof.Proof.Gen.TailIdeal.Frame
public import proofs.«01_k».proof.Proof.Ffn.Spec
public import Idealize.ShloMosaic.Lib.Pipeline.ValueKit
public import Idealize.ShloMosaic.Lib.Pipeline.Covers
public import Idealize.ShloMosaic.Lib.Pointwise

/-!
# The gated product of the channel mixer

The array its launch leaves, from the buffers it finds.
-/

@[expose] public section

set_option maxRecDepth 16384

noncomputable section

namespace Cert.Ffn

open Cert.TailIdeal Cert.TailIdeal.Gen Idealize.ShloMosaic Idealize.ShloMosaic.TcCoe
open Idealize.SL.Sem

variable (V : (c : Dev nD) → (b : Ref sig .tc) → Buf (Elt Ideal) ((c : Thread nD τ).loc b))

theorem index1_0 : ∀ t : Fin cfg1.N, win1_0.index t = ![(grid1.coords t 0).val, 0] := by
  decide +kernel

theorem index1_1 : ∀ t : Fin cfg1.N, win1_1.index t = ![0, (grid1.coords t 1).val] := by
  decide +kernel

theorem index1_2 : ∀ t : Fin cfg1.N, win1_2.index t = ![0, (grid1.coords t 1).val] := by
  decide +kernel

theorem index1_3 : ∀ t : Fin cfg1.N,
    win1_3.index t = ![(grid1.coords t 0).val, (grid1.coords t 1).val] := by
  decide +kernel

theorem coord1_0 (t : Fin cfg1.N) : (grid1.coords t 0).val < 16 := (grid1.coords t 0).isLt

theorem coord1_1 (t : Fin cfg1.N) : (grid1.coords t 1).val < 11 := (grid1.coords t 1).isLt

/-- The rows a grid point is given. -/
theorem rows1 (c : Dev nD) (t : Fin cfg1.N) (r : Fin 1024) (k : Fin 2048) :
    iblk1 V c 0 t (ix2 r k)
      = V c main_v1 (ix2 ⟨(grid1.coords t 0).val * 1024 + r.val, by
          have := coord1_0 t; omega⟩ k) := by
  blk_ext! [iblk1, index1_0 t]

/-- The gate's columns a grid point is given. -/
theorem gateCols (c : Dev nD) (t : Fin cfg1.N) (k : Fin 2048) (d : Fin 512) :
    iblk1 V c 1 t (ix2 k d)
      = V c main_v2 (ix2 k ⟨(grid1.coords t 1).val * 512 + d.val, by
          have := coord1_1 t; omega⟩) := by
  blk_ext! [iblk1, index1_1 t]

/-- The other factor's columns a grid point is given. -/
theorem upCols (c : Dev nD) (t : Fin cfg1.N) (k : Fin 2048) (d : Fin 512) :
    iblk1 V c 2 t (ix2 k d)
      = V c main_v3 (ix2 k ⟨(grid1.coords t 1).val * 512 + d.val, by
          have := coord1_1 t; omega⟩) := by
  blk_ext! [iblk1, index1_2 t]

/-- What the body computes of its blocks. -/
theorem out1 (x : Vec Ideal S1024x2048 .bf16) (a b : Vec Ideal S2048x512 .bf16) (r : Fin 1024)
    (d : Fin 512) : out1_3 x a b (ix2 r d)
      = gated (fun k => x (ix2 r k)) (fun k => a (ix2 k d)) (fun k => b (ix2 k d)) := by
  unfold out1_3
  frame_out
  pointwise [k1_pay1]
  rfl

/-- The grid point that writes a block of the result. -/
def place1 (x : Fin 16) (y : Fin 11) : grid1.Coords := Fin.cons x (Fin.cons y fun a => a.elim0)

theorem place1_eq : ∀ (x : Fin 16) (y : Fin 11) (a : Fin 2),
    cc1_transform_3 (place1 x y) a = (![x.val, y.val] : Fin 2 → ℕ) a := by
  decide +kernel

/-- The gated product, as an array. -/
def gatedArr (h : S16384x2048.Idx → EReal) (a b : S2048x5632.Idx → EReal) :
    S16384x5632.Idx → EReal :=
  fun i => gated (fun k => h (ix2 (i 0) k)) (fun k => a (ix2 k (i 1))) (fun k => b (ix2 k (i 1)))

/-- The array the launch leaves. -/
theorem arr1 (c : Dev nD) :
    (dat1 V c).arrAt 3 cfg1.N = gatedArr (V c main_v1) (V c main_v2) (V c main_v3) := by
  refine (dat1 V c).arrAt_eq_of_covers 3 _ ?_ fun t hf y => ?_
  · exact (cfg1.win 3).covers_of_indexMap_surj rfl (by decide) fun β =>
      ⟨place1 (β 0) (β 1), fun a => (place1_eq (β 0) (β 1) a).trans
        (match a with | ⟨0, _⟩ => rfl | ⟨1, _⟩ => rfl)⟩
  · blk_simp
    rw [after1_3]
    obtain ⟨r, d, rfl⟩ : ∃ (r : Fin 1024) (d : Fin 512), y = ix2 r d := ⟨y 0, y 1, eq_ix2 y⟩
    rw [out1]
    have e : (win1_3.blk t).view.emb (ix2 r d : S1024x512.Idx)
        = (ix2 ⟨(grid1.coords t 0).val * 1024 + r.val, by have := coord1_0 t; omega⟩
            ⟨(grid1.coords t 1).val * 512 + d.val, by have := coord1_1 t; omega⟩
            : S16384x5632.Idx) := by
      blk_ext [index1_3 t]
    rw [e]
    unfold gatedArr
    congr 1 <;> funext k
    · exact rows1 V c t r k
    · exact gateCols V c t k d
    · exact upCols V c t k d

end Cert.Ffn
-- ==== Proof.Ffn.Region2.lean ====
module

public import proofs.«01_k».proof.Proof.Gen.TailIdeal.Frame
public import proofs.«01_k».proof.Proof.Ffn.Spec
public import Idealize.ShloMosaic.Lib.Pipeline.ValueKit
public import Idealize.ShloMosaic.Lib.Pipeline.Covers
public import Idealize.ShloMosaic.Lib.Pointwise

/-!
# The product that closes the channel mixer

The array its launch leaves, from the buffers it finds.
-/

@[expose] public section

set_option maxRecDepth 16384

noncomputable section

namespace Cert.Ffn

open Cert.TailIdeal Cert.TailIdeal.Gen Idealize.ShloMosaic Idealize.ShloMosaic.TcCoe
open Idealize.SL.Sem

variable (V : (c : Dev nD) → (b : Ref sig .tc) → Buf (Elt Ideal) ((c : Thread nD τ).loc b))

theorem index2_0 : ∀ t : Fin cfg2.N, win2_0.index t = ![(grid2.coords t 0).val, 0] := by
  decide +kernel

theorem index2_1 : ∀ t : Fin cfg2.N, win2_1.index t = ![0, (grid2.coords t 1).val] := by
  decide +kernel

theorem index2_2 : ∀ t : Fin cfg2.N,
    win2_2.index t = ![(grid2.coords t 0).val, (grid2.coords t 1).val] := by
  decide +kernel

theorem index2_3 : ∀ t : Fin cfg2.N,
    win2_3.index t = ![(grid2.coords t 0).val, (grid2.coords t 1).val] := by
  decide +kernel

theorem coord2_0 (t : Fin cfg2.N) : (grid2.coords t 0).val < 32 := (grid2.coords t 0).isLt

theorem coord2_1 (t : Fin cfg2.N) : (grid2.coords t 1).val < 4 := (grid2.coords t 1).isLt

/-- The rows of the gated product a grid point is given. -/
theorem rows2 (c : Dev nD) (t : Fin cfg2.N) (r : Fin 512) (k : Fin 5632) :
    iblk2 V c 0 t (ix2 r k)
      = V c main_v4 (ix2 ⟨(grid2.coords t 0).val * 512 + r.val, by
          have := coord2_0 t; omega⟩ k) := by
  blk_ext! [iblk2, index2_0 t]

/-- The columns of weights a grid point is given. -/
theorem downCols (c : Dev nD) (t : Fin cfg2.N) (k : Fin 5632) (d : Fin 512) :
    iblk2 V c 1 t (ix2 k d)
      = V c main_v5 (ix2 k ⟨(grid2.coords t 1).val * 512 + d.val, by
          have := coord2_1 t; omega⟩) := by
  blk_ext! [iblk2, index2_1 t]

/-- The block of the residual stream a grid point is given. -/
theorem stream2 (c : Dev nD) (t : Fin cfg2.N) (r d : Fin 512) :
    iblk2 V c 2 t (ix2 r d)
      = V c main_arg0 (ix2 ⟨(grid2.coords t 0).val * 512 + r.val, by
          have := coord2_0 t; omega⟩ ⟨(grid2.coords t 1).val * 512 + d.val, by
          have := coord2_1 t; omega⟩) := by
  blk_ext! [iblk2, index2_2 t]

/-- What the body computes of its blocks. -/
theorem out2 (h : Vec Ideal S512x5632 .bf16) (w : Vec Ideal S5632x512 .bf16)
    (x : Vec Ideal S512x512 .f32) (r d : Fin 512) : out2_3 h w x (ix2 r d)
      = mixed (x (ix2 r d)) (fun k => h (ix2 r k)) (fun k => w (ix2 k d)) := by
  unfold out2_3
  frame_out
  pointwise [k2_pay1]
  rfl

/-- The grid point that writes a block of the result. -/
def place2 (x : Fin 32) (y : Fin 4) : grid2.Coords := Fin.cons x (Fin.cons y fun a => a.elim0)

theorem place2_eq : ∀ (x : Fin 32) (y : Fin 4) (a : Fin 2),
    cc2_transform_3 (place2 x y) a = (![x.val, y.val] : Fin 2 → ℕ) a := by
  decide +kernel

/-- The residual stream after the mixer, as an array. -/
def mixedArr (x : S16384x2048.Idx → EReal) (h : S16384x5632.Idx → EReal)
    (w : S5632x2048.Idx → EReal) : S16384x2048.Idx → EReal :=
  fun i => mixed (x (ix2 (i 0) (i 1))) (fun k => h (ix2 (i 0) k)) (fun k => w (ix2 k (i 1)))

/-- The array the launch leaves. -/
theorem arr2 (c : Dev nD) :
    (dat2 V c).arrAt 3 cfg2.N = mixedArr (V c main_arg0) (V c main_v4) (V c main_v5) := by
  refine (dat2 V c).arrAt_eq_of_covers 3 _ ?_ fun t hf y => ?_
  · exact (cfg2.win 3).covers_of_indexMap_surj rfl (by decide) fun β =>
      ⟨place2 (β 0) (β 1), fun a => (place2_eq (β 0) (β 1) a).trans
        (match a with | ⟨0, _⟩ => rfl | ⟨1, _⟩ => rfl)⟩
  · blk_simp
    rw [after2_3]
    obtain ⟨r, d, rfl⟩ : ∃ (r d : Fin 512), y = ix2 r d := ⟨y 0, y 1, eq_ix2 y⟩
    rw [out2]
    have e : (win2_3.blk t).view.emb (ix2 r d : S512x512.Idx)
        = (ix2 ⟨(grid2.coords t 0).val * 512 + r.val, by have := coord2_0 t; omega⟩
            ⟨(grid2.coords t 1).val * 512 + d.val, by have := coord2_1 t; omega⟩
            : S16384x2048.Idx) := by
      blk_ext [index2_3 t]
    rw [e]
    unfold mixedArr
    congr 1
    · exact stream2 V c t r d
    · exact funext fun k => rows2 V c t r k
    · exact funext fun k => downCols V c t k d

end Cert.Ffn
-- ==== Proof.Ffn.Region3.lean ====
module

public import proofs.«01_k».proof.Proof.Gen.TailIdeal.Frame
public import proofs.«01_k».proof.Proof.Ffn.Region0
public import Idealize.ShloMosaic.Lib.Pipeline.ValueKit
public import Idealize.ShloMosaic.Lib.Pipeline.Covers
public import Idealize.ShloMosaic.Lib.Pointwise

/-!
# The norm that closes the trunk

The array its launch leaves, from the buffers it finds.
-/

@[expose] public section

set_option maxRecDepth 16384

noncomputable section

namespace Cert.Ffn

open Cert.TailIdeal Cert.TailIdeal.Gen Idealize.ShloMosaic Idealize.ShloMosaic.TcCoe
open Idealize.SL.Sem

variable (V : (c : Dev nD) → (b : Ref sig .tc) → Buf (Elt Ideal) ((c : Thread nD τ).loc b))

theorem index3_0 : ∀ t : Fin cfg3.N, win3_0.index t = ![(grid3.coords t 0).val, 0] := by
  decide +kernel

theorem index3_1 : ∀ t : Fin cfg3.N, win3_1.index t = ![0, 0] := by decide +kernel

theorem index3_2 : ∀ t : Fin cfg3.N, win3_2.index t = ![(grid3.coords t 0).val, 0] := by
  decide +kernel

theorem coord3 (t : Fin cfg3.N) : (grid3.coords t 0).val < 32 := (grid3.coords t 0).isLt

/-- The rows a grid point is given. -/
theorem rows3 (c : Dev nD) (t : Fin cfg3.N) (r : Fin 512) (d : Fin 2048) :
    iblk3 V c 0 t (ix2 r d)
      = V c main_v6 (ix2 ⟨(grid3.coords t 0).val * 512 + r.val, by
          have := coord3 t; omega⟩ d) := by
  blk_ext! [iblk3, index3_0 t]

/-- The scale a grid point is given. -/
theorem scale3 (c : Dev nD) (t : Fin cfg3.N) (d : Fin 2048) :
    iblk3 V c 1 t (ix2 0 d) = V c main_v7 (ix2 0 d) := by
  blk_ext! [iblk3, index3_1 t]

/-- What the body computes of its blocks. -/
theorem out3 (a : Vec Ideal S512x2048 .f32) (b : Vec Ideal S1x2048 .f32) (r : Fin 512)
    (d : Fin 2048) : out3_2 a b (ix2 r d) = norm (fun k => a (ix2 r k)) (b (ix2 0 d)) d := by
  unfold out3_2
  frame_out
  pointwise [k3_pay1]
  rfl

/-- The grid point that writes a block of the result. -/
def place3 (x : Fin 32) : grid3.Coords := Fin.cons x fun a => a.elim0

theorem place3_eq : ∀ (x : Fin 32) (y : Fin 1) (a : Fin 2),
    cc3_transform_2 (place3 x) a = (![x.val, y.val] : Fin 2 → ℕ) a := by
  decide +kernel

/-- The array the launch leaves. -/
theorem arr3 (c : Dev nD) :
    (dat3 V c).arrAt 2 cfg3.N = normArr (V c main_v6) (V c main_v7) := by
  refine (dat3 V c).arrAt_eq_of_covers 2 _ ?_ fun t hf y => ?_
  · exact (cfg3.win 2).covers_of_indexMap_surj rfl (by decide) fun β =>
      ⟨place3 (β 0), fun a => (place3_eq (β 0) (β 1) a).trans
        (match a with | ⟨0, _⟩ => rfl | ⟨1, _⟩ => rfl)⟩
  · blk_simp
    rw [after3_2]
    obtain ⟨r, d, rfl⟩ : ∃ (r : Fin 512) (d : Fin 2048), y = ix2 r d := ⟨y 0, y 1, eq_ix2 y⟩
    rw [out3, scale3]
    have e : (win3_2.blk t).view.emb (ix2 r d : S512x2048.Idx)
        = (ix2 ⟨(grid3.coords t 0).val * 512 + r.val, by
            have := coord3 t; omega⟩ d : S16384x2048.Idx) := by
      blk_ext [index3_2 t]
    rw [e]
    exact congrArg (fun x => norm x _ d) (funext fun k => rows3 V c t r k)

end Cert.Ffn
-- ==== Proof.Ffn.Run.lean ====
module

public import proofs.«01_k».proof.Proof.Ffn.Region0
public import proofs.«01_k».proof.Proof.Ffn.Region1
public import proofs.«01_k».proof.Proof.Ffn.Region2
public import proofs.«01_k».proof.Proof.Ffn.Region3
public import Idealize.ShloMosaic.Lib.StableHlo.Run

/-!
# The run of the channel mixer and the norm after it

What the run leaves in every buffer, and in the two results.
-/

@[expose] public section

set_option maxRecDepth 16384

noncomputable section

namespace Cert.Ffn

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every buffer the program names ends at the contents the last segment leaves. -/
theorem run_all : θ_run (Val := Elt Ideal) defs (onTc (τ := τ) (main (F := Ideal))) ⟨m, fun _ => 0, ρ⟩
    (fun r => ∀ c : Dev nD, ∀ b ∈ Pipeline.ucRefs τ sig,
      r.2.mem (((c : Thread nD τ)).1, b) = W8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => h)

/-- The norm's scale as a row. -/
theorem scale_first (c : Dev nD) (d : Fin 2048) :
    V1 m ρ c main_v0 (ix2 0 d) = m (c.tc.loc main_arg1) (ix1 d) := by
  show StableHlo.after hostOps0 (W0 m ρ c) (Proc.devRef .tc main_v0) (ix2 0 d) = _
  unfold hostOps0
  after_results
  pointwise []

/-- The last norm's scale as a row. -/
theorem scale_last (c : Dev nD) (d : Fin 2048) :
    V7 m ρ c main_v7 (ix2 0 d) = m (c.tc.loc main_arg5) (ix1 d) := by
  rw [← W6_args m ρ c main_arg5 (by decide)]
  show StableHlo.after hostOps3 (W6 m ρ c) (Proc.devRef .tc main_v7) (ix2 0 d) = _
  unfold hostOps3
  after_results
  pointwise []

/-- The gate's weights after their change of format. -/
theorem gate_cast (c : Dev nD) (i : S2048x5632.Idx) :
    V3 m ρ c main_v2 i = m (c.tc.loc main_arg2) i := by
  rw [← W2_args m ρ c main_arg2 (by decide)]
  show StableHlo.after hostOps1 (W2 m ρ c) (Proc.devRef .tc main_v2) i = _
  unfold hostOps1
  after_results
  pointwise []

/-- The other factor's weights after their change of format. -/
theorem up_cast (c : Dev nD) (i : S2048x5632.Idx) :
    V3 m ρ c main_v3 i = m (c.tc.loc main_arg3) i := by
  rw [← W2_args m ρ c main_arg3 (by decide)]
  show StableHlo.after hostOps1 (W2 m ρ c) (Proc.devRef .tc main_v3) i = _
  unfold hostOps1
  after_results
  pointwise []

/-- The last product's weights after their change of format. -/
theorem down_cast (c : Dev nD) (i : S5632x2048.Idx) :
    V5 m ρ c main_v5 i = m (c.tc.loc main_arg4) i := by
  rw [← W4_args m ρ c main_arg4 (by decide)]
  show StableHlo.after hostOps2 (W4 m ρ c) (Proc.devRef .tc main_v5) i = _
  unfold hostOps2
  after_results
  pointwise []

/-- The normalised rows as the gated product finds them. -/
theorem rows_at (c : Dev nD) (a : Fin 16384) (k : Fin 2048) :
    V3 m ρ c main_v1 (ix2 a k)
      = norm (fun j => m (c.tc.loc main_arg0) (ix2 a j)) (m (c.tc.loc main_arg1) (ix1 k)) k := by
  have e : V3 m ρ c main_v1 = (dat0 (V1 m ρ) c).arrAt 2 cfg0.N :=
    (W3_of m ρ c main_v1 (by decide)).trans (W2_arr m ρ c 2)
  rw [e, arr0, show V1 m ρ c main_arg0 = m (c.tc.loc main_arg0) from
    W1_args m ρ c main_arg0 (by decide), ← scale_first m ρ c k]
  rfl

/-- The gated product as the last product finds it. -/
theorem gated_at (c : Dev nD) (a : Fin 16384) (j : Fin 5632) :
    V5 m ρ c main_v4 (ix2 a j)
      = gated (fun k => norm (fun j => m (c.tc.loc main_arg0) (ix2 a j))
            (m (c.tc.loc main_arg1) (ix1 k)) k)
          (fun k => m (c.tc.loc main_arg2) (ix2 k j)) (fun k => m (c.tc.loc main_arg3) (ix2 k j)) := by
  have e : V5 m ρ c main_v4 = (dat1 (V3 m ρ) c).arrAt 3 cfg1.N :=
    (W5_of m ρ c main_v4 (by decide)).trans (W4_arr m ρ c 3)
  rw [e, arr1]
  show gated _ _ _ = _
  rw [show V3 m ρ c main_v2 = m (c.tc.loc main_arg2) from funext fun i => gate_cast m ρ c i,
    show V3 m ρ c main_v3 = m (c.tc.loc main_arg3) from funext fun i => up_cast m ρ c i]
  exact congrArg (fun h => gated h _ _) (funext fun k => rows_at m ρ c a k)

/-- The residual stream after the mixer, entry by entry, from the arguments. -/
def streamAt (x : S16384x2048.Idx → EReal) (g : S2048.Idx → EReal) (wg wu : S2048x5632.Idx → EReal)
    (wd : S5632x2048.Idx → EReal) (a : Fin 16384) (d : Fin 2048) : EReal :=
  mixed (x (ix2 a d))
    (fun j => gated (fun k => norm (fun j => x (ix2 a j)) (g (ix1 k)) k)
      (fun k => wg (ix2 k j)) (fun k => wu (ix2 k j)))
    (fun j => wd (ix2 j d))

/-- … as an array. -/
def streamArr (x : S16384x2048.Idx → EReal) (g : S2048.Idx → EReal) (wg wu : S2048x5632.Idx → EReal)
    (wd : S5632x2048.Idx → EReal) : S16384x2048.Idx → EReal :=
  fun i => streamAt x g wg wu wd (i 0) (i 1)

/-- The normalised stream as an array. -/
def resultArr (x : S16384x2048.Idx → EReal) (g : S2048.Idx → EReal) (wg wu : S2048x5632.Idx → EReal)
    (wd : S5632x2048.Idx → EReal) (gf : S2048.Idx → EReal) : S16384x2048.Idx → EReal :=
  fun i => norm (streamAt x g wg wu wd (i 0)) (gf (ix1 (i 1))) (i 1)

/-- The residual stream the mixer leaves. -/
theorem stream_eq (c : Dev nD) :
    W6 m ρ c (Proc.devRef .tc main_v6)
      = streamArr (m (c.tc.loc main_arg0)) (m (c.tc.loc main_arg1)) (m (c.tc.loc main_arg2))
          (m (c.tc.loc main_arg3)) (m (c.tc.loc main_arg4)) := by
  rw [show W6 m ρ c (Proc.devRef .tc main_v6) = (dat2 (V5 m ρ) c).arrAt 3 cfg2.N from
    W6_arr m ρ c 3, arr2]
  funext i
  show mixed _ _ _ = mixed _ _ _
  rw [show V5 m ρ c main_v5 = m (c.tc.loc main_arg4) from funext fun i => down_cast m ρ c i,
    show V5 m ρ c main_arg0 = m (c.tc.loc main_arg0) from W5_args m ρ c main_arg0 (by decide)]
  exact congrArg (fun h => mixed _ h _) (funext fun k => gated_at m ρ c (i 0) k)

/-- The first result at the end. -/
theorem stream_end (c : Dev nD) :
    W8 m ρ c (Proc.devRef .tc main_v6)
      = streamArr (m (c.tc.loc main_arg0)) (m (c.tc.loc main_arg1)) (m (c.tc.loc main_arg2))
          (m (c.tc.loc main_arg3)) (m (c.tc.loc main_arg4)) :=
  ((W8_of m ρ c main_v6 (by decide)).trans (W7_of m ρ c main_v6 (by decide))).trans
    (stream_eq m ρ c)

/-- The second result at the end. -/
theorem result_end (c : Dev nD) :
    W8 m ρ c (Proc.devRef .tc main_v8)
      = resultArr (m (c.tc.loc main_arg0)) (m (c.tc.loc main_arg1)) (m (c.tc.loc main_arg2))
          (m (c.tc.loc main_arg3)) (m (c.tc.loc main_arg4)) (m (c.tc.loc main_arg5)) := by
  rw [show W8 m ρ c (Proc.devRef .tc main_v8) = (dat3 (V7 m ρ) c).arrAt 2 cfg3.N from
    W8_arr m ρ c 2, arr3, show V7 m ρ c main_v6 = _ from
    (W7_of m ρ c main_v6 (by decide)).trans (stream_eq m ρ c)]
  funext i
  show norm _ _ _ = norm _ _ _
  rw [scale_last m ρ c (i 1)]
  rfl

end Cert.Ffn
-- ==== Proof.Ffn.Ref.lean ====
module

public import proofs.«01_k».proof.Proof.Ffn.Run
public import proofs.«01_k».proof.Proof.Gen.TailReferenceIdeal.Read
public import Idealize.ShloMosaic.Lib.Pointwise

/-!
# The reference's channel mixer, entry by entry
-/

@[expose] public section

set_option maxRecDepth 16384

noncomputable section

namespace Cert.Ffn

open Cert.TailReferenceIdeal Cert.TailReferenceIdeal.Gen Cert.TailReferenceIdeal.Read
open Idealize.ShloMosaic Idealize.ShloMosaic.TcCoe Idealize.SL.Sem

variable (x0 : (⟨S16384x2048, .f32⟩ : BufTy).Contents (Elt Ideal))
  (x1 : (⟨S2048, .f32⟩ : BufTy).Contents (Elt Ideal))
  (x2 x3 : (⟨S2048x5632, .f32⟩ : BufTy).Contents (Elt Ideal))
  (x4 : (⟨S5632x2048, .f32⟩ : BufTy).Contents (Elt Ideal))
  (x5 : (⟨S2048, .f32⟩ : BufTy).Contents (Elt Ideal))

/-- The normalised rows. -/
theorem ref_norm (a : Fin 16384) (d : Fin 2048) :
    val_main_v12 (F := Ideal) x0 x1 (ix2 a d) = norm (fun k => x0 (ix2 a k)) (x1 (ix1 d)) d := by
  pointwise [val_main_v12, val_main_v11, val_main_v10, val_main_v9, val_main_v8, val_main_v7,
    val_main_v6, val_main_v5, val_main_v4, val_main_v3, val_main_v2, val_main_v1, val_main_v0,
    val_main_cst, val_main_cst_0, val_main_cst_1]
  rfl

/-- The gate's logistic. -/
theorem ref_logistic (a : Fin 16384) (j : Fin 5632) :
    val_main_call0_v5 (F := Ideal) x0 x1 x2 (ix2 a j)
      = Ideal.logistic (∑ k, norm (fun k => x0 (ix2 a k)) (x1 (ix1 k)) k * x2 (ix2 k j)) := by
  pointwise [val_main_call0_v5, val_main_call0_v4, val_main_call0_v3, val_main_call0_v2,
    val_main_call0_v1, val_main_call0_v0, val_main_v13, val_main_call0_cst, val_main_call0_cst_0]
  simp only [ref_norm]
  rfl

/-- The gated product. -/
theorem ref_gated (a : Fin 16384) (j : Fin 5632) :
    val_main_v16 (F := Ideal) x0 x1 x2 x3 (ix2 a j)
      = gated (fun k => norm (fun k => x0 (ix2 a k)) (x1 (ix1 k)) k)
          (fun k => x2 (ix2 k j)) (fun k => x3 (ix2 k j)) := by
  pointwise [val_main_v16, val_main_v15, val_main_v14, val_main_v13]
  simp only [ref_norm, ref_logistic]
  rfl

/-- The residual stream after the mixer. -/
theorem ref_stream (a : Fin 16384) (d : Fin 2048) :
    val_main_v18 (F := Ideal) x0 x1 x2 x3 x4 (ix2 a d) = streamAt x0 x1 x2 x3 x4 a d := by
  pointwise [val_main_v18, val_main_v17]
  simp only [ref_gated]
  rfl

/-- The normalised stream. -/
theorem ref_result (a : Fin 16384) (d : Fin 2048) :
    val_main_v31 (F := Ideal) x0 x1 x2 x3 x4 x5 (ix2 a d)
      = norm (streamAt x0 x1 x2 x3 x4 a) (x5 (ix1 d)) d := by
  pointwise [val_main_v31, val_main_v30, val_main_v29, val_main_v28, val_main_v27, val_main_v26,
    val_main_v25, val_main_v24, val_main_v23, val_main_v22, val_main_v21, val_main_v20,
    val_main_v19, val_main_cst_2, val_main_cst_3, val_main_cst_4]
  simp only [ref_stream]
  rfl

/-- The reference's first result as an array. -/
theorem ref_streamArr :
    val_main_v18 (F := Ideal) x0 x1 x2 x3 x4 = streamArr x0 x1 x2 x3 x4 := by
  funext i
  rw [eq_ix2 i]
  exact ref_stream x0 x1 x2 x3 x4 (i 0) (i 1)

/-- The reference's second result as an array. -/
theorem ref_resultArr :
    val_main_v31 (F := Ideal) x0 x1 x2 x3 x4 x5 = resultArr x0 x1 x2 x3 x4 x5 := by
  funext i
  rw [eq_ix2 i]
  exact ref_result x0 x1 x2 x3 x4 x5 (i 0) (i 1)

end Cert.Ffn
-- ==== Proof.Ffn.Claims.lean ====
module

public import proofs.«01_k».proof.Defs
public import proofs.«01_k».proof.Proof.Ffn.Ref
public import proofs.«01_k».proof.Proof.Gen.TailReferenceIdeal.Run
public import Idealize.ShloMosaic.Lib.Quiescent

/-!
# The claims about the channel mixer and the norm after it
-/

@[expose] public section

set_option maxRecDepth 16384

noncomputable section

namespace Cert.Ffn

open Idealize.ShloMosaic Idealize.ShloMosaic.TcCoe Idealize.SL.Sem

/-- The reference leaves its arguments and every semaphore as they were. -/
theorem quiescentReference
    (m : (ℓ : Loc Cert.TailReferenceIdeal.nD Cert.TailReferenceIdeal.τ Cert.TailReferenceIdeal.sig) → Buf (Elt Ideal) ℓ)
    (ρ : Dev Cert.TailReferenceIdeal.nD → PrngReg) :
    θ_run (Val := Elt Ideal) Cert.TailReferenceIdeal.defs
      (onTc (τ := Cert.TailReferenceIdeal.τ) (Cert.TailReferenceIdeal.main (F := Ideal)))
      ⟨m, fun _ => 0, ρ⟩ (fun r => (∀ c : Dev Cert.TailReferenceIdeal.nD,
        r.2.mem (c.tc.loc Cert.TailReferenceIdeal.main_arg0) = m (c.tc.loc Cert.TailReferenceIdeal.main_arg0)
        ∧ r.2.mem (c.tc.loc Cert.TailReferenceIdeal.main_arg1) = m (c.tc.loc Cert.TailReferenceIdeal.main_arg1)
        ∧ r.2.mem (c.tc.loc Cert.TailReferenceIdeal.main_arg2) = m (c.tc.loc Cert.TailReferenceIdeal.main_arg2)
        ∧ r.2.mem (c.tc.loc Cert.TailReferenceIdeal.main_arg3) = m (c.tc.loc Cert.TailReferenceIdeal.main_arg3)
        ∧ r.2.mem (c.tc.loc Cert.TailReferenceIdeal.main_arg4) = m (c.tc.loc Cert.TailReferenceIdeal.main_arg4)
        ∧ r.2.mem (c.tc.loc Cert.TailReferenceIdeal.main_arg5) = m (c.tc.loc Cert.TailReferenceIdeal.main_arg5))
        ∧ r.2.sem = fun _ => 0) :=
  (θ_run Cert.TailReferenceIdeal.defs _ _).mono
    (fun r h => ⟨fun c => (h c).2.2, Idealize.ShloMosaic.sem_eq_zero_of_no_sems (by decide) r.2⟩)
    (Cert.TailReferenceIdeal.Value.run (F := Ideal) m ρ)

/-- Kernel and reference end with the same two arrays from the same arguments. -/
theorem algebraic : Cert.algebraic_TailIdeal_TailReferenceIdeal := by
  intro m g m' g' _ hag
  refine ⟨fun c => streamArr (m (c.tc.loc Cert.TailIdeal.main_arg0)) (m (c.tc.loc Cert.TailIdeal.main_arg1)) (m (c.tc.loc Cert.TailIdeal.main_arg2)) (m (c.tc.loc Cert.TailIdeal.main_arg3)) (m (c.tc.loc Cert.TailIdeal.main_arg4)),
    fun c => resultArr (m (c.tc.loc Cert.TailIdeal.main_arg0)) (m (c.tc.loc Cert.TailIdeal.main_arg1)) (m (c.tc.loc Cert.TailIdeal.main_arg2)) (m (c.tc.loc Cert.TailIdeal.main_arg3)) (m (c.tc.loc Cert.TailIdeal.main_arg4)) (m (c.tc.loc Cert.TailIdeal.main_arg5)), ?_, ?_⟩
  · exact (θ_run _ _ _).mono (fun _ h c =>
      ⟨(h c _ (Cert.TailIdeal.Gen.mem_uc Cert.TailIdeal.main_v6 (by decide))).trans (stream_end m g c),
       (h c _ (Cert.TailIdeal.Gen.mem_uc Cert.TailIdeal.main_v8 (by decide))).trans (result_end m g c),
       (h c _ (Cert.TailIdeal.Gen.mem_uc Cert.TailIdeal.main_arg0 (by decide))).trans (Cert.TailIdeal.Gen.W8_main_arg0 m g c),
       (h c _ (Cert.TailIdeal.Gen.mem_uc Cert.TailIdeal.main_arg1 (by decide))).trans (Cert.TailIdeal.Gen.W8_main_arg1 m g c),
       (h c _ (Cert.TailIdeal.Gen.mem_uc Cert.TailIdeal.main_arg2 (by decide))).trans (Cert.TailIdeal.Gen.W8_main_arg2 m g c),
       (h c _ (Cert.TailIdeal.Gen.mem_uc Cert.TailIdeal.main_arg3 (by decide))).trans (Cert.TailIdeal.Gen.W8_main_arg3 m g c),
       (h c _ (Cert.TailIdeal.Gen.mem_uc Cert.TailIdeal.main_arg4 (by decide))).trans (Cert.TailIdeal.Gen.W8_main_arg4 m g c),
       (h c _ (Cert.TailIdeal.Gen.mem_uc Cert.TailIdeal.main_arg5 (by decide))).trans (Cert.TailIdeal.Gen.W8_main_arg5 m g c)⟩)
      (run_all m g)
  · refine (θ_run _ _ _).mono (fun _ h c => ⟨(h c).1.trans ?_, (h c).2.1.trans ?_, (h c).2.2⟩)
      (Cert.TailReferenceIdeal.Value.run (F := Ideal) m' g')
    all_goals obtain ⟨e0, e1, e2, e3, e4, e5⟩ := hag c
    · rw [Cert.TailReferenceIdeal.Read.val_main_v18_eq, ref_streamArr, e0, e1, e2, e3, e4]
    · rw [Cert.TailReferenceIdeal.Read.val_main_v31_eq, ref_resultArr, e0, e1, e2, e3, e4, e5]

end Cert.Ffn
-- ==== Proof.Sparse.Region0.lean ====
module

public import proofs.«01_k».proof.Proof.Gen.SparseIdeal.Frame
public import proofs.«01_k».proof.Proof.Ffn.Spec
public import Idealize.ShloMosaic.Lib.Pipeline.ValueKit
public import Idealize.ShloMosaic.Lib.Pipeline.Covers
public import Idealize.ShloMosaic.Lib.Pointwise

/-!
# The norm in front of the sparse attention

The array its launch leaves, from the buffers it finds.
-/

@[expose] public section

set_option maxRecDepth 16384

noncomputable section

namespace Cert.Sparse

open Cert.SparseIdeal Cert.SparseIdeal.Gen Idealize.ShloMosaic Idealize.ShloMosaic.TcCoe
open Idealize.SL.Sem
open Cert.Ffn (norm)

variable (V : (c : Dev nD) → (b : Ref sig .tc) → Buf (Elt Ideal) ((c : Thread nD τ).loc b))

theorem index0_0 : ∀ t : Fin cfg0.N, win0_0.index t = ![(grid0.coords t 0).val, 0] := by
  decide +kernel

theorem index0_1 : ∀ t : Fin cfg0.N, win0_1.index t = ![0, 0] := by decide +kernel

theorem index0_2 : ∀ t : Fin cfg0.N, win0_2.index t = ![(grid0.coords t 0).val, 0] := by
  decide +kernel

theorem coord0 (t : Fin cfg0.N) : (grid0.coords t 0).val < 32 := (grid0.coords t 0).isLt

/-- The rows a grid point is given. -/
theorem rows0 (c : Dev nD) (t : Fin cfg0.N) (r : Fin 512) (d : Fin 2048) :
    iblk0 V c 0 t (ix2 r d)
      = V c main_arg0 (ix2 ⟨(grid0.coords t 0).val * 512 + r.val, by
          have := coord0 t; omega⟩ d) := by
  blk_ext! [iblk0, index0_0 t]

/-- The scale a grid point is given. -/
theorem scale0 (c : Dev nD) (t : Fin cfg0.N) (d : Fin 2048) :
    iblk0 V c 1 t (ix2 0 d) = V c main_v0 (ix2 0 d) := by
  blk_ext! [iblk0, index0_1 t]

/-- What the body computes of its blocks. -/
theorem out0 (a : Vec Ideal S512x2048 .f32) (b : Vec Ideal S1x2048 .f32) (r : Fin 512)
    (d : Fin 2048) : out0_2 a b (ix2 r d) = norm (fun k => a (ix2 r k)) (b (ix2 0 d)) d := by
  unfold out0_2
  frame_out
  pointwise [k0_pay1]
  rfl

/-- The grid point that writes a block of the result. -/
def place0 (x : Fin 32) : grid0.Coords := Fin.cons x fun a => a.elim0

theorem place0_eq : ∀ (x : Fin 32) (y : Fin 1) (a : Fin 2),
    cc0_transform_2 (place0 x) a = (![x.val, y.val] : Fin 2 → ℕ) a := by
  decide +kernel

/-- The normalised rows, as an array. -/
def normArr (x : S16384x2048.Idx → EReal) (g : S1x2048.Idx → EReal) : S16384x2048.Idx → EReal :=
  fun i => norm (fun k => x (ix2 (i 0) k)) (g (ix2 0 (i 1))) (i 1)

/-- The array the launch leaves. -/
theorem arr0 (c : Dev nD) :
    (dat0 V c).arrAt 2 cfg0.N = normArr (V c main_arg0) (V c main_v0) := by
  refine (dat0 V c).arrAt_eq_of_covers 2 _ ?_ fun t hf y => ?_
  · exact (cfg0.win 2).covers_of_indexMap_surj rfl (by decide) fun β =>
      ⟨place0 (β 0), fun a => (place0_eq (β 0) (β 1) a).trans
        (match a with | ⟨0, _⟩ => rfl | ⟨1, _⟩ => rfl)⟩
  · blk_simp
    rw [after0_2]
    obtain ⟨r, d, rfl⟩ : ∃ (r : Fin 512) (d : Fin 2048), y = ix2 r d := ⟨y 0, y 1, eq_ix2 y⟩
    rw [out0, scale0]
    have e : (win0_2.blk t).view.emb (ix2 r d : S512x2048.Idx)
        = (ix2 ⟨(grid0.coords t 0).val * 512 + r.val, by
            have := coord0 t; omega⟩ d : S16384x2048.Idx) := by
      blk_ext [index0_2 t]
    rw [e]
    exact congrArg (fun x => norm x _ d) (funext fun k => rows0 V c t r k)

end Cert.Sparse
-- ==== Proof.Sparse.Region1.lean ====
module

public import proofs.«01_k».proof.Proof.Gen.SparseIdeal.Frame
public import Idealize.ShloMosaic.Lib.Pipeline.ValueKit
public import Idealize.ShloMosaic.Lib.Pipeline.Covers
public import Idealize.ShloMosaic.Lib.Pointwise

/-!
# The product for queries, keys, values and indexer queries

The array its launch leaves, from the buffers it finds.
-/

@[expose] public section

set_option maxRecDepth 16384

noncomputable section

namespace Cert.Sparse

open Cert.SparseIdeal Cert.SparseIdeal.Gen Idealize.ShloMosaic Idealize.ShloMosaic.TcCoe
open Idealize.SL.Sem

variable (V : (c : Dev nD) → (b : Ref sig .tc) → Buf (Elt Ideal) ((c : Thread nD τ).loc b))

theorem index1_0 : ∀ t : Fin cfg1.N, win1_0.index t
    = ![(grid1.coords t 0).val, 0] := by
  decide +kernel

theorem index1_1 : ∀ t : Fin cfg1.N, win1_1.index t
    = ![0, (grid1.coords t 1).val] := by
  decide +kernel

theorem index1_2 : ∀ t : Fin cfg1.N, win1_2.index t
    = ![(grid1.coords t 0).val, (grid1.coords t 1).val] := by
  decide +kernel

theorem coord1_0 (t : Fin cfg1.N) : (grid1.coords t 0).val < 16 := (grid1.coords t 0).isLt

theorem coord1_1 (t : Fin cfg1.N) : (grid1.coords t 1).val < 4 := (grid1.coords t 1).isLt

/-- The rows a grid point is given. -/
theorem rows1 (c : Dev nD) (t : Fin cfg1.N) (r : Fin 1024) (k : Fin 2048) :
    iblk1 V c 0 t (ix2 r k)
      = V c main_v1 (ix2 ⟨(grid1.coords t 0).val * 1024 + r.val, by have := coord1_0 t; omega⟩ k) := by
  blk_ext! [iblk1, index1_0 t]

/-- The columns of weights a grid point is given. -/
theorem cols1 (c : Dev nD) (t : Fin cfg1.N) (k : Fin 2048) (d : Fin 1024) :
    iblk1 V c 1 t (ix2 k d)
      = V c main_v3 (ix2 k ⟨(grid1.coords t 1).val * 1024 + d.val, by have := coord1_1 t; omega⟩) := by
  blk_ext! [iblk1, index1_1 t]

/-- What the body computes of its blocks. -/
theorem out1 (h : Vec Ideal S1024x2048 .bf16) (w : Vec Ideal S2048x1024 .bf16)
    (r : Fin 1024) (d : Fin 1024) : out1_2 h w (ix2 r d)
      = ∑ k : Fin 2048, h (ix2 r k) * w (ix2 k d) := by
  unfold out1_2
  frame_out
  pointwise [k1_pay1]

/-- The grid point that writes a block of the result. -/
def place1 (x : Fin 16) (y : Fin 4) : grid1.Coords := Fin.cons x (Fin.cons y fun a => a.elim0)

theorem place1_eq : ∀ (x : Fin 16) (y : Fin 4) (a : Fin 2),
    cc1_transform_2 (place1 x y) a = (![x.val, y.val] : Fin 2 → ℕ) a := by
  decide +kernel

/-- The product, as an array. -/
def prodArr1 (h : S16384x2048.Idx → EReal)
    (w : S2048x4096.Idx → EReal) : S16384x4096.Idx → EReal :=
  fun i => ∑ k : Fin 2048, h (ix2 (i 0) k) * w (ix2 k (i 1))

/-- The array the launch leaves. -/
theorem arr1 (c : Dev nD) :
    (dat1 V c).arrAt 2 cfg1.N = prodArr1 (V c main_v1) (V c main_v3) := by
  refine (dat1 V c).arrAt_eq_of_covers 2 _ ?_ fun t hf y => ?_
  · exact (cfg1.win 2).covers_of_indexMap_surj rfl (by decide) fun β =>
      ⟨place1 (β 0) (β 1), fun a => (place1_eq (β 0) (β 1) a).trans
        (match a with | ⟨0, _⟩ => rfl | ⟨1, _⟩ => rfl)⟩
  · blk_simp
    rw [after1_2]
    obtain ⟨r, d, rfl⟩ : ∃ (r : Fin 1024) (d : Fin 1024), y = ix2 r d := ⟨y 0, y 1, eq_ix2 y⟩
    rw [out1]
    have e : (win1_2.blk t).view.emb (ix2 r d : S1024x1024.Idx)
        = (ix2 ⟨(grid1.coords t 0).val * 1024 + r.val, by have := coord1_0 t; omega⟩
            ⟨(grid1.coords t 1).val * 1024 + d.val, by have := coord1_1 t; omega⟩
            : S16384x4096.Idx) := by
      blk_ext [index1_2 t]
    rw [e]
    unfold prodArr1
    exact Finset.sum_congr (M := EReal) rfl fun k _ => congrArg₂ (· * ·) (rows1 V c t r k) (cols1 V c t k d)

end Cert.Sparse
-- ==== Proof.Sparse.Region2.lean ====
module

public import proofs.«01_k».proof.Proof.Gen.SparseIdeal.Frame
public import Idealize.ShloMosaic.Lib.Pipeline.ValueKit
public import Idealize.ShloMosaic.Lib.Pipeline.Covers
public import Idealize.ShloMosaic.Lib.Pointwise

/-!
# The product for the indexer's keys and weights

The array its launch leaves, from the buffers it finds.
-/

@[expose] public section

set_option maxRecDepth 16384

noncomputable section

namespace Cert.Sparse

open Cert.SparseIdeal Cert.SparseIdeal.Gen Idealize.ShloMosaic Idealize.ShloMosaic.TcCoe
open Idealize.SL.Sem

variable (V : (c : Dev nD) → (b : Ref sig .tc) → Buf (Elt Ideal) ((c : Thread nD τ).loc b))

theorem index2_0 : ∀ t : Fin cfg2.N, win2_0.index t
    = ![(grid2.coords t 0).val, 0] := by
  decide +kernel

theorem index2_1 : ∀ t : Fin cfg2.N, win2_1.index t
    = ![0, (grid2.coords t 1).val] := by
  decide +kernel

theorem index2_2 : ∀ t : Fin cfg2.N, win2_2.index t
    = ![(grid2.coords t 0).val, (grid2.coords t 1).val] := by
  decide +kernel

theorem coord2_0 (t : Fin cfg2.N) : (grid2.coords t 0).val < 16 := (grid2.coords t 0).isLt

theorem coord2_1 (t : Fin cfg2.N) : (grid2.coords t 1).val < 1 := (grid2.coords t 1).isLt

/-- The rows a grid point is given. -/
theorem rows2 (c : Dev nD) (t : Fin cfg2.N) (r : Fin 1024) (k : Fin 2048) :
    iblk2 V c 0 t (ix2 r k)
      = V c main_v1 (ix2 ⟨(grid2.coords t 0).val * 1024 + r.val, by have := coord2_0 t; omega⟩ k) := by
  blk_ext! [iblk2, index2_0 t]

/-- The columns of weights a grid point is given. -/
theorem cols2 (c : Dev nD) (t : Fin cfg2.N) (k : Fin 2048) (d : Fin 128) :
    iblk2 V c 1 t (ix2 k d)
      = V c main_v7 (ix2 k ⟨(grid2.coords t 1).val * 128 + d.val, by have := coord2_1 t; omega⟩) := by
  blk_ext! [iblk2, index2_1 t]

/-- What the body computes of its blocks. -/
theorem out2 (h : Vec Ideal S1024x2048 .bf16) (w : Vec Ideal S2048x128 .bf16)
    (r : Fin 1024) (d : Fin 128) : out2_2 h w (ix2 r d)
      = ∑ k : Fin 2048, h (ix2 r k) * w (ix2 k d) := by
  unfold out2_2
  frame_out
  pointwise [k2_pay1]

/-- The grid point that writes a block of the result. -/
def place2 (x : Fin 16) (y : Fin 1) : grid2.Coords := Fin.cons x (Fin.cons y fun a => a.elim0)

theorem place2_eq : ∀ (x : Fin 16) (y : Fin 1) (a : Fin 2),
    cc2_transform_2 (place2 x y) a = (![x.val, y.val] : Fin 2 → ℕ) a := by
  decide +kernel

/-- The product, as an array. -/
def prodArr2 (h : S16384x2048.Idx → EReal)
    (w : S2048x128.Idx → EReal) : S16384x128.Idx → EReal :=
  fun i => ∑ k : Fin 2048, h (ix2 (i 0) k) * w (ix2 k (i 1))

/-- The array the launch leaves. -/
theorem arr2 (c : Dev nD) :
    (dat2 V c).arrAt 2 cfg2.N = prodArr2 (V c main_v1) (V c main_v7) := by
  refine (dat2 V c).arrAt_eq_of_covers 2 _ ?_ fun t hf y => ?_
  · exact (cfg2.win 2).covers_of_indexMap_surj rfl (by decide) fun β =>
      ⟨place2 (β 0) (β 1), fun a => (place2_eq (β 0) (β 1) a).trans
        (match a with | ⟨0, _⟩ => rfl | ⟨1, _⟩ => rfl)⟩
  · blk_simp
    rw [after2_2]
    obtain ⟨r, d, rfl⟩ : ∃ (r : Fin 1024) (d : Fin 128), y = ix2 r d := ⟨y 0, y 1, eq_ix2 y⟩
    rw [out2]
    have e : (win2_2.blk t).view.emb (ix2 r d : S1024x128.Idx)
        = (ix2 ⟨(grid2.coords t 0).val * 1024 + r.val, by have := coord2_0 t; omega⟩
            ⟨(grid2.coords t 1).val * 128 + d.val, by have := coord2_1 t; omega⟩
            : S16384x128.Idx) := by
      blk_ext [index2_2 t]
    rw [e]
    unfold prodArr2
    exact Finset.sum_congr (M := EReal) rfl fun k _ => congrArg₂ (· * ·) (rows2 V c t r k) (cols2 V c t k d)

end Cert.Sparse
-- ==== Proof.Sparse.Prep.lean ====
module

public import proofs.«01_k».proof.Proof.Gen.SparseIdeal.Frame
public import Idealize.ShloMosaic.Lib.Pipeline.ValueKit
public import Idealize.ShloMosaic.Lib.Pointwise

/-!
# Rotary positions, tile by tile

The body that rotates queries, keys and indexer queries reads its block a tile of 128 lanes at a time.
Each output, at an index, from the block, the tables and the tail.
-/

@[expose] public section

set_option maxRecDepth 16384

noncomputable section

namespace Cert.Sparse

open Cert.SparseIdeal Cert.SparseIdeal.Gen Idealize.ShloMosaic Idealize.ShloMosaic.TcCoe
open Idealize.SL.Sem

/-- The lane a lane is paired with, half a tile away. -/
def pair128 (d : Fin 128) : Fin 128 := ⟨(d.val + 64) % 128, Nat.mod_lt _ (by decide)⟩

/-- The lane a lane is paired with when a tile holds two heads of 64 lanes. -/
def pair64 (d : Fin 128) : Fin 128 :=
  ⟨if d.val % 64 < 32 then (d.val + 32) % 128 else (d.val + 96) % 128, by split <;> omega⟩

/-- A tile rotated as one head of 128 lanes. -/
def rot128 (f c s : Fin 128 → EReal) (d : Fin 128) : EReal := f d * c d + f (pair128 d) * s d

/-- A tile rotated as two heads of 64 lanes. -/
def rot64 (f c s : Fin 128 → EReal) (d : Fin 128) : EReal := f d * c d + f (pair64 d) * s d

/-- The body's rotation of a tile. -/
def tile128 (X C S : Vec Ideal S256x128 .f32) : FVec Ideal S256x128 .bf16 :=
  k3_pay10 (k3_pay3 C) (k3_pay4 S) X

theorem tile128_at (X C S : Vec Ideal S256x128 .f32) (r : Fin 256) (d : Fin 128) :
    tile128 X C S (ix2 r d)
      = rot128 (fun l => X (ix2 r l)) (fun l => C (ix2 r l)) (fun l => S (ix2 r l)) d := by
  unfold tile128
  pointwise [k3_pay10, k3_pay3, k3_pay4]
  unfold rot128
  have e : (⟨(d.val + 128 - 64) % 128, Nat.mod_lt _ (by decide)⟩ : Fin 128) = pair128 d :=
    Fin.ext (by show (d.val + 128 - 64) % 128 = (d.val + 64) % 128; omega)
  rw [← e]

/-- The number of a lane. -/
abbrev lanes : IVec S256x128 32 := iota .tc S256x128 32 [1] iota_S256x128_d1_w32

/-- Whether a lane lies in the first half of its head of 64 lanes. -/
theorem firstHalf (r : Fin 256) (d : Fin 128) :
    k3_pay62 lanes (ix2 r d) = BitVec.ofBool (decide (d.val % 64 < 32)) := by
  pointwise [k3_pay62]
  revert d
  decide +kernel

theorem below64 : ∀ d : Fin 128, IntOp.cmpi .slt (BitVec.ofNat 32 d.val) 64#32
    = BitVec.ofBool (decide (d.val < 64)) := by
  decide +kernel

theorem from64 : ∀ d : Fin 128, IntOp.cmpi .sge (BitVec.ofNat 32 d.val) 64#32
    = BitVec.ofBool (decide (¬ d.val < 64)) := by
  decide +kernel

/-- The body's rotation of a tile of two heads. -/
def tile64 (X C S : Vec Ideal S256x128 .f32) : FVec Ideal S256x128 .f32 :=
  k3_pay64 (k3_pay5 C) (k3_pay6 S) (k3_pay61 X) (k3_pay62 lanes) (k3_pay63 X)

theorem tile64_at (X C S : Vec Ideal S256x128 .f32) (r : Fin 256) (d : Fin 128) :
    tile64 X C S (ix2 r d)
      = rot64 (fun l => X (ix2 r l)) (fun l => C (ix2 r l)) (fun l => S (ix2 r l)) d := by
  unfold tile64
  pointwise [k3_pay64, k3_pay61, k3_pay63, k3_pay5, k3_pay6]
  rw [firstHalf]
  unfold rot64
  by_cases h : d.val % 64 < 32
  · have e : (⟨(d.val + 128 - 96) % 128, Nat.mod_lt _ (by decide)⟩ : Fin 128) = pair64 d :=
      Fin.ext (by simp only [pair64, h, if_true]; omega)
    rw [← e]
    simp [h, Scalar.select]
  · have e : (⟨(d.val + 128 - 32) % 128, Nat.mod_lt _ (by decide)⟩ : Fin 128) = pair64 d :=
      Fin.ext (by simp only [pair64, h, if_false]; omega)
    rw [← e]
    simp [h, Scalar.select]

/-- The first head of a rotated tile, the other head's lanes zero. -/
def low64 (X C S : Vec Ideal S256x128 .f32) : FVec Ideal S256x128 .bf16 :=
  k3_pay65 (k3_pay5 C) (k3_pay6 S) lanes (k3_pay61 X) (k3_pay62 lanes) (k3_pay63 X)

theorem low64_at (X C S : Vec Ideal S256x128 .f32) (r : Fin 256) (d : Fin 128) :
    low64 X C S (ix2 r d) = if d.val < 64 then
      rot64 (fun l => X (ix2 r l)) (fun l => C (ix2 r l)) (fun l => S (ix2 r l)) d else 0 := by
  rw [← tile64_at]
  unfold low64 tile64
  pointwise [k3_pay65]
  rw [below64]
  by_cases h : d.val < 64 <;> simp [h, Scalar.select]

/-- The second head of a rotated tile, the other head's lanes zero. -/
def high64 (X C S : Vec Ideal S256x128 .f32) : FVec Ideal S256x128 .bf16 :=
  k3_pay66 (k3_pay5 C) (k3_pay6 S) lanes (k3_pay61 X) (k3_pay62 lanes) (k3_pay63 X)

theorem high64_at (X C S : Vec Ideal S256x128 .f32) (r : Fin 256) (d : Fin 128) :
    high64 X C S (ix2 r d) = if d.val < 64 then 0 else
      rot64 (fun l => X (ix2 r l)) (fun l => C (ix2 r l)) (fun l => S (ix2 r l)) d := by
  rw [← tile64_at]
  unfold high64 tile64
  pointwise [k3_pay66]
  rw [from64]
  by_cases h : d.val < 64 <;> simp [h, Scalar.select]

variable (x0 : Vec Ideal S256x4096 .f32) (x1 x2 x3 x4 x5 : Vec Ideal S256x128 .f32)

/-- The tile of a row that starts at column `o`. -/
def tileRow (r : Fin 256) (o : ℕ) (l : Fin 128) : EReal := x0 (ix2 r (Fin.ofNat 4096 (o + l.val)))

/-- A row of a table. -/
def tabRow (x : Vec Ideal S256x128 .f32) (r : Fin 256) (l : Fin 128) : EReal := x (ix2 r l)

/-- What the body reads of its block. -/
theorem tile_ld (o : ℕ) (ho : o + 128 ≤ 4096) (h) (r : Fin 256) (l : Fin 128) :
    View.ld x0 (Rect.unit (s := S256x4096) ![0, o] S256x128.size h) (ix2 r l) = tileRow x0 r o l := by
  pointwise []
  unfold tileRow
  refine congrArg x0 (congrArg₂ ix2 (Fin.ext ?_) (Fin.ext ?_))
  · show r.val = r.val
    rfl
  · show o + l.val = (o + l.val) % 4096
    omega

/-- What the body reads of a table. -/
theorem tab_ld (x : Vec Ideal S256x128 .f32) (r : Fin 256) (l : Fin 128) :
    View.ld x r3_0 (ix2 r l) = tabRow x r l := by
  pointwise [r3_0]
  rfl

/-- … by row. -/
theorem tab_row (x : Vec Ideal S256x128 .f32) (r : Fin 256) :
    (fun l => View.ld x r3_0 (ix2 r l)) = tabRow x r := funext fun l => tab_ld x r l

/-- A tile of the rotated queries, at the index the whole output is read at. -/
theorem query_tile (o t : ℕ) (ho : o = 128 * t) (ht : t < 16) (h) (r : Fin 256) (d : Fin 2048) :
    View.TileAt (Val := Elt Ideal) (e := .bf16) (ix2 r d : S256x2048.Idx) ![0, o] S256x128.size
      (tile128 (View.ld x0 (Rect.unit (s := S256x4096) ![0, o] S256x128.size h)) (View.ld x2 r3_0) (View.ld x3 r3_0))
      (rot128 (tileRow x0 r (d.val / 128 * 128)) (tabRow x2 r) (tabRow x3 r) ⟨d.val % 128, Nat.mod_lt _ (by decide)⟩) := by
  intro x hx
  obtain ⟨r', d', rfl⟩ : ∃ (r' : Fin 256) (d' : Fin 128), x = ix2 r' d' := ⟨x 0, x 1, eq_ix2 x⟩
  have h0 : r.val = 0 + r'.val := hx 0
  have h1 : d.val = o + d'.val := hx 1
  have er : r' = r := Fin.ext (by omega)
  subst er
  have e1 : d.val / 128 * 128 = o := by omega
  have e2 : (⟨d.val % 128, Nat.mod_lt _ (by decide)⟩ : Fin 128) = d' := Fin.ext (by
    show d.val % 128 = d'.val
    omega)
  rw [e1, e2, tile128_at, tab_row x2 r', tab_row x3 r']
  have e3 : (fun l => View.ld x0 (Rect.unit (s := S256x4096) ![0, o] S256x128.size h) (ix2 r' l))
      = tileRow x0 r' o := funext fun l => tile_ld x0 o (by omega) h r' l
  rw [e3]

/-- A tile of the rotated keys. -/
theorem key_tile (o t : ℕ) (ho : o = 128 * t) (ht : t < 4) (p : ℕ) (hp : p = 2048 + o) (h) (r : Fin 256) (d : Fin 512) :
    View.TileAt (Val := Elt Ideal) (e := .bf16) (ix2 r d : S256x512.Idx) ![0, o] S256x128.size
      (tile128 (View.ld x0 (Rect.unit (s := S256x4096) ![0, p] S256x128.size h)) (View.ld x2 r3_0) (View.ld x3 r3_0))
      (rot128 (tileRow x0 r (2048 + d.val / 128 * 128)) (tabRow x2 r) (tabRow x3 r) ⟨d.val % 128, Nat.mod_lt _ (by decide)⟩) := by
  intro x hx
  obtain ⟨r', d', rfl⟩ : ∃ (r' : Fin 256) (d' : Fin 128), x = ix2 r' d' := ⟨x 0, x 1, eq_ix2 x⟩
  have h0 : r.val = 0 + r'.val := hx 0
  have h1 : d.val = o + d'.val := hx 1
  have er : r' = r := Fin.ext (by omega)
  subst er
  have e1 : 2048 + d.val / 128 * 128 = p := by omega
  have e2 : (⟨d.val % 128, Nat.mod_lt _ (by decide)⟩ : Fin 128) = d' := Fin.ext (by
    show d.val % 128 = d'.val
    omega)
  rw [e1, e2, tile128_at, tab_row x2 r', tab_row x3 r']
  have e3 : (fun l => View.ld x0 (Rect.unit (s := S256x4096) ![0, p] S256x128.size h) (ix2 r' l))
      = tileRow x0 r' p := funext fun l => tile_ld x0 p (by omega) h r' l
  rw [e3]

/-- A tile of the values, which are not rotated. -/
theorem value_tile (o t : ℕ) (ho : o = 128 * t) (ht : t < 4) (p : ℕ) (hp : p = 2560 + o) (h) (r : Fin 256) (d : Fin 512) :
    View.TileAt (Val := Elt Ideal) (e := .bf16) (ix2 r d : S256x512.Idx) ![0, o] S256x128.size
      (k3_pay28 (View.ld x0 (Rect.unit (s := S256x4096) ![0, p] S256x128.size h)))
      (x0 (ix2 r ⟨2560 + d.val, by omega⟩)) := by
  intro x hx
  obtain ⟨r', d', rfl⟩ : ∃ (r' : Fin 256) (d' : Fin 128), x = ix2 r' d' := ⟨x 0, x 1, eq_ix2 x⟩
  have h0 : r.val = 0 + r'.val := hx 0
  have h1 : d.val = o + d'.val := hx 1
  have er : r' = r := Fin.ext (by omega)
  subst er
  pointwise [k3_pay28]
  exact congrArg x0 (congrArg (ix2 r') (Fin.ext (by show p + d'.val = 2560 + d.val; omega)))

/-- The indexer's queries as the body stores them, at a row and a column: each pair of heads twice, the first time
    with the second head zero and the second time with the first head zero. -/
def pairRow (f c s : Fin 128 → EReal) (n : ℕ) (d : Fin 128) : EReal :=
  if n % 2 = 0 then (if d.val < 64 then rot64 f c s d else 0) else (if d.val < 64 then 0 else rot64 f c s d)

/-- A tile of the indexer's queries, first head. -/
theorem low_tile (o t : ℕ) (ho : o = 256 * t) (ht : t < 8) (p : ℕ) (hp : p = 3072 + 128 * t) (h) (r : Fin 256) (d : Fin 2048) :
    View.TileAt (Val := Elt Ideal) (e := .bf16) (ix2 r d : S256x2048.Idx) ![0, o] S256x128.size
      (low64 (View.ld x0 (Rect.unit (s := S256x4096) ![0, p] S256x128.size h)) (View.ld x4 r3_0) (View.ld x5 r3_0))
      (pairRow (tileRow x0 r (3072 + d.val / 256 * 128)) (tabRow x4 r) (tabRow x5 r) (d.val / 128)
        ⟨d.val % 128, Nat.mod_lt _ (by decide)⟩) := by
  intro x hx
  obtain ⟨r', d', rfl⟩ : ∃ (r' : Fin 256) (d' : Fin 128), x = ix2 r' d' := ⟨x 0, x 1, eq_ix2 x⟩
  have h0 : r.val = 0 + r'.val := hx 0
  have h1 : d.val = o + d'.val := hx 1
  have er : r' = r := Fin.ext (by omega)
  subst er
  have e1 : 3072 + d.val / 256 * 128 = p := by omega
  have e2 : (⟨d.val % 128, Nat.mod_lt _ (by decide)⟩ : Fin 128) = d' := Fin.ext (by
    show d.val % 128 = d'.val
    omega)
  have e4 : d.val / 128 % 2 = 0 := by omega
  rw [e1, e2, low64_at, tab_row x4 r', tab_row x5 r']
  unfold pairRow
  rw [if_pos e4]
  have e3 : (fun l => View.ld x0 (Rect.unit (s := S256x4096) ![0, p] S256x128.size h) (ix2 r' l))
      = tileRow x0 r' p := funext fun l => tile_ld x0 p (by omega) h r' l
  rw [e3]

/-- A tile of the indexer's queries, second head. -/
theorem high_tile (o t : ℕ) (ho : o = 256 * t + 128) (ht : t < 8) (p : ℕ) (hp : p = 3072 + 128 * t) (h) (r : Fin 256) (d : Fin 2048) :
    View.TileAt (Val := Elt Ideal) (e := .bf16) (ix2 r d : S256x2048.Idx) ![0, o] S256x128.size
      (high64 (View.ld x0 (Rect.unit (s := S256x4096) ![0, p] S256x128.size h)) (View.ld x4 r3_0) (View.ld x5 r3_0))
      (pairRow (tileRow x0 r (3072 + d.val / 256 * 128)) (tabRow x4 r) (tabRow x5 r) (d.val / 128)
        ⟨d.val % 128, Nat.mod_lt _ (by decide)⟩) := by
  intro x hx
  obtain ⟨r', d', rfl⟩ : ∃ (r' : Fin 256) (d' : Fin 128), x = ix2 r' d' := ⟨x 0, x 1, eq_ix2 x⟩
  have h0 : r.val = 0 + r'.val := hx 0
  have h1 : d.val = o + d'.val := hx 1
  have er : r' = r := Fin.ext (by omega)
  subst er
  have e1 : 3072 + d.val / 256 * 128 = p := by omega
  have e2 : (⟨d.val % 128, Nat.mod_lt _ (by decide)⟩ : Fin 128) = d' := Fin.ext (by
    show d.val % 128 = d'.val
    omega)
  have e4 : ¬ d.val / 128 % 2 = 0 := by omega
  rw [e1, e2, high64_at, tab_row x4 r', tab_row x5 r']
  unfold pairRow
  rw [if_neg e4]
  have e3 : (fun l => View.ld x0 (Rect.unit (s := S256x4096) ![0, p] S256x128.size h) (ix2 r' l))
      = tileRow x0 r' p := funext fun l => tile_ld x0 p (by omega) h r' l
  rw [e3]

/-- The rotated queries. -/
theorem out3_queries (r : Fin 256) (d : Fin 2048) : out3_6 x0 x1 x2 x3 x4 x5 (ix2 r d)
    = rot128 (tileRow x0 r (d.val / 128 * 128)) (tabRow x2 r) (tabRow x3 r) ⟨d.val % 128, Nat.mod_lt _ (by decide)⟩ := by
  unfold out3_6
  refine View.canon_eq_of_allAt _ _ _ (cover3_6 _ _ _ _ _ _ _ _ _ _ _ _ _ _ _ _ _) ?_
  refine View.allAt_cons_unit _ _ _ _ _ (query_tile x0 x2 x3 1920 15 (by decide) (by decide) _ r d) ?_
  refine View.allAt_cons_unit _ _ _ _ _ (query_tile x0 x2 x3 1792 14 (by decide) (by decide) _ r d) ?_
  refine View.allAt_cons_unit _ _ _ _ _ (query_tile x0 x2 x3 1664 13 (by decide) (by decide) _ r d) ?_
  refine View.allAt_cons_unit _ _ _ _ _ (query_tile x0 x2 x3 1536 12 (by decide) (by decide) _ r d) ?_
  refine View.allAt_cons_unit _ _ _ _ _ (query_tile x0 x2 x3 1408 11 (by decide) (by decide) _ r d) ?_
  refine View.allAt_cons_unit _ _ _ _ _ (query_tile x0 x2 x3 1280 10 (by decide) (by decide) _ r d) ?_
  refine View.allAt_cons_unit _ _ _ _ _ (query_tile x0 x2 x3 1152 9 (by decide) (by decide) _ r d) ?_
  refine View.allAt_cons_unit _ _ _ _ _ (query_tile x0 x2 x3 1024 8 (by decide) (by decide) _ r d) ?_
  refine View.allAt_cons_unit _ _ _ _ _ (query_tile x0 x2 x3 896 7 (by decide) (by decide) _ r d) ?_
  refine View.allAt_cons_unit _ _ _ _ _ (query_tile x0 x2 x3 768 6 (by decide) (by decide) _ r d) ?_
  refine View.allAt_cons_unit _ _ _ _ _ (query_tile x0 x2 x3 640 5 (by decide) (by decide) _ r d) ?_
  refine View.allAt_cons_unit _ _ _ _ _ (query_tile x0 x2 x3 512 4 (by decide) (by decide) _ r d) ?_
  refine View.allAt_cons_unit _ _ _ _ _ (query_tile x0 x2 x3 384 3 (by decide) (by decide) _ r d) ?_
  refine View.allAt_cons_unit _ _ _ _ _ (query_tile x0 x2 x3 256 2 (by decide) (by decide) _ r d) ?_
  refine View.allAt_cons_unit _ _ _ _ _ (query_tile x0 x2 x3 128 1 (by decide) (by decide) _ r d) ?_
  refine View.allAt_cons_unit _ _ _ _ _ (query_tile x0 x2 x3 0 0 (by decide) (by decide) _ r d) ?_
  exact View.allAt_nil _ _

/-- The rotated keys. -/
theorem out3_keys (r : Fin 256) (d : Fin 512) : out3_7 x0 x1 x2 x3 x4 x5 (ix2 r d)
    = rot128 (tileRow x0 r (2048 + d.val / 128 * 128)) (tabRow x2 r) (tabRow x3 r) ⟨d.val % 128, Nat.mod_lt _ (by decide)⟩ := by
  unfold out3_7
  refine View.canon_eq_of_allAt _ _ _ (cover3_7 _ _ _ _ _) ?_
  refine View.allAt_cons_unit _ _ _ _ _ (key_tile x0 x2 x3 384 3 (by decide) (by decide) 2432 (by decide) _ r d) ?_
  refine View.allAt_cons_unit _ _ _ _ _ (key_tile x0 x2 x3 256 2 (by decide) (by decide) 2304 (by decide) _ r d) ?_
  refine View.allAt_cons_unit _ _ _ _ _ (key_tile x0 x2 x3 128 1 (by decide) (by decide) 2176 (by decide) _ r d) ?_
  refine View.allAt_cons_unit _ _ _ _ _ (key_tile x0 x2 x3 0 0 (by decide) (by decide) 2048 (by decide) _ r d) ?_
  exact View.allAt_nil _ _

/-- The values. -/
theorem out3_values (r : Fin 256) (d : Fin 512) :
    out3_8 x0 x1 x2 x3 x4 x5 (ix2 r d) = x0 (ix2 r ⟨2560 + d.val, by omega⟩) := by
  unfold out3_8
  refine View.canon_eq_of_allAt _ _ _ (cover3_8 _ _ _ _ _) ?_
  refine View.allAt_cons_unit _ _ _ _ _ (value_tile x0 384 3 (by decide) (by decide) 2944 (by decide) _ r d) ?_
  refine View.allAt_cons_unit _ _ _ _ _ (value_tile x0 256 2 (by decide) (by decide) 2816 (by decide) _ r d) ?_
  refine View.allAt_cons_unit _ _ _ _ _ (value_tile x0 128 1 (by decide) (by decide) 2688 (by decide) _ r d) ?_
  refine View.allAt_cons_unit _ _ _ _ _ (value_tile x0 0 0 (by decide) (by decide) 2560 (by decide) _ r d) ?_
  exact View.allAt_nil _ _

/-- The indexer's queries. -/
theorem out3_pairs (r : Fin 256) (d : Fin 2048) : out3_9 x0 x1 x2 x3 x4 x5 (ix2 r d)
    = pairRow (tileRow x0 r (3072 + d.val / 256 * 128)) (tabRow x4 r) (tabRow x5 r) (d.val / 128)
        ⟨d.val % 128, Nat.mod_lt _ (by decide)⟩ := by
  unfold out3_9
  refine View.canon_eq_of_allAt _ _ _ (cover3_9 _ _ _ _ _ _ _ _ _ _ _ _ _ _ _ _ _) ?_
  refine View.allAt_cons_unit _ _ _ _ _ (high_tile x0 x4 x5 1920 7 (by decide) (by decide) 3968 (by decide) _ r d) ?_
  refine View.allAt_cons_unit _ _ _ _ _ (low_tile x0 x4 x5 1792 7 (by decide) (by decide) 3968 (by decide) _ r d) ?_
  refine View.allAt_cons_unit _ _ _ _ _ (high_tile x0 x4 x5 1664 6 (by decide) (by decide) 3840 (by decide) _ r d) ?_
  refine View.allAt_cons_unit _ _ _ _ _ (low_tile x0 x4 x5 1536 6 (by decide) (by decide) 3840 (by decide) _ r d) ?_
  refine View.allAt_cons_unit _ _ _ _ _ (high_tile x0 x4 x5 1408 5 (by decide) (by decide) 3712 (by decide) _ r d) ?_
  refine View.allAt_cons_unit _ _ _ _ _ (low_tile x0 x4 x5 1280 5 (by decide) (by decide) 3712 (by decide) _ r d) ?_
  refine View.allAt_cons_unit _ _ _ _ _ (high_tile x0 x4 x5 1152 4 (by decide) (by decide) 3584 (by decide) _ r d) ?_
  refine View.allAt_cons_unit _ _ _ _ _ (low_tile x0 x4 x5 1024 4 (by decide) (by decide) 3584 (by decide) _ r d) ?_
  refine View.allAt_cons_unit _ _ _ _ _ (high_tile x0 x4 x5 896 3 (by decide) (by decide) 3456 (by decide) _ r d) ?_
  refine View.allAt_cons_unit _ _ _ _ _ (low_tile x0 x4 x5 768 3 (by decide) (by decide) 3456 (by decide) _ r d) ?_
  refine View.allAt_cons_unit _ _ _ _ _ (high_tile x0 x4 x5 640 2 (by decide) (by decide) 3328 (by decide) _ r d) ?_
  refine View.allAt_cons_unit _ _ _ _ _ (low_tile x0 x4 x5 512 2 (by decide) (by decide) 3328 (by decide) _ r d) ?_
  refine View.allAt_cons_unit _ _ _ _ _ (high_tile x0 x4 x5 384 1 (by decide) (by decide) 3200 (by decide) _ r d) ?_
  refine View.allAt_cons_unit _ _ _ _ _ (low_tile x0 x4 x5 256 1 (by decide) (by decide) 3200 (by decide) _ r d) ?_
  refine View.allAt_cons_unit _ _ _ _ _ (high_tile x0 x4 x5 128 0 (by decide) (by decide) 3072 (by decide) _ r d) ?_
  refine View.allAt_cons_unit _ _ _ _ _ (low_tile x0 x4 x5 0 0 (by decide) (by decide) 3072 (by decide) _ r d) ?_
  exact View.allAt_nil _ _

/-- The indexer's keys as the body stores them: the rotated head in both halves of a tile. -/
def keyRow (f c s : Fin 128 → EReal) (d : Fin 128) : EReal :=
  if d.val < 64 then rot64 f c s d else rot64 f c s (pair128 d)

/-- The indexer's keys. -/
theorem out3_index (r : Fin 256) (d : Fin 128) : out3_10 x0 x1 x2 x3 x4 x5 (ix2 r d)
    = keyRow (tabRow x1 r) (tabRow x4 r) (tabRow x5 r) d := by
  have e : out3_10 x0 x1 x2 x3 x4 x5 = View.canon [⟨r3_0, truncf .bf16
      (select (cmpi .slt lanes (broadcast S256x128 64#32))
        (tile64 (View.ld x1 r3_0) (View.ld x4 r3_0) (View.ld x5 r3_0))
        (dynamicRotate 1 64#32 none (tile64 (View.ld x1 r3_0) (View.ld x4 r3_0) (View.ld x5 r3_0))
          rotates_S256x128_d1)) bitsLt_bf16_f32⟩] := rfl
  rw [e]
  frame_out
  pointwise []
  rw [below64, tile64_at]
  simp only [tile64_at, tab_ld]
  unfold keyRow
  have e : (⟨(d.val + 128 - 64) % 128, Nat.mod_lt _ (by decide)⟩ : Fin 128) = pair128 d :=
    Fin.ext (by show (d.val + 128 - 64) % 128 = (d.val + 64) % 128; omega)
  rw [← e]
  by_cases h : d.val < 64 <;> simp [h, Scalar.select] <;> rfl

/-- The indexer's weights, scaled. -/
theorem out3_weights (r : Fin 256) (d : Fin 128) : out3_11 x0 x1 x2 x3 x4 x5 (ix2 r d)
    = x1 (ix2 r d) * Ideal.ofBits .f32 0x3D000000#32 := by
  unfold out3_11
  frame_out
  pointwise [k3_pay2, k3_pay108, k3_pay80]

end Cert.Sparse
-- ==== Proof.Sparse.Region3.lean ====
module

public import proofs.«01_k».proof.Proof.Sparse.Prep
public import Idealize.ShloMosaic.Lib.Pipeline.Covers

/-!
# The rotated heads, as arrays

What the last launch leaves in its six outputs, from the projected rows and the tables.
-/

@[expose] public section

set_option maxRecDepth 16384

noncomputable section

namespace Cert.Sparse

open Cert.SparseIdeal Cert.SparseIdeal.Gen Idealize.ShloMosaic Idealize.ShloMosaic.TcCoe
open Idealize.SL.Sem

variable (V : (c : Dev nD) → (b : Ref sig .tc) → Buf (Elt Ideal) ((c : Thread nD τ).loc b))

theorem index3_0 : ∀ t : Fin cfg3.N, win3_0.index t = ![(grid3.coords t 0).val, 0] := by
  decide +kernel

theorem index3_1 : ∀ t : Fin cfg3.N, win3_1.index t = ![(grid3.coords t 0).val, 0] := by
  decide +kernel

theorem index3_2 : ∀ t : Fin cfg3.N, win3_2.index t = ![(grid3.coords t 0).val % 16, 0] := by
  decide +kernel

theorem index3_3 : ∀ t : Fin cfg3.N, win3_3.index t = ![(grid3.coords t 0).val % 16, 0] := by
  decide +kernel

theorem index3_4 : ∀ t : Fin cfg3.N, win3_4.index t = ![(grid3.coords t 0).val % 16, 0] := by
  decide +kernel

theorem index3_5 : ∀ t : Fin cfg3.N, win3_5.index t = ![(grid3.coords t 0).val % 16, 0] := by
  decide +kernel

theorem index3_6 : ∀ t : Fin cfg3.N, win3_6.index t = ![(grid3.coords t 0).val, 0] := by
  decide +kernel

theorem index3_7 : ∀ t : Fin cfg3.N, win3_7.index t = ![(grid3.coords t 0).val, 0] := by
  decide +kernel

theorem index3_8 : ∀ t : Fin cfg3.N, win3_8.index t = ![(grid3.coords t 0).val, 0] := by
  decide +kernel

theorem index3_9 : ∀ t : Fin cfg3.N, win3_9.index t = ![(grid3.coords t 0).val, 0] := by
  decide +kernel

theorem index3_10 : ∀ t : Fin cfg3.N, win3_10.index t = ![(grid3.coords t 0).val, 0] := by
  decide +kernel

theorem index3_11 : ∀ t : Fin cfg3.N, win3_11.index t = ![(grid3.coords t 0).val, 0] := by
  decide +kernel

theorem coord3 (t : Fin cfg3.N) : (grid3.coords t 0).val < 64 := (grid3.coords t 0).isLt

/-- The token of a row of a grid point's block. -/
def token (t : Fin cfg3.N) (r : Fin 256) : Fin 16384 :=
  ⟨(grid3.coords t 0).val * 256 + r.val, by have := coord3 t; omega⟩

/-- The position of a token in its sequence. -/
def place (a : Fin 16384) : Fin 4096 := ⟨a.val % 4096, Nat.mod_lt _ (by decide)⟩

theorem place_token (t : Fin cfg3.N) (r : Fin 256) (p) :
    (⟨(grid3.coords t 0).val % 16 * 256 + r.val, p⟩ : Fin 4096) = place (token t r) :=
  Fin.ext (by
    show (grid3.coords t 0).val % 16 * 256 + r.val = ((grid3.coords t 0).val * 256 + r.val) % 4096
    omega)

/-- The projected rows a grid point is given. -/
theorem main3 (c : Dev nD) (t : Fin cfg3.N) (r : Fin 256) (d : Fin 4096) :
    iblk3 V c 0 t (ix2 r d) = V c main_v4 (ix2 (token t r) d) := by
  unfold token
  blk_ext! [iblk3, index3_0 t]

/-- The last columns of the projected rows. -/
theorem tail3 (c : Dev nD) (t : Fin cfg3.N) (r : Fin 256) (d : Fin 128) :
    iblk3 V c 1 t (ix2 r d) = V c main_v8 (ix2 (token t r) d) := by
  unfold token
  blk_ext! [iblk3, index3_1 t]

/-- The rows of a table a grid point is given. -/
theorem table3_2 (c : Dev nD) (t : Fin cfg3.N) (r : Fin 256) (d : Fin 128) :
    iblk3 V c 2 t (ix2 r d) = V c main_v26 (ix2 (place (token t r)) d) := by
  rw [← place_token t r (by omega)]
  blk_ext! [iblk3, index3_2 t]

/-- The rows of a table a grid point is given. -/
theorem table3_3 (c : Dev nD) (t : Fin cfg3.N) (r : Fin 256) (d : Fin 128) :
    iblk3 V c 3 t (ix2 r d) = V c main_v31 (ix2 (place (token t r)) d) := by
  rw [← place_token t r (by omega)]
  blk_ext! [iblk3, index3_3 t]

/-- The rows of a table a grid point is given. -/
theorem table3_4 (c : Dev nD) (t : Fin cfg3.N) (r : Fin 256) (d : Fin 128) :
    iblk3 V c 4 t (ix2 r d) = V c main_v49 (ix2 (place (token t r)) d) := by
  rw [← place_token t r (by omega)]
  blk_ext! [iblk3, index3_4 t]

/-- The rows of a table a grid point is given. -/
theorem table3_5 (c : Dev nD) (t : Fin cfg3.N) (r : Fin 256) (d : Fin 128) :
    iblk3 V c 5 t (ix2 r d) = V c main_v54 (ix2 (place (token t r)) d) := by
  rw [← place_token t r (by omega)]
  blk_ext! [iblk3, index3_5 t]

/-- A tile of a projected row. -/
def tileOf (f : S16384x4096.Idx → EReal) (a : Fin 16384) (o : ℕ) (l : Fin 128) : EReal :=
  f (ix2 a (Fin.ofNat 4096 (o + l.val)))

/-- The row of a table a token reads. -/
def tabOf (x : S4096x128.Idx → EReal) (a : Fin 16384) (l : Fin 128) : EReal := x (ix2 (place a) l)

/-- The last columns of a projected row. -/
def tailOf (x : S16384x128.Idx → EReal) (a : Fin 16384) (l : Fin 128) : EReal := x (ix2 a l)

theorem tile_block (c : Dev nD) (t : Fin cfg3.N) (r : Fin 256) (o : ℕ) :
    tileRow (iblk3 V c 0 t) r o = tileOf (V c main_v4) (token t r) o := funext fun _ => main3 V c t r _

theorem tail_block (c : Dev nD) (t : Fin cfg3.N) (r : Fin 256) :
    tabRow (iblk3 V c 1 t) r = tailOf (V c main_v8) (token t r) := funext fun _ => tail3 V c t r _

theorem tab_block2 (c : Dev nD) (t : Fin cfg3.N) (r : Fin 256) :
    tabRow (iblk3 V c 2 t) r = tabOf (V c main_v26) (token t r) := funext fun _ => table3_2 V c t r _

theorem tab_block3 (c : Dev nD) (t : Fin cfg3.N) (r : Fin 256) :
    tabRow (iblk3 V c 3 t) r = tabOf (V c main_v31) (token t r) := funext fun _ => table3_3 V c t r _

theorem tab_block4 (c : Dev nD) (t : Fin cfg3.N) (r : Fin 256) :
    tabRow (iblk3 V c 4 t) r = tabOf (V c main_v49) (token t r) := funext fun _ => table3_4 V c t r _

theorem tab_block5 (c : Dev nD) (t : Fin cfg3.N) (r : Fin 256) :
    tabRow (iblk3 V c 5 t) r = tabOf (V c main_v54) (token t r) := funext fun _ => table3_5 V c t r _

/-- The grid point that writes a block of a result. -/
def place3 (x : Fin 64) : grid3.Coords := Fin.cons x fun a => a.elim0

/-- The queries. -/
def queryArr (f : S16384x4096.Idx → EReal) (c s : S4096x128.Idx → EReal) : S16384x2048.Idx → EReal := fun i =>
  rot128 (tileOf f (i 0) ((i 1).val / 128 * 128)) (tabOf c (i 0)) (tabOf s (i 0))
    ⟨(i 1).val % 128, Nat.mod_lt _ (by decide)⟩

/-- The keys. -/
def keyArr (f : S16384x4096.Idx → EReal) (c s : S4096x128.Idx → EReal) : S16384x512.Idx → EReal := fun i =>
  rot128 (tileOf f (i 0) (2048 + (i 1).val / 128 * 128)) (tabOf c (i 0)) (tabOf s (i 0))
    ⟨(i 1).val % 128, Nat.mod_lt _ (by decide)⟩

/-- The values. -/
def valueArr (f : S16384x4096.Idx → EReal) : S16384x512.Idx → EReal := fun i =>
  f (ix2 (i 0) ⟨2560 + (i 1).val, by have : (i 1).val < 512 := (i 1).isLt; omega⟩)

/-- The indexer's queries. -/
def pairArr (f : S16384x4096.Idx → EReal) (c s : S4096x128.Idx → EReal) : S16384x2048.Idx → EReal := fun i =>
  pairRow (tileOf f (i 0) (3072 + (i 1).val / 256 * 128)) (tabOf c (i 0)) (tabOf s (i 0)) ((i 1).val / 128)
    ⟨(i 1).val % 128, Nat.mod_lt _ (by decide)⟩

/-- The indexer's keys. -/
def indexArr (g : S16384x128.Idx → EReal) (c s : S4096x128.Idx → EReal) : S16384x128.Idx → EReal := fun i =>
  keyRow (tailOf g (i 0)) (tabOf c (i 0)) (tabOf s (i 0)) (i 1)

/-- The indexer's weights. -/
def weightArr (g : S16384x128.Idx → EReal) : S16384x128.Idx → EReal := fun i =>
  g (ix2 (i 0) (i 1)) * Ideal.ofBits .f32 0x3D000000#32

theorem place3_6 : ∀ (x : Fin 64) (y : Fin 1) (a : Fin 2),
    cc3_transform_6 (place3 x) a = (![x.val, y.val] : Fin 2 → ℕ) a := by
  decide +kernel

/-- The queries the launch leaves. -/
theorem arr3_6 (c : Dev nD) :
    (dat3 V c).arrAt 6 cfg3.N = queryArr (V c main_v4) (V c main_v26) (V c main_v31) := by
  refine (dat3 V c).arrAt_eq_of_covers 6 _ ?_ fun t hf y => ?_
  · exact (cfg3.win 6).covers_of_indexMap_surj rfl (by decide) fun β =>
      ⟨place3 (β 0), fun a => (place3_6 (β 0) (β 1) a).trans
        (match a with | ⟨0, _⟩ => rfl | ⟨1, _⟩ => rfl)⟩
  · blk_simp
    rw [after3_6]
    obtain ⟨r, d, rfl⟩ : ∃ (r : Fin 256) (d : Fin 2048), y = ix2 r d := ⟨y 0, y 1, eq_ix2 y⟩
    rw [out3_queries, tile_block, tab_block2, tab_block3]
    have e : (win3_6.blk t).view.emb (ix2 r d : S256x2048.Idx)
        = (ix2 (token t r) d : S16384x2048.Idx) := by
      unfold token
      blk_ext [index3_6 t]
    rw [e]
    rfl

theorem place3_7 : ∀ (x : Fin 64) (y : Fin 1) (a : Fin 2),
    cc3_transform_7 (place3 x) a = (![x.val, y.val] : Fin 2 → ℕ) a := by
  decide +kernel

/-- The keys the launch leaves. -/
theorem arr3_7 (c : Dev nD) :
    (dat3 V c).arrAt 7 cfg3.N = keyArr (V c main_v4) (V c main_v26) (V c main_v31) := by
  refine (dat3 V c).arrAt_eq_of_covers 7 _ ?_ fun t hf y => ?_
  · exact (cfg3.win 7).covers_of_indexMap_surj rfl (by decide) fun β =>
      ⟨place3 (β 0), fun a => (place3_7 (β 0) (β 1) a).trans
        (match a with | ⟨0, _⟩ => rfl | ⟨1, _⟩ => rfl)⟩
  · blk_simp
    rw [after3_7]
    obtain ⟨r, d, rfl⟩ : ∃ (r : Fin 256) (d : Fin 512), y = ix2 r d := ⟨y 0, y 1, eq_ix2 y⟩
    rw [out3_keys, tile_block, tab_block2, tab_block3]
    have e : (win3_7.blk t).view.emb (ix2 r d : S256x512.Idx)
        = (ix2 (token t r) d : S16384x512.Idx) := by
      unfold token
      blk_ext [index3_7 t]
    rw [e]
    rfl

theorem place3_8 : ∀ (x : Fin 64) (y : Fin 1) (a : Fin 2),
    cc3_transform_8 (place3 x) a = (![x.val, y.val] : Fin 2 → ℕ) a := by
  decide +kernel

/-- The values the launch leaves. -/
theorem arr3_8 (c : Dev nD) :
    (dat3 V c).arrAt 8 cfg3.N = valueArr (V c main_v4) := by
  refine (dat3 V c).arrAt_eq_of_covers 8 _ ?_ fun t hf y => ?_
  · exact (cfg3.win 8).covers_of_indexMap_surj rfl (by decide) fun β =>
      ⟨place3 (β 0), fun a => (place3_8 (β 0) (β 1) a).trans
        (match a with | ⟨0, _⟩ => rfl | ⟨1, _⟩ => rfl)⟩
  · blk_simp
    rw [after3_8]
    obtain ⟨r, d, rfl⟩ : ∃ (r : Fin 256) (d : Fin 512), y = ix2 r d := ⟨y 0, y 1, eq_ix2 y⟩
    rw [out3_values, main3]
    have e : (win3_8.blk t).view.emb (ix2 r d : S256x512.Idx)
        = (ix2 (token t r) d : S16384x512.Idx) := by
      unfold token
      blk_ext [index3_8 t]
    rw [e]
    rfl

theorem place3_9 : ∀ (x : Fin 64) (y : Fin 1) (a : Fin 2),
    cc3_transform_9 (place3 x) a = (![x.val, y.val] : Fin 2 → ℕ) a := by
  decide +kernel

/-- The pairs the launch leaves. -/
theorem arr3_9 (c : Dev nD) :
    (dat3 V c).arrAt 9 cfg3.N = pairArr (V c main_v4) (V c main_v49) (V c main_v54) := by
  refine (dat3 V c).arrAt_eq_of_covers 9 _ ?_ fun t hf y => ?_
  · exact (cfg3.win 9).covers_of_indexMap_surj rfl (by decide) fun β =>
      ⟨place3 (β 0), fun a => (place3_9 (β 0) (β 1) a).trans
        (match a with | ⟨0, _⟩ => rfl | ⟨1, _⟩ => rfl)⟩
  · blk_simp
    rw [after3_9]
    obtain ⟨r, d, rfl⟩ : ∃ (r : Fin 256) (d : Fin 2048), y = ix2 r d := ⟨y 0, y 1, eq_ix2 y⟩
    rw [out3_pairs, tile_block, tab_block4, tab_block5]
    have e : (win3_9.blk t).view.emb (ix2 r d : S256x2048.Idx)
        = (ix2 (token t r) d : S16384x2048.Idx) := by
      unfold token
      blk_ext [index3_9 t]
    rw [e]
    rfl

theorem place3_10 : ∀ (x : Fin 64) (y : Fin 1) (a : Fin 2),
    cc3_transform_10 (place3 x) a = (![x.val, y.val] : Fin 2 → ℕ) a := by
  decide +kernel

/-- The index the launch leaves. -/
theorem arr3_10 (c : Dev nD) :
    (dat3 V c).arrAt 10 cfg3.N = indexArr (V c main_v8) (V c main_v49) (V c main_v54) := by
  refine (dat3 V c).arrAt_eq_of_covers 10 _ ?_ fun t hf y => ?_
  · exact (cfg3.win 10).covers_of_indexMap_surj rfl (by decide) fun β =>
      ⟨place3 (β 0), fun a => (place3_10 (β 0) (β 1) a).trans
        (match a with | ⟨0, _⟩ => rfl | ⟨1, _⟩ => rfl)⟩
  · blk_simp
    rw [after3_10]
    obtain ⟨r, d, rfl⟩ : ∃ (r : Fin 256) (d : Fin 128), y = ix2 r d := ⟨y 0, y 1, eq_ix2 y⟩
    rw [out3_index, tail_block, tab_block4, tab_block5]
    have e : (win3_10.blk t).view.emb (ix2 r d : S256x128.Idx)
        = (ix2 (token t r) d : S16384x128.Idx) := by
      unfold token
      blk_ext [index3_10 t]
    rw [e]
    rfl

theorem place3_11 : ∀ (x : Fin 64) (y : Fin 1) (a : Fin 2),
    cc3_transform_11 (place3 x) a = (![x.val, y.val] : Fin 2 → ℕ) a := by
  decide +kernel

/-- The weights the launch leaves. -/
theorem arr3_11 (c : Dev nD) :
    (dat3 V c).arrAt 11 cfg3.N = weightArr (V c main_v8) := by
  refine (dat3 V c).arrAt_eq_of_covers 11 _ ?_ fun t hf y => ?_
  · exact (cfg3.win 11).covers_of_indexMap_surj rfl (by decide) fun β =>
      ⟨place3 (β 0), fun a => (place3_11 (β 0) (β 1) a).trans
        (match a with | ⟨0, _⟩ => rfl | ⟨1, _⟩ => rfl)⟩
  · blk_simp
    rw [after3_11]
    obtain ⟨r, d, rfl⟩ : ∃ (r : Fin 256) (d : Fin 128), y = ix2 r d := ⟨y 0, y 1, eq_ix2 y⟩
    rw [out3_weights, tail3]
    have e : (win3_11.blk t).view.emb (ix2 r d : S256x128.Idx)
        = (ix2 (token t r) d : S16384x128.Idx) := by
      unfold token
      blk_ext [index3_11 t]
    rw [e]
    rfl

end Cert.Sparse
-- ==== Proof.Sparse.Spec.lean ====
module

public import proofs.«01_k».proof.Proof.Ffn.Spec
public import Idealize.ShloMosaic.Lib.Pointwise

/-!
# What goes into the sparse attention, as formulas

Rows are normalised, projected to the heads of queries, keys and values and to the indexer's queries, key and
weights, and the heads are rotated by their positions.
-/

@[expose] public section

noncomputable section

namespace Cert.Sparse

open Idealize.ShloMosaic Idealize.ShloMosaic.TcCoe

/-- The token at a position of a sequence. -/
def tok (b : Fin 4) (s : Fin 4096) : Fin 16384 := ⟨b.val * 4096 + s.val, by omega⟩

/-- The angle of frequency `j` at position `n`: `n · 10000 ^ (-j / w)`. -/
def angle (w : EReal) (n j : ℕ) : EReal :=
  (FloatOps.sitofp (F := Ideal) FTy.f32 (BitVec.ofNat 32 n) : EReal) * Ideal.pow (Ideal.ofBits FTy.f32 1176256512#32)
    (Ideal.div (-(FloatOps.sitofp (F := Ideal) FTy.f32 (BitVec.ofNat 32 j) : EReal)) w)

/-- Lane `x` of a head `f` rotated for position `n`; the head's halves of `half` lanes form the pairs. -/
def rope (half : ℕ) (w : EReal) (f : ℕ → EReal) (n x : ℕ) : EReal :=
  if x < half then f x * Ideal.cos (angle w n x) - f (x + half) * Ideal.sin (angle w n x)
  else f x * Ideal.cos (angle w n (x - half)) + f (x - half) * Ideal.sin (angle w n (x - half))

/-- The words for 64 and 32. -/
def w64 : EReal := Ideal.ofBits FTy.f32 1115684864#32
def w32 : EReal := Ideal.ofBits FTy.f32 1107296256#32

variable (x : (⟨2, ![16384, 2048]⟩ : Shape).Idx → EReal) (g : (⟨1, ![2048]⟩ : Shape).Idx → EReal)
  (w : (⟨2, ![2048, 4176]⟩ : Shape).Idx → EReal)

/-- A normalised row. -/
def hid (a : Fin 16384) (k : Fin 2048) : EReal := Cert.Ffn.norm (fun j => x (ix2 a j)) (g (ix1 k)) k

/-- A column of a projected row. -/
def proj (a : Fin 16384) (n : ℕ) : EReal := ∑ k : Fin 2048, hid x g a k * w (ix2 k (Fin.ofNat 4176 n))

/-- The queries. -/
def queries : (⟨4, ![4, 4096, 16, 128]⟩ : Shape).Idx → EReal := fun i =>
  rope 64 w64 (fun l => proj x g w (tok (i 0) (i 1)) ((i 2).val * 128 + l)) (i 1).val (i 3).val

/-- The keys. -/
def keys : (⟨4, ![4, 4096, 4, 128]⟩ : Shape).Idx → EReal := fun i =>
  rope 64 w64 (fun l => proj x g w (tok (i 0) (i 1)) (2048 + (i 2).val * 128 + l)) (i 1).val (i 3).val

/-- The values. -/
def values : (⟨4, ![4, 4096, 4, 128]⟩ : Shape).Idx → EReal := fun i =>
  proj x g w (tok (i 0) (i 1)) (2560 + ((i 2).val * 128 + (i 3).val))

/-- The indexer's queries. -/
def indexQueries : (⟨4, ![4, 4096, 16, 64]⟩ : Shape).Idx → EReal := fun i =>
  rope 32 w32 (fun l => proj x g w (tok (i 0) (i 1)) (3072 + (i 2).val * 64 + l)) (i 1).val (i 3).val

/-- The indexer's key. -/
def indexKeys : (⟨3, ![4, 4096, 64]⟩ : Shape).Idx → EReal := fun i =>
  rope 32 w32 (fun l => proj x g w (tok (i 0) (i 1)) (4096 + l)) (i 1).val (i 2).val

/-- The indexer's weights. -/
def indexWeights : (⟨3, ![4, 4096, 16]⟩ : Shape).Idx → EReal := fun i =>
  proj x g w (tok (i 0) (i 1)) (4160 + (i 2).val) * Ideal.ofBits FTy.f32 0x3D000000#32

end Cert.Sparse
-- ==== Proof.Sparse.Run.lean ====
module

public import proofs.«01_k».proof.Proof.Sparse.Region0
public import proofs.«01_k».proof.Proof.Sparse.Region1
public import proofs.«01_k».proof.Proof.Sparse.Region2
public import proofs.«01_k».proof.Proof.Sparse.Region3
public import proofs.«01_k».proof.Proof.Sparse.Spec
public import Idealize.ShloMosaic.Lib.StableHlo.Run
public import Idealize.ShloMosaic.Lib.KernelVsHost

/-!
# The run that prepares the sparse attention

What the run leaves in the six results.
-/

@[expose] public section

set_option maxRecDepth 16384

noncomputable section

namespace Cert.Sparse

open Cert.SparseIdeal Cert.SparseIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every buffer the program names ends at the contents the last segment leaves. -/
theorem run_all : θ_run (Val := Elt Ideal) defs (onTc (τ := τ) (main (F := Ideal))) ⟨m, fun _ => 0, ρ⟩
    (fun r => ∀ c : Dev nD, ∀ b ∈ Pipeline.ucRefs τ sig,
      r.2.mem (((c : Thread nD τ)).1, b) = W11 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => h)

/-- The norm's scale as a row. -/
theorem scale_first (c : Dev nD) (d : Fin 2048) :
    V1 m ρ c main_v0 (ix2 0 d) = m (c.tc.loc main_arg1) (ix1 d) := by
  show StableHlo.after hostOps0 (W0 m ρ c) (Proc.devRef .tc main_v0) (ix2 0 d) = _
  unfold hostOps0
  after_results
  pointwise []

/-- The first columns of the weights. -/
theorem main_cast (c : Dev nD) (k : Fin 2048) (n : Fin 4096) :
    V3 m ρ c main_v3 (ix2 k n) = m (c.tc.loc main_arg2) (ix2 k (Fin.ofNat 4176 n.val)) := by
  have e : (Fin.ofNat 4176 n.val : Fin 4176) = ⟨n.val, by omega⟩ := Fin.ext (Nat.mod_eq_of_lt (by omega))
  rw [← W2_args m ρ c main_arg2 (by decide), e]
  show StableHlo.after hostOps1 (W2 m ρ c) (Proc.devRef .tc main_v3) (ix2 k n) = _
  unfold hostOps1
  after_results
  pointwise []

/-- The last columns of the weights, before they are padded. -/
theorem tail_slice (c : Dev nD) (k : Fin 2048) (h : Fin 80) :
    W5 m ρ c (Proc.devRef .tc main_v5) (ix2 k h)
      = m (c.tc.loc main_arg2) (ix2 k (Fin.ofNat 4176 (4096 + h.val))) := by
  have e : (Fin.ofNat 4176 (4096 + h.val) : Fin 4176) = ⟨4096 + h.val, by omega⟩ :=
    Fin.ext (Nat.mod_eq_of_lt (by omega))
  rw [← W4_args m ρ c main_arg2 (by decide), e]
  show StableHlo.after hostOps2 (W4 m ρ c) (Proc.devRef .tc main_v5) (ix2 k h) = _
  unfold hostOps2
  after_results
  pointwise []

/-- The padded weights, in the first eighty columns. -/
theorem tail_pad (c : Dev nD) (k : Fin 2048) (d : Fin 128) (hd : d.val < 80) :
    W6 m ρ c (Proc.devRef .tc main_v6) (ix2 k d)
      = m (c.tc.loc main_arg2) (ix2 k (Fin.ofNat 4176 (4096 + d.val))) := by
  rw [← tail_slice m ρ c k ⟨d.val, hd⟩]
  show StableHlo.after hostOps2_1 (W5 m ρ c) (Proc.devRef .tc main_v6) (ix2 k d) = _
  generalize W5 m ρ c = W
  unfold hostOps2_1
  after_results
  exact pad_apply_of_inside (s := S2048x80) (t := S2048x128) ![0, 0] ![0, 48] ![0, 0] _ _
    pads_S2048x80_S2048x128_000_0480 h_S_ (ix2 k d) (ix2 k (⟨d.val, hd⟩ : Fin 80)) fun a => match a with
    | ⟨0, _⟩ => by show k.val = 0 + k.val * 1; omega
    | ⟨1, _⟩ => by show d.val = 0 + d.val * 1; omega

theorem tail_cast (c : Dev nD) (k : Fin 2048) (d : Fin 128) (hd : d.val < 80) :
    V7 m ρ c main_v7 (ix2 k d) = m (c.tc.loc main_arg2) (ix2 k (Fin.ofNat 4176 (4096 + d.val))) := by
  rw [← tail_pad m ρ c k d hd]
  show StableHlo.after hostOps2_2 (W6 m ρ c) (Proc.devRef .tc main_v7) (ix2 k d) = _
  unfold hostOps2_2
  after_results
  pointwise []

/-- The projection of the program's arguments. -/
abbrev proj' (c : Dev nD) : Fin 16384 → ℕ → EReal :=
  proj (m (c.tc.loc main_arg0)) (m (c.tc.loc main_arg1)) (m (c.tc.loc main_arg2))

/-- The normalised rows as the products find them. -/
theorem rows_at (c : Dev nD) (a : Fin 16384) (k : Fin 2048) :
    V3 m ρ c main_v1 (ix2 a k) = hid (m (c.tc.loc main_arg0)) (m (c.tc.loc main_arg1)) a k := by
  have e : V3 m ρ c main_v1 = (dat0 (V1 m ρ) c).arrAt 2 cfg0.N :=
    (W3_of m ρ c main_v1 (by decide)).trans (W2_arr m ρ c 2)
  unfold hid
  rw [e, arr0, show V1 m ρ c main_arg0 = m (c.tc.loc main_arg0) from
    W1_args m ρ c main_arg0 (by decide), ← scale_first m ρ c k]
  rfl

/-- The first columns of the projected rows. -/
theorem main_at (c : Dev nD) (a : Fin 16384) (n : Fin 4096) :
    V9 m ρ c main_v4 (ix2 a n) = proj' m c a n.val := by
  have e : V9 m ρ c main_v4 = (dat1 (V3 m ρ) c).arrAt 2 cfg1.N :=
    (W9_of m ρ c main_v4 (by decide)).trans ((W8_of m ρ c main_v4 (by decide)).trans
      ((W7_of m ρ c main_v4 (by decide)).trans ((W6_of m ρ c main_v4 (by decide)).trans
        ((W5_of m ρ c main_v4 (by decide)).trans (W4_arr m ρ c 2)))))
  rw [e, arr1]
  unfold prodArr1 proj' proj
  exact Finset.sum_congr (M := EReal) rfl fun k _ =>
    congrArg₂ (· * ·) (rows_at m ρ c a k) (main_cast m ρ c k n)

/-- The last columns of the projected rows. -/
theorem tail_at (c : Dev nD) (a : Fin 16384) (d : Fin 128) (hd : d.val < 80) :
    V9 m ρ c main_v8 (ix2 a d) = proj' m c a (4096 + d.val) := by
  have e : V9 m ρ c main_v8 = (dat2 (V7 m ρ) c).arrAt 2 cfg2.N :=
    (W9_of m ρ c main_v8 (by decide)).trans (W8_arr m ρ c 2)
  have e1 : V7 m ρ c main_v1 = V3 m ρ c main_v1 :=
    (W7_of m ρ c main_v1 (by decide)).trans ((W6_of m ρ c main_v1 (by decide)).trans
      ((W5_of m ρ c main_v1 (by decide)).trans (W4_of m ρ c main_v1 (by decide))))
  rw [e, arr2, e1]
  unfold prodArr2 proj' proj
  exact Finset.sum_congr (M := EReal) rfl fun k _ =>
    congrArg₂ (· * ·) (rows_at m ρ c a k) (tail_cast m ρ c k d hd)

/-- The cosines for heads of 128 lanes. -/
theorem cos_wide (c : Dev nD) (n : Fin 4096) (d : Fin 128) : V9 m ρ c main_v26 (ix2 n d)
    = if d.val < 64 then Ideal.cos (angle w64 n.val d.val) else Ideal.cos (angle w64 n.val (d.val - 64)) := by
  show StableHlo.after hostOps3 (W8 m ρ c) (Proc.devRef .tc main_v26) (ix2 n d) = _
  generalize W8 m ρ c = W
  unfold hostOps3
  after_results
  pointwise []
  by_cases h : d.val < 64
  · rw [dif_pos h, if_pos h]
    rfl
  · rw [dif_neg h, if_neg h]
    rfl

/-- The signed sines for heads of 128 lanes. -/
theorem sin_wide (c : Dev nD) (n : Fin 4096) (d : Fin 128) : V9 m ρ c main_v31 (ix2 n d)
    = if d.val < 64 then -Ideal.sin (angle w64 n.val d.val) else Ideal.sin (angle w64 n.val (d.val - 64)) := by
  show StableHlo.after hostOps3 (W8 m ρ c) (Proc.devRef .tc main_v31) (ix2 n d) = _
  generalize W8 m ρ c = W
  unfold hostOps3
  after_results
  pointwise []
  by_cases h : d.val < 64
  · rw [dif_pos h, if_pos h]
    rfl
  · rw [dif_neg h, if_neg h]
    rfl

/-- The cosines for heads of 64 lanes. -/
theorem cos_narrow (c : Dev nD) (n : Fin 4096) (d : Fin 128) : V9 m ρ c main_v49 (ix2 n d)
    = if d.val % 64 < 32 then Ideal.cos (angle w32 n.val (d.val % 64)) else Ideal.cos (angle w32 n.val (d.val % 64 - 32)) := by
  show StableHlo.after hostOps3 (W8 m ρ c) (Proc.devRef .tc main_v49) (ix2 n d) = _
  generalize W8 m ρ c = W
  unfold hostOps3
  after_results
  pointwise []
  by_cases h : d.val % 64 < 32
  · rw [dif_pos h, if_pos h]
    rfl
  · rw [dif_neg h, if_neg h]
    rfl

/-- The signed sines for heads of 64 lanes. -/
theorem sin_narrow (c : Dev nD) (n : Fin 4096) (d : Fin 128) : V9 m ρ c main_v54 (ix2 n d)
    = if d.val % 64 < 32 then -Ideal.sin (angle w32 n.val (d.val % 64)) else Ideal.sin (angle w32 n.val (d.val % 64 - 32)) := by
  show StableHlo.after hostOps3 (W8 m ρ c) (Proc.devRef .tc main_v54) (ix2 n d) = _
  generalize W8 m ρ c = W
  unfold hostOps3
  after_results
  pointwise []
  by_cases h : d.val % 64 < 32
  · rw [dif_pos h, if_pos h]
    rfl
  · rw [dif_neg h, if_neg h]
    rfl

/-- A tile of one head of 128 lanes, rotated by its tables. -/
theorem rot128_rope (f : Fin 128 → EReal) (F : ℕ → EReal) (C S : Fin 128 → EReal) (n : ℕ)
    (hf : ∀ l : Fin 128, f l = F l.val)
    (hc : ∀ d : Fin 128, C d = if d.val < 64 then Ideal.cos (angle w64 n d.val) else Ideal.cos (angle w64 n (d.val - 64)))
    (hs : ∀ d : Fin 128, S d = if d.val < 64 then -Ideal.sin (angle w64 n d.val) else Ideal.sin (angle w64 n (d.val - 64)))
    (d : Fin 128) : rot128 f C S d = rope 64 w64 F n d.val := by
  unfold rot128 rope
  rw [hf, hf, hc, hs]
  by_cases h : d.val < 64
  · rw [if_pos h, if_pos h, if_pos h, sub_eq_add_neg, mul_neg,
      show (pair128 d).val = d.val + 64 from Nat.mod_eq_of_lt (by omega)]
  · rw [if_neg h, if_neg h, if_neg h,
      show (pair128 d).val = d.val - 64 from by show (d.val + 64) % 128 = d.val - 64; omega]

/-- A tile of two heads of 64 lanes, rotated by its tables, in the head that starts at lane `o`. -/
theorem rot64_rope (f : Fin 128 → EReal) (F : ℕ → EReal) (C S : Fin 128 → EReal) (n : ℕ)
    (hc : ∀ d : Fin 128, C d = if d.val % 64 < 32 then Ideal.cos (angle w32 n (d.val % 64)) else Ideal.cos (angle w32 n (d.val % 64 - 32)))
    (hs : ∀ d : Fin 128, S d = if d.val % 64 < 32 then -Ideal.sin (angle w32 n (d.val % 64)) else Ideal.sin (angle w32 n (d.val % 64 - 32)))
    (d : Fin 128) (o : ℕ) (ho : o = 0 ∨ o = 64) (x : ℕ) (hx : x < 64) (hd : d.val = o + x)
    (hf : ∀ l : Fin 128, o ≤ l.val → l.val < o + 64 → f l = F (l.val - o)) :
    rot64 f C S d = rope 32 w32 F n x := by
  have e : d.val % 64 = x := by omega
  unfold rot64 rope
  rw [hc, hs, e, hf d (by omega) (by omega), show d.val - o = x by omega]
  by_cases h : x < 32
  · have ep : (pair64 d).val = d.val + 32 := by
      simp only [pair64, e, h, if_true]
      omega
    rw [hf (pair64 d) (by omega) (by omega), ep, if_pos h, if_pos h, if_pos h, sub_eq_add_neg, mul_neg,
      show d.val + 32 - o = x + 32 by omega]
  · have ep : (pair64 d).val = d.val - 32 := by
      simp only [pair64, e, h, if_false]
      omega
    rw [hf (pair64 d) (by omega) (by omega), ep, if_neg h, if_neg h, if_neg h,
      show d.val - 32 - o = x - 32 by omega]

theorem place_tok (b : Fin 4) (s : Fin 4096) : place (tok b s) = s :=
  Fin.ext (by show (b.val * 4096 + s.val) % 4096 = s.val; omega)

/-- A tile of the projected rows. -/
theorem tileOf_at (c : Dev nD) (a : Fin 16384) (o : ℕ) (ho : o + 128 ≤ 4096) (l : Fin 128) :
    tileOf (V9 m ρ c main_v4) a o l = proj' m c a (o + l.val) := by
  unfold tileOf
  rw [main_at, show (Fin.ofNat 4096 (o + l.val) : Fin 4096).val = o + l.val from Nat.mod_eq_of_lt (by omega)]

/-- The queries at the end. -/
theorem queries_end (c : Dev nD) : W11 m ρ c (Proc.devRef .tc main_v57)
    = queries (m (c.tc.loc main_arg0)) (m (c.tc.loc main_arg1)) (m (c.tc.loc main_arg2)) := by
  funext i
  obtain ⟨b, s, h, x, rfl⟩ : ∃ (b : Fin 4) (s : Fin 4096) (h : Fin 16) (x : Fin 128), i = ix4 b s h x :=
    ⟨i 0, i 1, i 2, i 3, eq_ix4 i⟩
  have e : W11 m ρ c (Proc.devRef .tc main_v57) (ix4 b s h x)
      = W10 m ρ c (Proc.devRef .tc main_v55_0) (ix2 (tok b s) ⟨h.val * 128 + x.val, by omega⟩) := by
    show StableHlo.after hostOps4 (W10 m ρ c) (Proc.devRef .tc main_v57) (ix4 b s h x) = _
    generalize W10 m ρ c = W
    unfold hostOps4
    after_results
    pointwise []
    rfl
  rw [e, show W10 m ρ c (Proc.devRef .tc main_v55_0) = (dat3 (V9 m ρ) c).arrAt 6 cfg3.N from W10_arr m ρ c 6, arr3_6]
  show rot128 (tileOf _ (tok b s) ((h.val * 128 + x.val) / 128 * 128)) (tabOf _ (tok b s)) (tabOf _ (tok b s))
    ⟨(h.val * 128 + x.val) % 128, Nat.mod_lt _ (by decide)⟩ = rope 64 w64 (fun l => proj' m c (tok b s) (h.val * 128 + l)) s.val x.val
  have e1 : (h.val * 128 + x.val) / 128 * 128 = h.val * 128 := by omega
  have e2 : ∀ p, (⟨(h.val * 128 + x.val) % 128, p⟩ : Fin 128) = x := fun p => Fin.ext (by
    show (h.val * 128 + x.val) % 128 = x.val
    omega)
  rw [e1, e2]
  exact rot128_rope _ _ _ _ _ (fun l => tileOf_at m ρ c _ _ (by omega) l)
    (fun d => by unfold tabOf; rw [place_tok, cos_wide]) (fun d => by unfold tabOf; rw [place_tok, sin_wide]) x

/-- The keys at the end. -/
theorem keys_end (c : Dev nD) : W11 m ρ c (Proc.devRef .tc main_v59)
    = keys (m (c.tc.loc main_arg0)) (m (c.tc.loc main_arg1)) (m (c.tc.loc main_arg2)) := by
  funext i
  obtain ⟨b, s, h, x, rfl⟩ : ∃ (b : Fin 4) (s : Fin 4096) (h : Fin 4) (x : Fin 128), i = ix4 b s h x :=
    ⟨i 0, i 1, i 2, i 3, eq_ix4 i⟩
  have e : W11 m ρ c (Proc.devRef .tc main_v59) (ix4 b s h x)
      = W10 m ρ c (Proc.devRef .tc main_v55_1) (ix2 (tok b s) ⟨h.val * 128 + x.val, by omega⟩) := by
    show StableHlo.after hostOps4 (W10 m ρ c) (Proc.devRef .tc main_v59) (ix4 b s h x) = _
    generalize W10 m ρ c = W
    unfold hostOps4
    after_results
    pointwise []
    rfl
  rw [e, show W10 m ρ c (Proc.devRef .tc main_v55_1) = (dat3 (V9 m ρ) c).arrAt 7 cfg3.N from W10_arr m ρ c 7, arr3_7]
  show rot128 (tileOf _ (tok b s) (2048 + (h.val * 128 + x.val) / 128 * 128)) (tabOf _ (tok b s)) (tabOf _ (tok b s))
    ⟨(h.val * 128 + x.val) % 128, Nat.mod_lt _ (by decide)⟩ = rope 64 w64 (fun l => proj' m c (tok b s) (2048 + h.val * 128 + l)) s.val x.val
  have e1 : 2048 + (h.val * 128 + x.val) / 128 * 128 = 2048 + h.val * 128 := by omega
  have e2 : ∀ p, (⟨(h.val * 128 + x.val) % 128, p⟩ : Fin 128) = x := fun p => Fin.ext (by
    show (h.val * 128 + x.val) % 128 = x.val
    omega)
  rw [e1, e2]
  exact rot128_rope _ _ _ _ _ (fun l => tileOf_at m ρ c _ _ (by omega) l)
    (fun d => by unfold tabOf; rw [place_tok, cos_wide]) (fun d => by unfold tabOf; rw [place_tok, sin_wide]) x

/-- The values at the end. -/
theorem values_end (c : Dev nD) : W11 m ρ c (Proc.devRef .tc main_v61)
    = values (m (c.tc.loc main_arg0)) (m (c.tc.loc main_arg1)) (m (c.tc.loc main_arg2)) := by
  funext i
  obtain ⟨b, s, h, x, rfl⟩ : ∃ (b : Fin 4) (s : Fin 4096) (h : Fin 4) (x : Fin 128), i = ix4 b s h x :=
    ⟨i 0, i 1, i 2, i 3, eq_ix4 i⟩
  have e : W11 m ρ c (Proc.devRef .tc main_v61) (ix4 b s h x)
      = W10 m ρ c (Proc.devRef .tc main_v55_2) (ix2 (tok b s) ⟨h.val * 128 + x.val, by omega⟩) := by
    show StableHlo.after hostOps4 (W10 m ρ c) (Proc.devRef .tc main_v61) (ix4 b s h x) = _
    generalize W10 m ρ c = W
    unfold hostOps4
    after_results
    pointwise []
    rfl
  rw [e, show W10 m ρ c (Proc.devRef .tc main_v55_2) = (dat3 (V9 m ρ) c).arrAt 8 cfg3.N from W10_arr m ρ c 8, arr3_8]
  exact main_at m ρ c (tok b s) _

/-- The indexer's queries at the end. -/
theorem indexQueries_end (c : Dev nD) : W11 m ρ c (Proc.devRef .tc main_v69)
    = indexQueries (m (c.tc.loc main_arg0)) (m (c.tc.loc main_arg1)) (m (c.tc.loc main_arg2)) := by
  funext i
  obtain ⟨b, s, h, x, rfl⟩ : ∃ (b : Fin 4) (s : Fin 4096) (h : Fin 16) (x : Fin 64), i = ix4 b s h x :=
    ⟨i 0, i 1, i 2, i 3, eq_ix4 i⟩
  have e : W11 m ρ c (Proc.devRef .tc main_v69) (ix4 b s h x)
      = W10 m ρ c (Proc.devRef .tc main_v55_3)
          (ix2 (tok b s) ⟨h.val * 128 + (h.val % 2 * 64 + x.val), by omega⟩) := by
    show StableHlo.after hostOps4 (W10 m ρ c) (Proc.devRef .tc main_v69) (ix4 b s h x) = _
    generalize W10 m ρ c = W
    unfold hostOps4
    after_results
    pointwise []
    by_cases hp : h.val % 2 < 1
    · rw [dif_pos hp]
      exact congrArg (W (Proc.devRef .tc main_v55_3)) (congrArg (ix2 (tok b s)) (Fin.ext (by
        show h.val / 2 * 256 + x.val = h.val * 128 + (h.val % 2 * 64 + x.val)
        omega)))
    · rw [dif_neg hp]
      exact congrArg (W (Proc.devRef .tc main_v55_3)) (congrArg (ix2 (tok b s)) (Fin.ext (by
        show h.val / 2 * 256 + 128 + 64 + x.val = h.val * 128 + (h.val % 2 * 64 + x.val)
        omega)))
  rw [e, show W10 m ρ c (Proc.devRef .tc main_v55_3) = (dat3 (V9 m ρ) c).arrAt 9 cfg3.N from W10_arr m ρ c 9, arr3_9]
  show pairRow (tileOf _ (tok b s) (3072 + (h.val * 128 + (h.val % 2 * 64 + x.val)) / 256 * 128)) (tabOf _ (tok b s))
    (tabOf _ (tok b s)) ((h.val * 128 + (h.val % 2 * 64 + x.val)) / 128)
    ⟨(h.val * 128 + (h.val % 2 * 64 + x.val)) % 128, Nat.mod_lt _ (by decide)⟩
      = rope 32 w32 (fun l => proj' m c (tok b s) (3072 + h.val * 64 + l)) s.val x.val
  have e1 : 3072 + (h.val * 128 + (h.val % 2 * 64 + x.val)) / 256 * 128 = 3072 + h.val / 2 * 128 := by omega
  have e2 : (h.val * 128 + (h.val % 2 * 64 + x.val)) / 128 = h.val := by omega
  have e3 : ∀ p, (⟨(h.val * 128 + (h.val % 2 * 64 + x.val)) % 128, p⟩ : Fin 128)
      = ⟨h.val % 2 * 64 + x.val, by omega⟩ := fun p => Fin.ext (by
    show (h.val * 128 + (h.val % 2 * 64 + x.val)) % 128 = h.val % 2 * 64 + x.val
    omega)
  rw [e1, e2, e3]
  have key : rot64 (tileOf (V9 m ρ c main_v4) (tok b s) (3072 + h.val / 2 * 128)) (tabOf (V9 m ρ c main_v49) (tok b s))
      (tabOf (V9 m ρ c main_v54) (tok b s)) ⟨h.val % 2 * 64 + x.val, by omega⟩
        = rope 32 w32 (fun l => proj' m c (tok b s) (3072 + h.val * 64 + l)) s.val x.val :=
    rot64_rope _ _ _ _ _ (fun d => by unfold tabOf; rw [place_tok, cos_narrow])
      (fun d => by unfold tabOf; rw [place_tok, sin_narrow]) _ (h.val % 2 * 64) (by omega) x.val x.isLt rfl
      fun l h1 h2 => by
        rw [tileOf_at m ρ c _ _ (by omega)]
        exact congrArg (proj' m c (tok b s)) (by omega)
  unfold pairRow
  rw [key]
  by_cases hp : h.val % 2 = 0
  · rw [if_pos hp, if_pos (show h.val % 2 * 64 + x.val < 64 by omega)]
  · rw [if_neg hp, if_neg (show ¬ h.val % 2 * 64 + x.val < 64 by omega)]

/-- The indexer's key at the end. -/
theorem indexKeys_end (c : Dev nD) : W11 m ρ c (Proc.devRef .tc main_v72)
    = indexKeys (m (c.tc.loc main_arg0)) (m (c.tc.loc main_arg1)) (m (c.tc.loc main_arg2)) := by
  funext i
  obtain ⟨b, s, x, rfl⟩ : ∃ (b : Fin 4) (s : Fin 4096) (x : Fin 64), i = ix3 b s x :=
    ⟨i 0, i 1, i 2, eq_ix3 i⟩
  have e : W11 m ρ c (Proc.devRef .tc main_v72) (ix3 b s x)
      = W10 m ρ c (Proc.devRef .tc main_v55_4) (ix2 (tok b s) ⟨x.val, by omega⟩) := by
    show StableHlo.after hostOps4 (W10 m ρ c) (Proc.devRef .tc main_v72) (ix3 b s x) = _
    generalize W10 m ρ c = W
    unfold hostOps4
    after_results
    pointwise []
    rfl
  rw [e, show W10 m ρ c (Proc.devRef .tc main_v55_4) = (dat3 (V9 m ρ) c).arrAt 10 cfg3.N from W10_arr m ρ c 10, arr3_10]
  show keyRow (tailOf _ (tok b s)) (tabOf _ (tok b s)) (tabOf _ (tok b s)) ⟨x.val, _⟩
    = rope 32 w32 (fun l => proj' m c (tok b s) (4096 + l)) s.val x.val
  unfold keyRow
  rw [if_pos (show x.val < 64 from x.isLt)]
  exact rot64_rope _ _ _ _ _ (fun d => by unfold tabOf; rw [place_tok, cos_narrow])
    (fun d => by unfold tabOf; rw [place_tok, sin_narrow]) _ 0 (by omega) x.val x.isLt (by simp)
    fun l h1 h2 => tail_at m ρ c (tok b s) l (by omega)

/-- The indexer's weights at the end. -/
theorem indexWeights_end (c : Dev nD) : W11 m ρ c (Proc.devRef .tc main_v74)
    = indexWeights (m (c.tc.loc main_arg0)) (m (c.tc.loc main_arg1)) (m (c.tc.loc main_arg2)) := by
  funext i
  obtain ⟨b, s, h, rfl⟩ : ∃ (b : Fin 4) (s : Fin 4096) (h : Fin 16), i = ix3 b s h :=
    ⟨i 0, i 1, i 2, eq_ix3 i⟩
  have e : W11 m ρ c (Proc.devRef .tc main_v74) (ix3 b s h)
      = W10 m ρ c (Proc.devRef .tc main_v55_5) (ix2 (tok b s) ⟨64 + h.val, by omega⟩) := by
    show StableHlo.after hostOps4 (W10 m ρ c) (Proc.devRef .tc main_v74) (ix3 b s h) = _
    generalize W10 m ρ c = W
    unfold hostOps4
    after_results
    pointwise []
    rfl
  rw [e, show W10 m ρ c (Proc.devRef .tc main_v55_5) = (dat3 (V9 m ρ) c).arrAt 11 cfg3.N from W10_arr m ρ c 11, arr3_11]
  exact congrArg (fun z : EReal => z * Ideal.ofBits .f32 0x3D000000#32)
    ((tail_at m ρ c (tok b s) ⟨64 + h.val, by omega⟩ (show 64 + h.val < 80 by omega)).trans
      (congrArg (proj' m c (tok b s)) (show 4096 + (64 + h.val) = 4160 + h.val by omega)))

end Cert.Sparse
-- ==== Proof.Sparse.Ref.lean ====
module

public import proofs.«01_k».proof.Proof.Sparse.Spec
public import proofs.«01_k».proof.Proof.Gen.SparseReferenceIdeal.Read
public import Idealize.ShloMosaic.Lib.Pointwise

/-!
# The reference's six results, entry by entry
-/

@[expose] public section

set_option maxRecDepth 16384

noncomputable section

namespace Cert.Sparse

open Cert.SparseReferenceIdeal Cert.SparseReferenceIdeal.Gen Cert.SparseReferenceIdeal.Read Idealize.ShloMosaic Idealize.ShloMosaic.TcCoe Idealize.SL.Sem

variable (x0 : (⟨S16384x2048, .f32⟩ : BufTy).Contents (Elt Ideal)) (x1 : (⟨S2048, .f32⟩ : BufTy).Contents (Elt Ideal))
  (x2 : (⟨S2048x4176, .f32⟩ : BufTy).Contents (Elt Ideal))

/-- The normalised rows. -/
theorem v12_at (a : Fin 16384) (d : Fin 2048) :
    val_main_v12 (F := Ideal) x0 x1 (ix2 a d) = hid x0 x1 a d := by
  pointwise [val_main_v12, val_main_v11, val_main_v10, val_main_v9, val_main_v8, val_main_v7,
    val_main_v6, val_main_v5, val_main_v4, val_main_v3, val_main_v2, val_main_v1, val_main_v0,
    val_main_cst, val_main_cst_0, val_main_cst_1]
  rfl

/-- The projection's rows. -/
theorem v13_at (a : Fin 16384) (n : Fin 4176) :
    val_main_v13 (F := Ideal) x0 x1 x2 (ix2 a n) = proj x0 x1 x2 a n.val := by
  have e : Fin.ofNat 4176 n.val = n := Fin.ext (Nat.mod_eq_of_lt n.isLt)
  unfold proj
  rw [e]
  pointwise [val_main_v13]
  simp only [v12_at]

/-- The projection by sequence and token. -/
theorem v14_at (b : Fin 4) (s : Fin 4096) (n : Fin 4176) :
    val_main_v14 (F := Ideal) x0 x1 x2 (ix3 b s n) = proj x0 x1 x2 (tok b s) n.val := by
  rw [← v13_at]
  pointwise [val_main_v14]
  rfl

/-- A rotated head, from its two halves. -/
theorem rope_of_halves {half : ℕ} {w : EReal} {f : ℕ → EReal} {n x : ℕ} {p q p' q' : EReal}
    (h : x < half → p = f x ∧ q = f (x + half)) (h' : ¬ x < half → p' = f x ∧ q' = f (x - half)) :
    (if _ : x < half then p * Ideal.cos (angle w n x) - q * Ideal.sin (angle w n x)
      else p' * Ideal.cos (angle w n (x - half)) + q' * Ideal.sin (angle w n (x - half))) = rope half w f n x := by
  unfold rope
  by_cases hx : x < half
  · rw [dif_pos hx, if_pos hx, (h hx).1, (h hx).2]
  · rw [dif_neg hx, if_neg hx, (h' hx).1, (h' hx).2]

/-- The queries. -/
theorem ref_queries : val_main_v49 (F := Ideal) x0 x1 x2 = queries x0 x1 x2 := by
  funext i
  obtain ⟨b, s, h, x, rfl⟩ : ∃ (b : Fin 4) (s : Fin 4096) (h : Fin 16) (x : Fin 128), i = ix4 b s h x :=
    ⟨i 0, i 1, i 2, i 3, eq_ix4 i⟩
  pointwise [val_main_v49, val_main_v48, val_main_v47, val_main_v46, val_main_v45, val_main_v44, val_main_v43,
    val_main_v42, val_main_v41, val_main_v40, val_main_v39, val_main_v38, val_main_v37, val_main_v36,
    val_main_v35, val_main_v34, val_main_v33, val_main_v32, val_main_v31, val_main_v30, val_main_v29,
    val_main_v28, val_main_v27, val_main_v26, val_main_v25, val_main_v24, val_main_v23, val_main_v22,
    val_main_v21, val_main_v20, val_main_v19, val_main_v18, val_main_v17, val_main_v16, val_main_v15,
    val_main_cst_2, val_main_cst_3]
  simp only [v14_at]
  show _ = rope 64 w64 (fun l => proj x0 x1 x2 (tok b s) (h.val * 128 + l)) s.val x.val
  refine rope_of_halves (fun hx => ⟨?_, ?_⟩) fun hx => ⟨?_, ?_⟩ <;>
    exact congrArg (proj x0 x1 x2 (tok b s)) (by omega)

/-- The keys. -/
theorem ref_keys : val_main_v83 (F := Ideal) x0 x1 x2 = keys x0 x1 x2 := by
  funext i
  obtain ⟨b, s, h, x, rfl⟩ : ∃ (b : Fin 4) (s : Fin 4096) (h : Fin 4) (x : Fin 128), i = ix4 b s h x :=
    ⟨i 0, i 1, i 2, i 3, eq_ix4 i⟩
  pointwise [val_main_v83, val_main_v82, val_main_v81, val_main_v80, val_main_v79, val_main_v78, val_main_v77,
    val_main_v76, val_main_v75, val_main_v74, val_main_v73, val_main_v72, val_main_v71, val_main_v70,
    val_main_v69, val_main_v68, val_main_v67, val_main_v66, val_main_v65, val_main_v64, val_main_v63,
    val_main_v62, val_main_v61, val_main_v60, val_main_v59, val_main_v58, val_main_v57, val_main_v56,
    val_main_v55, val_main_v54, val_main_v53, val_main_v52, val_main_v51, val_main_v50, val_main_v15,
    val_main_cst_4, val_main_cst_5]
  simp only [v14_at]
  show _ = rope 64 w64 (fun l => proj x0 x1 x2 (tok b s) (2048 + h.val * 128 + l)) s.val x.val
  refine rope_of_halves (fun hx => ⟨?_, ?_⟩) fun hx => ⟨?_, ?_⟩ <;>
    exact congrArg (proj x0 x1 x2 (tok b s)) (by omega)

/-- The indexer's queries. -/
theorem ref_indexQueries : val_main_v119 (F := Ideal) x0 x1 x2 = indexQueries x0 x1 x2 := by
  funext i
  obtain ⟨b, s, h, x, rfl⟩ : ∃ (b : Fin 4) (s : Fin 4096) (h : Fin 16) (x : Fin 64), i = ix4 b s h x :=
    ⟨i 0, i 1, i 2, i 3, eq_ix4 i⟩
  pointwise [val_main_v119, val_main_v118, val_main_v117, val_main_v116, val_main_v115, val_main_v114,
    val_main_v113, val_main_v112, val_main_v111, val_main_v110, val_main_v109, val_main_v108, val_main_v107,
    val_main_v106, val_main_v105, val_main_v104, val_main_v103, val_main_v102, val_main_v101, val_main_v100,
    val_main_v99, val_main_v98, val_main_v97, val_main_v96, val_main_v95, val_main_v94, val_main_v93,
    val_main_v92, val_main_v91, val_main_v90, val_main_v89, val_main_v88, val_main_v87, val_main_v86,
    val_main_v15, val_main_cst_6, val_main_cst_7]
  simp only [v14_at]
  show _ = rope 32 w32 (fun l => proj x0 x1 x2 (tok b s) (3072 + h.val * 64 + l)) s.val x.val
  refine rope_of_halves (fun hx => ⟨?_, ?_⟩) fun hx => ⟨?_, ?_⟩ <;>
    exact congrArg (proj x0 x1 x2 (tok b s)) (by omega)

/-- The indexer's key. -/
theorem ref_indexKeys : val_main_v154 (F := Ideal) x0 x1 x2 = indexKeys x0 x1 x2 := by
  funext i
  obtain ⟨b, s, x, rfl⟩ : ∃ (b : Fin 4) (s : Fin 4096) (x : Fin 64), i = ix3 b s x :=
    ⟨i 0, i 1, i 2, eq_ix3 i⟩
  pointwise [val_main_v154, val_main_v153, val_main_v152, val_main_v151, val_main_v150, val_main_v149,
    val_main_v148, val_main_v147, val_main_v146, val_main_v145, val_main_v144, val_main_v143, val_main_v142,
    val_main_v141, val_main_v140, val_main_v139, val_main_v138, val_main_v137, val_main_v136, val_main_v135,
    val_main_v134, val_main_v133, val_main_v132, val_main_v131, val_main_v130, val_main_v129, val_main_v128,
    val_main_v127, val_main_v126, val_main_v125, val_main_v124, val_main_v123, val_main_v122, val_main_v121,
    val_main_v120, val_main_v15, val_main_cst_8, val_main_cst_9]
  simp only [v14_at]
  show _ = rope 32 w32 (fun l => proj x0 x1 x2 (tok b s) (4096 + l)) s.val x.val
  refine rope_of_halves (fun hx => ⟨?_, ?_⟩) fun hx => ⟨?_, ?_⟩ <;>
    exact congrArg (proj x0 x1 x2 (tok b s)) (by omega)

/-- The values. -/
theorem ref_values : val_main_v85 (F := Ideal) x0 x1 x2 = values x0 x1 x2 := by
  funext i
  obtain ⟨b, s, h, x, rfl⟩ : ∃ (b : Fin 4) (s : Fin 4096) (h : Fin 4) (x : Fin 128), i = ix4 b s h x :=
    ⟨i 0, i 1, i 2, i 3, eq_ix4 i⟩
  pointwise [val_main_v85, val_main_v84]
  rw [v14_at]
  rfl

/-- The indexer's weights. -/
theorem ref_indexWeights : val_main_v157 (F := Ideal) x0 x1 x2 = indexWeights x0 x1 x2 := by
  funext i
  obtain ⟨b, s, h, rfl⟩ : ∃ (b : Fin 4) (s : Fin 4096) (h : Fin 16), i = ix3 b s h :=
    ⟨i 0, i 1, i 2, eq_ix3 i⟩
  pointwise [val_main_v157, val_main_v156, val_main_v155, val_main_cst_10]
  rw [v14_at]
  rfl

end Cert.Sparse
-- ==== Proof.Sparse.Claims.lean ====
module

public import proofs.«01_k».proof.Defs
public import proofs.«01_k».proof.Proof.Sparse.Run
public import proofs.«01_k».proof.Proof.Sparse.Ref
public import proofs.«01_k».proof.Proof.Gen.SparseReferenceIdeal.Run
public import Idealize.ShloMosaic.Lib.Quiescent

/-!
# The claims about what goes into the sparse attention
-/

@[expose] public section

set_option maxRecDepth 16384

noncomputable section

namespace Cert.Sparse

open Idealize.ShloMosaic Idealize.ShloMosaic.TcCoe Idealize.SL.Sem

/-- The reference leaves its arguments and every semaphore as they were. -/
theorem quiescentReference
    (m : (ℓ : Loc Cert.SparseReferenceIdeal.nD Cert.SparseReferenceIdeal.τ Cert.SparseReferenceIdeal.sig) → Buf (Elt Ideal) ℓ)
    (ρ : Dev Cert.SparseReferenceIdeal.nD → PrngReg) :
    θ_run (Val := Elt Ideal) Cert.SparseReferenceIdeal.defs
      (onTc (τ := Cert.SparseReferenceIdeal.τ) (Cert.SparseReferenceIdeal.main (F := Ideal)))
      ⟨m, fun _ => 0, ρ⟩ (fun r => (∀ c : Dev Cert.SparseReferenceIdeal.nD,
        r.2.mem (c.tc.loc Cert.SparseReferenceIdeal.main_arg0) = m (c.tc.loc Cert.SparseReferenceIdeal.main_arg0)
        ∧ r.2.mem (c.tc.loc Cert.SparseReferenceIdeal.main_arg1) = m (c.tc.loc Cert.SparseReferenceIdeal.main_arg1)
        ∧ r.2.mem (c.tc.loc Cert.SparseReferenceIdeal.main_arg2) = m (c.tc.loc Cert.SparseReferenceIdeal.main_arg2))
        ∧ r.2.sem = fun _ => 0) :=
  (θ_run Cert.SparseReferenceIdeal.defs _ _).mono
    (fun r h => ⟨fun c => (h c).2.2.2.2.2.2, Idealize.ShloMosaic.sem_eq_zero_of_no_sems (by decide) r.2⟩)
    (Cert.SparseReferenceIdeal.Value.run (F := Ideal) m ρ)

/-- Kernel and reference end with the same six arrays from the same arguments. -/
theorem algebraic : Cert.algebraic_SparseIdeal_SparseReferenceIdeal := by
  intro m g m' g' _ hag
  refine ⟨fun c => queries (m (c.tc.loc Cert.SparseIdeal.main_arg0)) (m (c.tc.loc Cert.SparseIdeal.main_arg1)) (m (c.tc.loc Cert.SparseIdeal.main_arg2)),
    fun c => keys (m (c.tc.loc Cert.SparseIdeal.main_arg0)) (m (c.tc.loc Cert.SparseIdeal.main_arg1)) (m (c.tc.loc Cert.SparseIdeal.main_arg2)),
    fun c => values (m (c.tc.loc Cert.SparseIdeal.main_arg0)) (m (c.tc.loc Cert.SparseIdeal.main_arg1)) (m (c.tc.loc Cert.SparseIdeal.main_arg2)),
    fun c => indexQueries (m (c.tc.loc Cert.SparseIdeal.main_arg0)) (m (c.tc.loc Cert.SparseIdeal.main_arg1)) (m (c.tc.loc Cert.SparseIdeal.main_arg2)),
    fun c => indexKeys (m (c.tc.loc Cert.SparseIdeal.main_arg0)) (m (c.tc.loc Cert.SparseIdeal.main_arg1)) (m (c.tc.loc Cert.SparseIdeal.main_arg2)),
    fun c => indexWeights (m (c.tc.loc Cert.SparseIdeal.main_arg0)) (m (c.tc.loc Cert.SparseIdeal.main_arg1)) (m (c.tc.loc Cert.SparseIdeal.main_arg2)), ?_, ?_⟩
  · exact (θ_run _ _ _).mono (fun _ h c =>
      ⟨(h c _ (Cert.SparseIdeal.Gen.mem_uc Cert.SparseIdeal.main_v57 (by decide))).trans (queries_end m g c),
       (h c _ (Cert.SparseIdeal.Gen.mem_uc Cert.SparseIdeal.main_v59 (by decide))).trans (keys_end m g c),
       (h c _ (Cert.SparseIdeal.Gen.mem_uc Cert.SparseIdeal.main_v61 (by decide))).trans (values_end m g c),
       (h c _ (Cert.SparseIdeal.Gen.mem_uc Cert.SparseIdeal.main_v69 (by decide))).trans (indexQueries_end m g c),
       (h c _ (Cert.SparseIdeal.Gen.mem_uc Cert.SparseIdeal.main_v72 (by decide))).trans (indexKeys_end m g c),
       (h c _ (Cert.SparseIdeal.Gen.mem_uc Cert.SparseIdeal.main_v74 (by decide))).trans (indexWeights_end m g c),
       (h c _ (Cert.SparseIdeal.Gen.mem_uc Cert.SparseIdeal.main_arg0 (by decide))).trans (Cert.SparseIdeal.Gen.W11_main_arg0 m g c),
       (h c _ (Cert.SparseIdeal.Gen.mem_uc Cert.SparseIdeal.main_arg1 (by decide))).trans (Cert.SparseIdeal.Gen.W11_main_arg1 m g c),
       (h c _ (Cert.SparseIdeal.Gen.mem_uc Cert.SparseIdeal.main_arg2 (by decide))).trans (Cert.SparseIdeal.Gen.W11_main_arg2 m g c)⟩)
      (run_all m g)
  · refine (θ_run _ _ _).mono (fun _ h c => ⟨(h c).1.trans ?_, (h c).2.1.trans ?_, (h c).2.2.1.trans ?_,
        (h c).2.2.2.1.trans ?_, (h c).2.2.2.2.1.trans ?_, (h c).2.2.2.2.2.1.trans ?_, (h c).2.2.2.2.2.2⟩)
      (Cert.SparseReferenceIdeal.Value.run (F := Ideal) m' g')
    all_goals obtain ⟨e0, e1, e2⟩ := hag c
    · rw [Cert.SparseReferenceIdeal.Read.val_main_v49_eq, ref_queries, e0, e1, e2]
    · rw [Cert.SparseReferenceIdeal.Read.val_main_v83_eq, ref_keys, e0, e1, e2]
    · rw [Cert.SparseReferenceIdeal.Read.val_main_v85_eq, ref_values, e0, e1, e2]
    · rw [Cert.SparseReferenceIdeal.Read.val_main_v119_eq, ref_indexQueries, e0, e1, e2]
    · rw [Cert.SparseReferenceIdeal.Read.val_main_v154_eq, ref_indexKeys, e0, e1, e2]
    · rw [Cert.SparseReferenceIdeal.Read.val_main_v157_eq, ref_indexWeights, e0, e1, e2]

end Cert.Sparse
-- ==== Proof.OutProd.Region.lean ====
module

public import proofs.«01_k».proof.Proof.Gen.OutIdeal.Frame
public import Idealize.ShloMosaic.Lib.Pipeline.ValueKit
public import Idealize.ShloMosaic.Lib.Pipeline.Covers
public import Idealize.ShloMosaic.Lib.Pointwise

/-!
# A layer's output product added to the residual stream

The array the launch leaves, from the buffers it finds.
-/

@[expose] public section

set_option maxRecDepth 16384

noncomputable section

namespace Cert.OutProd

open Cert.OutIdeal Cert.OutIdeal.Gen Idealize.ShloMosaic Idealize.ShloMosaic.TcCoe
open Idealize.SL.Sem

variable (m : (ℓ : Loc nD τ sig) → Buf (Elt Ideal) ℓ)

theorem outIndex_0 : ∀ t : Fin cfg0.N, win0_0.index t
    = ![(grid0.coords t 0).val, 0] := by
  decide +kernel

theorem outIndex_1 : ∀ t : Fin cfg0.N, win0_1.index t
    = ![0, (grid0.coords t 1).val] := by
  decide +kernel

theorem outIndex_2 : ∀ t : Fin cfg0.N, win0_2.index t
    = ![(grid0.coords t 0).val, (grid0.coords t 1).val] := by
  decide +kernel

theorem outIndex_3 : ∀ t : Fin cfg0.N, win0_3.index t
    = ![(grid0.coords t 0).val, (grid0.coords t 1).val] := by
  decide +kernel

theorem coord_0 (t : Fin cfg0.N) : (grid0.coords t 0).val < 16 := (grid0.coords t 0).isLt

theorem coord_1 (t : Fin cfg0.N) : (grid0.coords t 1).val < 2 := (grid0.coords t 1).isLt

/-- The rows a grid point is given. -/
theorem rows (c : Dev nD) (t : Fin cfg0.N) (r : Fin 1024) (k : Fin 2048) :
    iblk m c 0 t (ix2 r k)
      = V m c main_arg1 (ix2 ⟨(grid0.coords t 0).val * 1024 + r.val, by have := coord_0 t; omega⟩ k) := by
  blk_ext! [iblk, outIndex_0 t]

/-- The columns of weights a grid point is given. -/
theorem cols (c : Dev nD) (t : Fin cfg0.N) (k : Fin 2048) (d : Fin 1024) :
    iblk m c 1 t (ix2 k d)
      = V m c main_v0 (ix2 k ⟨(grid0.coords t 1).val * 1024 + d.val, by have := coord_1 t; omega⟩) := by
  blk_ext! [iblk, outIndex_1 t]

/-- The block of the residual stream a grid point is given. -/
theorem stream (c : Dev nD) (t : Fin cfg0.N) (r : Fin 1024) (d : Fin 1024) :
    iblk m c 2 t (ix2 r d)
      = V m c main_arg0 (ix2 ⟨(grid0.coords t 0).val * 1024 + r.val, by have := coord_0 t; omega⟩
          ⟨(grid0.coords t 1).val * 1024 + d.val, by have := coord_1 t; omega⟩) := by
  blk_ext! [iblk, outIndex_2 t]

/-- What the body computes of its blocks. -/
theorem out (h : Vec Ideal S1024x2048 .bf16) (w : Vec Ideal S2048x1024 .bf16) (x : Vec Ideal S1024x1024 .f32)
    (r : Fin 1024) (d : Fin 1024) : out0_3 h w x (ix2 r d)
      = x (ix2 r d) + ∑ k : Fin 2048, h (ix2 r k) * w (ix2 k d) := by
  unfold out0_3
  frame_out
  pointwise [k0_pay1]

/-- The grid point that writes a block of the result. -/
def place (x : Fin 16) (y : Fin 2) : grid0.Coords := Fin.cons x (Fin.cons y fun a => a.elim0)

theorem place_eq : ∀ (x : Fin 16) (y : Fin 2) (a : Fin 2),
    cc0_transform_3 (place x y) a = (![x.val, y.val] : Fin 2 → ℕ) a := by
  decide +kernel

/-- The residual stream plus the product, as an array. -/
def prodArr (x : S16384x2048.Idx → EReal) (h : S16384x2048.Idx → EReal)
    (w : S2048x2048.Idx → EReal) : S16384x2048.Idx → EReal :=
  fun i => x (ix2 (i 0) (i 1)) + ∑ k : Fin 2048, h (ix2 (i 0) k) * w (ix2 k (i 1))

/-- The array the launch leaves. -/
theorem arr (c : Dev nD) :
    (dats m 0 c).arrAt 3 cfg0.N = prodArr (V m c main_arg0) (V m c main_arg1) (V m c main_v0) := by
  refine (dats m 0 c).arrAt_eq_of_covers 3 _ ?_ fun t hf y => ?_
  · exact (cfg0.win 3).covers_of_indexMap_surj rfl (by decide) fun β =>
      ⟨place (β 0) (β 1), fun a => (place_eq (β 0) (β 1) a).trans
        (match a with | ⟨0, _⟩ => rfl | ⟨1, _⟩ => rfl)⟩
  · blk_simp
    rw [after0_3]
    obtain ⟨r, d, rfl⟩ : ∃ (r : Fin 1024) (d : Fin 1024), y = ix2 r d := ⟨y 0, y 1, eq_ix2 y⟩
    rw [out]
    have e : (win0_3.blk t).view.emb (ix2 r d : S1024x1024.Idx)
        = (ix2 ⟨(grid0.coords t 0).val * 1024 + r.val, by have := coord_0 t; omega⟩
            ⟨(grid0.coords t 1).val * 1024 + d.val, by have := coord_1 t; omega⟩
            : S16384x2048.Idx) := by
      blk_ext [outIndex_3 t]
    rw [e]
    unfold prodArr
    exact congrArg₂ (· + ·) (stream m c t r d) (Finset.sum_congr (M := EReal) rfl fun k _ => congrArg₂ (· * ·) (rows m c t r k) (cols m c t k d))

end Cert.OutProd
-- ==== Proof.OutProd.Claims.lean ====
module

public import proofs.«01_k».proof.Defs
public import proofs.«01_k».proof.Proof.OutProd.Region
public import proofs.«01_k».proof.Proof.Gen.OutReferenceIdeal.Read
public import Idealize.ShloMosaic.Lib.Quiescent

/-!
# The claims about a layer's output product
-/

@[expose] public section

set_option maxRecDepth 16384

noncomputable section

namespace Cert.OutProd

open Idealize.ShloMosaic Idealize.ShloMosaic.TcCoe Idealize.SL.Sem

/-- The weights the launch finds are the argument's. -/
theorem weights (m : (ℓ : Loc Cert.OutIdeal.nD Cert.OutIdeal.τ Cert.OutIdeal.sig) → Buf (Elt Ideal) ℓ)
    (c : Dev Cert.OutIdeal.nD) :
    Cert.OutIdeal.Gen.V m c Cert.OutIdeal.main_v0 = m (c.tc.loc Cert.OutIdeal.main_arg2) := by
  unfold Cert.OutIdeal.Gen.V
  after_results
  rfl

/-- The array the run leaves, from the arguments. -/
theorem arr_end (m : (ℓ : Loc Cert.OutIdeal.nD Cert.OutIdeal.τ Cert.OutIdeal.sig) → Buf (Elt Ideal) ℓ)
    (c : Dev Cert.OutIdeal.nD) :
    (Cert.OutIdeal.Gen.dats m 0 c).arrAt 3 Cert.OutIdeal.cfg0.N
      = prodArr (m (c.tc.loc Cert.OutIdeal.main_arg0)) (m (c.tc.loc Cert.OutIdeal.main_arg1))
          (m (c.tc.loc Cert.OutIdeal.main_arg2)) := by
  rw [arr, weights, Cert.OutIdeal.Gen.V_main_arg0, Cert.OutIdeal.Gen.V_main_arg1]

/-- The reference computes the same array. -/
theorem ref_prodArr (x : (⟨Cert.OutReferenceIdeal.S16384x2048, .f32⟩ : BufTy).Contents (Elt Ideal))
    (h : (⟨Cert.OutReferenceIdeal.S16384x2048, .bf16⟩ : BufTy).Contents (Elt Ideal))
    (w : (⟨Cert.OutReferenceIdeal.S2048x2048, .f32⟩ : BufTy).Contents (Elt Ideal)) :
    Cert.OutReferenceIdeal.Read.val_main_v2 (F := Ideal) x h w = prodArr x h w := by
  funext i
  obtain ⟨a, b, rfl⟩ : ∃ (a : Fin 16384) (b : Fin 2048), i = ix2 a b := ⟨i 0, i 1, eq_ix2 i⟩
  rw [Cert.OutReferenceIdeal.Read.val_main_v2_apply, Cert.OutReferenceIdeal.Read.val_main_v1_apply]
  unfold prodArr
  refine congrArg₂ (· + ·) rfl (Finset.sum_congr (M := EReal) rfl fun k _ => ?_)
  rw [Cert.OutReferenceIdeal.Read.val_main_v0_apply]
  refine congrArg₂ (· * ·) (congrArg h ?_) (congrArg w ?_) <;>
    exact funext fun a => match a with | ⟨0, _⟩ => rfl | ⟨1, _⟩ => rfl

/-- The reference leaves its arguments and every semaphore as they were. -/
theorem quiescentReference
    (m : (ℓ : Loc Cert.OutReferenceIdeal.nD Cert.OutReferenceIdeal.τ Cert.OutReferenceIdeal.sig) → Buf (Elt Ideal) ℓ)
    (ρ : Dev Cert.OutReferenceIdeal.nD → PrngReg) :
    θ_run (Val := Elt Ideal) Cert.OutReferenceIdeal.defs
      (onTc (τ := Cert.OutReferenceIdeal.τ) (Cert.OutReferenceIdeal.main (F := Ideal)))
      ⟨m, fun _ => 0, ρ⟩ (fun r => (∀ c : Dev Cert.OutReferenceIdeal.nD,
        r.2.mem (c.tc.loc Cert.OutReferenceIdeal.main_arg0) = m (c.tc.loc Cert.OutReferenceIdeal.main_arg0)
        ∧ r.2.mem (c.tc.loc Cert.OutReferenceIdeal.main_arg1) = m (c.tc.loc Cert.OutReferenceIdeal.main_arg1)
        ∧ r.2.mem (c.tc.loc Cert.OutReferenceIdeal.main_arg2) = m (c.tc.loc Cert.OutReferenceIdeal.main_arg2))
        ∧ r.2.sem = fun _ => 0) :=
  (θ_run Cert.OutReferenceIdeal.defs _ _).mono
    (fun r h => ⟨fun c => (h c).2, Idealize.ShloMosaic.sem_eq_zero_of_no_sems (by decide) r.2⟩)
    (Cert.OutReferenceIdeal.Value.run (F := Ideal) m ρ)

/-- Kernel and reference end with the same array from the same arguments. -/
theorem algebraic : Cert.algebraic_OutIdeal_OutReferenceIdeal := by
  intro m g m' g' _ hag
  refine ⟨fun c => prodArr (m (c.tc.loc Cert.OutIdeal.main_arg0)) (m (c.tc.loc Cert.OutIdeal.main_arg1))
      (m (c.tc.loc Cert.OutIdeal.main_arg2)), ?_, ?_⟩
  · exact (θ_run _ _ _).mono (fun _ h c => ⟨((h.1 c).1 3).trans (arr_end m c), h.2 c⟩)
      (θ_run_and (Cert.OutIdeal.Gen.run_main m g) (Cert.OutIdeal.Gen.unchanged m g))
  · refine (θ_run _ _ _).mono (fun _ h c => ⟨(h c).1.trans ?_, (h c).2⟩)
      (Cert.OutReferenceIdeal.Value.run (F := Ideal) m' g')
    obtain ⟨e0, e1, e2⟩ := hag c
    rw [Cert.OutReferenceIdeal.Read.val_main_v2_eq, ref_prodArr, e0, e1, e2]

end Cert.OutProd
-- ==== Proof.TimeMix.Point.lean ====
module

public import proofs.«01_k».proof.Proof.Gen.MixIdeal.Frame
public import proofs.«01_k».proof.Proof.Ffn.Spec
public import Idealize.ShloMosaic.Lib.Pipeline.ValueKit
public import Idealize.ShloMosaic.Lib.Pipeline.Covers
public import Idealize.ShloMosaic.Lib.Pipeline.ReadBack
public import Idealize.ShloMosaic.Lib.WritesUnit
public import Idealize.ShloMosaic.Lib.Pointwise

/-!
# One block of the time mixing layer's mixtures

The kernel walks each sequence in blocks of 256 rows. It normalises the rows of a block, lays them in a
buffer from row eight on, and reads the buffer back one row higher: this is the block shifted down by one
row. Row seven of the buffer holds what comes before the block: zero where a sequence begins, and
otherwise the last row of the block before, which the kernel puts there when it is done with that block.
-/

@[expose] public section

set_option maxRecDepth 16384

noncomputable section

namespace Cert.TimeMix

open Cert.MixIdeal Cert.MixIdeal.Gen Idealize.ShloMosaic Idealize.ShloMosaic.TcCoe
open Idealize.SL.Sem

variable (m : (ℓ : Loc nD τ sig) → Buf (Elt Ideal) ℓ)

/-- A normalised entry moved towards the one `p` before it by the share `w`. -/
def towards (h p w : EReal) : EReal := h + (p - h) * w

/-- The normalised rows the body computes. -/
theorem normed (x : Vec Ideal S256x2048 .f32) (g : Vec Ideal S1x2048 .f32) (r : Fin 256) (d : Fin 2048) :
    k0_pay2 x g (ix2 r d) = Cert.Ffn.norm (fun k => x (ix2 r k)) (g (ix2 0 d)) d := by
  pointwise [k0_pay2]
  rfl

/-- The same rows as they are laid in the buffer. -/
theorem laid (x : Vec Ideal S256x2048 .f32) (g : Vec Ideal S1x2048 .f32) (r : Fin 256) (d : Fin 2048) :
    k0_pay3 x g (ix2 r d) = Cert.Ffn.norm (fun k => x (ix2 r k)) (g (ix2 0 d)) d := by
  rw [← normed]
  pointwise [k0_pay3]

/-- The last of those rows, as it is kept for the next block. -/
theorem kept (x : Vec Ideal S256x2048 .f32) (g : Vec Ideal S1x2048 .f32) (d : Fin 2048) :
    k0_pay5 x g (ix2 0 d) = Cert.Ffn.norm (fun k => x (ix2 255 k)) (g (ix2 0 d)) d := by
  rw [← normed]
  pointwise [k0_pay5]

/-- The buffer begins a sequence with zeros. -/
theorem zeros (i : S8x2048.Idx) : (k0_pay1 (F := Ideal)) i = (0 : EReal) := by
  pointwise [k0_pay1]

/-- A mixture from the normalised rows, the shifted rows and the shares. -/
theorem mixture (x : Vec Ideal S256x2048 .f32) (g : Vec Ideal S1x2048 .f32) (p : Vec Ideal S256x2048 .f32)
    (w : Vec Ideal S1x2048 .f32) (r : Fin 256) (d : Fin 2048) :
    k0_pay6 x g p w (ix2 r d)
      = towards (Cert.Ffn.norm (fun k => x (ix2 r k)) (g (ix2 0 d)) d) (p (ix2 r d)) (w (ix2 0 d)) := by
  rw [← normed]
  pointwise [k0_pay6, k0_pay4]
  rfl

/-- A normalised entry of the block a grid point is given. -/
def hn (c : Dev nD) (t : Fin cfg0.N) (r : Fin 256) (d : Fin 2048) : EReal :=
  Cert.Ffn.norm (fun k => iblk m c 0 t (ix2 r k)) (iblk m c 1 t (ix2 0 d)) d

/-- The buffer read one row higher than the rows were laid: the row before, where there is one. -/
theorem shifted_in {κ : Kind} {sp : Space} (v : View sig κ sp S264x2048 .f32) (f : v.ty.Contents (Elt Ideal))
    (P : S256x2048.Idx → EReal) (L : List (View.Piece (Elt Ideal) S264x2048 .f32)) (r : Fin 256) (d : Fin 2048)
    (hr : r.val ≠ 0) (y : S264x2048.Idx) (hy0 : (y 0).val = 7 + r.val) (hy1 : (y 1).val = d.val) :
    v.read (Elt Ideal) (v.writes (Elt Ideal) f
        (⟨Rect.unit (s := S264x2048) ![8, 0] S256x2048.size inb_S264x2048_S256x2048_8_0, P⟩ :: L)) y
      = P (ix2 ⟨r.val - 1, by omega⟩ d) :=
  View.read_writes_cons_rows_of_mem v f inb_S264x2048_S256x2048_8_0 P L y
    (ix2 ⟨r.val - 1, by omega⟩ d : S256x2048.Idx) rfl
    (by show (y 0).val = 8 + (r.val - 1); omega) hy1

/-- The buffer read one row higher than the rows were laid: the first row, from before the rows were laid. -/
theorem shifted_out {κ : Kind} {sp : Space} (v : View sig κ sp S264x2048 .f32) (f : v.ty.Contents (Elt Ideal))
    (P : S256x2048.Idx → EReal) (L : List (View.Piece (Elt Ideal) S264x2048 .f32))
    (y : S264x2048.Idx) (hy0 : (y 0).val = 7) :
    v.read (Elt Ideal) (v.writes (Elt Ideal) f
        (⟨Rect.unit (s := S264x2048) ![8, 0] S256x2048.size inb_S264x2048_S256x2048_8_0, P⟩ :: L)) y
      = v.read (Elt Ideal) (v.writes (Elt Ideal) f L) y :=
  View.read_writes_cons_rows_of_not_mem v f inb_S264x2048_S256x2048_8_0 P L y rfl rfl
    (Or.inl (by rw [hy0]; decide))

/-- Row seven right after it was stored. -/
theorem seven_in {κ : Kind} {sp : Space} (v : View sig κ sp S264x2048 .f32) (f : v.ty.Contents (Elt Ideal))
    (P : S1x2048.Idx → EReal) (L : List (View.Piece (Elt Ideal) S264x2048 .f32)) (d : Fin 2048) :
    v.read (Elt Ideal) (v.writes (Elt Ideal) f
        (⟨Rect.unit (s := S264x2048) ![7, 0] S1x2048.size inb_S264x2048_S1x2048_7_0, P⟩ :: L)) (ix2 7 d)
      = P (ix2 0 d) :=
  View.read_writes_cons_rows_of_mem v f inb_S264x2048_S1x2048_7_0 P L _
    (ix2 0 d : S1x2048.Idx) rfl rfl rfl

/-- A row below eight right after the zeros were stored. -/
theorem zero_in {κ : Kind} {sp : Space} (v : View sig κ sp S264x2048 .f32) (f : v.ty.Contents (Elt Ideal))
    (P : S8x2048.Idx → EReal) (L : List (View.Piece (Elt Ideal) S264x2048 .f32)) (d : Fin 2048)
    (y : S264x2048.Idx) (hy0 : (y 0).val = 7) (hy1 : (y 1).val = d.val) :
    v.read (Elt Ideal) (v.writes (Elt Ideal) f
        (⟨Rect.unit (s := S264x2048) ![0, 0] S8x2048.size inb_S264x2048_S8x2048_0_0, P⟩ :: L)) y
      = P (ix2 7 d) :=
  View.read_writes_cons_rows_of_mem v f inb_S264x2048_S8x2048_0_0 P L y
    (ix2 7 d : S8x2048.Idx) rfl (hy0.trans rfl) hy1

/-- After every grid point the buffer's row seven is the block's last normalised row. -/
theorem carried (c : Dev nD) (t : Fin cfg0.N) (d : Fin 2048) :
    (outsAt0 m c t.val t.isLt).2.2.2.2.2.2 (ix2 7 d) = hn m c t 255 d := by
  by_cases h : t.val % 16 = 0
  · rw [outsAt0_A m c t h]
    frame_out
    rw [← View.read_writes_junk_apply_eq_canon (View.whole cc0_scratch0)]
    exact (seven_in _ _ _ _ d).trans (kept _ _ d)
  · rw [outsAt0_B m c t h]
    frame_out
    exact (seven_in _ _ _ _ d).trans (kept _ _ d)

/-- The entry before an entry of the block a grid point is given. -/
def prev (c : Dev nD) (t : Fin cfg0.N) (r : Fin 256) (d : Fin 2048) : EReal :=
  if r.val = 0 then
    if t.val % 16 = 0 then 0 else hn m c ⟨t.val - 1, by have := t.isLt; omega⟩ 255 d
  else hn m c t ⟨r.val - 1, by omega⟩ d

/-- The shifted rows where a sequence begins. -/
theorem shiftedA (c : Dev nD) (t : Fin cfg0.N) (h : t.val % 16 = 0) (f : (View.whole (κ := .tc) cc0_scratch0).ty.Contents (Elt Ideal))
    (r : Fin 256) (d : Fin 2048) (y : S264x2048.Idx) (hy0 : (y 0).val = 7 + r.val) (hy1 : (y 1).val = d.val) :
    (View.whole cc0_scratch0).read (Elt Ideal) ((View.whole cc0_scratch0).writes (Elt Ideal) f
        [⟨Rect.unit (s := S264x2048) ![8, 0] S256x2048.size inb_S264x2048_S256x2048_8_0, k0_pay3 (iblk m c 0 t) (iblk m c 1 t)⟩,
         ⟨Rect.unit (s := S264x2048) ![0, 0] S8x2048.size inb_S264x2048_S8x2048_0_0, (k0_pay1 (F := Ideal))⟩]) y
      = prev m c t r d := by
  unfold prev
  by_cases hr : r.val = 0
  · rw [if_pos hr, if_pos h]
    exact (shifted_out _ _ _ _ y (by omega)).trans
      ((zero_in _ _ _ _ d y (by omega) hy1).trans (zeros _))
  · rw [if_neg hr]
    exact (shifted_in _ _ _ _ r d hr y hy0 hy1).trans (laid _ _ _ d)

/-- The shifted rows elsewhere. -/
theorem shiftedB (c : Dev nD) (t : Fin cfg0.N) (h : ¬ t.val % 16 = 0) (f : (View.whole (κ := .tc) cc0_scratch0).ty.Contents (Elt Ideal))
    (hf : (View.whole cc0_scratch0).read (Elt Ideal) f = (outsAt0 m c (t.val - 1) (by have := t.isLt; omega)).2.2.2.2.2.2)
    (r : Fin 256) (d : Fin 2048) (y : S264x2048.Idx) (hy0 : (y 0).val = 7 + r.val) (hy1 : (y 1).val = d.val) :
    (View.whole cc0_scratch0).read (Elt Ideal) ((View.whole cc0_scratch0).writes (Elt Ideal) f
        [⟨Rect.unit (s := S264x2048) ![8, 0] S256x2048.size inb_S264x2048_S256x2048_8_0, k0_pay3 (iblk m c 0 t) (iblk m c 1 t)⟩]) y
      = prev m c t r d := by
  unfold prev
  by_cases hr : r.val = 0
  · rw [if_pos hr, if_neg h]
    have e : y = ix2 7 d := by
      funext a
      match a with
      | ⟨0, _⟩ => exact Fin.ext (by show (y 0).val = 7; omega)
      | ⟨1, _⟩ => exact Fin.ext hy1
    refine (shifted_out _ _ _ _ y (by omega)).trans ?_
    rw [View.writes_nil, hf, e]
    exact carried m c ⟨t.val - 1, by have := t.isLt; omega⟩ d
  · rw [if_neg hr]
    exact (shifted_in _ _ _ _ r d hr y hy0 hy1).trans (laid _ _ _ d)

/-- A row of shares read from its block. -/
theorem share (w : S8x2048.Idx → Elt Ideal .f32) (o : ℕ) (ho : o < 8) (inb : ∀ a, (![o, 0] : Fin 2 → ℕ) a + S1x2048.size a ≤ S8x2048.size a)
    (d : Fin 2048) :
    View.ld w (Rect.unit (s := S8x2048) ![o, 0] S1x2048.size inb) (ix2 0 d) = w (ix2 ⟨o, ho⟩ d) := by
  refine congrArg w (funext fun a => ?_)
  match a with
  | ⟨0, _⟩ => exact Fin.ext (by show o + 1 * 0 = o; omega)
  | ⟨1, _⟩ => exact Fin.ext (by show 0 + 1 * d.val = d.val; omega)

/-- The first mixture of a block. -/
theorem out0 (c : Dev nD) (t : Fin cfg0.N) (r : Fin 256) (d : Fin 2048) :
    (outsAt0 m c t.val t.isLt).1 (ix2 r d)
      = towards (hn m c t r d) (prev m c t r d) (iblk m c 2 t (ix2 0 d)) := by
  by_cases h : t.val % 16 = 0
  · rw [outsAt0_A m c t h]
    frame_out
    rw [View.readCov_eq_canon']
    refine (mixture (iblk m c 0 t) (iblk m c 1 t) _ _ r d).trans ?_
    exact congrArg₂ (towards (hn m c t r d))
      ((View.read_writes_junk_apply_eq_canon (View.whole cc0_scratch0) _ _).symm.trans
        (shiftedA m c t h _ r d _ (by show 7 + 1 * r.val = _; omega) (by show 0 + 1 * d.val = _; omega)))
      (share _ 0 (by decide) _ d)
  · rw [outsAt0_B m c t h]
    frame_out
    refine (mixture (iblk m c 0 t) (iblk m c 1 t) _ _ r d).trans ?_
    exact congrArg₂ (towards (hn m c t r d))
      (shiftedB m c t h _ (read_unread_whole ..) r d _ (by show 7 + 1 * r.val = _; omega) (by show 0 + 1 * d.val = _; omega))
      (share _ 0 (by decide) _ d)

/-- The second mixture of a block. -/
theorem out1 (c : Dev nD) (t : Fin cfg0.N) (r : Fin 256) (d : Fin 2048) :
    (outsAt0 m c t.val t.isLt).2.1 (ix2 r d)
      = towards (hn m c t r d) (prev m c t r d) (iblk m c 2 t (ix2 1 d)) := by
  by_cases h : t.val % 16 = 0
  · rw [outsAt0_A m c t h]
    frame_out
    rw [View.readCov_eq_canon']
    refine (mixture (iblk m c 0 t) (iblk m c 1 t) _ _ r d).trans ?_
    exact congrArg₂ (towards (hn m c t r d))
      ((View.read_writes_junk_apply_eq_canon (View.whole cc0_scratch0) _ _).symm.trans
        (shiftedA m c t h _ r d _ (by show 7 + 1 * r.val = _; omega) (by show 0 + 1 * d.val = _; omega)))
      (share _ 1 (by decide) _ d)
  · rw [outsAt0_B m c t h]
    frame_out
    refine (mixture (iblk m c 0 t) (iblk m c 1 t) _ _ r d).trans ?_
    exact congrArg₂ (towards (hn m c t r d))
      (shiftedB m c t h _ (read_unread_whole ..) r d _ (by show 7 + 1 * r.val = _; omega) (by show 0 + 1 * d.val = _; omega))
      (share _ 1 (by decide) _ d)

/-- The third mixture of a block. -/
theorem out2 (c : Dev nD) (t : Fin cfg0.N) (r : Fin 256) (d : Fin 2048) :
    (outsAt0 m c t.val t.isLt).2.2.1 (ix2 r d)
      = towards (hn m c t r d) (prev m c t r d) (iblk m c 2 t (ix2 2 d)) := by
  by_cases h : t.val % 16 = 0
  · rw [outsAt0_A m c t h]
    frame_out
    rw [View.readCov_eq_canon']
    refine (mixture (iblk m c 0 t) (iblk m c 1 t) _ _ r d).trans ?_
    exact congrArg₂ (towards (hn m c t r d))
      ((View.read_writes_junk_apply_eq_canon (View.whole cc0_scratch0) _ _).symm.trans
        (shiftedA m c t h _ r d _ (by show 7 + 1 * r.val = _; omega) (by show 0 + 1 * d.val = _; omega)))
      (share _ 2 (by decide) _ d)
  · rw [outsAt0_B m c t h]
    frame_out
    refine (mixture (iblk m c 0 t) (iblk m c 1 t) _ _ r d).trans ?_
    exact congrArg₂ (towards (hn m c t r d))
      (shiftedB m c t h _ (read_unread_whole ..) r d _ (by show 7 + 1 * r.val = _; omega) (by show 0 + 1 * d.val = _; omega))
      (share _ 2 (by decide) _ d)

/-- The fourth mixture of a block. -/
theorem out3 (c : Dev nD) (t : Fin cfg0.N) (r : Fin 256) (d : Fin 2048) :
    (outsAt0 m c t.val t.isLt).2.2.2.1 (ix2 r d)
      = towards (hn m c t r d) (prev m c t r d) (iblk m c 2 t (ix2 3 d)) := by
  by_cases h : t.val % 16 = 0
  · rw [outsAt0_A m c t h]
    frame_out
    rw [View.readCov_eq_canon']
    refine (mixture (iblk m c 0 t) (iblk m c 1 t) _ _ r d).trans ?_
    exact congrArg₂ (towards (hn m c t r d))
      ((View.read_writes_junk_apply_eq_canon (View.whole cc0_scratch0) _ _).symm.trans
        (shiftedA m c t h _ r d _ (by show 7 + 1 * r.val = _; omega) (by show 0 + 1 * d.val = _; omega)))
      (share _ 3 (by decide) _ d)
  · rw [outsAt0_B m c t h]
    frame_out
    refine (mixture (iblk m c 0 t) (iblk m c 1 t) _ _ r d).trans ?_
    exact congrArg₂ (towards (hn m c t r d))
      (shiftedB m c t h _ (read_unread_whole ..) r d _ (by show 7 + 1 * r.val = _; omega) (by show 0 + 1 * d.val = _; omega))
      (share _ 3 (by decide) _ d)

/-- The fifth mixture of a block. -/
theorem out4 (c : Dev nD) (t : Fin cfg0.N) (r : Fin 256) (d : Fin 2048) :
    (outsAt0 m c t.val t.isLt).2.2.2.2.1 (ix2 r d)
      = towards (hn m c t r d) (prev m c t r d) (iblk m c 2 t (ix2 4 d)) := by
  by_cases h : t.val % 16 = 0
  · rw [outsAt0_A m c t h]
    frame_out
    rw [View.readCov_eq_canon']
    refine (mixture (iblk m c 0 t) (iblk m c 1 t) _ _ r d).trans ?_
    exact congrArg₂ (towards (hn m c t r d))
      ((View.read_writes_junk_apply_eq_canon (View.whole cc0_scratch0) _ _).symm.trans
        (shiftedA m c t h _ r d _ (by show 7 + 1 * r.val = _; omega) (by show 0 + 1 * d.val = _; omega)))
      (share _ 4 (by decide) _ d)
  · rw [outsAt0_B m c t h]
    frame_out
    refine (mixture (iblk m c 0 t) (iblk m c 1 t) _ _ r d).trans ?_
    exact congrArg₂ (towards (hn m c t r d))
      (shiftedB m c t h _ (read_unread_whole ..) r d _ (by show 7 + 1 * r.val = _; omega) (by show 0 + 1 * d.val = _; omega))
      (share _ 4 (by decide) _ d)

/-- The sixth mixture of a block. -/
theorem out5 (c : Dev nD) (t : Fin cfg0.N) (r : Fin 256) (d : Fin 2048) :
    (outsAt0 m c t.val t.isLt).2.2.2.2.2.1 (ix2 r d)
      = towards (hn m c t r d) (prev m c t r d) (iblk m c 2 t (ix2 5 d)) := by
  by_cases h : t.val % 16 = 0
  · rw [outsAt0_A m c t h]
    frame_out
    rw [View.readCov_eq_canon']
    refine (mixture (iblk m c 0 t) (iblk m c 1 t) _ _ r d).trans ?_
    exact congrArg₂ (towards (hn m c t r d))
      ((View.read_writes_junk_apply_eq_canon (View.whole cc0_scratch0) _ _).symm.trans
        (shiftedA m c t h _ r d _ (by show 7 + 1 * r.val = _; omega) (by show 0 + 1 * d.val = _; omega)))
      (share _ 5 (by decide) _ d)
  · rw [outsAt0_B m c t h]
    frame_out
    refine (mixture (iblk m c 0 t) (iblk m c 1 t) _ _ r d).trans ?_
    exact congrArg₂ (towards (hn m c t r d))
      (shiftedB m c t h _ (read_unread_whole ..) r d _ (by show 7 + 1 * r.val = _; omega) (by show 0 + 1 * d.val = _; omega))
      (share _ 5 (by decide) _ d)

end Cert.TimeMix
-- ==== Proof.TimeMix.Region.lean ====
module

public import proofs.«01_k».proof.Proof.TimeMix.Point
public import Idealize.ShloMosaic.Lib.StableHlo.Run
public import Idealize.ShloMosaic.Lib.KernelVsHost

/-!
# The arrays of the time mixing layer's mixtures

Each mixture as a function of the residual stream, the norm's scale and the shares, and the proof that the
launch leaves it.
-/

@[expose] public section

set_option maxRecDepth 16384

noncomputable section

namespace Cert.TimeMix

open Cert.MixIdeal Cert.MixIdeal.Gen Idealize.ShloMosaic Idealize.ShloMosaic.TcCoe
open Idealize.SL.Sem

variable (m : (ℓ : Loc nD τ sig) → Buf (Elt Ideal) ℓ)

/-- A row of the residual stream, normalised and scaled. -/
def normRow (x : S16384x2048.Idx → EReal) (g : Fin 2048 → EReal) (R : Fin 16384) (d : Fin 2048) : EReal :=
  Cert.Ffn.norm (fun k => x (ix2 R k)) (g d) d

/-- The normalised row before a row: zero where a sequence of 4096 rows begins. -/
def prevRow (x : S16384x2048.Idx → EReal) (g : Fin 2048 → EReal) (R : Fin 16384) (d : Fin 2048) : EReal :=
  if R.val % 4096 = 0 then 0 else normRow x g ⟨R.val - 1, by omega⟩ d

/-- A mixture: each normalised row moved towards the one before it by the shares `w`. -/
def mixArr (x : S16384x2048.Idx → EReal) (g w : Fin 2048 → EReal) : S16384x2048.Idx → EReal :=
  fun i => towards (normRow x g (i 0) (i 1)) (prevRow x g (i 0) (i 1)) (w (i 1))

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![0, 0] := by decide +kernel

theorem point_lt (t : Fin cfg0.N) : t.val < 64 := t.isLt

/-- The rows a grid point is given. -/
theorem rows (c : Dev nD) (t : Fin cfg0.N) (r : Fin 256) (d : Fin 2048) :
    iblk m c 0 t (ix2 r d)
      = V m c main_arg0 (ix2 ⟨t.val * 256 + r.val, by have := point_lt t; omega⟩ d) := by
  blk_ext! [iblk, index_0 t]

/-- The scale a grid point is given. -/
theorem scale (c : Dev nD) (t : Fin cfg0.N) (d : Fin 2048) :
    iblk m c 1 t (ix2 0 d) = V m c main_v1 (ix2 0 d) := by
  blk_ext! [iblk, index_1 t]

/-- The shares a grid point is given. -/
theorem shares (c : Dev nD) (t : Fin cfg0.N) (o : Fin 8) (d : Fin 2048) :
    iblk m c 2 t (ix2 o d) = V m c main_v0 (ix2 o d) := by
  blk_ext! [iblk, index_2 t]

/-- The scale the launch finds is the argument's. -/
theorem scale_arg (c : Dev nD) (d : Fin 2048) :
    V m c main_v1 (ix2 0 d) = m (c.tc.loc main_arg1) (ix1 d) := by
  unfold V V0
  simp only [hostOps0, hostOps0_1, hostOps0_2, List.flatten_cons, List.flatten_nil, List.append_nil,
    List.cons_append, List.nil_append]
  after_results
  pointwise []

/-- The shares the launch finds are the argument's. -/
theorem shares_arg (c : Dev nD) (o : Fin 6) (d : Fin 2048) :
    V m c main_v0 (ix2 (Fin.castAdd 2 o) d) = m (c.tc.loc main_arg2) (ix2 o d) := by
  unfold V V0
  simp only [hostOps0, hostOps0_1, hostOps0_2, List.flatten_cons, List.flatten_nil, List.append_nil,
    List.cons_append, List.nil_append]
  after_results
  exact pad_apply_of_inside (s := S6x2048) (t := S8x2048) ![0, 0] ![2, 0] ![0, 0] _ _
    pads_S6x2048_S8x2048_020_000 h_S_ (ix2 (Fin.castAdd 2 o) d) (ix2 o d) fun a => match a with
    | ⟨0, _⟩ => by show o.val = 0 + o.val * 1; omega
    | ⟨1, _⟩ => by show d.val = 0 + d.val * 1; omega

/-- The residual stream. -/
abbrev stream (c : Dev nD) : S16384x2048.Idx → EReal := m (c.tc.loc main_arg0)

/-- The norm's scale. -/
abbrev gains (c : Dev nD) : Fin 2048 → EReal := fun d => m (c.tc.loc main_arg1) (ix1 d)

/-- The shares of a mixture. -/
abbrev weights (c : Dev nD) (o : Fin 6) : Fin 2048 → EReal := fun d => m (c.tc.loc main_arg2) (ix2 o d)

/-- The normalised rows of a block are rows of the stream, normalised. -/
theorem hn_eq (c : Dev nD) (t : Fin cfg0.N) (r : Fin 256) (d : Fin 2048) (R : Fin 16384)
    (hR : R.val = t.val * 256 + r.val) :
    hn m c t r d = normRow (stream m c) (gains m c) R d := by
  have e : (⟨t.val * 256 + r.val, by have := point_lt t; omega⟩ : Fin 16384) = R := Fin.ext hR.symm
  unfold hn normRow
  rw [scale, scale_arg]
  refine congrArg (fun x => Cert.Ffn.norm x _ d) (funext fun k => ?_)
  rw [rows, V_main_arg0, e]

/-- The row before a row of a block is the row before it in the stream. -/
theorem prev_eq (c : Dev nD) (t : Fin cfg0.N) (r : Fin 256) (d : Fin 2048) (R : Fin 16384)
    (hR : R.val = t.val * 256 + r.val) :
    prev m c t r d = prevRow (stream m c) (gains m c) R d := by
  unfold prev prevRow
  have ht := point_lt t
  by_cases hr : r.val = 0
  · rw [if_pos hr]
    by_cases h : t.val % 16 = 0
    · rw [if_pos h, if_pos (by omega)]
    · rw [if_neg h, if_neg (by omega)]
      exact hn_eq m c _ 255 d _ (by show R.val - 1 = (t.val - 1) * 256 + 255; omega)
  · rw [if_neg hr, if_neg (by omega)]
    exact hn_eq m c t _ d _ (by show R.val - 1 = t.val * 256 + (r.val - 1); omega)

/-- The grid point that writes a block of a result. -/
def place (q : Fin 64) : grid0.Coords :=
  Fin.cons (⟨q.val / 16, by omega⟩ : Fin 4) (Fin.cons (⟨q.val % 16, by omega⟩ : Fin 16) fun a => a.elim0)

theorem index_3 : ∀ t : Fin cfg0.N, win0_3.index t = ![t.val, 0] := by decide +kernel

theorem place3_eq : ∀ (q : Fin 64) (z : Fin 1) (a : Fin 2),
    cc0_transform_3 (place q) a = (![q.val, z.val] : Fin 2 → ℕ) a := by
  decide +kernel

/-- The first array the launch leaves. -/
theorem arr0 (c : Dev nD) :
    (dats m 0 c).arrAt 3 cfg0.N = mixArr (stream m c) (gains m c) (weights m c 0) := by
  refine (dats m 0 c).arrAt_eq_of_covers 3 _ ?_ fun t hf y => ?_
  · exact (cfg0.win 3).covers_of_indexMap_surj rfl (by decide) fun β =>
      ⟨place (β 0), fun a => (place3_eq (β 0) (β 1) a).trans
        (match a with | ⟨0, _⟩ => rfl | ⟨1, _⟩ => rfl)⟩
  · blk_simp
    rw [after0_3]
    obtain ⟨r, d, rfl⟩ : ∃ (r : Fin 256) (d : Fin 2048), y = ix2 r d := ⟨y 0, y 1, eq_ix2 y⟩
    rw [out0]
    have e : (win0_3.blk t).view.emb (ix2 r d : S256x2048.Idx)
        = (ix2 ⟨t.val * 256 + r.val, by have := point_lt t; omega⟩ d : S16384x2048.Idx) := by
      blk_ext [index_3 t]
    rw [e, shares, hn_eq m c t r d ⟨t.val * 256 + r.val, by have := point_lt t; omega⟩ rfl,
      prev_eq m c t r d ⟨t.val * 256 + r.val, by have := point_lt t; omega⟩ rfl]
    exact congrArg (towards _ _) (shares_arg m c 0 d)

theorem index_4 : ∀ t : Fin cfg0.N, win0_4.index t = ![t.val, 0] := by decide +kernel

theorem place4_eq : ∀ (q : Fin 64) (z : Fin 1) (a : Fin 2),
    cc0_transform_4 (place q) a = (![q.val, z.val] : Fin 2 → ℕ) a := by
  decide +kernel

/-- The second array the launch leaves. -/
theorem arr1 (c : Dev nD) :
    (dats m 0 c).arrAt 4 cfg0.N = mixArr (stream m c) (gains m c) (weights m c 1) := by
  refine (dats m 0 c).arrAt_eq_of_covers 4 _ ?_ fun t hf y => ?_
  · exact (cfg0.win 4).covers_of_indexMap_surj rfl (by decide) fun β =>
      ⟨place (β 0), fun a => (place4_eq (β 0) (β 1) a).trans
        (match a with | ⟨0, _⟩ => rfl | ⟨1, _⟩ => rfl)⟩
  · blk_simp
    rw [after0_4]
    obtain ⟨r, d, rfl⟩ : ∃ (r : Fin 256) (d : Fin 2048), y = ix2 r d := ⟨y 0, y 1, eq_ix2 y⟩
    rw [out1]
    have e : (win0_4.blk t).view.emb (ix2 r d : S256x2048.Idx)
        = (ix2 ⟨t.val * 256 + r.val, by have := point_lt t; omega⟩ d : S16384x2048.Idx) := by
      blk_ext [index_4 t]
    rw [e, shares, hn_eq m c t r d ⟨t.val * 256 + r.val, by have := point_lt t; omega⟩ rfl,
      prev_eq m c t r d ⟨t.val * 256 + r.val, by have := point_lt t; omega⟩ rfl]
    exact congrArg (towards _ _) (shares_arg m c 1 d)

theorem index_5 : ∀ t : Fin cfg0.N, win0_5.index t = ![t.val, 0] := by decide +kernel

theorem place5_eq : ∀ (q : Fin 64) (z : Fin 1) (a : Fin 2),
    cc0_transform_5 (place q) a = (![q.val, z.val] : Fin 2 → ℕ) a := by
  decide +kernel

/-- The third array the launch leaves. -/
theorem arr2 (c : Dev nD) :
    (dats m 0 c).arrAt 5 cfg0.N = mixArr (stream m c) (gains m c) (weights m c 2) := by
  refine (dats m 0 c).arrAt_eq_of_covers 5 _ ?_ fun t hf y => ?_
  · exact (cfg0.win 5).covers_of_indexMap_surj rfl (by decide) fun β =>
      ⟨place (β 0), fun a => (place5_eq (β 0) (β 1) a).trans
        (match a with | ⟨0, _⟩ => rfl | ⟨1, _⟩ => rfl)⟩
  · blk_simp
    rw [after0_5]
    obtain ⟨r, d, rfl⟩ : ∃ (r : Fin 256) (d : Fin 2048), y = ix2 r d := ⟨y 0, y 1, eq_ix2 y⟩
    rw [out2]
    have e : (win0_5.blk t).view.emb (ix2 r d : S256x2048.Idx)
        = (ix2 ⟨t.val * 256 + r.val, by have := point_lt t; omega⟩ d : S16384x2048.Idx) := by
      blk_ext [index_5 t]
    rw [e, shares, hn_eq m c t r d ⟨t.val * 256 + r.val, by have := point_lt t; omega⟩ rfl,
      prev_eq m c t r d ⟨t.val * 256 + r.val, by have := point_lt t; omega⟩ rfl]
    exact congrArg (towards _ _) (shares_arg m c 2 d)

theorem index_6 : ∀ t : Fin cfg0.N, win0_6.index t = ![t.val, 0] := by decide +kernel

theorem place6_eq : ∀ (q : Fin 64) (z : Fin 1) (a : Fin 2),
    cc0_transform_6 (place q) a = (![q.val, z.val] : Fin 2 → ℕ) a := by
  decide +kernel

/-- The fourth array the launch leaves. -/
theorem arr3 (c : Dev nD) :
    (dats m 0 c).arrAt 6 cfg0.N = mixArr (stream m c) (gains m c) (weights m c 3) := by
  refine (dats m 0 c).arrAt_eq_of_covers 6 _ ?_ fun t hf y => ?_
  · exact (cfg0.win 6).covers_of_indexMap_surj rfl (by decide) fun β =>
      ⟨place (β 0), fun a => (place6_eq (β 0) (β 1) a).trans
        (match a with | ⟨0, _⟩ => rfl | ⟨1, _⟩ => rfl)⟩
  · blk_simp
    rw [after0_6]
    obtain ⟨r, d, rfl⟩ : ∃ (r : Fin 256) (d : Fin 2048), y = ix2 r d := ⟨y 0, y 1, eq_ix2 y⟩
    rw [out3]
    have e : (win0_6.blk t).view.emb (ix2 r d : S256x2048.Idx)
        = (ix2 ⟨t.val * 256 + r.val, by have := point_lt t; omega⟩ d : S16384x2048.Idx) := by
      blk_ext [index_6 t]
    rw [e, shares, hn_eq m c t r d ⟨t.val * 256 + r.val, by have := point_lt t; omega⟩ rfl,
      prev_eq m c t r d ⟨t.val * 256 + r.val, by have := point_lt t; omega⟩ rfl]
    exact congrArg (towards _ _) (shares_arg m c 3 d)

theorem index_7 : ∀ t : Fin cfg0.N, win0_7.index t = ![t.val, 0] := by decide +kernel

theorem place7_eq : ∀ (q : Fin 64) (z : Fin 1) (a : Fin 2),
    cc0_transform_7 (place q) a = (![q.val, z.val] : Fin 2 → ℕ) a := by
  decide +kernel

/-- The fifth array the launch leaves. -/
theorem arr4 (c : Dev nD) :
    (dats m 0 c).arrAt 7 cfg0.N = mixArr (stream m c) (gains m c) (weights m c 4) := by
  refine (dats m 0 c).arrAt_eq_of_covers 7 _ ?_ fun t hf y => ?_
  · exact (cfg0.win 7).covers_of_indexMap_surj rfl (by decide) fun β =>
      ⟨place (β 0), fun a => (place7_eq (β 0) (β 1) a).trans
        (match a with | ⟨0, _⟩ => rfl | ⟨1, _⟩ => rfl)⟩
  · blk_simp
    rw [after0_7]
    obtain ⟨r, d, rfl⟩ : ∃ (r : Fin 256) (d : Fin 2048), y = ix2 r d := ⟨y 0, y 1, eq_ix2 y⟩
    rw [out4]
    have e : (win0_7.blk t).view.emb (ix2 r d : S256x2048.Idx)
        = (ix2 ⟨t.val * 256 + r.val, by have := point_lt t; omega⟩ d : S16384x2048.Idx) := by
      blk_ext [index_7 t]
    rw [e, shares, hn_eq m c t r d ⟨t.val * 256 + r.val, by have := point_lt t; omega⟩ rfl,
      prev_eq m c t r d ⟨t.val * 256 + r.val, by have := point_lt t; omega⟩ rfl]
    exact congrArg (towards _ _) (shares_arg m c 4 d)

theorem index_8 : ∀ t : Fin cfg0.N, win0_8.index t = ![t.val, 0] := by decide +kernel

theorem place8_eq : ∀ (q : Fin 64) (z : Fin 1) (a : Fin 2),
    cc0_transform_8 (place q) a = (![q.val, z.val] : Fin 2 → ℕ) a := by
  decide +kernel

/-- The sixth array the launch leaves. -/
theorem arr5 (c : Dev nD) :
    (dats m 0 c).arrAt 8 cfg0.N = mixArr (stream m c) (gains m c) (weights m c 5) := by
  refine (dats m 0 c).arrAt_eq_of_covers 8 _ ?_ fun t hf y => ?_
  · exact (cfg0.win 8).covers_of_indexMap_surj rfl (by decide) fun β =>
      ⟨place (β 0), fun a => (place8_eq (β 0) (β 1) a).trans
        (match a with | ⟨0, _⟩ => rfl | ⟨1, _⟩ => rfl)⟩
  · blk_simp
    rw [after0_8]
    obtain ⟨r, d, rfl⟩ : ∃ (r : Fin 256) (d : Fin 2048), y = ix2 r d := ⟨y 0, y 1, eq_ix2 y⟩
    rw [out5]
    have e : (win0_8.blk t).view.emb (ix2 r d : S256x2048.Idx)
        = (ix2 ⟨t.val * 256 + r.val, by have := point_lt t; omega⟩ d : S16384x2048.Idx) := by
      blk_ext [index_8 t]
    rw [e, shares, hn_eq m c t r d ⟨t.val * 256 + r.val, by have := point_lt t; omega⟩ rfl,
      prev_eq m c t r d ⟨t.val * 256 + r.val, by have := point_lt t; omega⟩ rfl]
    exact congrArg (towards _ _) (shares_arg m c 5 d)

/-- What the host code after the launch leaves in a buffer. -/
abbrev endV (c : Dev nD) (b : Ref sig .tc) : Buf (Elt Ideal) ((c.tc : Thread nD τ).loc b) :=
  Pipeline.afterTail₀ cfgs (dats m) 0 (V0 m) [hostOps1] c b

/-- The first result. -/
theorem result0 (c : Dev nD) :
    endV m c main_v3 = mixArr (stream m c) (gains m c) (weights m c 0) := by
  have h := Pipeline.withArrays_arr spec0 winFacts0.arr_inj c (V0 m c) (fun w => (dats m 0 c).arrAt w cfg0.N) 3
  unfold endV Pipeline.afterTail₀
  generalize Pipeline.withArrays (cfgs 0).spec c (V0 m c) (fun w => (dats m 0 c).arrAt w (cfgs 0).N) = W at *
  simp only [hostOps1, List.flatten_cons, List.flatten_nil, List.append_nil]
  after_results
  refine Eq.trans ?_ (h.trans (arr0 m c))
  rfl

/-- The second result. -/
theorem result1 (c : Dev nD) :
    endV m c main_v4 = mixArr (stream m c) (gains m c) (weights m c 1) := by
  have h := Pipeline.withArrays_arr spec0 winFacts0.arr_inj c (V0 m c) (fun w => (dats m 0 c).arrAt w cfg0.N) 4
  unfold endV Pipeline.afterTail₀
  generalize Pipeline.withArrays (cfgs 0).spec c (V0 m c) (fun w => (dats m 0 c).arrAt w (cfgs 0).N) = W at *
  simp only [hostOps1, List.flatten_cons, List.flatten_nil, List.append_nil]
  after_results
  refine Eq.trans ?_ (h.trans (arr1 m c))
  rfl

/-- The third result. -/
theorem result2 (c : Dev nD) :
    endV m c main_v5 = mixArr (stream m c) (gains m c) (weights m c 2) := by
  have h := Pipeline.withArrays_arr spec0 winFacts0.arr_inj c (V0 m c) (fun w => (dats m 0 c).arrAt w cfg0.N) 5
  unfold endV Pipeline.afterTail₀
  generalize Pipeline.withArrays (cfgs 0).spec c (V0 m c) (fun w => (dats m 0 c).arrAt w (cfgs 0).N) = W at *
  simp only [hostOps1, List.flatten_cons, List.flatten_nil, List.append_nil]
  after_results
  refine Eq.trans ?_ (h.trans (arr2 m c))
  rfl

/-- The fourth result. -/
theorem result3 (c : Dev nD) :
    endV m c main_v6 = mixArr (stream m c) (gains m c) (weights m c 3) := by
  have h := Pipeline.withArrays_arr spec0 winFacts0.arr_inj c (V0 m c) (fun w => (dats m 0 c).arrAt w cfg0.N) 6
  unfold endV Pipeline.afterTail₀
  generalize Pipeline.withArrays (cfgs 0).spec c (V0 m c) (fun w => (dats m 0 c).arrAt w (cfgs 0).N) = W at *
  simp only [hostOps1, List.flatten_cons, List.flatten_nil, List.append_nil]
  after_results
  refine Eq.trans ?_ (h.trans (arr3 m c))
  rfl

/-- The fifth result. -/
theorem result4 (c : Dev nD) :
    endV m c main_v7 = mixArr (stream m c) (gains m c) (weights m c 4) := by
  have h := Pipeline.withArrays_arr spec0 winFacts0.arr_inj c (V0 m c) (fun w => (dats m 0 c).arrAt w cfg0.N) 7
  unfold endV Pipeline.afterTail₀
  generalize Pipeline.withArrays (cfgs 0).spec c (V0 m c) (fun w => (dats m 0 c).arrAt w (cfgs 0).N) = W at *
  simp only [hostOps1, List.flatten_cons, List.flatten_nil, List.append_nil]
  after_results
  refine Eq.trans ?_ (h.trans (arr4 m c))
  rfl

/-- The sixth result. -/
theorem result5 (c : Dev nD) :
    endV m c main_v8 = mixArr (stream m c) (gains m c) (weights m c 5) := by
  have h := Pipeline.withArrays_arr spec0 winFacts0.arr_inj c (V0 m c) (fun w => (dats m 0 c).arrAt w cfg0.N) 8
  unfold endV Pipeline.afterTail₀
  generalize Pipeline.withArrays (cfgs 0).spec c (V0 m c) (fun w => (dats m 0 c).arrAt w (cfgs 0).N) = W at *
  simp only [hostOps1, List.flatten_cons, List.flatten_nil, List.append_nil]
  after_results
  refine Eq.trans ?_ (h.trans (arr5 m c))
  rfl

end Cert.TimeMix
-- ==== Proof.TimeMix.Ref.lean ====
module

public import proofs.«01_k».proof.Proof.TimeMix.Region
public import proofs.«01_k».proof.Proof.Gen.MixReferenceIdeal.Read

/-!
# The reference's mixtures

The reference reshapes the normalised stream into four sequences, puts a row of zeros before each and drops
each one's last row. Read at an entry this is the row before, or zero where a sequence begins.
-/

@[expose] public section

set_option maxRecDepth 16384

noncomputable section

namespace Cert.TimeMix

open Cert.MixReferenceIdeal Cert.MixReferenceIdeal.Gen Cert.MixReferenceIdeal.Read
open Idealize.ShloMosaic Idealize.ShloMosaic.TcCoe Idealize.SL.Sem

variable (x0 : (⟨S16384x2048, .f32⟩ : BufTy).Contents (Elt Ideal))
  (x1 : (⟨S2048, .f32⟩ : BufTy).Contents (Elt Ideal))
  (x2 : (⟨S6x2048, .f32⟩ : BufTy).Contents (Elt Ideal))

/-- The normalised rows. -/
theorem ref_norm (a : Fin 16384) (d : Fin 2048) :
    val_main_v12 (F := Ideal) x0 x1 (ix2 a d) = normRow x0 (fun d => x1 (ix1 d)) a d := by
  pointwise [val_main_v12, val_main_v11, val_main_v10, val_main_v9, val_main_v8, val_main_v7,
    val_main_v6, val_main_v5, val_main_v4, val_main_v3, val_main_v2, val_main_v1, val_main_v0,
    val_main_cst, val_main_cst_0, val_main_cst_1]
  rfl

/-- The row of the stream that row `s` of sequence `b` is. -/
def rowOf (b : Fin 4) (s : Fin 4096) : Fin 16384 := ⟨b.val * 4096 + s.val, by omega⟩

/-- The normalised rows, by sequence. -/
theorem ref_seq (b : Fin 4) (s : Fin 4096) (d : Fin 2048) :
    val_main_v13 (F := Ideal) x0 x1 (ix3 b s d) = normRow x0 (fun d => x1 (ix1 d)) (rowOf b s) d := by
  rw [val_main_v13_apply, ← ref_norm]
  refine congrArg (val_main_v12 (F := Ideal) x0 x1) (funext fun a => ?_)
  match a with
  | ⟨0, _⟩ => exact Fin.ext (by show ((b.val * 4096 + s.val) * 2048 + d.val) / 2048 = b.val * 4096 + s.val; omega)
  | ⟨1, _⟩ => exact Fin.ext (by show ((b.val * 4096 + s.val) * 2048 + d.val) % 2048 = d.val; omega)

/-- The row of zeros put before each sequence. -/
theorem ref_zero (i : S_.Idx) : val_main_call0_v0 (F := Ideal) i = (0 : EReal) := by
  show ((((0#32 : BitVec 32).toInt : ℤ) : ℝ) : EReal) = 0
  simp

/-- The rows before, by sequence. -/
theorem ref_prev (b : Fin 4) (s : Fin 4096) (d : Fin 2048) :
    val_main_v15 (F := Ideal) x0 x1 (ix3 b s d) = prevRow x0 (fun d => x1 (ix1 d)) (rowOf b s) d := by
  rw [val_main_v15_apply]
  unfold val_main_v14 prevRow
  by_cases hs : s.val = 0
  · rw [if_pos (by show (b.val * 4096 + s.val) % 4096 = 0; omega)]
    refine (pad_apply_of_not_inside (s := S4x4096x2048) (t := S4x4097x2048) ![0, 1, 0] ![0, 0, 0] ![0, 0, 0] _ _
      pads_S4x4096x2048_S4x4097x2048_000_100_000 h_S_ _ 1 fun h => ?_).trans (ref_zero _)
    have h1 : 1 ≤ s.val := h.1
    omega
  · rw [if_neg (by show ¬ (b.val * 4096 + s.val) % 4096 = 0; omega)]
    refine (pad_apply_of_inside (s := S4x4096x2048) (t := S4x4097x2048) ![0, 1, 0] ![0, 0, 0] ![0, 0, 0] _ _
      pads_S4x4096x2048_S4x4097x2048_000_100_000 h_S_ _ (ix3 b (⟨s.val - 1, by omega⟩ : Fin 4096) d) fun a => ?_).trans
      ((ref_seq x0 x1 b _ d).trans ?_)
    · match a with
      | ⟨0, _⟩ => show b.val = 0 + b.val * 1; omega
      | ⟨1, _⟩ => show s.val = 1 + (s.val - 1) * 1; omega
      | ⟨2, _⟩ => show d.val = 0 + d.val * 1; omega
    · exact congrArg (fun R => normRow x0 _ R d) (Fin.ext (by show b.val * 4096 + (s.val - 1) = b.val * 4096 + s.val - 1; omega))

/-- The sequence a row of the stream is in. -/
def seqOf (R : Fin 16384) : Fin 4 := ⟨R.val / 4096, by omega⟩

/-- The place of a row of the stream in its sequence. -/
def posOf (R : Fin 16384) : Fin 4096 := ⟨R.val % 4096, by omega⟩

/-- A row is the row at its place in its sequence. -/
theorem rowOf_seq (R : Fin 16384) : rowOf (seqOf R) (posOf R) = R :=
  Fin.ext (by show R.val / 4096 * 4096 + R.val % 4096 = R.val; omega)

/-- The first mixture's shares, along every row. -/
theorem ref_share0 (b : Fin 4) (s : Fin 4096) (d : Fin 2048) :
    val_main_v20 (F := Ideal) x2 (ix3 b s d) = x2 (ix2 0 d) := by
  rw [val_main_v20_apply, val_main_v19_apply, val_main_v18_apply, val_main_v17_apply]
  refine congrArg x2 (funext fun a => ?_)
  match a with
  | ⟨0, _⟩ => exact Fin.ext (by rfl)
  | ⟨1, _⟩ => exact Fin.ext (by show d.val % 2048 = d.val; omega)

/-- The reference's first result. -/
theorem ref_mix0 :
    val_main_v23 (F := Ideal) x0 x1 x2 = mixArr x0 (fun d => x1 (ix1 d)) (fun d => x2 (ix2 0 d)) := by
  funext j
  obtain ⟨R, d, rfl⟩ : ∃ (R : Fin 16384) (d : Fin 2048), j = ix2 R d := ⟨j 0, j 1, eq_ix2 j⟩
  rw [val_main_v23_apply]
  have e : idx_main_v23 (ix2 R d) = ix3 (seqOf R) (posOf R) d := by
    funext a
    match a with
    | ⟨0, _⟩ => exact Fin.ext (by show (R.val * 2048 + d.val) / 8388608 = R.val / 4096; omega)
    | ⟨1, _⟩ => exact Fin.ext (by show (R.val * 2048 + d.val) / 2048 % 4096 = R.val % 4096; omega)
    | ⟨2, _⟩ => exact Fin.ext (by show (R.val * 2048 + d.val) % 2048 = d.val; omega)
  rw [e, val_main_v22_apply, val_main_v21_apply, val_main_v16_apply, ref_share0, ref_prev, ref_seq, rowOf_seq]
  rfl

/-- The second mixture's shares, along every row. -/
theorem ref_share1 (b : Fin 4) (s : Fin 4096) (d : Fin 2048) :
    val_main_v27 (F := Ideal) x2 (ix3 b s d) = x2 (ix2 1 d) := by
  rw [val_main_v27_apply, val_main_v26_apply, val_main_v25_apply, val_main_v24_apply]
  refine congrArg x2 (funext fun a => ?_)
  match a with
  | ⟨0, _⟩ => exact Fin.ext (by rfl)
  | ⟨1, _⟩ => exact Fin.ext (by show d.val % 2048 = d.val; omega)

/-- The reference's second result. -/
theorem ref_mix1 :
    val_main_v30 (F := Ideal) x0 x1 x2 = mixArr x0 (fun d => x1 (ix1 d)) (fun d => x2 (ix2 1 d)) := by
  funext j
  obtain ⟨R, d, rfl⟩ : ∃ (R : Fin 16384) (d : Fin 2048), j = ix2 R d := ⟨j 0, j 1, eq_ix2 j⟩
  rw [val_main_v30_apply]
  have e : idx_main_v30 (ix2 R d) = ix3 (seqOf R) (posOf R) d := by
    funext a
    match a with
    | ⟨0, _⟩ => exact Fin.ext (by show (R.val * 2048 + d.val) / 8388608 = R.val / 4096; omega)
    | ⟨1, _⟩ => exact Fin.ext (by show (R.val * 2048 + d.val) / 2048 % 4096 = R.val % 4096; omega)
    | ⟨2, _⟩ => exact Fin.ext (by show (R.val * 2048 + d.val) % 2048 = d.val; omega)
  rw [e, val_main_v29_apply, val_main_v28_apply, val_main_v16_apply, ref_share1, ref_prev, ref_seq, rowOf_seq]
  rfl

/-- The third mixture's shares, along every row. -/
theorem ref_share2 (b : Fin 4) (s : Fin 4096) (d : Fin 2048) :
    val_main_v34 (F := Ideal) x2 (ix3 b s d) = x2 (ix2 2 d) := by
  rw [val_main_v34_apply, val_main_v33_apply, val_main_v32_apply, val_main_v31_apply]
  refine congrArg x2 (funext fun a => ?_)
  match a with
  | ⟨0, _⟩ => exact Fin.ext (by rfl)
  | ⟨1, _⟩ => exact Fin.ext (by show d.val % 2048 = d.val; omega)

/-- The reference's third result. -/
theorem ref_mix2 :
    val_main_v37 (F := Ideal) x0 x1 x2 = mixArr x0 (fun d => x1 (ix1 d)) (fun d => x2 (ix2 2 d)) := by
  funext j
  obtain ⟨R, d, rfl⟩ : ∃ (R : Fin 16384) (d : Fin 2048), j = ix2 R d := ⟨j 0, j 1, eq_ix2 j⟩
  rw [val_main_v37_apply]
  have e : idx_main_v37 (ix2 R d) = ix3 (seqOf R) (posOf R) d := by
    funext a
    match a with
    | ⟨0, _⟩ => exact Fin.ext (by show (R.val * 2048 + d.val) / 8388608 = R.val / 4096; omega)
    | ⟨1, _⟩ => exact Fin.ext (by show (R.val * 2048 + d.val) / 2048 % 4096 = R.val % 4096; omega)
    | ⟨2, _⟩ => exact Fin.ext (by show (R.val * 2048 + d.val) % 2048 = d.val; omega)
  rw [e, val_main_v36_apply, val_main_v35_apply, val_main_v16_apply, ref_share2, ref_prev, ref_seq, rowOf_seq]
  rfl

/-- The fourth mixture's shares, along every row. -/
theorem ref_share3 (b : Fin 4) (s : Fin 4096) (d : Fin 2048) :
    val_main_v41 (F := Ideal) x2 (ix3 b s d) = x2 (ix2 3 d) := by
  rw [val_main_v41_apply, val_main_v40_apply, val_main_v39_apply, val_main_v38_apply]
  refine congrArg x2 (funext fun a => ?_)
  match a with
  | ⟨0, _⟩ => exact Fin.ext (by rfl)
  | ⟨1, _⟩ => exact Fin.ext (by show d.val % 2048 = d.val; omega)

/-- The reference's fourth result. -/
theorem ref_mix3 :
    val_main_v44 (F := Ideal) x0 x1 x2 = mixArr x0 (fun d => x1 (ix1 d)) (fun d => x2 (ix2 3 d)) := by
  funext j
  obtain ⟨R, d, rfl⟩ : ∃ (R : Fin 16384) (d : Fin 2048), j = ix2 R d := ⟨j 0, j 1, eq_ix2 j⟩
  rw [val_main_v44_apply]
  have e : idx_main_v44 (ix2 R d) = ix3 (seqOf R) (posOf R) d := by
    funext a
    match a with
    | ⟨0, _⟩ => exact Fin.ext (by show (R.val * 2048 + d.val) / 8388608 = R.val / 4096; omega)
    | ⟨1, _⟩ => exact Fin.ext (by show (R.val * 2048 + d.val) / 2048 % 4096 = R.val % 4096; omega)
    | ⟨2, _⟩ => exact Fin.ext (by show (R.val * 2048 + d.val) % 2048 = d.val; omega)
  rw [e, val_main_v43_apply, val_main_v42_apply, val_main_v16_apply, ref_share3, ref_prev, ref_seq, rowOf_seq]
  rfl

/-- The fifth mixture's shares, along every row. -/
theorem ref_share4 (b : Fin 4) (s : Fin 4096) (d : Fin 2048) :
    val_main_v48 (F := Ideal) x2 (ix3 b s d) = x2 (ix2 4 d) := by
  rw [val_main_v48_apply, val_main_v47_apply, val_main_v46_apply, val_main_v45_apply]
  refine congrArg x2 (funext fun a => ?_)
  match a with
  | ⟨0, _⟩ => exact Fin.ext (by rfl)
  | ⟨1, _⟩ => exact Fin.ext (by show d.val % 2048 = d.val; omega)

/-- The reference's fifth result. -/
theorem ref_mix4 :
    val_main_v51 (F := Ideal) x0 x1 x2 = mixArr x0 (fun d => x1 (ix1 d)) (fun d => x2 (ix2 4 d)) := by
  funext j
  obtain ⟨R, d, rfl⟩ : ∃ (R : Fin 16384) (d : Fin 2048), j = ix2 R d := ⟨j 0, j 1, eq_ix2 j⟩
  rw [val_main_v51_apply]
  have e : idx_main_v51 (ix2 R d) = ix3 (seqOf R) (posOf R) d := by
    funext a
    match a with
    | ⟨0, _⟩ => exact Fin.ext (by show (R.val * 2048 + d.val) / 8388608 = R.val / 4096; omega)
    | ⟨1, _⟩ => exact Fin.ext (by show (R.val * 2048 + d.val) / 2048 % 4096 = R.val % 4096; omega)
    | ⟨2, _⟩ => exact Fin.ext (by show (R.val * 2048 + d.val) % 2048 = d.val; omega)
  rw [e, val_main_v50_apply, val_main_v49_apply, val_main_v16_apply, ref_share4, ref_prev, ref_seq, rowOf_seq]
  rfl

/-- The sixth mixture's shares, along every row. -/
theorem ref_share5 (b : Fin 4) (s : Fin 4096) (d : Fin 2048) :
    val_main_v55 (F := Ideal) x2 (ix3 b s d) = x2 (ix2 5 d) := by
  rw [val_main_v55_apply, val_main_v54_apply, val_main_v53_apply, val_main_v52_apply]
  refine congrArg x2 (funext fun a => ?_)
  match a with
  | ⟨0, _⟩ => exact Fin.ext (by rfl)
  | ⟨1, _⟩ => exact Fin.ext (by show d.val % 2048 = d.val; omega)

/-- The reference's sixth result. -/
theorem ref_mix5 :
    val_main_v58 (F := Ideal) x0 x1 x2 = mixArr x0 (fun d => x1 (ix1 d)) (fun d => x2 (ix2 5 d)) := by
  funext j
  obtain ⟨R, d, rfl⟩ : ∃ (R : Fin 16384) (d : Fin 2048), j = ix2 R d := ⟨j 0, j 1, eq_ix2 j⟩
  rw [val_main_v58_apply]
  have e : idx_main_v58 (ix2 R d) = ix3 (seqOf R) (posOf R) d := by
    funext a
    match a with
    | ⟨0, _⟩ => exact Fin.ext (by show (R.val * 2048 + d.val) / 8388608 = R.val / 4096; omega)
    | ⟨1, _⟩ => exact Fin.ext (by show (R.val * 2048 + d.val) / 2048 % 4096 = R.val % 4096; omega)
    | ⟨2, _⟩ => exact Fin.ext (by show (R.val * 2048 + d.val) % 2048 = d.val; omega)
  rw [e, val_main_v57_apply, val_main_v56_apply, val_main_v16_apply, ref_share5, ref_prev, ref_seq, rowOf_seq]
  rfl

end Cert.TimeMix
-- ==== Proof.TimeMix.Claims.lean ====
module

public import proofs.«01_k».proof.Defs
public import proofs.«01_k».proof.Proof.TimeMix.Ref
public import Idealize.ShloMosaic.Lib.Quiescent

/-!
# The claims about the time mixing layer's mixtures
-/

@[expose] public section

set_option maxRecDepth 16384

noncomputable section

namespace Cert.TimeMix

open Idealize.ShloMosaic Idealize.ShloMosaic.TcCoe Idealize.SL.Sem

/-- The reference leaves its arguments and every semaphore as they were. -/
theorem quiescentReference
    (m : (ℓ : Loc Cert.MixReferenceIdeal.nD Cert.MixReferenceIdeal.τ Cert.MixReferenceIdeal.sig) → Buf (Elt Ideal) ℓ)
    (ρ : Dev Cert.MixReferenceIdeal.nD → PrngReg) :
    θ_run (Val := Elt Ideal) Cert.MixReferenceIdeal.defs
      (onTc (τ := Cert.MixReferenceIdeal.τ) (Cert.MixReferenceIdeal.main (F := Ideal)))
      ⟨m, fun _ => 0, ρ⟩ (fun r => (∀ c : Dev Cert.MixReferenceIdeal.nD,
        r.2.mem (c.tc.loc Cert.MixReferenceIdeal.main_arg0) = m (c.tc.loc Cert.MixReferenceIdeal.main_arg0)
        ∧ r.2.mem (c.tc.loc Cert.MixReferenceIdeal.main_arg1) = m (c.tc.loc Cert.MixReferenceIdeal.main_arg1)
        ∧ r.2.mem (c.tc.loc Cert.MixReferenceIdeal.main_arg2) = m (c.tc.loc Cert.MixReferenceIdeal.main_arg2))
        ∧ r.2.sem = fun _ => 0) :=
  (θ_run Cert.MixReferenceIdeal.defs _ _).mono
    (fun r h => ⟨fun c => (h c).2.2.2.2.2.2, Idealize.ShloMosaic.sem_eq_zero_of_no_sems (by decide) r.2⟩)
    (Cert.MixReferenceIdeal.Value.run (F := Ideal) m ρ)

/-- What the run leaves in a buffer that is no array of the launch. -/
theorem run_rest (m : (ℓ : Loc Cert.MixIdeal.nD Cert.MixIdeal.τ Cert.MixIdeal.sig) → Buf (Elt Ideal) ℓ)
    (g : Dev Cert.MixIdeal.nD → PrngReg) :
    θ_run (Val := Elt Ideal) Cert.MixIdeal.defs (onTc (τ := Cert.MixIdeal.τ) (Cert.MixIdeal.main (F := Ideal)))
      ⟨m, fun _ => 0, g⟩ (fun r => ∀ c : Dev Cert.MixIdeal.nD,
        r.2.mem (c.tc.loc Cert.MixIdeal.main_v3) = mixArr (stream m c) (gains m c) (weights m c 0)
        ∧ r.2.mem (c.tc.loc Cert.MixIdeal.main_v4) = mixArr (stream m c) (gains m c) (weights m c 1)
        ∧ r.2.mem (c.tc.loc Cert.MixIdeal.main_v5) = mixArr (stream m c) (gains m c) (weights m c 2)
        ∧ r.2.mem (c.tc.loc Cert.MixIdeal.main_v6) = mixArr (stream m c) (gains m c) (weights m c 3)
        ∧ r.2.mem (c.tc.loc Cert.MixIdeal.main_v7) = mixArr (stream m c) (gains m c) (weights m c 4)
        ∧ r.2.mem (c.tc.loc Cert.MixIdeal.main_v8) = mixArr (stream m c) (gains m c) (weights m c 5)) :=
  (θ_run _ _ _).mono (fun _ h c => ⟨
    ((h c).2 Cert.MixIdeal.main_v3 (Pipeline.mem_restRefs_of Cert.MixIdeal.main_v3 (by decide) (by decide))).trans (result0 m c),
    ((h c).2 Cert.MixIdeal.main_v4 (Pipeline.mem_restRefs_of Cert.MixIdeal.main_v4 (by decide) (by decide))).trans (result1 m c),
    ((h c).2 Cert.MixIdeal.main_v5 (Pipeline.mem_restRefs_of Cert.MixIdeal.main_v5 (by decide) (by decide))).trans (result2 m c),
    ((h c).2 Cert.MixIdeal.main_v6 (Pipeline.mem_restRefs_of Cert.MixIdeal.main_v6 (by decide) (by decide))).trans (result3 m c),
    ((h c).2 Cert.MixIdeal.main_v7 (Pipeline.mem_restRefs_of Cert.MixIdeal.main_v7 (by decide) (by decide))).trans (result4 m c),
    ((h c).2 Cert.MixIdeal.main_v8 (Pipeline.mem_restRefs_of Cert.MixIdeal.main_v8 (by decide) (by decide))).trans (result5 m c)⟩)
    (Cert.MixIdeal.Gen.run_main m g)

/-- Kernel and reference end with the same six arrays from the same arguments. -/
theorem algebraic : Cert.algebraic_MixIdeal_MixReferenceIdeal := by
  intro m g m' g' _ hag
  refine ⟨fun c => mixArr (stream m c) (gains m c) (weights m c 0), fun c => mixArr (stream m c) (gains m c) (weights m c 1), fun c => mixArr (stream m c) (gains m c) (weights m c 2), fun c => mixArr (stream m c) (gains m c) (weights m c 3), fun c => mixArr (stream m c) (gains m c) (weights m c 4), fun c => mixArr (stream m c) (gains m c) (weights m c 5), ?_, ?_⟩
  · exact (θ_run _ _ _).mono (fun _ h c => ⟨(h.1 c).1, (h.1 c).2.1, (h.1 c).2.2.1, (h.1 c).2.2.2.1,
        (h.1 c).2.2.2.2.1, (h.1 c).2.2.2.2.2, h.2 c⟩)
      (θ_run_and (run_rest m g) (Cert.MixIdeal.Gen.unchanged m g))
  · refine (θ_run _ _ _).mono (fun _ h c => ⟨(h c).1.trans ?_, (h c).2.1.trans ?_, (h c).2.2.1.trans ?_,
        (h c).2.2.2.1.trans ?_, (h c).2.2.2.2.1.trans ?_, (h c).2.2.2.2.2.1.trans ?_, (h c).2.2.2.2.2.2⟩)
      (Cert.MixReferenceIdeal.Value.run (F := Ideal) m' g')
    · obtain ⟨e0, e1, e2⟩ := hag c
      rw [Cert.MixReferenceIdeal.Read.val_main_v23_eq, ref_mix0, e0, e1, e2]
    · obtain ⟨e0, e1, e2⟩ := hag c
      rw [Cert.MixReferenceIdeal.Read.val_main_v30_eq, ref_mix1, e0, e1, e2]
    · obtain ⟨e0, e1, e2⟩ := hag c
      rw [Cert.MixReferenceIdeal.Read.val_main_v37_eq, ref_mix2, e0, e1, e2]
    · obtain ⟨e0, e1, e2⟩ := hag c
      rw [Cert.MixReferenceIdeal.Read.val_main_v44_eq, ref_mix3, e0, e1, e2]
    · obtain ⟨e0, e1, e2⟩ := hag c
      rw [Cert.MixReferenceIdeal.Read.val_main_v51_eq, ref_mix4, e0, e1, e2]
    · obtain ⟨e0, e1, e2⟩ := hag c
      rw [Cert.MixReferenceIdeal.Read.val_main_v58_eq, ref_mix5, e0, e1, e2]

end Cert.TimeMix
-- ==== Proof.TimeProj.Spec.lean ====
module

public import Idealize.ShloMosaic.Lib.Pointwise

/-!
# The products of the time mixing layer, in plain terms
-/

@[expose] public section

noncomputable section

namespace Cert.TimeProj

open Idealize.ShloMosaic

/-- One entry of a row `x` against a column `w`. -/
def dot (x w : Fin 2048 → EReal) : EReal := ∑ k, x k * w k

/-- One entry of a row `x` sent through `n` columns `a`, the function `f` and a column `b`. -/
def lowRank {n : ℕ} (f : EReal → EReal) (x : Fin 2048 → EReal) (a : Fin 2048 → Fin n → EReal)
    (b : Fin n → EReal) : EReal :=
  ∑ j, f (∑ k, x k * a k j) * b j

/-- Columns past the ninety-sixth do not count where the second factor is zero there. -/
theorem lowRank_padded (f : EReal → EReal) (x : Fin 2048 → EReal) (a : Fin 2048 → Fin 128 → EReal)
    (b : Fin 128 → EReal) (a' : Fin 2048 → Fin 96 → EReal) (b' : Fin 96 → EReal)
    (ha : ∀ k (j : Fin 96), a k (Fin.castAdd 32 j) = a' k j)
    (hb : ∀ j : Fin 96, b (Fin.castAdd 32 j) = b' j) (h0 : ∀ j : Fin 32, b (Fin.natAdd 96 j) = 0) :
    lowRank f x a b = lowRank f x a' b' := by
  unfold lowRank
  rw [show (∑ j : Fin 128, f (∑ k, x k * a k j) * b j)
      = (∑ j : Fin 96, f (∑ k, x k * a k (Fin.castAdd 32 j)) * b (Fin.castAdd 32 j))
        + ∑ j : Fin 32, f (∑ k, x k * a k (Fin.natAdd 96 j)) * b (Fin.natAdd 96 j)
      from Fin.sum_univ_add (a := 96) (b := 32) fun j => f (∑ k, x k * a k j) * b j]
  simp only [ha, hb, h0, mul_zero, Finset.sum_const_zero, add_zero]

end Cert.TimeProj
-- ==== Proof.TimeProj.Region0.lean ====
module

public import proofs.«01_k».proof.Proof.Gen.ProjIdeal.Frame
public import proofs.«01_k».proof.Proof.TimeProj.Spec
public import Idealize.ShloMosaic.Lib.Pipeline.ValueKit
public import Idealize.ShloMosaic.Lib.Pipeline.Covers
public import Idealize.ShloMosaic.Lib.Pointwise

/-!
# The product for the receptance

The array its launch leaves, from the buffers it finds.
-/

@[expose] public section

set_option maxRecDepth 16384

noncomputable section

namespace Cert.TimeProj

open Cert.ProjIdeal Cert.ProjIdeal.Gen Idealize.ShloMosaic Idealize.ShloMosaic.TcCoe
open Idealize.SL.Sem

variable (V : (c : Dev nD) → (b : Ref sig .tc) → Buf (Elt Ideal) ((c : Thread nD τ).loc b))

theorem index0_0 : ∀ t : Fin cfg0.N, win0_0.index t
    = ![(grid0.coords t 0).val, 0] := by
  decide +kernel

theorem index0_1 : ∀ t : Fin cfg0.N, win0_1.index t
    = ![0, (grid0.coords t 1).val] := by
  decide +kernel

theorem index0_2 : ∀ t : Fin cfg0.N, win0_2.index t
    = ![(grid0.coords t 0).val, (grid0.coords t 1).val] := by
  decide +kernel

theorem coord0_0 (t : Fin cfg0.N) : (grid0.coords t 0).val < 16 := (grid0.coords t 0).isLt

theorem coord0_1 (t : Fin cfg0.N) : (grid0.coords t 1).val < 2 := (grid0.coords t 1).isLt

/-- The rows a grid point is given. -/
theorem rows0 (c : Dev nD) (t : Fin cfg0.N) (r : Fin 1024) (k : Fin 2048) :
    iblk0 V c 0 t (ix2 r k)
      = V c main_arg0 (ix2 ⟨(grid0.coords t 0).val * 1024 + r.val, by have := coord0_0 t; omega⟩ k) := by
  blk_ext! [iblk0, index0_0 t]

/-- The columns of weights a grid point is given. -/
theorem cols0 (c : Dev nD) (t : Fin cfg0.N) (k : Fin 2048) (d : Fin 1024) :
    iblk0 V c 1 t (ix2 k d)
      = V c main_v2 (ix2 k ⟨(grid0.coords t 1).val * 1024 + d.val, by have := coord0_1 t; omega⟩) := by
  blk_ext! [iblk0, index0_1 t]

/-- What the body computes of its blocks. -/
theorem out0 (h : Vec Ideal S1024x2048 .bf16) (w : Vec Ideal S2048x1024 .bf16)
    (r : Fin 1024) (d : Fin 1024) : out0_2 h w (ix2 r d)
      = dot (fun k => h (ix2 r k)) (fun k => w (ix2 k d)) := by
  unfold out0_2
  frame_out
  pointwise [k0_pay1]
  rfl

/-- The grid point that writes a block of the result. -/
def place0 (x : Fin 16) (y : Fin 2) : grid0.Coords := Fin.cons x (Fin.cons y fun a => a.elim0)

theorem place0_eq : ∀ (x : Fin 16) (y : Fin 2) (a : Fin 2),
    cc0_transform_2 (place0 x y) a = (![x.val, y.val] : Fin 2 → ℕ) a := by
  decide +kernel

/-- The product, as an array. -/
def dotArr0 (h : S16384x2048.Idx → EReal)
    (w : S2048x2048.Idx → EReal) : S16384x2048.Idx → EReal :=
  fun i => dot (fun k => h (ix2 (i 0) k)) (fun k => w (ix2 k (i 1)))

/-- The array the launch leaves. -/
theorem arr0 (c : Dev nD) :
    (dat0 V c).arrAt 2 cfg0.N = dotArr0 (V c main_arg0) (V c main_v2) := by
  refine (dat0 V c).arrAt_eq_of_covers 2 _ ?_ fun t hf y => ?_
  · exact (cfg0.win 2).covers_of_indexMap_surj rfl (by decide) fun β =>
      ⟨place0 (β 0) (β 1), fun a => (place0_eq (β 0) (β 1) a).trans
        (match a with | ⟨0, _⟩ => rfl | ⟨1, _⟩ => rfl)⟩
  · blk_simp
    rw [after0_2]
    obtain ⟨r, d, rfl⟩ : ∃ (r : Fin 1024) (d : Fin 1024), y = ix2 r d := ⟨y 0, y 1, eq_ix2 y⟩
    rw [out0]
    have e : (win0_2.blk t).view.emb (ix2 r d : S1024x1024.Idx)
        = (ix2 ⟨(grid0.coords t 0).val * 1024 + r.val, by have := coord0_0 t; omega⟩
            ⟨(grid0.coords t 1).val * 1024 + d.val, by have := coord0_1 t; omega⟩
            : S16384x2048.Idx) := by
      blk_ext [index0_2 t]
    rw [e]
    unfold dotArr0 dot
    exact Finset.sum_congr (M := EReal) rfl fun k _ => congrArg₂ (· * ·) (rows0 V c t r k) (cols0 V c t k d)

end Cert.TimeProj
-- ==== Proof.TimeProj.Region1.lean ====
module

public import proofs.«01_k».proof.Proof.Gen.ProjIdeal.Frame
public import proofs.«01_k».proof.Proof.TimeProj.Spec
public import Idealize.ShloMosaic.Lib.Pipeline.ValueKit
public import Idealize.ShloMosaic.Lib.Pipeline.Covers
public import Idealize.ShloMosaic.Lib.Pointwise

/-!
# The product for the keys

The array its launch leaves, from the buffers it finds.
-/

@[expose] public section

set_option maxRecDepth 16384

noncomputable section

namespace Cert.TimeProj

open Cert.ProjIdeal Cert.ProjIdeal.Gen Idealize.ShloMosaic Idealize.ShloMosaic.TcCoe
open Idealize.SL.Sem

variable (V : (c : Dev nD) → (b : Ref sig .tc) → Buf (Elt Ideal) ((c : Thread nD τ).loc b))

theorem index1_0 : ∀ t : Fin cfg1.N, win1_0.index t
    = ![(grid1.coords t 0).val, 0] := by
  decide +kernel

theorem index1_1 : ∀ t : Fin cfg1.N, win1_1.index t
    = ![0, (grid1.coords t 1).val] := by
  decide +kernel

theorem index1_2 : ∀ t : Fin cfg1.N, win1_2.index t
    = ![(grid1.coords t 0).val, (grid1.coords t 1).val] := by
  decide +kernel

theorem coord1_0 (t : Fin cfg1.N) : (grid1.coords t 0).val < 16 := (grid1.coords t 0).isLt

theorem coord1_1 (t : Fin cfg1.N) : (grid1.coords t 1).val < 2 := (grid1.coords t 1).isLt

/-- The rows a grid point is given. -/
theorem rows1 (c : Dev nD) (t : Fin cfg1.N) (r : Fin 1024) (k : Fin 2048) :
    iblk1 V c 0 t (ix2 r k)
      = V c main_arg1 (ix2 ⟨(grid1.coords t 0).val * 1024 + r.val, by have := coord1_0 t; omega⟩ k) := by
  blk_ext! [iblk1, index1_0 t]

/-- The columns of weights a grid point is given. -/
theorem cols1 (c : Dev nD) (t : Fin cfg1.N) (k : Fin 2048) (d : Fin 1024) :
    iblk1 V c 1 t (ix2 k d)
      = V c main_v6 (ix2 k ⟨(grid1.coords t 1).val * 1024 + d.val, by have := coord1_1 t; omega⟩) := by
  blk_ext! [iblk1, index1_1 t]

/-- What the body computes of its blocks. -/
theorem out1 (h : Vec Ideal S1024x2048 .bf16) (w : Vec Ideal S2048x1024 .bf16)
    (r : Fin 1024) (d : Fin 1024) : out1_2 h w (ix2 r d)
      = dot (fun k => h (ix2 r k)) (fun k => w (ix2 k d)) := by
  unfold out1_2
  frame_out
  pointwise [k1_pay1]
  rfl

/-- The grid point that writes a block of the result. -/
def place1 (x : Fin 16) (y : Fin 2) : grid1.Coords := Fin.cons x (Fin.cons y fun a => a.elim0)

theorem place1_eq : ∀ (x : Fin 16) (y : Fin 2) (a : Fin 2),
    cc1_transform_2 (place1 x y) a = (![x.val, y.val] : Fin 2 → ℕ) a := by
  decide +kernel

/-- The product, as an array. -/
def dotArr1 (h : S16384x2048.Idx → EReal)
    (w : S2048x2048.Idx → EReal) : S16384x2048.Idx → EReal :=
  fun i => dot (fun k => h (ix2 (i 0) k)) (fun k => w (ix2 k (i 1)))

/-- The array the launch leaves. -/
theorem arr1 (c : Dev nD) :
    (dat1 V c).arrAt 2 cfg1.N = dotArr1 (V c main_arg1) (V c main_v6) := by
  refine (dat1 V c).arrAt_eq_of_covers 2 _ ?_ fun t hf y => ?_
  · exact (cfg1.win 2).covers_of_indexMap_surj rfl (by decide) fun β =>
      ⟨place1 (β 0) (β 1), fun a => (place1_eq (β 0) (β 1) a).trans
        (match a with | ⟨0, _⟩ => rfl | ⟨1, _⟩ => rfl)⟩
  · blk_simp
    rw [after1_2]
    obtain ⟨r, d, rfl⟩ : ∃ (r : Fin 1024) (d : Fin 1024), y = ix2 r d := ⟨y 0, y 1, eq_ix2 y⟩
    rw [out1]
    have e : (win1_2.blk t).view.emb (ix2 r d : S1024x1024.Idx)
        = (ix2 ⟨(grid1.coords t 0).val * 1024 + r.val, by have := coord1_0 t; omega⟩
            ⟨(grid1.coords t 1).val * 1024 + d.val, by have := coord1_1 t; omega⟩
            : S16384x2048.Idx) := by
      blk_ext [index1_2 t]
    rw [e]
    unfold dotArr1 dot
    exact Finset.sum_congr (M := EReal) rfl fun k _ => congrArg₂ (· * ·) (rows1 V c t r k) (cols1 V c t k d)

end Cert.TimeProj
-- ==== Proof.TimeProj.Region2.lean ====
module

public import proofs.«01_k».proof.Proof.Gen.ProjIdeal.Frame
public import proofs.«01_k».proof.Proof.TimeProj.Spec
public import Idealize.ShloMosaic.Lib.Pipeline.ValueKit
public import Idealize.ShloMosaic.Lib.Pipeline.Covers
public import Idealize.ShloMosaic.Lib.Pointwise

/-!
# The product for the values

The array its launch leaves, from the buffers it finds.
-/

@[expose] public section

set_option maxRecDepth 16384

noncomputable section

namespace Cert.TimeProj

open Cert.ProjIdeal Cert.ProjIdeal.Gen Idealize.ShloMosaic Idealize.ShloMosaic.TcCoe
open Idealize.SL.Sem

variable (V : (c : Dev nD) → (b : Ref sig .tc) → Buf (Elt Ideal) ((c : Thread nD τ).loc b))

theorem index2_0 : ∀ t : Fin cfg2.N, win2_0.index t
    = ![(grid2.coords t 0).val, 0] := by
  decide +kernel

theorem index2_1 : ∀ t : Fin cfg2.N, win2_1.index t
    = ![0, (grid2.coords t 1).val] := by
  decide +kernel

theorem index2_2 : ∀ t : Fin cfg2.N, win2_2.index t
    = ![(grid2.coords t 0).val, (grid2.coords t 1).val] := by
  decide +kernel

theorem coord2_0 (t : Fin cfg2.N) : (grid2.coords t 0).val < 16 := (grid2.coords t 0).isLt

theorem coord2_1 (t : Fin cfg2.N) : (grid2.coords t 1).val < 2 := (grid2.coords t 1).isLt

/-- The rows a grid point is given. -/
theorem rows2 (c : Dev nD) (t : Fin cfg2.N) (r : Fin 1024) (k : Fin 2048) :
    iblk2 V c 0 t (ix2 r k)
      = V c main_arg2 (ix2 ⟨(grid2.coords t 0).val * 1024 + r.val, by have := coord2_0 t; omega⟩ k) := by
  blk_ext! [iblk2, index2_0 t]

/-- The columns of weights a grid point is given. -/
theorem cols2 (c : Dev nD) (t : Fin cfg2.N) (k : Fin 2048) (d : Fin 1024) :
    iblk2 V c 1 t (ix2 k d)
      = V c main_v10 (ix2 k ⟨(grid2.coords t 1).val * 1024 + d.val, by have := coord2_1 t; omega⟩) := by
  blk_ext! [iblk2, index2_1 t]

/-- What the body computes of its blocks. -/
theorem out2 (h : Vec Ideal S1024x2048 .bf16) (w : Vec Ideal S2048x1024 .bf16)
    (r : Fin 1024) (d : Fin 1024) : out2_2 h w (ix2 r d)
      = dot (fun k => h (ix2 r k)) (fun k => w (ix2 k d)) := by
  unfold out2_2
  frame_out
  pointwise [k2_pay1]
  rfl

/-- The grid point that writes a block of the result. -/
def place2 (x : Fin 16) (y : Fin 2) : grid2.Coords := Fin.cons x (Fin.cons y fun a => a.elim0)

theorem place2_eq : ∀ (x : Fin 16) (y : Fin 2) (a : Fin 2),
    cc2_transform_2 (place2 x y) a = (![x.val, y.val] : Fin 2 → ℕ) a := by
  decide +kernel

/-- The product, as an array. -/
def dotArr2 (h : S16384x2048.Idx → EReal)
    (w : S2048x2048.Idx → EReal) : S16384x2048.Idx → EReal :=
  fun i => dot (fun k => h (ix2 (i 0) k)) (fun k => w (ix2 k (i 1)))

/-- The array the launch leaves. -/
theorem arr2 (c : Dev nD) :
    (dat2 V c).arrAt 2 cfg2.N = dotArr2 (V c main_arg2) (V c main_v10) := by
  refine (dat2 V c).arrAt_eq_of_covers 2 _ ?_ fun t hf y => ?_
  · exact (cfg2.win 2).covers_of_indexMap_surj rfl (by decide) fun β =>
      ⟨place2 (β 0) (β 1), fun a => (place2_eq (β 0) (β 1) a).trans
        (match a with | ⟨0, _⟩ => rfl | ⟨1, _⟩ => rfl)⟩
  · blk_simp
    rw [after2_2]
    obtain ⟨r, d, rfl⟩ : ∃ (r : Fin 1024) (d : Fin 1024), y = ix2 r d := ⟨y 0, y 1, eq_ix2 y⟩
    rw [out2]
    have e : (win2_2.blk t).view.emb (ix2 r d : S1024x1024.Idx)
        = (ix2 ⟨(grid2.coords t 0).val * 1024 + r.val, by have := coord2_0 t; omega⟩
            ⟨(grid2.coords t 1).val * 1024 + d.val, by have := coord2_1 t; omega⟩
            : S16384x2048.Idx) := by
      blk_ext [index2_2 t]
    rw [e]
    unfold dotArr2 dot
    exact Finset.sum_congr (M := EReal) rfl fun k _ => congrArg₂ (· * ·) (rows2 V c t r k) (cols2 V c t k d)

end Cert.TimeProj
-- ==== Proof.TimeProj.Region3.lean ====
module

public import proofs.«01_k».proof.Proof.Gen.ProjIdeal.Frame
public import proofs.«01_k».proof.Proof.TimeProj.Spec
public import Idealize.ShloMosaic.Lib.Pipeline.ValueKit
public import Idealize.ShloMosaic.Lib.Pipeline.Covers
public import Idealize.ShloMosaic.Lib.Pointwise

/-!
# The low-rank product for the decay

The array its launch leaves, from the buffers it finds.
-/

@[expose] public section

set_option maxRecDepth 16384

noncomputable section

namespace Cert.TimeProj

open Cert.ProjIdeal Cert.ProjIdeal.Gen Idealize.ShloMosaic Idealize.ShloMosaic.TcCoe
open Idealize.SL.Sem

variable (V : (c : Dev nD) → (b : Ref sig .tc) → Buf (Elt Ideal) ((c : Thread nD τ).loc b))

theorem index3_0 : ∀ t : Fin cfg3.N, win3_0.index t
    = ![(grid3.coords t 0).val, 0] := by
  decide +kernel

theorem index3_1 : ∀ t : Fin cfg3.N, win3_1.index t = ![0, 0] := by
  decide +kernel

theorem index3_2 : ∀ t : Fin cfg3.N, win3_2.index t = ![0, 0] := by
  decide +kernel

theorem index3_3 : ∀ t : Fin cfg3.N, win3_3.index t
    = ![(grid3.coords t 0).val, 0] := by
  decide +kernel

theorem coord3_0 (t : Fin cfg3.N) : (grid3.coords t 0).val < 16 := (grid3.coords t 0).isLt

/-- The rows a grid point is given. -/
theorem rows3 (c : Dev nD) (t : Fin cfg3.N) (r : Fin 1024) (k : Fin 2048) :
    iblk3 V c 0 t (ix2 r k)
      = V c main_arg3 (ix2 ⟨(grid3.coords t 0).val * 1024 + r.val, by have := coord3_0 t; omega⟩ k) := by
  blk_ext! [iblk3, index3_0 t]

/-- The first factor of weights a grid point is given. -/
theorem down3 (c : Dev nD) (t : Fin cfg3.N) (k : Fin 2048) (j : Fin 128) :
    iblk3 V c 1 t (ix2 k j) = V c main_v14 (ix2 k j) := by
  blk_ext! [iblk3, index3_1 t]

/-- The second factor of weights a grid point is given. -/
theorem up3 (c : Dev nD) (t : Fin cfg3.N) (j : Fin 128) (d : Fin 2048) :
    iblk3 V c 2 t (ix2 j d) = V c main_v15 (ix2 j d) := by
  blk_ext! [iblk3, index3_2 t]

/-- What the body computes of its blocks. -/
theorem out3 (h : Vec Ideal S1024x2048 .bf16) (a : Vec Ideal S2048x128 .bf16) (b : Vec Ideal S128x2048 .bf16)
    (r : Fin 1024) (d : Fin 2048) : out3_3 h a b (ix2 r d)
      = lowRank Ideal.tanh (fun k => h (ix2 r k)) (fun k j => a (ix2 k j)) (fun j => b (ix2 j d)) := by
  unfold out3_3
  frame_out
  pointwise [k3_pay1]
  rfl

/-- The grid point that writes a block of the result. -/
def place3 (x : Fin 16) : grid3.Coords := Fin.cons x fun a => a.elim0

theorem place3_eq : ∀ (x : Fin 16) (a : Fin 2),
    cc3_transform_3 (place3 x) a = (![x.val, 0] : Fin 2 → ℕ) a := by
  decide +kernel

/-- The low-rank product, as an array. -/
def lowArr3 (h : S16384x2048.Idx → EReal) (a : S2048x128.Idx → EReal)
    (b : S128x2048.Idx → EReal) : S16384x2048.Idx → EReal :=
  fun i => lowRank Ideal.tanh (fun k => h (ix2 (i 0) k)) (fun k j => a (ix2 k j)) (fun j => b (ix2 j (i 1)))

/-- The array the launch leaves. -/
theorem arr3 (c : Dev nD) :
    (dat3 V c).arrAt 3 cfg3.N = lowArr3 (V c main_arg3) (V c main_v14) (V c main_v15) := by
  refine (dat3 V c).arrAt_eq_of_covers 3 _ ?_ fun t hf y => ?_
  · exact (cfg3.win 3).covers_of_indexMap_surj rfl (by decide) fun β =>
      ⟨place3 (β 0), fun a => (place3_eq (β 0) a).trans
        (match a with
          | ⟨0, _⟩ => rfl
          | ⟨1, _⟩ => (Nat.lt_one_iff.mp (β 1).isLt).symm)⟩
  · blk_simp
    rw [after3_3]
    obtain ⟨r, d, rfl⟩ : ∃ (r : Fin 1024) (d : Fin 2048), y = ix2 r d := ⟨y 0, y 1, eq_ix2 y⟩
    rw [out3]
    have e : (win3_3.blk t).view.emb (ix2 r d : S1024x2048.Idx)
        = (ix2 ⟨(grid3.coords t 0).val * 1024 + r.val, by have := coord3_0 t; omega⟩ d
            : S16384x2048.Idx) := by
      blk_ext [index3_3 t]
    rw [e]
    unfold lowArr3
    congr 1 <;> funext k
    · exact rows3 V c t r k
    · funext j
      exact down3 V c t k j
    · exact up3 V c t k d

end Cert.TimeProj
-- ==== Proof.TimeProj.Region4.lean ====
module

public import proofs.«01_k».proof.Proof.Gen.ProjIdeal.Frame
public import proofs.«01_k».proof.Proof.TimeProj.Spec
public import Idealize.ShloMosaic.Lib.Pipeline.ValueKit
public import Idealize.ShloMosaic.Lib.Pipeline.Covers
public import Idealize.ShloMosaic.Lib.Pointwise

/-!
# The low-rank product for the in-context learning rate

The array its launch leaves, from the buffers it finds.
-/

@[expose] public section

set_option maxRecDepth 16384

noncomputable section

namespace Cert.TimeProj

open Cert.ProjIdeal Cert.ProjIdeal.Gen Idealize.ShloMosaic Idealize.ShloMosaic.TcCoe
open Idealize.SL.Sem

variable (V : (c : Dev nD) → (b : Ref sig .tc) → Buf (Elt Ideal) ((c : Thread nD τ).loc b))

theorem index4_0 : ∀ t : Fin cfg4.N, win4_0.index t
    = ![(grid4.coords t 0).val, 0] := by
  decide +kernel

theorem index4_1 : ∀ t : Fin cfg4.N, win4_1.index t = ![0, 0] := by
  decide +kernel

theorem index4_2 : ∀ t : Fin cfg4.N, win4_2.index t = ![0, 0] := by
  decide +kernel

theorem index4_3 : ∀ t : Fin cfg4.N, win4_3.index t
    = ![(grid4.coords t 0).val, 0] := by
  decide +kernel

theorem coord4_0 (t : Fin cfg4.N) : (grid4.coords t 0).val < 16 := (grid4.coords t 0).isLt

/-- The rows a grid point is given. -/
theorem rows4 (c : Dev nD) (t : Fin cfg4.N) (r : Fin 1024) (k : Fin 2048) :
    iblk4 V c 0 t (ix2 r k)
      = V c main_arg4 (ix2 ⟨(grid4.coords t 0).val * 1024 + r.val, by have := coord4_0 t; omega⟩ k) := by
  blk_ext! [iblk4, index4_0 t]

/-- The first factor of weights a grid point is given. -/
theorem down4 (c : Dev nD) (t : Fin cfg4.N) (k : Fin 2048) (j : Fin 128) :
    iblk4 V c 1 t (ix2 k j) = V c main_v19 (ix2 k j) := by
  blk_ext! [iblk4, index4_1 t]

/-- The second factor of weights a grid point is given. -/
theorem up4 (c : Dev nD) (t : Fin cfg4.N) (j : Fin 128) (d : Fin 2048) :
    iblk4 V c 2 t (ix2 j d) = V c main_v20 (ix2 j d) := by
  blk_ext! [iblk4, index4_2 t]

/-- What the body computes of its blocks. -/
theorem out4 (h : Vec Ideal S1024x2048 .bf16) (a : Vec Ideal S2048x128 .bf16) (b : Vec Ideal S128x2048 .bf16)
    (r : Fin 1024) (d : Fin 2048) : out4_3 h a b (ix2 r d)
      = lowRank (fun z => z) (fun k => h (ix2 r k)) (fun k j => a (ix2 k j)) (fun j => b (ix2 j d)) := by
  unfold out4_3
  frame_out
  pointwise [k4_pay1]
  rfl

/-- The grid point that writes a block of the result. -/
def place4 (x : Fin 16) : grid4.Coords := Fin.cons x fun a => a.elim0

theorem place4_eq : ∀ (x : Fin 16) (a : Fin 2),
    cc4_transform_3 (place4 x) a = (![x.val, 0] : Fin 2 → ℕ) a := by
  decide +kernel

/-- The low-rank product, as an array. -/
def lowArr4 (h : S16384x2048.Idx → EReal) (a : S2048x128.Idx → EReal)
    (b : S128x2048.Idx → EReal) : S16384x2048.Idx → EReal :=
  fun i => lowRank (fun z => z) (fun k => h (ix2 (i 0) k)) (fun k j => a (ix2 k j)) (fun j => b (ix2 j (i 1)))

/-- The array the launch leaves. -/
theorem arr4 (c : Dev nD) :
    (dat4 V c).arrAt 3 cfg4.N = lowArr4 (V c main_arg4) (V c main_v19) (V c main_v20) := by
  refine (dat4 V c).arrAt_eq_of_covers 3 _ ?_ fun t hf y => ?_
  · exact (cfg4.win 3).covers_of_indexMap_surj rfl (by decide) fun β =>
      ⟨place4 (β 0), fun a => (place4_eq (β 0) a).trans
        (match a with
          | ⟨0, _⟩ => rfl
          | ⟨1, _⟩ => (Nat.lt_one_iff.mp (β 1).isLt).symm)⟩
  · blk_simp
    rw [after4_3]
    obtain ⟨r, d, rfl⟩ : ∃ (r : Fin 1024) (d : Fin 2048), y = ix2 r d := ⟨y 0, y 1, eq_ix2 y⟩
    rw [out4]
    have e : (win4_3.blk t).view.emb (ix2 r d : S1024x2048.Idx)
        = (ix2 ⟨(grid4.coords t 0).val * 1024 + r.val, by have := coord4_0 t; omega⟩ d
            : S16384x2048.Idx) := by
      blk_ext [index4_3 t]
    rw [e]
    unfold lowArr4
    congr 1 <;> funext k
    · exact rows4 V c t r k
    · funext j
      exact down4 V c t k j
    · exact up4 V c t k d

end Cert.TimeProj
-- ==== Proof.TimeProj.Region5.lean ====
module

public import proofs.«01_k».proof.Proof.Gen.ProjIdeal.Frame
public import proofs.«01_k».proof.Proof.TimeProj.Spec
public import Idealize.ShloMosaic.Lib.Pipeline.ValueKit
public import Idealize.ShloMosaic.Lib.Pipeline.Covers
public import Idealize.ShloMosaic.Lib.Pointwise

/-!
# The low-rank product for the output gate

The array its launch leaves, from the buffers it finds.
-/

@[expose] public section

set_option maxRecDepth 16384

noncomputable section

namespace Cert.TimeProj

open Cert.ProjIdeal Cert.ProjIdeal.Gen Idealize.ShloMosaic Idealize.ShloMosaic.TcCoe
open Idealize.SL.Sem

variable (V : (c : Dev nD) → (b : Ref sig .tc) → Buf (Elt Ideal) ((c : Thread nD τ).loc b))

theorem index5_0 : ∀ t : Fin cfg5.N, win5_0.index t
    = ![(grid5.coords t 0).val, 0] := by
  decide +kernel

theorem index5_1 : ∀ t : Fin cfg5.N, win5_1.index t = ![0, 0] := by
  decide +kernel

theorem index5_2 : ∀ t : Fin cfg5.N, win5_2.index t = ![0, 0] := by
  decide +kernel

theorem index5_3 : ∀ t : Fin cfg5.N, win5_3.index t
    = ![(grid5.coords t 0).val, 0] := by
  decide +kernel

theorem coord5_0 (t : Fin cfg5.N) : (grid5.coords t 0).val < 16 := (grid5.coords t 0).isLt

/-- The rows a grid point is given. -/
theorem rows5 (c : Dev nD) (t : Fin cfg5.N) (r : Fin 1024) (k : Fin 2048) :
    iblk5 V c 0 t (ix2 r k)
      = V c main_arg5 (ix2 ⟨(grid5.coords t 0).val * 1024 + r.val, by have := coord5_0 t; omega⟩ k) := by
  blk_ext! [iblk5, index5_0 t]

/-- The first factor of weights a grid point is given. -/
theorem down5 (c : Dev nD) (t : Fin cfg5.N) (k : Fin 2048) (j : Fin 256) :
    iblk5 V c 1 t (ix2 k j) = V c main_v24 (ix2 k j) := by
  blk_ext! [iblk5, index5_1 t]

/-- The second factor of weights a grid point is given. -/
theorem up5 (c : Dev nD) (t : Fin cfg5.N) (j : Fin 256) (d : Fin 2048) :
    iblk5 V c 2 t (ix2 j d) = V c main_v25 (ix2 j d) := by
  blk_ext! [iblk5, index5_2 t]

/-- What the body computes of its blocks. -/
theorem out5 (h : Vec Ideal S1024x2048 .bf16) (a : Vec Ideal S2048x256 .bf16) (b : Vec Ideal S256x2048 .bf16)
    (r : Fin 1024) (d : Fin 2048) : out5_3 h a b (ix2 r d)
      = lowRank Ideal.logistic (fun k => h (ix2 r k)) (fun k j => a (ix2 k j)) (fun j => b (ix2 j d)) := by
  unfold out5_3
  frame_out
  pointwise [k5_pay1]
  rfl

/-- The grid point that writes a block of the result. -/
def place5 (x : Fin 16) : grid5.Coords := Fin.cons x fun a => a.elim0

theorem place5_eq : ∀ (x : Fin 16) (a : Fin 2),
    cc5_transform_3 (place5 x) a = (![x.val, 0] : Fin 2 → ℕ) a := by
  decide +kernel

/-- The low-rank product, as an array. -/
def lowArr5 (h : S16384x2048.Idx → EReal) (a : S2048x256.Idx → EReal)
    (b : S256x2048.Idx → EReal) : S16384x2048.Idx → EReal :=
  fun i => lowRank Ideal.logistic (fun k => h (ix2 (i 0) k)) (fun k j => a (ix2 k j)) (fun j => b (ix2 j (i 1)))

/-- The array the launch leaves. -/
theorem arr5 (c : Dev nD) :
    (dat5 V c).arrAt 3 cfg5.N = lowArr5 (V c main_arg5) (V c main_v24) (V c main_v25) := by
  refine (dat5 V c).arrAt_eq_of_covers 3 _ ?_ fun t hf y => ?_
  · exact (cfg5.win 3).covers_of_indexMap_surj rfl (by decide) fun β =>
      ⟨place5 (β 0), fun a => (place5_eq (β 0) a).trans
        (match a with
          | ⟨0, _⟩ => rfl
          | ⟨1, _⟩ => (Nat.lt_one_iff.mp (β 1).isLt).symm)⟩
  · blk_simp
    rw [after5_3]
    obtain ⟨r, d, rfl⟩ : ∃ (r : Fin 1024) (d : Fin 2048), y = ix2 r d := ⟨y 0, y 1, eq_ix2 y⟩
    rw [out5]
    have e : (win5_3.blk t).view.emb (ix2 r d : S1024x2048.Idx)
        = (ix2 ⟨(grid5.coords t 0).val * 1024 + r.val, by have := coord5_0 t; omega⟩ d
            : S16384x2048.Idx) := by
      blk_ext [index5_3 t]
    rw [e]
    unfold lowArr5
    congr 1 <;> funext k
    · exact rows5 V c t r k
    · funext j
      exact down5 V c t k j
    · exact up5 V c t k d

end Cert.TimeProj
-- ==== Proof.TimeProj.Run.lean ====
module

public import proofs.«01_k».proof.Proof.TimeProj.Region0
public import proofs.«01_k».proof.Proof.TimeProj.Region1
public import proofs.«01_k».proof.Proof.TimeProj.Region2
public import proofs.«01_k».proof.Proof.TimeProj.Region3
public import proofs.«01_k».proof.Proof.TimeProj.Region4
public import proofs.«01_k».proof.Proof.TimeProj.Region5
public import Idealize.ShloMosaic.Lib.StableHlo.Run
public import Idealize.ShloMosaic.Lib.KernelVsHost

/-!
# The run of the time mixing layer's products

What the run leaves in the six results.
-/

@[expose] public section

set_option maxRecDepth 16384

noncomputable section

namespace Cert.TimeProj

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every buffer the program names ends at the contents the last segment leaves. -/
theorem run_all : θ_run (Val := Elt Ideal) defs (onTc (τ := τ) (main (F := Ideal))) ⟨m, fun _ => 0, ρ⟩
    (fun r => ∀ c : Dev nD, ∀ b ∈ Pipeline.ucRefs τ sig,
      r.2.mem (((c : Thread nD τ)).1, b) = W21 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h hz => h)

/-- The product of the rows `x` with the matrix `o` of the stack `w`. -/
def stackArr (o : Fin 3) (x : S16384x2048.Idx → EReal) (w : S3x2048x2048.Idx → EReal) :
    S16384x2048.Idx → EReal :=
  fun i => dot (fun k => x (ix2 (i 0) k)) (fun k => w (ix3 o k (i 1)))

/-- The low-rank product of the rows `x` with the factors `a` and `b` of rank ninety-six. -/
def low96Arr (f : EReal → EReal) (x : S16384x2048.Idx → EReal) (a : S2048x96.Idx → EReal)
    (b : S96x2048.Idx → EReal) : S16384x2048.Idx → EReal :=
  fun i => lowRank f (fun k => x (ix2 (i 0) k)) (fun k j => a (ix2 k j)) (fun j => b (ix2 j (i 1)))

/-- A number of columns added to the right: a kept column. -/
theorem padRight_inside (x : S2048x96.Idx → EReal) (v : S_.Idx → EReal) (k : Fin 2048) (j : Fin 96) :
    pad S2048x128 ![0, 0] ![0, 32] ![0, 0] x v pads_S2048x96_S2048x128_000_0320 h_S_
      (ix2 k (Fin.castAdd 32 j)) = x (ix2 k j) :=
  pad_apply_of_inside (s := S2048x96) (t := S2048x128) ![0, 0] ![0, 32] ![0, 0] x v
    pads_S2048x96_S2048x128_000_0320 h_S_ (ix2 k (Fin.castAdd 32 j)) (ix2 k j) fun a => match a with
    | ⟨0, _⟩ => by show k.val = 0 + k.val * 1; omega
    | ⟨1, _⟩ => by show j.val = 0 + j.val * 1; omega

/-- A number of rows added below: a kept row. -/
theorem padBelow_inside (x : S96x2048.Idx → EReal) (v : S_.Idx → EReal) (j : Fin 96) (d : Fin 2048) :
    pad S128x2048 ![0, 0] ![32, 0] ![0, 0] x v pads_S96x2048_S128x2048_0320_000 h_S_
      (ix2 (Fin.castAdd 32 j) d) = x (ix2 j d) :=
  pad_apply_of_inside (s := S96x2048) (t := S128x2048) ![0, 0] ![32, 0] ![0, 0] x v
    pads_S96x2048_S128x2048_0320_000 h_S_ (ix2 (Fin.castAdd 32 j) d) (ix2 j d) fun a => match a with
    | ⟨0, _⟩ => by show j.val = 0 + j.val * 1; omega
    | ⟨1, _⟩ => by show d.val = 0 + d.val * 1; omega

/-- A number of rows added below: an added row. -/
theorem padBelow_outside (x : S96x2048.Idx → EReal) (v : S_.Idx → EReal) (j : Fin 32) (d : Fin 2048) :
    pad S128x2048 ![0, 0] ![32, 0] ![0, 0] x v pads_S96x2048_S128x2048_0320_000 h_S_
      (ix2 (Fin.natAdd 96 j) d) = v (Shape.Idx.first h_S_) :=
  pad_apply_of_not_inside (s := S96x2048) (t := S128x2048) ![0, 0] ![32, 0] ![0, 0] x v
    pads_S96x2048_S128x2048_0320_000 h_S_ (ix2 (Fin.natAdd 96 j) d) 0 fun h => by
      have h2 : (96 + j.val - 0) / (0 + 1) < 96 := h.2.2
      omega

/-- Nothing added to the first factor of the gate. -/
theorem padNone_down (x : S2048x256.Idx → EReal) (v : S_.Idx → EReal) (k : Fin 2048) (j : Fin 256) :
    pad S2048x256 ![0, 0] ![0, 0] ![0, 0] x v pads_S2048x256_S2048x256_000_000 h_S_ (ix2 k j) = x (ix2 k j) :=
  pad_apply_of_inside (s := S2048x256) (t := S2048x256) ![0, 0] ![0, 0] ![0, 0] x v
    pads_S2048x256_S2048x256_000_000 h_S_ (ix2 k j) (ix2 k j) fun a => match a with
    | ⟨0, _⟩ => by show k.val = 0 + k.val * 1; omega
    | ⟨1, _⟩ => by show j.val = 0 + j.val * 1; omega

/-- Nothing added to the second factor of the gate. -/
theorem padNone_up (x : S256x2048.Idx → EReal) (v : S_.Idx → EReal) (j : Fin 256) (d : Fin 2048) :
    pad S256x2048 ![0, 0] ![0, 0] ![0, 0] x v pads_S256x2048_S256x2048_000_000 h_S_ (ix2 j d) = x (ix2 j d) :=
  pad_apply_of_inside (s := S256x2048) (t := S256x2048) ![0, 0] ![0, 0] ![0, 0] x v
    pads_S256x2048_S256x2048_000_000 h_S_ (ix2 j d) (ix2 j d) fun a => match a with
    | ⟨0, _⟩ => by show j.val = 0 + j.val * 1; omega
    | ⟨1, _⟩ => by show d.val = 0 + d.val * 1; omega

/-- The weights of the receptance product. -/
theorem weights0 (c : Dev nD) (k d : Fin 2048) :
    V1 m ρ c main_v2 (ix2 k d) = m (c.tc.loc main_arg12) (ix3 (0 : Fin 3) k d) := by
  show StableHlo.after hostOps0 (W0 m ρ c) (Proc.devRef .tc main_v2) (ix2 k d) = _
  unfold hostOps0
  after_results
  pointwise []

/-- The weights of the key product. -/
theorem weights1 (c : Dev nD) (k d : Fin 2048) :
    V3 m ρ c main_v6 (ix2 k d) = m (c.tc.loc main_arg12) (ix3 (1 : Fin 3) k d) := by
  rw [← W2_args m ρ c main_arg12 (by decide)]
  show StableHlo.after hostOps1 (W2 m ρ c) (Proc.devRef .tc main_v6) (ix2 k d) = _
  unfold hostOps1
  after_results
  pointwise []

/-- The weights of the value product. -/
theorem weights2 (c : Dev nD) (k d : Fin 2048) :
    V5 m ρ c main_v10 (ix2 k d) = m (c.tc.loc main_arg12) (ix3 (2 : Fin 3) k d) := by
  rw [← W4_args m ρ c main_arg12 (by decide)]
  show StableHlo.after hostOps2 (W4 m ρ c) (Proc.devRef .tc main_v10) (ix2 k d) = _
  unfold hostOps2
  after_results
  pointwise []

/-- The first factor of region 3, before it is padded. -/
theorem downCast3 (c : Dev nD) : (W7 m ρ c (Proc.devRef .tc main_v12) : S2048x96.Idx → EReal)
    = m (c.tc.loc main_arg6) := by
  rw [← W6_args m ρ c main_arg6 (by decide)]
  show StableHlo.after hostOps3 (W6 m ρ c) (Proc.devRef .tc main_v12) = _
  unfold hostOps3
  after_results
  rfl

/-- The second factor of region 3, before it is padded. -/
theorem upCast3 (c : Dev nD) : (W9 m ρ c (Proc.devRef .tc main_v13) : S96x2048.Idx → EReal)
    = m (c.tc.loc main_arg7) := by
  rw [← W6_args m ρ c main_arg7 (by decide), W9_of m ρ c main_v13 (by decide), W8_of m ρ c main_v13 (by decide)]
  show StableHlo.after hostOps3 (W6 m ρ c) (Proc.devRef .tc main_v13) = _
  unfold hostOps3
  after_results
  rfl

/-- The first factor as region 3 finds it. -/
theorem down_at3 (c : Dev nD) (k : Fin 2048) (j : Fin 96) :
    V10 m ρ c main_v14 (ix2 k (Fin.castAdd 32 j)) = m (c.tc.loc main_arg6) (ix2 k j) := by
  rw [← downCast3 m ρ c]
  show W10 m ρ c (Proc.devRef .tc main_v14) (ix2 k (Fin.castAdd 32 j)) = _
  rw [W10_of m ρ c main_v14 (by decide), W9_of m ρ c main_v14 (by decide)]
  show StableHlo.after hostOps3_1 (W7 m ρ c) (Proc.devRef .tc main_v14) (ix2 k (Fin.castAdd 32 j)) = _
  generalize W7 m ρ c = W
  unfold hostOps3_1
  after_results
  exact padRight_inside _ _ k j

/-- The second factor as region 3 finds it. -/
theorem up_at3 (c : Dev nD) (j : Fin 96) (d : Fin 2048) :
    V10 m ρ c main_v15 (ix2 (Fin.castAdd 32 j) d) = m (c.tc.loc main_arg7) (ix2 j d) := by
  rw [← upCast3 m ρ c]
  show StableHlo.after hostOps3_3 (W9 m ρ c) (Proc.devRef .tc main_v15) (ix2 (Fin.castAdd 32 j) d) = _
  generalize W9 m ρ c = W
  unfold hostOps3_3
  after_results
  exact padBelow_inside _ _ j d

/-- The rows added to the second factor of region 3 are zero. -/
theorem up_zero3 (c : Dev nD) (j : Fin 32) (d : Fin 2048) :
    V10 m ρ c main_v15 (ix2 (Fin.natAdd 96 j) d) = (0 : EReal) := by
  have hc : W9 m ρ c (Proc.devRef .tc main_c_0) = constantI S_ 32 0#32 := by
    show StableHlo.after hostOps3_2 (W8 m ρ c) (Proc.devRef .tc main_c_0) = _
    unfold hostOps3_2
    after_results
  show StableHlo.after hostOps3_3 (W9 m ρ c) (Proc.devRef .tc main_v15) (ix2 (Fin.natAdd 96 j) d) = _
  generalize W9 m ρ c = W at hc ⊢
  unfold hostOps3_3
  after_results
  refine (padBelow_outside _ _ j d).trans ?_
  rw [hc]
  show ((((0#32 : BitVec 32).toInt : ℤ) : ℝ) : EReal) = 0
  simp

/-- The first factor of region 4, before it is padded. -/
theorem downCast4 (c : Dev nD) : (W12 m ρ c (Proc.devRef .tc main_v17) : S2048x96.Idx → EReal)
    = m (c.tc.loc main_arg8) := by
  rw [← W11_args m ρ c main_arg8 (by decide)]
  show StableHlo.after hostOps4 (W11 m ρ c) (Proc.devRef .tc main_v17) = _
  unfold hostOps4
  after_results
  rfl

/-- The second factor of region 4, before it is padded. -/
theorem upCast4 (c : Dev nD) : (W14 m ρ c (Proc.devRef .tc main_v18) : S96x2048.Idx → EReal)
    = m (c.tc.loc main_arg9) := by
  rw [← W11_args m ρ c main_arg9 (by decide), W14_of m ρ c main_v18 (by decide), W13_of m ρ c main_v18 (by decide)]
  show StableHlo.after hostOps4 (W11 m ρ c) (Proc.devRef .tc main_v18) = _
  unfold hostOps4
  after_results
  rfl

/-- The first factor as region 4 finds it. -/
theorem down_at4 (c : Dev nD) (k : Fin 2048) (j : Fin 96) :
    V15 m ρ c main_v19 (ix2 k (Fin.castAdd 32 j)) = m (c.tc.loc main_arg8) (ix2 k j) := by
  rw [← downCast4 m ρ c]
  show W15 m ρ c (Proc.devRef .tc main_v19) (ix2 k (Fin.castAdd 32 j)) = _
  rw [W15_of m ρ c main_v19 (by decide), W14_of m ρ c main_v19 (by decide)]
  show StableHlo.after hostOps4_1 (W12 m ρ c) (Proc.devRef .tc main_v19) (ix2 k (Fin.castAdd 32 j)) = _
  generalize W12 m ρ c = W
  unfold hostOps4_1
  after_results
  exact padRight_inside _ _ k j

/-- The second factor as region 4 finds it. -/
theorem up_at4 (c : Dev nD) (j : Fin 96) (d : Fin 2048) :
    V15 m ρ c main_v20 (ix2 (Fin.castAdd 32 j) d) = m (c.tc.loc main_arg9) (ix2 j d) := by
  rw [← upCast4 m ρ c]
  show StableHlo.after hostOps4_3 (W14 m ρ c) (Proc.devRef .tc main_v20) (ix2 (Fin.castAdd 32 j) d) = _
  generalize W14 m ρ c = W
  unfold hostOps4_3
  after_results
  exact padBelow_inside _ _ j d

/-- The rows added to the second factor of region 4 are zero. -/
theorem up_zero4 (c : Dev nD) (j : Fin 32) (d : Fin 2048) :
    V15 m ρ c main_v20 (ix2 (Fin.natAdd 96 j) d) = (0 : EReal) := by
  have hc : W14 m ρ c (Proc.devRef .tc main_c_2) = constantI S_ 32 0#32 := by
    show StableHlo.after hostOps4_2 (W13 m ρ c) (Proc.devRef .tc main_c_2) = _
    unfold hostOps4_2
    after_results
  show StableHlo.after hostOps4_3 (W14 m ρ c) (Proc.devRef .tc main_v20) (ix2 (Fin.natAdd 96 j) d) = _
  generalize W14 m ρ c = W at hc ⊢
  unfold hostOps4_3
  after_results
  refine (padBelow_outside _ _ j d).trans ?_
  rw [hc]
  show ((((0#32 : BitVec 32).toInt : ℤ) : ℝ) : EReal) = 0
  simp

/-- The first factor of region 5, before it is padded. -/
theorem downCast5 (c : Dev nD) : (W17 m ρ c (Proc.devRef .tc main_v22) : S2048x256.Idx → EReal)
    = m (c.tc.loc main_arg10) := by
  rw [← W16_args m ρ c main_arg10 (by decide)]
  show StableHlo.after hostOps5 (W16 m ρ c) (Proc.devRef .tc main_v22) = _
  unfold hostOps5
  after_results
  rfl

/-- The second factor of region 5, before it is padded. -/
theorem upCast5 (c : Dev nD) : (W19 m ρ c (Proc.devRef .tc main_v23) : S256x2048.Idx → EReal)
    = m (c.tc.loc main_arg11) := by
  rw [← W16_args m ρ c main_arg11 (by decide), W19_of m ρ c main_v23 (by decide), W18_of m ρ c main_v23 (by decide)]
  show StableHlo.after hostOps5 (W16 m ρ c) (Proc.devRef .tc main_v23) = _
  unfold hostOps5
  after_results
  rfl

/-- The first factor as region 5 finds it. -/
theorem down_at5 (c : Dev nD) (k : Fin 2048) (j : Fin 256) :
    V20 m ρ c main_v24 (ix2 k j) = m (c.tc.loc main_arg10) (ix2 k j) := by
  rw [← downCast5 m ρ c]
  show W20 m ρ c (Proc.devRef .tc main_v24) (ix2 k j) = _
  rw [W20_of m ρ c main_v24 (by decide), W19_of m ρ c main_v24 (by decide)]
  show StableHlo.after hostOps5_1 (W17 m ρ c) (Proc.devRef .tc main_v24) (ix2 k j) = _
  generalize W17 m ρ c = W
  unfold hostOps5_1
  after_results
  exact padNone_down _ _ k j

/-- The second factor as region 5 finds it. -/
theorem up_at5 (c : Dev nD) (j : Fin 256) (d : Fin 2048) :
    V20 m ρ c main_v25 (ix2 j d) = m (c.tc.loc main_arg11) (ix2 j d) := by
  rw [← upCast5 m ρ c]
  show StableHlo.after hostOps5_3 (W19 m ρ c) (Proc.devRef .tc main_v25) (ix2 j d) = _
  generalize W19 m ρ c = W
  unfold hostOps5_3
  after_results
  exact padNone_up _ _ j d

/-- The receptance product at the end. -/
theorem result0 (c : Dev nD) : W21 m ρ c (Proc.devRef .tc main_v3)
    = stackArr 0 (m (c.tc.loc main_arg0)) (m (c.tc.loc main_arg12)) := by
  have e : W21 m ρ c (Proc.devRef .tc main_v3) = (dat0 (V1 m ρ) c).arrAt 2 cfg0.N :=
    (W21_of m ρ c main_v3 (by decide)).trans
      ((W20_of m ρ c main_v3 (by decide)).trans
      ((W19_of m ρ c main_v3 (by decide)).trans
      ((W18_of m ρ c main_v3 (by decide)).trans
      ((W17_of m ρ c main_v3 (by decide)).trans
      ((W16_of m ρ c main_v3 (by decide)).trans
      ((W15_of m ρ c main_v3 (by decide)).trans
      ((W14_of m ρ c main_v3 (by decide)).trans
      ((W13_of m ρ c main_v3 (by decide)).trans
      ((W12_of m ρ c main_v3 (by decide)).trans
      ((W11_of m ρ c main_v3 (by decide)).trans
      ((W10_of m ρ c main_v3 (by decide)).trans
      ((W9_of m ρ c main_v3 (by decide)).trans
      ((W8_of m ρ c main_v3 (by decide)).trans
      ((W7_of m ρ c main_v3 (by decide)).trans
      ((W6_of m ρ c main_v3 (by decide)).trans
      ((W5_of m ρ c main_v3 (by decide)).trans
      ((W4_of m ρ c main_v3 (by decide)).trans
      ((W3_of m ρ c main_v3 (by decide)).trans (W2_arr m ρ c 2)))))))))))))))))))
  rw [e, arr0, show V1 m ρ c main_arg0 = m (c.tc.loc main_arg0) from W1_args m ρ c main_arg0 (by decide)]
  funext i
  unfold dotArr0 stackArr
  exact congrArg (dot _) (funext fun k => weights0 m ρ c k (i 1))

/-- The key product at the end. -/
theorem result1 (c : Dev nD) : W21 m ρ c (Proc.devRef .tc main_v7)
    = stackArr 1 (m (c.tc.loc main_arg1)) (m (c.tc.loc main_arg12)) := by
  have e : W21 m ρ c (Proc.devRef .tc main_v7) = (dat1 (V3 m ρ) c).arrAt 2 cfg1.N :=
    (W21_of m ρ c main_v7 (by decide)).trans
      ((W20_of m ρ c main_v7 (by decide)).trans
      ((W19_of m ρ c main_v7 (by decide)).trans
      ((W18_of m ρ c main_v7 (by decide)).trans
      ((W17_of m ρ c main_v7 (by decide)).trans
      ((W16_of m ρ c main_v7 (by decide)).trans
      ((W15_of m ρ c main_v7 (by decide)).trans
      ((W14_of m ρ c main_v7 (by decide)).trans
      ((W13_of m ρ c main_v7 (by decide)).trans
      ((W12_of m ρ c main_v7 (by decide)).trans
      ((W11_of m ρ c main_v7 (by decide)).trans
      ((W10_of m ρ c main_v7 (by decide)).trans
      ((W9_of m ρ c main_v7 (by decide)).trans
      ((W8_of m ρ c main_v7 (by decide)).trans
      ((W7_of m ρ c main_v7 (by decide)).trans
      ((W6_of m ρ c main_v7 (by decide)).trans
      ((W5_of m ρ c main_v7 (by decide)).trans (W4_arr m ρ c 2)))))))))))))))))
  rw [e, arr1, show V3 m ρ c main_arg1 = m (c.tc.loc main_arg1) from W3_args m ρ c main_arg1 (by decide)]
  funext i
  unfold dotArr1 stackArr
  exact congrArg (dot _) (funext fun k => weights1 m ρ c k (i 1))

/-- The value product at the end. -/
theorem result2 (c : Dev nD) : W21 m ρ c (Proc.devRef .tc main_v11)
    = stackArr 2 (m (c.tc.loc main_arg2)) (m (c.tc.loc main_arg12)) := by
  have e : W21 m ρ c (Proc.devRef .tc main_v11) = (dat2 (V5 m ρ) c).arrAt 2 cfg2.N :=
    (W21_of m ρ c main_v11 (by decide)).trans
      ((W20_of m ρ c main_v11 (by decide)).trans
      ((W19_of m ρ c main_v11 (by decide)).trans
      ((W18_of m ρ c main_v11 (by decide)).trans
      ((W17_of m ρ c main_v11 (by decide)).trans
      ((W16_of m ρ c main_v11 (by decide)).trans
      ((W15_of m ρ c main_v11 (by decide)).trans
      ((W14_of m ρ c main_v11 (by decide)).trans
      ((W13_of m ρ c main_v11 (by decide)).trans
      ((W12_of m ρ c main_v11 (by decide)).trans
      ((W11_of m ρ c main_v11 (by decide)).trans
      ((W10_of m ρ c main_v11 (by decide)).trans
      ((W9_of m ρ c main_v11 (by decide)).trans
      ((W8_of m ρ c main_v11 (by decide)).trans
      ((W7_of m ρ c main_v11 (by decide)).trans (W6_arr m ρ c 2)))))))))))))))
  rw [e, arr2, show V5 m ρ c main_arg2 = m (c.tc.loc main_arg2) from W5_args m ρ c main_arg2 (by decide)]
  funext i
  unfold dotArr2 stackArr
  exact congrArg (dot _) (funext fun k => weights2 m ρ c k (i 1))

/-- The decay's low-rank product at the end. -/
theorem result3 (c : Dev nD) : W21 m ρ c (Proc.devRef .tc main_v16)
    = low96Arr Ideal.tanh (m (c.tc.loc main_arg3)) (m (c.tc.loc main_arg6)) (m (c.tc.loc main_arg7)) := by
  have e : W21 m ρ c (Proc.devRef .tc main_v16) = (dat3 (V10 m ρ) c).arrAt 3 cfg3.N :=
    (W21_of m ρ c main_v16 (by decide)).trans
      ((W20_of m ρ c main_v16 (by decide)).trans
      ((W19_of m ρ c main_v16 (by decide)).trans
      ((W18_of m ρ c main_v16 (by decide)).trans
      ((W17_of m ρ c main_v16 (by decide)).trans
      ((W16_of m ρ c main_v16 (by decide)).trans
      ((W15_of m ρ c main_v16 (by decide)).trans
      ((W14_of m ρ c main_v16 (by decide)).trans
      ((W13_of m ρ c main_v16 (by decide)).trans
      ((W12_of m ρ c main_v16 (by decide)).trans (W11_arr m ρ c 3))))))))))
  rw [e, arr3, show V10 m ρ c main_arg3 = m (c.tc.loc main_arg3) from W10_args m ρ c main_arg3 (by decide)]
  funext i
  unfold lowArr3 low96Arr
  exact lowRank_padded _ _ _ _ _ _ (down_at3 m ρ c) (fun j => up_at3 m ρ c j (i 1)) (fun j => up_zero3 m ρ c j (i 1))

/-- The rate's low-rank product at the end. -/
theorem result4 (c : Dev nD) : W21 m ρ c (Proc.devRef .tc main_v21)
    = low96Arr (fun z => z) (m (c.tc.loc main_arg4)) (m (c.tc.loc main_arg8)) (m (c.tc.loc main_arg9)) := by
  have e : W21 m ρ c (Proc.devRef .tc main_v21) = (dat4 (V15 m ρ) c).arrAt 3 cfg4.N :=
    (W21_of m ρ c main_v21 (by decide)).trans
      ((W20_of m ρ c main_v21 (by decide)).trans
      ((W19_of m ρ c main_v21 (by decide)).trans
      ((W18_of m ρ c main_v21 (by decide)).trans
      ((W17_of m ρ c main_v21 (by decide)).trans (W16_arr m ρ c 3)))))
  rw [e, arr4, show V15 m ρ c main_arg4 = m (c.tc.loc main_arg4) from W15_args m ρ c main_arg4 (by decide)]
  funext i
  unfold lowArr4 low96Arr
  exact lowRank_padded _ _ _ _ _ _ (down_at4 m ρ c) (fun j => up_at4 m ρ c j (i 1)) (fun j => up_zero4 m ρ c j (i 1))

/-- The gate's low-rank product at the end. -/
theorem result5 (c : Dev nD) : W21 m ρ c (Proc.devRef .tc main_v26)
    = lowArr5 (m (c.tc.loc main_arg5)) (m (c.tc.loc main_arg10)) (m (c.tc.loc main_arg11)) := by
  have e : W21 m ρ c (Proc.devRef .tc main_v26) = (dat5 (V20 m ρ) c).arrAt 3 cfg5.N :=
    W21_arr m ρ c 3
  rw [e, arr5, show V20 m ρ c main_arg5 = m (c.tc.loc main_arg5) from W20_args m ρ c main_arg5 (by decide)]
  funext i
  unfold lowArr5
  congr 1 <;> funext k
  · funext j
    exact down_at5 m ρ c k j
  · exact up_at5 m ρ c k (i 1)

end Cert.TimeProj
-- ==== Proof.TimeProj.Ref.lean ====
module

public import proofs.«01_k».proof.Proof.Gen.ProjReferenceIdeal.Read
public import proofs.«01_k».proof.Proof.TimeProj.Spec
public import Idealize.ShloMosaic.Lib.Pointwise

/-!
# The reference of the time mixing layer's products, read entry by entry
-/

@[expose] public section

set_option maxRecDepth 16384

noncomputable section

namespace Cert.TimeProj

open Cert.ProjReferenceIdeal Cert.ProjReferenceIdeal.Read Idealize.ShloMosaic Idealize.ShloMosaic.TcCoe

variable (x : (⟨S16384x2048, .bf16⟩ : BufTy).Contents (Elt Ideal))
  (w : (⟨S3x2048x2048, .f32⟩ : BufTy).Contents (Elt Ideal))
  (a : (⟨S2048x96, .f32⟩ : BufTy).Contents (Elt Ideal)) (b : (⟨S96x2048, .f32⟩ : BufTy).Contents (Elt Ideal))
  (p : (⟨S2048x256, .f32⟩ : BufTy).Contents (Elt Ideal)) (q : (⟨S256x2048, .f32⟩ : BufTy).Contents (Elt Ideal))

/-- The reference's receptance product. -/
theorem ref0 (t : Fin 16384) (d : Fin 2048) : val_main_v8 (F := Ideal) x w (ix2 t d)
    = dot (fun k => x (ix2 t k)) (fun k => w (ix3 (0 : Fin 3) k d)) := by
  pointwise [val_main_v8, val_main_v7, val_main_v6, val_main_v0]
  rfl

/-- The reference's key product. -/
theorem ref1 (t : Fin 16384) (d : Fin 2048) : val_main_v11 (F := Ideal) x w (ix2 t d)
    = dot (fun k => x (ix2 t k)) (fun k => w (ix3 (1 : Fin 3) k d)) := by
  pointwise [val_main_v11, val_main_v10, val_main_v9, val_main_v1]
  rfl

/-- The reference's value product. -/
theorem ref2 (t : Fin 16384) (d : Fin 2048) : val_main_v14 (F := Ideal) x w (ix2 t d)
    = dot (fun k => x (ix2 t k)) (fun k => w (ix3 (2 : Fin 3) k d)) := by
  pointwise [val_main_v14, val_main_v13, val_main_v12, val_main_v2]
  rfl

/-- The reference's low-rank product for the decay. -/
theorem ref3 (t : Fin 16384) (d : Fin 2048) : val_main_v17 (F := Ideal) x a b (ix2 t d)
    = lowRank Ideal.tanh (fun k => x (ix2 t k)) (fun k j => a (ix2 k j)) (fun j => b (ix2 j d)) := by
  pointwise [val_main_v17, val_main_v16, val_main_v15, val_main_v3]
  rfl

/-- The reference's low-rank product for the in-context learning rate. -/
theorem ref4 (t : Fin 16384) (d : Fin 2048) : val_main_v19 (F := Ideal) x a b (ix2 t d)
    = lowRank (fun z => z) (fun k => x (ix2 t k)) (fun k j => a (ix2 k j)) (fun j => b (ix2 j d)) := by
  pointwise [val_main_v19, val_main_v18, val_main_v4]
  rfl

/-- The logistic inside the output gate. -/
theorem ref_logistic (t : Fin 16384) (j : Fin 256) : val_main_v26 (F := Ideal) x p (ix2 t j)
    = Ideal.logistic (∑ k, x (ix2 t k) * p (ix2 k j)) := by
  pointwise [val_main_v26, val_main_v25, val_main_v24, val_main_v23, val_main_v22, val_main_v21,
    val_main_v20, val_main_cst, val_main_cst_0, val_main_v5]
  rfl

/-- The reference's low-rank product for the output gate. -/
theorem ref5 (t : Fin 16384) (d : Fin 2048) : val_main_v27 (F := Ideal) x p q (ix2 t d)
    = lowRank Ideal.logistic (fun k => x (ix2 t k)) (fun k j => p (ix2 k j)) (fun j => q (ix2 j d)) := by
  pointwise [val_main_v27]
  simp only [ref_logistic]
  rfl

end Cert.TimeProj
-- ==== Proof.TimeProj.Claims.lean ====
module

public import proofs.«01_k».proof.Defs
public import proofs.«01_k».proof.Proof.TimeProj.Run
public import proofs.«01_k».proof.Proof.TimeProj.Ref
public import proofs.«01_k».proof.Proof.Gen.ProjReferenceIdeal.Read
public import Idealize.ShloMosaic.Lib.Quiescent

/-!
# The claims about the time mixing layer's products
-/

@[expose] public section

set_option maxRecDepth 16384

noncomputable section

namespace Cert.TimeProj

open Idealize.ShloMosaic Idealize.ShloMosaic.TcCoe Idealize.SL.Sem

/-- The reference leaves its arguments and every semaphore as they were. -/
theorem quiescentReference
    (m : (ℓ : Loc Cert.ProjReferenceIdeal.nD Cert.ProjReferenceIdeal.τ Cert.ProjReferenceIdeal.sig) → Buf (Elt Ideal) ℓ)
    (ρ : Dev Cert.ProjReferenceIdeal.nD → PrngReg) :
    θ_run (Val := Elt Ideal) Cert.ProjReferenceIdeal.defs
      (onTc (τ := Cert.ProjReferenceIdeal.τ) (Cert.ProjReferenceIdeal.main (F := Ideal)))
      ⟨m, fun _ => 0, ρ⟩ (fun r => (∀ c : Dev Cert.ProjReferenceIdeal.nD,
        r.2.mem (c.tc.loc Cert.ProjReferenceIdeal.main_arg0) = m (c.tc.loc Cert.ProjReferenceIdeal.main_arg0)
        ∧ r.2.mem (c.tc.loc Cert.ProjReferenceIdeal.main_arg1) = m (c.tc.loc Cert.ProjReferenceIdeal.main_arg1)
        ∧ r.2.mem (c.tc.loc Cert.ProjReferenceIdeal.main_arg2) = m (c.tc.loc Cert.ProjReferenceIdeal.main_arg2)
        ∧ r.2.mem (c.tc.loc Cert.ProjReferenceIdeal.main_arg3) = m (c.tc.loc Cert.ProjReferenceIdeal.main_arg3)
        ∧ r.2.mem (c.tc.loc Cert.ProjReferenceIdeal.main_arg4) = m (c.tc.loc Cert.ProjReferenceIdeal.main_arg4)
        ∧ r.2.mem (c.tc.loc Cert.ProjReferenceIdeal.main_arg5) = m (c.tc.loc Cert.ProjReferenceIdeal.main_arg5)
        ∧ r.2.mem (c.tc.loc Cert.ProjReferenceIdeal.main_arg6) = m (c.tc.loc Cert.ProjReferenceIdeal.main_arg6)
        ∧ r.2.mem (c.tc.loc Cert.ProjReferenceIdeal.main_arg7) = m (c.tc.loc Cert.ProjReferenceIdeal.main_arg7)
        ∧ r.2.mem (c.tc.loc Cert.ProjReferenceIdeal.main_arg8) = m (c.tc.loc Cert.ProjReferenceIdeal.main_arg8)
        ∧ r.2.mem (c.tc.loc Cert.ProjReferenceIdeal.main_arg9) = m (c.tc.loc Cert.ProjReferenceIdeal.main_arg9)
        ∧ r.2.mem (c.tc.loc Cert.ProjReferenceIdeal.main_arg10) = m (c.tc.loc Cert.ProjReferenceIdeal.main_arg10)
        ∧ r.2.mem (c.tc.loc Cert.ProjReferenceIdeal.main_arg11) = m (c.tc.loc Cert.ProjReferenceIdeal.main_arg11)
        ∧ r.2.mem (c.tc.loc Cert.ProjReferenceIdeal.main_arg12) = m (c.tc.loc Cert.ProjReferenceIdeal.main_arg12))
        ∧ r.2.sem = fun _ => 0) :=
  (θ_run Cert.ProjReferenceIdeal.defs _ _).mono
    (fun r h => ⟨fun c => (h c).2.2.2.2.2.2, Idealize.ShloMosaic.sem_eq_zero_of_no_sems (by decide) r.2⟩)
    (Cert.ProjReferenceIdeal.Value.run (F := Ideal) m ρ)

/-- Kernel and reference end with the same six arrays from the same arguments. -/
theorem algebraic : Cert.algebraic_ProjIdeal_ProjReferenceIdeal := by
  intro m g m' g' _ hag
  refine ⟨fun c => stackArr 0 (m (c.tc.loc Cert.ProjIdeal.main_arg0)) (m (c.tc.loc Cert.ProjIdeal.main_arg12)),
    fun c => stackArr 1 (m (c.tc.loc Cert.ProjIdeal.main_arg1)) (m (c.tc.loc Cert.ProjIdeal.main_arg12)),
    fun c => stackArr 2 (m (c.tc.loc Cert.ProjIdeal.main_arg2)) (m (c.tc.loc Cert.ProjIdeal.main_arg12)),
    fun c => low96Arr Ideal.tanh (m (c.tc.loc Cert.ProjIdeal.main_arg3)) (m (c.tc.loc Cert.ProjIdeal.main_arg6)) (m (c.tc.loc Cert.ProjIdeal.main_arg7)),
    fun c => low96Arr (fun z => z) (m (c.tc.loc Cert.ProjIdeal.main_arg4)) (m (c.tc.loc Cert.ProjIdeal.main_arg8)) (m (c.tc.loc Cert.ProjIdeal.main_arg9)),
    fun c => lowArr5 (m (c.tc.loc Cert.ProjIdeal.main_arg5)) (m (c.tc.loc Cert.ProjIdeal.main_arg10)) (m (c.tc.loc Cert.ProjIdeal.main_arg11)), ?_, ?_⟩
  · exact (θ_run _ _ _).mono (fun _ h c =>
      ⟨(h c _ (Cert.ProjIdeal.Gen.mem_uc Cert.ProjIdeal.main_v3 (by decide))).trans (result0 m g c),
       (h c _ (Cert.ProjIdeal.Gen.mem_uc Cert.ProjIdeal.main_v7 (by decide))).trans (result1 m g c),
       (h c _ (Cert.ProjIdeal.Gen.mem_uc Cert.ProjIdeal.main_v11 (by decide))).trans (result2 m g c),
       (h c _ (Cert.ProjIdeal.Gen.mem_uc Cert.ProjIdeal.main_v16 (by decide))).trans (result3 m g c),
       (h c _ (Cert.ProjIdeal.Gen.mem_uc Cert.ProjIdeal.main_v21 (by decide))).trans (result4 m g c),
       (h c _ (Cert.ProjIdeal.Gen.mem_uc Cert.ProjIdeal.main_v26 (by decide))).trans (result5 m g c),
       (h c _ (Cert.ProjIdeal.Gen.mem_uc Cert.ProjIdeal.main_arg0 (by decide))).trans (Cert.ProjIdeal.Gen.W21_main_arg0 m g c),
       (h c _ (Cert.ProjIdeal.Gen.mem_uc Cert.ProjIdeal.main_arg1 (by decide))).trans (Cert.ProjIdeal.Gen.W21_main_arg1 m g c),
       (h c _ (Cert.ProjIdeal.Gen.mem_uc Cert.ProjIdeal.main_arg2 (by decide))).trans (Cert.ProjIdeal.Gen.W21_main_arg2 m g c),
       (h c _ (Cert.ProjIdeal.Gen.mem_uc Cert.ProjIdeal.main_arg3 (by decide))).trans (Cert.ProjIdeal.Gen.W21_main_arg3 m g c),
       (h c _ (Cert.ProjIdeal.Gen.mem_uc Cert.ProjIdeal.main_arg4 (by decide))).trans (Cert.ProjIdeal.Gen.W21_main_arg4 m g c),
       (h c _ (Cert.ProjIdeal.Gen.mem_uc Cert.ProjIdeal.main_arg5 (by decide))).trans (Cert.ProjIdeal.Gen.W21_main_arg5 m g c),
       (h c _ (Cert.ProjIdeal.Gen.mem_uc Cert.ProjIdeal.main_arg6 (by decide))).trans (Cert.ProjIdeal.Gen.W21_main_arg6 m g c),
       (h c _ (Cert.ProjIdeal.Gen.mem_uc Cert.ProjIdeal.main_arg7 (by decide))).trans (Cert.ProjIdeal.Gen.W21_main_arg7 m g c),
       (h c _ (Cert.ProjIdeal.Gen.mem_uc Cert.ProjIdeal.main_arg8 (by decide))).trans (Cert.ProjIdeal.Gen.W21_main_arg8 m g c),
       (h c _ (Cert.ProjIdeal.Gen.mem_uc Cert.ProjIdeal.main_arg9 (by decide))).trans (Cert.ProjIdeal.Gen.W21_main_arg9 m g c),
       (h c _ (Cert.ProjIdeal.Gen.mem_uc Cert.ProjIdeal.main_arg10 (by decide))).trans (Cert.ProjIdeal.Gen.W21_main_arg10 m g c),
       (h c _ (Cert.ProjIdeal.Gen.mem_uc Cert.ProjIdeal.main_arg11 (by decide))).trans (Cert.ProjIdeal.Gen.W21_main_arg11 m g c),
       (h c _ (Cert.ProjIdeal.Gen.mem_uc Cert.ProjIdeal.main_arg12 (by decide))).trans (Cert.ProjIdeal.Gen.W21_main_arg12 m g c)⟩)
      (run_all m g)
  · refine (θ_run _ _ _).mono (fun _ h c => ⟨(h c).1.trans ?_, (h c).2.1.trans ?_, (h c).2.2.1.trans ?_,
        (h c).2.2.2.1.trans ?_, (h c).2.2.2.2.1.trans ?_, (h c).2.2.2.2.2.1.trans ?_, (h c).2.2.2.2.2.2⟩)
      (Cert.ProjReferenceIdeal.Value.run (F := Ideal) m' g')
    all_goals obtain ⟨e0, e1, e2, e3, e4, e5, e6, e7, e8, e9, e10, e11, e12⟩ := hag c
    · rw [Cert.ProjReferenceIdeal.Read.val_main_v8_eq, e0, e12]
      funext i
      rw [eq_ix2 i]
      exact ref0 _ _ (i 0) (i 1)
    · rw [Cert.ProjReferenceIdeal.Read.val_main_v11_eq, e1, e12]
      funext i
      rw [eq_ix2 i]
      exact ref1 _ _ (i 0) (i 1)
    · rw [Cert.ProjReferenceIdeal.Read.val_main_v14_eq, e2, e12]
      funext i
      rw [eq_ix2 i]
      exact ref2 _ _ (i 0) (i 1)
    · rw [Cert.ProjReferenceIdeal.Read.val_main_v17_eq, e3, e6, e7]
      funext i
      rw [eq_ix2 i]
      exact ref3 _ _ _ (i 0) (i 1)
    · rw [Cert.ProjReferenceIdeal.Read.val_main_v19_eq, e4, e8, e9]
      funext i
      rw [eq_ix2 i]
      exact ref4 _ _ _ (i 0) (i 1)
    · rw [Cert.ProjReferenceIdeal.Read.val_main_v27_eq, e5, e10, e11]
      funext i
      rw [eq_ix2 i]
      exact ref5 _ _ _ (i 0) (i 1)

end Cert.TimeProj
-- ==== Proof.lean ====
module

public import proofs.«01_k».proof.Defs
public import proofs.«01_k».proof.Proof.Gen.FoxReferenceIdeal.Run
public import proofs.«01_k».proof.Proof.Gen.FoxReferenceIdeal.Read
public import proofs.«01_k».proof.Proof.Gen.FoxLayer
public import proofs.«01_k».proof.Proof.Gen.FoxLayer.Frame
public import proofs.«01_k».proof.Proof.Gen.FoxLayerIdeal
public import proofs.«01_k».proof.Proof.Gen.FoxLayerIdeal.Frame
public import proofs.«01_k».proof.Proof.Gen.TailReferenceIdeal.Run
public import proofs.«01_k».proof.Proof.Gen.TailReferenceIdeal.Read
public import proofs.«01_k».proof.Proof.Gen.Tail
public import proofs.«01_k».proof.Proof.Gen.Tail.Frame
public import proofs.«01_k».proof.Proof.Gen.TailIdeal
public import proofs.«01_k».proof.Proof.Gen.TailIdeal.Frame
public import proofs.«01_k».proof.Proof.Gen.SparseReferenceIdeal.Run
public import proofs.«01_k».proof.Proof.Gen.SparseReferenceIdeal.Read
public import proofs.«01_k».proof.Proof.Gen.Sparse
public import proofs.«01_k».proof.Proof.Gen.Sparse.Frame
public import proofs.«01_k».proof.Proof.Gen.SparseIdeal
public import proofs.«01_k».proof.Proof.Gen.SparseIdeal.Frame
public import proofs.«01_k».proof.Proof.Gen.OutReferenceIdeal.Run
public import proofs.«01_k».proof.Proof.Gen.OutReferenceIdeal.Read
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.MixReferenceIdeal.Run
public import proofs.«01_k».proof.Proof.Gen.MixReferenceIdeal.Read
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.ProjReferenceIdeal.Run
public import proofs.«01_k».proof.Proof.Gen.ProjReferenceIdeal.Read
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Fox.Claims
public import proofs.«01_k».proof.Proof.Ffn.Claims
public import proofs.«01_k».proof.Proof.Sparse.Claims
public import proofs.«01_k».proof.Proof.OutProd.Claims
public import proofs.«01_k».proof.Proof.TimeMix.Claims
public import proofs.«01_k».proof.Proof.TimeProj.Claims
public import Idealize.ShloMosaic.Adequacy
public import Idealize.ShloMosaic.Init

@[expose] public section

noncomputable section

namespace Cert.Proof

open Idealize.ShloMosaic Idealize.SL.Sem Cert.FoxLayer

theorem claim : Cert.Claim :=
  ⟨Cert.FoxLayer.Gen.facts, Cert.FoxLayerIdeal.Gen.facts, Cert.FoxReferenceIdeal.Gen.facts,
    Cert.Tail.Gen.facts, Cert.TailIdeal.Gen.facts, Cert.TailReferenceIdeal.Gen.facts,
    Cert.Sparse.Gen.facts, Cert.SparseIdeal.Gen.facts, Cert.SparseReferenceIdeal.Gen.facts,
    Cert.Out.Gen.facts, Cert.OutIdeal.Gen.facts, Cert.OutReferenceIdeal.Gen.facts,
    Cert.Mix.Gen.facts, Cert.MixIdeal.Gen.facts, Cert.MixReferenceIdeal.Gen.facts,
    Cert.Proj.Gen.facts, Cert.ProjIdeal.Gen.facts, Cert.ProjReferenceIdeal.Gen.facts,
    Cert.Fox.preFacts,
    fun m ρ _ => Cert.FoxLayer.Gen.frame m ρ,
    fun m ρ _ => Cert.FoxLayerIdeal.Gen.frame m ρ,
    fun m ρ _ => Cert.FoxLayerIdeal.Gen.frame m ρ,
    fun m ρ _ => Cert.Fox.quiescentReference m ρ,
    fun m ρ _ => Cert.Fox.quiescentReference m ρ,
    fun m ρ _ => Cert.Tail.Gen.frame m ρ,
    fun m ρ _ => Cert.TailIdeal.Gen.frame m ρ,
    fun m ρ _ => Cert.Ffn.quiescentReference m ρ,
    fun m ρ _ => Cert.Sparse.Gen.frame m ρ,
    fun m ρ _ => Cert.SparseIdeal.Gen.frame m ρ,
    fun m ρ _ => Cert.Sparse.quiescentReference m ρ,
    fun m ρ _ => Cert.Out.Gen.frame m ρ,
    fun m ρ _ => Cert.OutIdeal.Gen.frame m ρ,
    fun m ρ _ => Cert.OutProd.quiescentReference m ρ,
    fun m ρ _ => Cert.Mix.Gen.frame m ρ,
    fun m ρ _ => Cert.MixIdeal.Gen.frame m ρ,
    fun m ρ _ => Cert.TimeMix.quiescentReference m ρ,
    fun m ρ _ => Cert.Proj.Gen.frame m ρ,
    fun m ρ _ => Cert.ProjIdeal.Gen.frame m ρ,
    fun m ρ _ => Cert.TimeProj.quiescentReference m ρ,
    IdealRules.named_const.statement Cert.FoxLayerIdeal.κ "mask" .f32 0xF149F2CA#32 ⊥ rfl,
    Cert.Fox.algebraic,
    trivial,
    Cert.Ffn.algebraic,
    trivial,
    Cert.Sparse.algebraic,
    trivial,
    Cert.OutProd.algebraic,
    trivial,
    Cert.TimeMix.algebraic,
    trivial,
    Cert.TimeProj.algebraic⟩

end Cert.Proof

end
